-- ==== Defs.lean ====
def Pre_Kernel [hPre_slots_in_reach : Cert.Pre_slots_in_reach.Facts] (m : (ℓ : Loc Cert.Kernel.nD Cert.Kernel.τ Cert.Kernel.sig) → Buf (Elt Bits) ℓ) : Prop :=
  ∀ c : Dev Cert.Kernel.nD,
    (Cert.Pre_slots_in_reach.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_slots_in_reach : Cert.Pre_slots_in_reach.Facts] (m : (ℓ : Loc Cert.KernelIdeal.nD Cert.KernelIdeal.τ Cert.KernelIdeal.sig) → Buf (Elt Ideal) ℓ) : Prop :=
  ∀ c : Dev Cert.KernelIdeal.nD,
    (Cert.Pre_slots_in_reach.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_KernelIdeal_slots_paged [hPre_slots_paged : Cert.Pre_slots_paged.Facts] (m : (ℓ : Loc Cert.KernelIdeal.nD Cert.KernelIdeal.τ Cert.KernelIdeal.sig) → Buf (Elt Ideal) ℓ) : Prop :=
  ∀ c : Dev Cert.KernelIdeal.nD,
    (Cert.Pre_slots_paged.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_slots_paged [hPre_slots_paged : Cert.Pre_slots_paged.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_slots_paged.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] [hPre_slots_in_reach : Cert.Pre_slots_in_reach.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_slots_in_reach : Cert.Pre_slots_in_reach.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_slots_paged [hKernelIdeal : Cert.KernelIdeal.Facts] [hPre_slots_paged : Cert.Pre_slots_paged.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_slots_paged m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_slots_paged [hReferenceIdeal : Cert.ReferenceIdeal.Facts] [hPre_slots_paged : Cert.Pre_slots_paged.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_slots_paged m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_slots_paged [hKernelIdeal : Cert.KernelIdeal.Facts] [hReferenceIdeal : Cert.ReferenceIdeal.Facts] [hPre_slots_paged : Cert.Pre_slots_paged.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_slots_paged m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v5_1)) (v1 : (c : Dev Cert.KernelIdeal.nD) → Buf (Elt Ideal) ((c.tc : Thread Cert.KernelIdeal.nD Cert.KernelIdeal.τ).loc Cert.KernelIdeal.main_v5_2)) (v2 : (c : Dev Cert.KernelIdeal.nD) → Buf (Elt Ideal) ((c.tc : Thread Cert.KernelIdeal.nD Cert.KernelIdeal.τ).loc Cert.KernelIdeal.main_v5_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_1) = v0 c
          ∧ r.2.mem ((c.tc : Thread Cert.KernelIdeal.nD Cert.KernelIdeal.τ).loc Cert.KernelIdeal.main_v5_2) = v1 c
          ∧ r.2.mem ((c.tc : Thread Cert.KernelIdeal.nD Cert.KernelIdeal.τ).loc Cert.KernelIdeal.main_v5_3) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12_0) = v0 c
          ∧ r.2.mem ((c.tc : Thread Cert.ReferenceIdeal.nD Cert.ReferenceIdeal.τ).loc Cert.ReferenceIdeal.main_v12_1) = v1 c
          ∧ r.2.mem ((c.tc : Thread Cert.ReferenceIdeal.nD Cert.ReferenceIdeal.τ).loc Cert.ReferenceIdeal.main_v12_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_slots_in_reach : Cert.Pre_slots_in_reach.Facts) (hPre_slots_paged : Cert.Pre_slots_paged.Facts),
    quiescent_Kernel (hKernel := hKernel) (hPre_slots_in_reach := hPre_slots_in_reach)
    ∧ quiescent_KernelIdeal (hKernelIdeal := hKernelIdeal) (hPre_slots_in_reach := hPre_slots_in_reach)
    ∧ quiescent_KernelIdeal_pre_slots_paged (hKernelIdeal := hKernelIdeal) (hPre_slots_paged := hPre_slots_paged)
    ∧ quiescent_ReferenceIdeal (hReferenceIdeal := hReferenceIdeal)
    ∧ quiescent_ReferenceIdeal_pre_slots_paged (hReferenceIdeal := hReferenceIdeal) (hPre_slots_paged := hPre_slots_paged)
    ∧ preserves_Kernel_KernelIdeal
    ∧ algebraic_KernelIdeal_ReferenceIdeal_pre_slots_paged (hKernelIdeal := hKernelIdeal) (hReferenceIdeal := hReferenceIdeal) (hPre_slots_paged := hPre_slots_paged)
-- ==== Pre_slots_in_reach.lean ====
abbrev S6x256x7168 : Shape := ⟨3, ![6, 256, 7168]⟩
abbrev S128x7168 : Shape := ⟨2, ![128, 7168]⟩
abbrev S56 : Shape := ⟨1, ![56]⟩
abbrev S128 : Shape := ⟨1, ![128]⟩
abbrev S6x256 : Shape := ⟨2, ![6, 256]⟩
abbrev S3870x64x128 : Shape := ⟨3, ![3870, 64, 128]⟩
abbrev S3870x64x4 : Shape := ⟨3, ![3870, 64, 4]⟩
abbrev S_ : Shape := ⟨0, ![]⟩

class Facts : Prop where
  bcast_S_S6x256 : S_.BroadcastsInDim S6x256 (![] : Fin 0 → Fin S6x256.rank)
  reducesTo_S6x256_S_d0_1 : S6x256.ReducesTo [0, 1] S_
  h_S_ : 0 < S_.numel

variable [Facts]

def fn {F : FTy → Type} [FloatOps F] (main_arg0 : FVec F S6x256x7168 .bf16) (main_arg1 : FVec F S128x7168 .fp8e4m3) (main_arg2 : FVec F S56 .f32) (main_arg3 : FVec F S128 .f32) (main_arg4 : FVec F S128 .f32) (main_arg5 : IVec S6x256 32) (main_arg6 : IVec S6x256 32) (main_arg7 : FVec F S3870x64x128 .fp8e4m3) (main_arg8 : IVec S3870x64x4 8) : IVec S_ 1 :=
  let main_c : IVec S_ 32 := constantI S_ 32 0#32
  let main_v0 : IVec S6x256 32 := broadcastInDim S6x256 ![] bcast_S_S6x256 main_c
  let main_v1 : IVec S6x256 1 := cmpi .sge main_arg6 main_v0
  let main_c_0 : IVec S_ 32 := constantI S_ 32 245760#32
  let main_v2 : IVec S6x256 32 := broadcastInDim S6x256 ![] bcast_S_S6x256 main_c_0
  let main_v3 : IVec S6x256 1 := cmpi .slt main_arg6 main_v2
  let main_v4 : IVec S6x256 1 := andi main_v1 main_v3
  let main_c_1 : IVec S_ 1 := constantI S_ 1 1#1
  let main_v5 : IVec S_ 1 := (fun x v => Host.reduce IntOp.andi x v reducesTo_S6x256_S_d0_1 h_S_) main_v4 main_c_1
  main_v5
-- ==== Pre_slots_paged.lean ====
abbrev S6x256x7168 : Shape := ⟨3, ![6, 256, 7168]⟩
abbrev S128x7168 : Shape := ⟨2, ![128, 7168]⟩
abbrev S56 : Shape := ⟨1, ![56]⟩
abbrev S128 : Shape := ⟨1, ![128]⟩
abbrev S6x256 : Shape := ⟨2, ![6, 256]⟩
abbrev S3870x64x128 : Shape := ⟨3, ![3870, 64, 128]⟩
abbrev S3870x64x4 : Shape := ⟨3, ![3870, 64, 4]⟩
abbrev S6x255 : Shape := ⟨2, ![6, 255]⟩
abbrev S_ : Shape := ⟨0, ![]⟩
abbrev S1536x1 : Shape := ⟨2, ![1536, 1]⟩
abbrev S1x1536 : Shape := ⟨2, ![1, 1536]⟩
abbrev S1536x1536 : Shape := ⟨2, ![1536, 1536]⟩

class Facts : Prop where
  slices_S6x256_S6x255_0_0 : S6x256.Slices ![0, 0] S6x255
  slices_S6x256_S6x255_0_1 : S6x256.Slices ![0, 1] S6x255
  bcast_S_S6x255 : S_.BroadcastsInDim S6x255 (![] : Fin 0 → Fin S6x255.rank)
  shapeCasts_S6x256_S1536x1 : S6x256.ShapeCasts S1536x1
  shapeCasts_S6x256_S1x1536 : S6x256.ShapeCasts S1x1536
  bcast_S_S6x256 : S_.BroadcastsInDim S6x256 (![] : Fin 0 → Fin S6x256.rank)
  reducesTo_S6x256_S_d0_1 : S6x256.ReducesTo [0, 1] S_
  h_S_ : 0 < S_.numel
  reducesTo_S6x255_S_d0_1 : S6x255.ReducesTo [0, 1] S_
  bcast_S1536x1_S1536x1536_0_1 : S1536x1.BroadcastsInDim S1536x1536 (![0, 1] : Fin 2 → Fin S1536x1536.rank)
  bcast_S1x1536_S1536x1536_0_1 : S1x1536.BroadcastsInDim S1536x1536 (![0, 1] : Fin 2 → Fin S1536x1536.rank)
  reducesTo_S1536x1536_S_d0_1 : S1536x1536.ReducesTo [0, 1] S_

variable [Facts]

def fn_part1 {F : FTy → Type} [FloatOps F] (main_arg6 : IVec S6x256 32) (main_v14 : IVec S6x255 1) (main_v15 : IVec S1536x1 32) (main_v16 : IVec S1x1536 32) (main_v17 : IVec S1536x1536 32) (main_v18 : IVec S1536x1536 32) : IVec S_ 1 :=
  let main_v19 : IVec S1536x1536 1 := cmpi .eq main_v17 main_v18
  let main_c_4 : IVec S_ 32 := constantI S_ 32 0#32
  let main_v20 : IVec S6x256 32 := broadcastInDim S6x256 ![] bcast_S_S6x256 main_c_4
  let main_v21 : IVec S6x256 1 := cmpi .sge main_arg6 main_v20
  let main_c_5 : IVec S_ 32 := constantI S_ 32 245760#32
  let main_v22 : IVec S6x256 32 := broadcastInDim S6x256 ![] bcast_S_S6x256 main_c_5
  let main_v23 : IVec S6x256 1 := cmpi .slt main_arg6 main_v22
  let main_v24 : IVec S6x256 1 := andi main_v21 main_v23
  let main_c_6 : IVec S_ 1 := constantI S_ 1 1#1
  let main_v25 : IVec S_ 1 := (fun x v => Host.reduce IntOp.andi x v reducesTo_S6x256_S_d0_1 h_S_) main_v24 main_c_6
  let main_c_7 : IVec S_ 1 := constantI S_ 1 1#1
  let main_v26 : IVec S_ 1 := (fun x v => Host.reduce IntOp.andi x v reducesTo_S6x255_S_d0_1 h_S_) main_v14 main_c_7
  let main_v27 : IVec S_ 1 := andi main_v25 main_v26
  let main_v28 : IVec S1536x1536 32 := broadcastInDim S1536x1536 ![0, 1] bcast_S1536x1_S1536x1536_0_1 main_v15
  let main_v29 : IVec S1536x1536 32 := broadcastInDim S1536x1536 ![0, 1] bcast_S1x1536_S1536x1536_0_1 main_v16
  let main_v30 : IVec S1536x1536 1 := cmpi .ne main_v28 main_v29
  let main_v31 : IVec S1536x1536 1 := ori main_v19 main_v30
  let main_c_8 : IVec S_ 1 := constantI S_ 1 1#1
  let main_v32 : IVec S_ 1 := (fun x v => Host.reduce IntOp.andi x v reducesTo_S1536x1536_S_d0_1 h_S_) main_v31 main_c_8
  let main_v33 : IVec S_ 1 := andi main_v27 main_v32
  main_v33

def fn {F : FTy → Type} [FloatOps F] (main_arg0 : FVec F S6x256x7168 .bf16) (main_arg1 : FVec F S128x7168 .fp8e4m3) (main_arg2 : FVec F S56 .f32) (main_arg3 : FVec F S128 .f32) (main_arg4 : FVec F S128 .f32) (main_arg5 : IVec S6x256 32) (main_arg6 : IVec S6x256 32) (main_arg7 : FVec F S3870x64x128 .fp8e4m3) (main_arg8 : IVec S3870x64x4 8) : IVec S_ 1 :=
  let main_v0 : IVec S6x255 32 := (extractStridedSlice S6x255 ![0, 0] · slices_S6x256_S6x255_0_0) main_arg6
  let main_v1 : IVec S6x255 32 := (extractStridedSlice S6x255 ![0, 1] · slices_S6x256_S6x255_0_1) main_arg6
  let main_c : IVec S_ 32 := constantI S_ 32 1#32
  let main_v2 : IVec S6x255 32 := broadcastInDim S6x255 ![] bcast_S_S6x255 main_c
  let main_v3 : IVec S6x255 32 := addi main_v0 main_v2
  let main_v4 : IVec S6x255 1 := cmpi .eq main_v1 main_v3
  let main_c_0 : IVec S_ 32 := constantI S_ 32 63#32
  let main_v5 : IVec S6x255 32 := broadcastInDim S6x255 ![] bcast_S_S6x255 main_c_0
  let main_v6 : IVec S6x255 32 := andi main_v0 main_v5
  let main_c_1 : IVec S_ 32 := constantI S_ 32 63#32
  let main_v7 : IVec S6x255 32 := broadcastInDim S6x255 ![] bcast_S_S6x255 main_c_1
  let main_v8 : IVec S6x255 1 := cmpi .eq main_v6 main_v7
  let main_c_2 : IVec S_ 32 := constantI S_ 32 63#32
  let main_v9 : IVec S6x255 32 := broadcastInDim S6x255 ![] bcast_S_S6x255 main_c_2
  let main_v10 : IVec S6x255 32 := andi main_v1 main_v9
  let main_c_3 : IVec S_ 32 := constantI S_ 32 0#32
  let main_v11 : IVec S6x255 32 := broadcastInDim S6x255 ![] bcast_S_S6x255 main_c_3
  let main_v12 : IVec S6x255 1 := cmpi .eq main_v10 main_v11
  let main_v13 : IVec S6x255 1 := andi main_v8 main_v12
  let main_v14 : IVec S6x255 1 := ori main_v4 main_v13
  let main_v15 : IVec S1536x1 32 := shapeCast S1536x1 main_arg6 shapeCasts_S6x256_S1536x1
  let main_v16 : IVec S1x1536 32 := shapeCast S1x1536 main_arg6 shapeCasts_S6x256_S1x1536
  let main_v17 : IVec S1536x1536 32 := iotaInDim S1536x1536 32 0
  let main_v18 : IVec S1536x1536 32 := iotaInDim S1536x1536 32 1
  fn_part1 (F := F) main_arg6 main_v14 main_v15 main_v16 main_v17 main_v18
-- ==== Kernel.lean ====
abbrev S6x256x7168 : Shape := ⟨3, ![6, 256, 7168]⟩
abbrev S128x7168 : Shape := ⟨2, ![128, 7168]⟩
abbrev S56 : Shape := ⟨1, ![56]⟩
abbrev S128 : Shape := ⟨1, ![128]⟩
abbrev S6x256 : Shape := ⟨2, ![6, 256]⟩
abbrev S3870x64x128 : Shape := ⟨3, ![3870, 64, 128]⟩
abbrev S3870x64x4 : Shape := ⟨3, ![3870, 64, 4]⟩
abbrev S32x1 : Shape := ⟨2, ![32, 1]⟩
abbrev S3870x64 : Shape := ⟨2, ![3870, 64]⟩
abbrev S64x3870 : Shape := ⟨2, ![64, 3870]⟩
abbrev S64x1x3870 : Shape := ⟨3, ![64, 1, 3870]⟩
abbrev S128x1 : Shape := ⟨2, ![128, 1]⟩
abbrev S6x256x128 : Shape := ⟨3, ![6, 256, 128]⟩
abbrev S6x1x256 : Shape := ⟨3, ![6, 1, 256]⟩
abbrev S1664x128 : Shape := ⟨2, ![1664, 128]⟩
abbrev S6 : Shape := ⟨1, ![6]⟩
abbrev S15 : Shape := ⟨1, ![15]⟩
abbrev S_ : Shape := ⟨0, ![]⟩
abbrev S3 : Shape := ⟨1, ![3]⟩
abbrev S1 : Shape := ⟨1, ![1]⟩
abbrev S1x256x7168 : Shape := ⟨3, ![1, 256, 7168]⟩
abbrev S256x7168 : Shape := ⟨2, ![256, 7168]⟩
abbrev S258x64x128 : Shape := ⟨3, ![258, 64, 128]⟩
abbrev S128x128 : Shape := ⟨2, ![128, 128]⟩
abbrev S64x128 : Shape := ⟨2, ![64, 128]⟩
abbrev S128x256 : Shape := ⟨2, ![128, 256]⟩
abbrev S256 : Shape := ⟨1, ![256]⟩
abbrev S1x256 : Shape := ⟨2, ![1, 256]⟩
abbrev S32x256 : Shape := ⟨2, ![32, 256]⟩
abbrev S64x256 : Shape := ⟨2, ![64, 256]⟩
abbrev S256x128 : Shape := ⟨2, ![256, 128]⟩
abbrev S1x256x128 : Shape := ⟨3, ![1, 256, 128]⟩
abbrev S1x1x256 : Shape := ⟨3, ![1, 1, 256]⟩
abbrev S1x1 : Shape := ⟨2, ![1, 1]⟩
abbrev S64x1x128 : Shape := ⟨3, ![64, 1, 128]⟩
abbrev S1x64x128 : Shape := ⟨3, ![1, 64, 128]⟩

abbrev nBuf : Space → Nat
  | .hbm => 19
  | .vmem => 13
  | .smem => 2
  | _ => 0

abbrev bufTy : (tb : Table) → Fin (tcTables nBuf tb) → BufTy
  | .hbm, ⟨0, _⟩ => ⟨S6x256x7168, .bf16⟩
  | .hbm, ⟨1, _⟩ => ⟨S128x7168, .fp8e4m3⟩
  | .hbm, ⟨2, _⟩ => ⟨S56, .f32⟩
  | .hbm, ⟨3, _⟩ => ⟨S128, .f32⟩
  | .hbm, ⟨4, _⟩ => ⟨S128, .f32⟩
  | .hbm, ⟨5, _⟩ => ⟨S6x256, .i32⟩
  | .hbm, ⟨6, _⟩ => ⟨S6x256, .i32⟩
  | .hbm, ⟨7, _⟩ => ⟨S3870x64x128, .fp8e4m3⟩
  | .hbm, ⟨8, _⟩ => ⟨S3870x64x4, .i8⟩
  | .hbm, ⟨9, _⟩ => ⟨S32x1, .f32⟩
  | .hbm, ⟨10, _⟩ => ⟨S3870x64, .i32⟩
  | .hbm, ⟨11, _⟩ => ⟨S64x3870, .i32⟩
  | .hbm, ⟨12, _⟩ => ⟨S64x1x3870, .i32⟩
  | .hbm, ⟨13, _⟩ => ⟨S128x1, .f32⟩
  | .hbm, ⟨14, _⟩ => ⟨S128x1, .f32⟩
  | .hbm, ⟨15, _⟩ => ⟨S3870x64x128, .fp8e4m3⟩
  | .hbm, ⟨16, _⟩ => ⟨S64x1x3870, .i32⟩
  | .hbm, ⟨17, _⟩ => ⟨S6x256x128, .fp8e4m3⟩
  | .hbm, ⟨18, _⟩ => ⟨S6x1x256, .i32⟩
  | .local _ .vmem, ⟨0, _⟩ => ⟨S128x1, .f32⟩
  | .local _ .vmem, ⟨1, _⟩ => ⟨S128x1, .f32⟩
  | .local _ .vmem, ⟨2, _⟩ => ⟨S6x256, .i32⟩
  | .local _ .vmem, ⟨3, _⟩ => ⟨S32x1, .f32⟩
  | .local _ .vmem, ⟨4, _⟩ => ⟨S6x256x7168, .bf16⟩
  | .local _ .vmem, ⟨5, _⟩ => ⟨S3870x64x128, .fp8e4m3⟩
  | .local _ .vmem, ⟨6, _⟩ => ⟨S64x1x3870, .i32⟩
  | .local _ .vmem, ⟨7, _⟩ => ⟨S128x7168, .fp8e4m3⟩
  | .local _ .vmem, ⟨8, _⟩ => ⟨S128x7168, .bf16⟩
  | .local _ .vmem, ⟨9, _⟩ => ⟨S1664x128, .f32⟩
  | .local _ .vmem, ⟨10, _⟩ => ⟨S1664x128, .i32⟩
  | .local _ .vmem, ⟨11, _⟩ => ⟨S6x256x128, .fp8e4m3⟩
  | .local _ .vmem, ⟨12, _⟩ => ⟨S6x1x256, .i32⟩
  | .local _ .smem, ⟨0, _⟩ => ⟨S6x256, .i32⟩
  | .local _ .smem, ⟨1, _⟩ => ⟨S56, .f32⟩
  | _, _ => ⟨S6x256x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev main_v5_2 : Ref sig .tc := ⟨.hbm, 17, rfl⟩
abbrev main_v5_3 : Ref sig .tc := ⟨.hbm, 18, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_scratch8 : Ref sig .tc := ⟨.vmem, 12, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

@[reducible] def k0_t1_loop : Scf.Loop 32 :=
  let c0_i32_303 : BitVec 32 := 0#32
  let c6_i32_304 : BitVec 32 := 6#32
  let v635 : BitVec 32 := Scalar.addi c0_i32_303 c6_i32_304
  let c1_i32_305 : BitVec 32 := 1#32
  ⟨c0_i32_303, v635, c1_i32_305⟩
def k0_off1 (k0_t1 : Fin k0_t1_loop.trips) : Fin 1 → Nat :=
  let c0_i32_303 : BitVec 32 := 0#32
  let c1_i32_305 : BitVec 32 := 1#32
  let arg29 : BitVec 32 := Scf.iv c0_i32_303 c1_i32_305 k0_t1
  ![arg29.toNat]
def k0_off2 (k0_t1 : Fin k0_t1_loop.trips) : Fin 3 → Nat :=
  let c0_i32_303 : BitVec 32 := 0#32
  let c1_i32_305 : BitVec 32 := 1#32
  let arg29 : BitVec 32 := Scf.iv c0_i32_303 c1_i32_305 k0_t1
  let c0_i32_323 : BitVec 32 := 0#32
  let c0_i32_324 : BitVec 32 := 0#32
  ![arg29.toNat, 0, 0]
def k0_off3 (k0_t1 : Fin k0_t1_loop.trips) : Fin 3 → Nat :=
  let c0_i32_303 : BitVec 32 := 0#32
  let c1_i32_305 : BitVec 32 := 1#32
  let arg29 : BitVec 32 := Scf.iv c0_i32_303 c1_i32_305 k0_t1
  let v658 : Index := Scalar.indexCast arg29
  let c0_329 : Index := 0#32
  let c0_330 : Index := 0#32
  ![v658.toNat, 0, 0]
def k0_off4 (k0_t1 : Fin k0_t1_loop.trips) : Fin 2 → Nat :=
  let c0_i32_303 : BitVec 32 := 0#32
  let c1_i32_305 : BitVec 32 := 1#32
  let arg29 : BitVec 32 := Scf.iv c0_i32_303 c1_i32_305 k0_t1
  let v686 : Index := Scalar.indexCast arg29
  let c0_341 : Index := 0#32
  ![v686.toNat, 0]
def k0_off5 (k0_t1 : Fin k0_t1_loop.trips) : Fin 3 → Nat :=
  let c0_i32_303 : BitVec 32 := 0#32
  let c1_i32_305 : BitVec 32 := 1#32
  let arg29 : BitVec 32 := Scf.iv c0_i32_303 c1_i32_305 k0_t1
  let v1100 : Index := Scalar.indexCast arg29
  let c0_469 : Index := 0#32
  let c0_470 : Index := 0#32
  ![v1100.toNat, 0, 0]
def k0_mult1 (k0_t1 : Fin k0_t1_loop.trips) : BitVec 32 :=
  let c64_i32_471 : BitVec 32 := 64#32
  let c0_i32_303 : BitVec 32 := 0#32
  let c1_i32_305 : BitVec 32 := 1#32
  let arg29 : BitVec 32 := Scf.iv c0_i32_303 c1_i32_305 k0_t1
  let c256_i32 : BitVec 32 := 256#32
  let v1104 : BitVec 32 := Scalar.muli arg29 c256_i32
  let v1105 : BitVec 32 := Scalar.addi c64_i32_471 v1104
  v1105
def k0_off6 (k0_t1 : Fin k0_t1_loop.trips) : Fin 2 → Nat :=
  let c64_i32_471 : BitVec 32 := 64#32
  let c0_i32_303 : BitVec 32 := 0#32
  let c1_i32_305 : BitVec 32 := 1#32
  let arg29 : BitVec 32 := Scf.iv c0_i32_303 c1_i32_305 k0_t1
  let c256_i32 : BitVec 32 := 256#32
  let v1104 : BitVec 32 := Scalar.muli arg29 c256_i32
  let v1105 : BitVec 32 := Scalar.addi c64_i32_471 v1104
  let v1106 : BitVec 32 := v1105
  let v1107 : Index := Scalar.indexCast v1106
  let c0_472 : Index := 0#32
  ![v1107.toNat, 0]
def k0_off7 (k0_t1 : Fin k0_t1_loop.trips) : Fin 3 → Nat :=
  let c0_i32_303 : BitVec 32 := 0#32
  let c1_i32_305 : BitVec 32 := 1#32
  let arg29 : BitVec 32 := Scf.iv c0_i32_303 c1_i32_305 k0_t1
  let v1111 : Index := Scalar.indexCast arg29
  let c0_473 : Index := 0#32
  let c0_474 : Index := 0#32
  ![v1111.toNat, 0, 0]
def k0_mult2 (k0_t1 : Fin k0_t1_loop.trips) : BitVec 32 :=
  let c64_i32_476 : BitVec 32 := 64#32
  let c0_i32_303 : BitVec 32 := 0#32
  let c1_i32_305 : BitVec 32 := 1#32
  let arg29 : BitVec 32 := Scf.iv c0_i32_303 c1_i32_305 k0_t1
  let c256_i32_475 : BitVec 32 := 256#32
  let v1118 : BitVec 32 := Scalar.muli arg29 c256_i32_475
  let v1119 : BitVec 32 := Scalar.addi c64_i32_476 v1118
  v1119
@[reducible] def k0_t2_loop : Scf.Loop 32 :=
  let c0_i32_309 : BitVec 32 := 0#32
  let c30_i32 : BitVec 32 := 30#32
  let v640 : BitVec 32 := Scalar.addi c0_i32_309 c30_i32
  let c1_i32_310 : BitVec 32 := 1#32
  ⟨c0_i32_309, v640, c1_i32_310⟩
def k0_off8 (k0_t2 : Fin k0_t2_loop.trips) : Fin 2 → Nat :=
  let c0_i32_309 : BitVec 32 := 0#32
  let c1_i32_310 : BitVec 32 := 1#32
  let arg29 : BitVec 32 := Scf.iv c0_i32_309 c1_i32_310 k0_t2
  let c0_i32_324 : BitVec 32 := 0#32
  let v652 : BitVec 1 := Scalar.cmpi .sgt arg29 c0_i32_324
  let v653 : BitVec 32 := Scalar.extui v652
  let c0_i32_325 : BitVec 32 := 0#32
  let v654 : BitVec 1 := Scalar.cmpi .slt arg29 c0_i32_325
  let v655 : BitVec 32 := Scalar.extui v654
  let v656 : BitVec 32 := Scalar.subi v653 v655
  let c5_i32_323 : BitVec 32 := 5#32
  let c0_i32_326 : BitVec 32 := 0#32
  let v657 : BitVec 1 := Scalar.cmpi .sgt c5_i32_323 c0_i32_326
  let v658 : BitVec 32 := Scalar.extui v657
  let c0_i32_327 : BitVec 32 := 0#32
  let v659 : BitVec 1 := Scalar.cmpi .slt c5_i32_323 c0_i32_327
  let v660 : BitVec 32 := Scalar.extui v659
  let v661 : BitVec 32 := Scalar.subi v658 v660
  let v662 : BitVec 1 := Scalar.cmpi .ne v656 v661
  let v663 : BitVec 32 := Scalar.remsi arg29 c5_i32_323
  let c0_i32_328 : BitVec 32 := 0#32
  let v664 : BitVec 1 := Scalar.cmpi .ne v663 c0_i32_328
  let v665 : BitVec 1 := Scalar.andi v662 v664
  let v651 : BitVec 32 := Scalar.divsi arg29 c5_i32_323
  let c1_i32_329 : BitVec 32 := 1#32
  let v666 : BitVec 32 := Scalar.subi v651 c1_i32_329
  let v667 : BitVec 32 := Scalar.select v665 v666 v651
  let v678 : Index := Scalar.indexCast v667
  let c0_336 : Index := 0#32
  ![v678.toNat, 0]
def k0_off9 (k0_t2 : Fin k0_t2_loop.trips) : Fin 2 → Nat :=
  let c0_i32_309 : BitVec 32 := 0#32
  let c1_i32_310 : BitVec 32 := 1#32
  let arg29 : BitVec 32 := Scf.iv c0_i32_309 c1_i32_310 k0_t2
  let c0_i32_324 : BitVec 32 := 0#32
  let v652 : BitVec 1 := Scalar.cmpi .sgt arg29 c0_i32_324
  let v653 : BitVec 32 := Scalar.extui v652
  let c0_i32_325 : BitVec 32 := 0#32
  let v654 : BitVec 1 := Scalar.cmpi .slt arg29 c0_i32_325
  let v655 : BitVec 32 := Scalar.extui v654
  let v656 : BitVec 32 := Scalar.subi v653 v655
  let c5_i32_323 : BitVec 32 := 5#32
  let c0_i32_326 : BitVec 32 := 0#32
  let v657 : BitVec 1 := Scalar.cmpi .sgt c5_i32_323 c0_i32_326
  let v658 : BitVec 32 := Scalar.extui v657
  let c0_i32_327 : BitVec 32 := 0#32
  let v659 : BitVec 1 := Scalar.cmpi .slt c5_i32_323 c0_i32_327
  let v660 : BitVec 32 := Scalar.extui v659
  let v661 : BitVec 32 := Scalar.subi v658 v660
  let v662 : BitVec 1 := Scalar.cmpi .ne v656 v661
  let v663 : BitVec 32 := Scalar.remsi arg29 c5_i32_323
  let c0_i32_328 : BitVec 32 := 0#32
  let v664 : BitVec 1 := Scalar.cmpi .ne v663 c0_i32_328
  let v665 : BitVec 1 := Scalar.andi v662 v664
  let v651 : BitVec 32 := Scalar.divsi arg29 c5_i32_323
  let c1_i32_329 : BitVec 32 := 1#32
  let v666 : BitVec 32 := Scalar.subi v651 c1_i32_329
  let v667 : BitVec 32 := Scalar.select v665 v666 v651
  let v687 : Index := Scalar.indexCast v667
  let c0_339 : Index := 0#32
  ![v687.toNat, 0]
def k0_off10 (k0_t2 : Fin k0_t2_loop.trips) (v688 : BitVec 32) : Fin 2 → Nat :=
  let c0_i32_309 : BitVec 32 := 0#32
  let c1_i32_310 : BitVec 32 := 1#32
  let arg29 : BitVec 32 := Scf.iv c0_i32_309 c1_i32_310 k0_t2
  let c0_i32_324 : BitVec 32 := 0#32
  let v652 : BitVec 1 := Scalar.cmpi .sgt arg29 c0_i32_324
  let v653 : BitVec 32 := Scalar.extui v652
  let c0_i32_325 : BitVec 32 := 0#32
  let v654 : BitVec 1 := Scalar.cmpi .slt arg29 c0_i32_325
  let v655 : BitVec 32 := Scalar.extui v654
  let v656 : BitVec 32 := Scalar.subi v653 v655
  let c5_i32_323 : BitVec 32 := 5#32
  let c0_i32_326 : BitVec 32 := 0#32
  let v657 : BitVec 1 := Scalar.cmpi .sgt c5_i32_323 c0_i32_326
  let v658 : BitVec 32 := Scalar.extui v657
  let c0_i32_327 : BitVec 32 := 0#32
  let v659 : BitVec 1 := Scalar.cmpi .slt c5_i32_323 c0_i32_327
  let v660 : BitVec 32 := Scalar.extui v659
  let v661 : BitVec 32 := Scalar.subi v658 v660
  let v662 : BitVec 1 := Scalar.cmpi .ne v656 v661
  let v663 : BitVec 32 := Scalar.remsi arg29 c5_i32_323
  let c0_i32_328 : BitVec 32 := 0#32
  let v664 : BitVec 1 := Scalar.cmpi .ne v663 c0_i32_328
  let v665 : BitVec 1 := Scalar.andi v662 v664
  let v651 : BitVec 32 := Scalar.divsi arg29 c5_i32_323
  let c1_i32_329 : BitVec 32 := 1#32
  let v666 : BitVec 32 := Scalar.subi v651 c1_i32_329
  let v667 : BitVec 32 := Scalar.select v665 v666 v651
  let v694 : Index := Scalar.indexCast v667
  let c64_i32_341 : BitVec 32 := 64#32
  let c5_i32_330 : BitVec 32 := 5#32
  let c0_i32_331 : BitVec 32 := 0#32
  let v668 : BitVec 1 := Scalar.cmpi .eq c5_i32_330 c0_i32_331
  let c1_i32_332 : BitVec 32 := 1#32
  let v669 : BitVec 32 := Scalar.select v668 c1_i32_332 c5_i32_330
  let v670 : BitVec 32 := Scalar.remsi arg29 v669
  let c0_i32_334 : BitVec 32 := 0#32
  let v672 : BitVec 1 := Scalar.cmpi .slt v670 c0_i32_334
  let c0_i32_335 : BitVec 32 := 0#32
  let v673 : BitVec 1 := Scalar.cmpi .slt v669 c0_i32_335
  let v674 : BitVec 1 := Scalar.xori v672 v673
  let c0_i32_333 : BitVec 32 := 0#32
  let v671 : BitVec 1 := Scalar.cmpi .ne v670 c0_i32_333
  let v675 : BitVec 1 := Scalar.andi v674 v671
  let v676 : BitVec 32 := Scalar.addi v670 v669
  let v677 : BitVec 32 := Scalar.select v675 v676 v670
  let v690 : BitVec 32 := Scalar.muli c64_i32_341 v677
  let c63_i32_340 : BitVec 32 := 63#32
  let v689 : BitVec 32 := Scalar.andi v688 c63_i32_340
  let v691 : BitVec 32 := Scalar.subi v690 v689
  let c0_i32_342 : BitVec 32 := 0#32
  let v692 : BitVec 32 := Scalar.maxsi v691 c0_i32_342
  let c255_i32 : BitVec 32 := 255#32
  let v693 : BitVec 32 := Scalar.minsi v692 c255_i32
  let v695 : Index := Scalar.indexCast v693
  ![v694.toNat, v695.toNat]
def k0_cond1 (k0_t2 : Fin k0_t2_loop.trips) (v679 : BitVec 32) : BitVec 1 :=
  let c64_i32 : BitVec 32 := 64#32
  let c0_i32_309 : BitVec 32 := 0#32
  let c1_i32_310 : BitVec 32 := 1#32
  let arg29 : BitVec 32 := Scf.iv c0_i32_309 c1_i32_310 k0_t2
  let c5_i32_330 : BitVec 32 := 5#32
  let c0_i32_331 : BitVec 32 := 0#32
  let v668 : BitVec 1 := Scalar.cmpi .eq c5_i32_330 c0_i32_331
  let c1_i32_332 : BitVec 32 := 1#32
  let v669 : BitVec 32 := Scalar.select v668 c1_i32_332 c5_i32_330
  let v670 : BitVec 32 := Scalar.remsi arg29 v669
  let c0_i32_334 : BitVec 32 := 0#32
  let v672 : BitVec 1 := Scalar.cmpi .slt v670 c0_i32_334
  let c0_i32_335 : BitVec 32 := 0#32
  let v673 : BitVec 1 := Scalar.cmpi .slt v669 c0_i32_335
  let v674 : BitVec 1 := Scalar.xori v672 v673
  let c0_i32_333 : BitVec 32 := 0#32
  let v671 : BitVec 1 := Scalar.cmpi .ne v670 c0_i32_333
  let v675 : BitVec 1 := Scalar.andi v674 v671
  let v676 : BitVec 32 := Scalar.addi v670 v669
  let v677 : BitVec 32 := Scalar.select v675 v676 v670
  let v681 : BitVec 32 := Scalar.muli c64_i32 v677
  let c63_i32 : BitVec 32 := 63#32
  let v680 : BitVec 32 := Scalar.andi v679 c63_i32
  let v682 : BitVec 32 := Scalar.subi v681 v680
  let c0_i32_337 : BitVec 32 := 0#32
  let v683 : BitVec 32 := Scalar.maxsi v682 c0_i32_337
  let c256_i32 : BitVec 32 := 256#32
  let v684 : BitVec 1 := Scalar.cmpi .slt v683 c256_i32
  let v685 : BitVec 32 := Scalar.extui v684
  let c0_i32_338 : BitVec 32 := 0#32
  let v686 : BitVec 1 := Scalar.cmpi .ne v685 c0_i32_338
  v686

def k0_mult3 (v696 : BitVec 32) : BitVec 32 :=
  let c0_i32_344 : BitVec 32 := 0#32
  let v698 : BitVec 1 := Scalar.cmpi .sgt v696 c0_i32_344
  let v699 : BitVec 32 := Scalar.extui v698
  let c0_i32_345 : BitVec 32 := 0#32
  let v700 : BitVec 1 := Scalar.cmpi .slt v696 c0_i32_345
  let v701 : BitVec 32 := Scalar.extui v700
  let v702 : BitVec 32 := Scalar.subi v699 v701
  let c64_i32_343 : BitVec 32 := 64#32
  let c0_i32_346 : BitVec 32 := 0#32
  let v703 : BitVec 1 := Scalar.cmpi .sgt c64_i32_343 c0_i32_346
  let v704 : BitVec 32 := Scalar.extui v703
  let c0_i32_347 : BitVec 32 := 0#32
  let v705 : BitVec 1 := Scalar.cmpi .slt c64_i32_343 c0_i32_347
  let v706 : BitVec 32 := Scalar.extui v705
  let v707 : BitVec 32 := Scalar.subi v704 v706
  let v708 : BitVec 1 := Scalar.cmpi .ne v702 v707
  let v709 : BitVec 32 := Scalar.remsi v696 c64_i32_343
  let c0_i32_348 : BitVec 32 := 0#32
  let v710 : BitVec 1 := Scalar.cmpi .ne v709 c0_i32_348
  let v711 : BitVec 1 := Scalar.andi v708 v710
  let v697 : BitVec 32 := Scalar.divsi v696 c64_i32_343
  let c1_i32_349 : BitVec 32 := 1#32
  let v712 : BitVec 32 := Scalar.subi v697 c1_i32_349
  let v713 : BitVec 32 := Scalar.select v711 v712 v697
  let c0_i32_352 : BitVec 32 := 0#32
  let v718 : BitVec 1 := Scalar.cmpi .sgt v713 c0_i32_352
  let v719 : BitVec 32 := Scalar.extui v718
  let c0_i32_353 : BitVec 32 := 0#32
  let v720 : BitVec 1 := Scalar.cmpi .slt v713 c0_i32_353
  let v721 : BitVec 32 := Scalar.extui v720
  let v722 : BitVec 32 := Scalar.subi v719 v721
  let c128_i32 : BitVec 32 := 128#32
  let c0_i32_354 : BitVec 32 := 0#32
  let v723 : BitVec 1 := Scalar.cmpi .sgt c128_i32 c0_i32_354
  let v724 : BitVec 32 := Scalar.extui v723
  let c0_i32_355 : BitVec 32 := 0#32
  let v725 : BitVec 1 := Scalar.cmpi .slt c128_i32 c0_i32_355
  let v726 : BitVec 32 := Scalar.extui v725
  let v727 : BitVec 32 := Scalar.subi v724 v726
  let v728 : BitVec 1 := Scalar.cmpi .ne v722 v727
  let v729 : BitVec 32 := Scalar.remsi v713 c128_i32
  let c0_i32_356 : BitVec 32 := 0#32
  let v730 : BitVec 1 := Scalar.cmpi .ne v729 c0_i32_356
  let v731 : BitVec 1 := Scalar.andi v728 v730
  let v717 : BitVec 32 := Scalar.divsi v713 c128_i32
  let c1_i32_357 : BitVec 32 := 1#32
  let v732 : BitVec 32 := Scalar.subi v717 c1_i32_357
  let v733 : BitVec 32 := Scalar.select v731 v732 v717
  let c128_i32_358 : BitVec 32 := 128#32
  let v734 : BitVec 32 := Scalar.muli v733 c128_i32_358
  v734

def k0_off11 (k0_t2 : Fin k0_t2_loop.trips) (v688 : BitVec 32) : Fin 2 → Nat :=
  let c64_i32_360 : BitVec 32 := 64#32
  let c0_i32_309 : BitVec 32 := 0#32
  let c1_i32_310 : BitVec 32 := 1#32
  let arg29 : BitVec 32 := Scf.iv c0_i32_309 c1_i32_310 k0_t2
  let c0_i32_324 : BitVec 32 := 0#32
  let v652 : BitVec 1 := Scalar.cmpi .sgt arg29 c0_i32_324
  let v653 : BitVec 32 := Scalar.extui v652
  let c0_i32_325 : BitVec 32 := 0#32
  let v654 : BitVec 1 := Scalar.cmpi .slt arg29 c0_i32_325
  let v655 : BitVec 32 := Scalar.extui v654
  let v656 : BitVec 32 := Scalar.subi v653 v655
  let c5_i32_323 : BitVec 32 := 5#32
  let c0_i32_326 : BitVec 32 := 0#32
  let v657 : BitVec 1 := Scalar.cmpi .sgt c5_i32_323 c0_i32_326
  let v658 : BitVec 32 := Scalar.extui v657
  let c0_i32_327 : BitVec 32 := 0#32
  let v659 : BitVec 1 := Scalar.cmpi .slt c5_i32_323 c0_i32_327
  let v660 : BitVec 32 := Scalar.extui v659
  let v661 : BitVec 32 := Scalar.subi v658 v660
  let v662 : BitVec 1 := Scalar.cmpi .ne v656 v661
  let v663 : BitVec 32 := Scalar.remsi arg29 c5_i32_323
  let c0_i32_328 : BitVec 32 := 0#32
  let v664 : BitVec 1 := Scalar.cmpi .ne v663 c0_i32_328
  let v665 : BitVec 1 := Scalar.andi v662 v664
  let v651 : BitVec 32 := Scalar.divsi arg29 c5_i32_323
  let c1_i32_329 : BitVec 32 := 1#32
  let v666 : BitVec 32 := Scalar.subi v651 c1_i32_329
  let v667 : BitVec 32 := Scalar.select v665 v666 v651
  let c256_i32_359 : BitVec 32 := 256#32
  let v736 : BitVec 32 := Scalar.muli v667 c256_i32_359
  let v737 : BitVec 32 := Scalar.addi c64_i32_360 v736
  let c64_i32_341 : BitVec 32 := 64#32
  let c5_i32_330 : BitVec 32 := 5#32
  let c0_i32_331 : BitVec 32 := 0#32
  let v668 : BitVec 1 := Scalar.cmpi .eq c5_i32_330 c0_i32_331
  let c1_i32_332 : BitVec 32 := 1#32
  let v669 : BitVec 32 := Scalar.select v668 c1_i32_332 c5_i32_330
  let v670 : BitVec 32 := Scalar.remsi arg29 v669
  let c0_i32_334 : BitVec 32 := 0#32
  let v672 : BitVec 1 := Scalar.cmpi .slt v670 c0_i32_334
  let c0_i32_335 : BitVec 32 := 0#32
  let v673 : BitVec 1 := Scalar.cmpi .slt v669 c0_i32_335
  let v674 : BitVec 1 := Scalar.xori v672 v673
  let c0_i32_333 : BitVec 32 := 0#32
  let v671 : BitVec 1 := Scalar.cmpi .ne v670 c0_i32_333
  let v675 : BitVec 1 := Scalar.andi v674 v671
  let v676 : BitVec 32 := Scalar.addi v670 v669
  let v677 : BitVec 32 := Scalar.select v675 v676 v670
  let v690 : BitVec 32 := Scalar.muli c64_i32_341 v677
  let c63_i32_340 : BitVec 32 := 63#32
  let v689 : BitVec 32 := Scalar.andi v688 c63_i32_340
  let v691 : BitVec 32 := Scalar.subi v690 v689
  let v738 : BitVec 32 := Scalar.addi v737 v691
  let v739 : Index := Scalar.indexCast v738
  let c0_361 : Index := 0#32
  ![v739.toNat, 0]

def k0_chk1 (k0_t2 : Fin k0_t2_loop.trips) (v679 : BitVec 32) (v688 : BitVec 32) : Prop :=
  (∀ (k0_h1 : k0_cond1 k0_t2 v679 = 1#1), ∀ a, (k0_off10 k0_t2 v688) a + S1x1.size a ≤ S6x256.size a) ∧
  (∀ (k0_h1 : k0_cond1 k0_t2 v679 = 1#1), ∀ a, (k0_off11 k0_t2 v688) a + S64x128.size a ≤ S1664x128.size a)
theorem k0_off10_inb : ∀ (k0_t2 : Fin k0_t2_loop.trips) (v679 : BitVec 32) (v688 : BitVec 32) (k0_hw1 : k0_chk1 k0_t2 v679 v688), ∀ (k0_h1 : k0_cond1 k0_t2 v679 = 1#1), ∀ a, (k0_off10 k0_t2 v688) a + S1x1.size a ≤ S6x256.size a := fun k0_t2 v679 v688 k0_hw1 k0_h1 => k0_hw1.1 k0_h1
theorem k0_off11_inb : ∀ (k0_t2 : Fin k0_t2_loop.trips) (v679 : BitVec 32) (v688 : BitVec 32) (k0_hw1 : k0_chk1 k0_t2 v679 v688), ∀ (k0_h1 : k0_cond1 k0_t2 v679 = 1#1), ∀ a, (k0_off11 k0_t2 v688) a + S64x128.size a ≤ S1664x128.size a := fun k0_t2 v679 v688 k0_hw1 k0_h1 => k0_hw1.2 k0_h1

def k0_off12 (v696 : BitVec 32) : Fin 3 → Nat :=
  let c0_362 : Index := 0#32
  let c0_363 : Index := 0#32
  let c0_i32_344 : BitVec 32 := 0#32
  let v698 : BitVec 1 := Scalar.cmpi .sgt v696 c0_i32_344
  let v699 : BitVec 32 := Scalar.extui v698
  let c0_i32_345 : BitVec 32 := 0#32
  let v700 : BitVec 1 := Scalar.cmpi .slt v696 c0_i32_345
  let v701 : BitVec 32 := Scalar.extui v700
  let v702 : BitVec 32 := Scalar.subi v699 v701
  let c64_i32_343 : BitVec 32 := 64#32
  let c0_i32_346 : BitVec 32 := 0#32
  let v703 : BitVec 1 := Scalar.cmpi .sgt c64_i32_343 c0_i32_346
  let v704 : BitVec 32 := Scalar.extui v703
  let c0_i32_347 : BitVec 32 := 0#32
  let v705 : BitVec 1 := Scalar.cmpi .slt c64_i32_343 c0_i32_347
  let v706 : BitVec 32 := Scalar.extui v705
  let v707 : BitVec 32 := Scalar.subi v704 v706
  let v708 : BitVec 1 := Scalar.cmpi .ne v702 v707
  let v709 : BitVec 32 := Scalar.remsi v696 c64_i32_343
  let c0_i32_348 : BitVec 32 := 0#32
  let v710 : BitVec 1 := Scalar.cmpi .ne v709 c0_i32_348
  let v711 : BitVec 1 := Scalar.andi v708 v710
  let v697 : BitVec 32 := Scalar.divsi v696 c64_i32_343
  let c1_i32_349 : BitVec 32 := 1#32
  let v712 : BitVec 32 := Scalar.subi v697 c1_i32_349
  let v713 : BitVec 32 := Scalar.select v711 v712 v697
  let c0_i32_352 : BitVec 32 := 0#32
  let v718 : BitVec 1 := Scalar.cmpi .sgt v713 c0_i32_352
  let v719 : BitVec 32 := Scalar.extui v718
  let c0_i32_353 : BitVec 32 := 0#32
  let v720 : BitVec 1 := Scalar.cmpi .slt v713 c0_i32_353
  let v721 : BitVec 32 := Scalar.extui v720
  let v722 : BitVec 32 := Scalar.subi v719 v721
  let c128_i32 : BitVec 32 := 128#32
  let c0_i32_354 : BitVec 32 := 0#32
  let v723 : BitVec 1 := Scalar.cmpi .sgt c128_i32 c0_i32_354
  let v724 : BitVec 32 := Scalar.extui v723
  let c0_i32_355 : BitVec 32 := 0#32
  let v725 : BitVec 1 := Scalar.cmpi .slt c128_i32 c0_i32_355
  let v726 : BitVec 32 := Scalar.extui v725
  let v727 : BitVec 32 := Scalar.subi v724 v726
  let v728 : BitVec 1 := Scalar.cmpi .ne v722 v727
  let v729 : BitVec 32 := Scalar.remsi v713 c128_i32
  let c0_i32_356 : BitVec 32 := 0#32
  let v730 : BitVec 1 := Scalar.cmpi .ne v729 c0_i32_356
  let v731 : BitVec 1 := Scalar.andi v728 v730
  let v717 : BitVec 32 := Scalar.divsi v713 c128_i32
  let c1_i32_357 : BitVec 32 := 1#32
  let v732 : BitVec 32 := Scalar.subi v717 c1_i32_357
  let v733 : BitVec 32 := Scalar.select v731 v732 v717
  let c128_i32_358 : BitVec 32 := 128#32
  let v734 : BitVec 32 := Scalar.muli v733 c128_i32_358
  let v735 : BitVec 32 := v734
  let v741 : Index := Scalar.indexCast v735
  ![0, 0, v741.toNat]

def k0_chk2 (k0_t2 : Fin k0_t2_loop.trips) (v679 : BitVec 32) (v696 : BitVec 32) : Prop :=
  (∀ (k0_h1 : k0_cond1 k0_t2 v679 = 1#1), 128 ∣ (k0_mult3 v696).toNat) ∧
  (∀ (k0_h1 : k0_cond1 k0_t2 v679 = 1#1), ∀ a, (k0_off12 v696) a + S64x1x128.size a ≤ S64x1x3870.size a)
theorem k0_mult3_dvd : ∀ (k0_t2 : Fin k0_t2_loop.trips) (v679 : BitVec 32) (v696 : BitVec 32) (k0_hw2 : k0_chk2 k0_t2 v679 v696), ∀ (k0_h1 : k0_cond1 k0_t2 v679 = 1#1), 128 ∣ (k0_mult3 v696).toNat := fun k0_t2 v679 v696 k0_hw2 k0_h1 => k0_hw2.1 k0_h1
theorem k0_off12_inb : ∀ (k0_t2 : Fin k0_t2_loop.trips) (v679 : BitVec 32) (v696 : BitVec 32) (k0_hw2 : k0_chk2 k0_t2 v679 v696), ∀ (k0_h1 : k0_cond1 k0_t2 v679 = 1#1), ∀ a, (k0_off12 v696) a + S64x1x128.size a ≤ S64x1x3870.size a := fun k0_t2 v679 v696 k0_hw2 k0_h1 => k0_hw2.2 k0_h1

@[reducible] def k0_t3_loop : Scf.Loop 32 :=
  let c0_i32_312 : BitVec 32 := 0#32
  let c15_i32 : BitVec 32 := 15#32
  let v641 : BitVec 32 := Scalar.addi c0_i32_312 c15_i32
  let c1_i32_313 : BitVec 32 := 1#32
  ⟨c0_i32_312, v641, c1_i32_313⟩
def k0_off13 (k0_t3 : Fin k0_t3_loop.trips) : Fin 1 → Nat :=
  let c0_i32_312 : BitVec 32 := 0#32
  let c1_i32_313 : BitVec 32 := 1#32
  let arg29 : BitVec 32 := Scf.iv c0_i32_312 c1_i32_313 k0_t3
  ![arg29.toNat]
def k0_off14 (k0_t3 : Fin k0_t3_loop.trips) : Fin 3 → Nat :=
  let c0_i32_312 : BitVec 32 := 0#32
  let c1_i32_313 : BitVec 32 := 1#32
  let arg29 : BitVec 32 := Scf.iv c0_i32_312 c1_i32_313 k0_t3
  let c258_i32_323 : BitVec 32 := 258#32
  let v651 : BitVec 32 := Scalar.muli arg29 c258_i32_323
  let c0_i32_324 : BitVec 32 := 0#32
  let c0_i32_325 : BitVec 32 := 0#32
  ![v651.toNat, 0, 0]
@[reducible] def k0_t4_loop : Scf.Loop 32 :=
  let c0_i32_328 : BitVec 32 := 0#32
  let c30_i32_329 : BitVec 32 := 30#32
  let v656 : BitVec 32 := Scalar.addi c0_i32_328 c30_i32_329
  let c1_i32_330 : BitVec 32 := 1#32
  ⟨c0_i32_328, v656, c1_i32_330⟩
def k0_off15 (k0_t4 : Fin k0_t4_loop.trips) : Fin 2 → Nat :=
  let c0_i32_328 : BitVec 32 := 0#32
  let c1_i32_330 : BitVec 32 := 1#32
  let arg30 : BitVec 32 := Scf.iv c0_i32_328 c1_i32_330 k0_t4
  let c0_i32_338 : BitVec 32 := 0#32
  let v661 : BitVec 1 := Scalar.cmpi .sgt arg30 c0_i32_338
  let v662 : BitVec 32 := Scalar.extui v661
  let c0_i32_339 : BitVec 32 := 0#32
  let v663 : BitVec 1 := Scalar.cmpi .slt arg30 c0_i32_339
  let v664 : BitVec 32 := Scalar.extui v663
  let v665 : BitVec 32 := Scalar.subi v662 v664
  let c5_i32_337 : BitVec 32 := 5#32
  let c0_i32_340 : BitVec 32 := 0#32
  let v666 : BitVec 1 := Scalar.cmpi .sgt c5_i32_337 c0_i32_340
  let v667 : BitVec 32 := Scalar.extui v666
  let c0_i32_341 : BitVec 32 := 0#32
  let v668 : BitVec 1 := Scalar.cmpi .slt c5_i32_337 c0_i32_341
  let v669 : BitVec 32 := Scalar.extui v668
  let v670 : BitVec 32 := Scalar.subi v667 v669
  let v671 : BitVec 1 := Scalar.cmpi .ne v665 v670
  let v672 : BitVec 32 := Scalar.remsi arg30 c5_i32_337
  let c0_i32_342 : BitVec 32 := 0#32
  let v673 : BitVec 1 := Scalar.cmpi .ne v672 c0_i32_342
  let v674 : BitVec 1 := Scalar.andi v671 v673
  let v660 : BitVec 32 := Scalar.divsi arg30 c5_i32_337
  let c1_i32_343 : BitVec 32 := 1#32
  let v675 : BitVec 32 := Scalar.subi v660 c1_i32_343
  let v676 : BitVec 32 := Scalar.select v674 v675 v660
  let v687 : Index := Scalar.indexCast v676
  let c0_350 : Index := 0#32
  ![v687.toNat, 0]
def k0_off16 (k0_t4 : Fin k0_t4_loop.trips) (v688 : BitVec 32) : Fin 2 → Nat :=
  let c0_i32_328 : BitVec 32 := 0#32
  let c1_i32_330 : BitVec 32 := 1#32
  let arg30 : BitVec 32 := Scf.iv c0_i32_328 c1_i32_330 k0_t4
  let c0_i32_338 : BitVec 32 := 0#32
  let v661 : BitVec 1 := Scalar.cmpi .sgt arg30 c0_i32_338
  let v662 : BitVec 32 := Scalar.extui v661
  let c0_i32_339 : BitVec 32 := 0#32
  let v663 : BitVec 1 := Scalar.cmpi .slt arg30 c0_i32_339
  let v664 : BitVec 32 := Scalar.extui v663
  let v665 : BitVec 32 := Scalar.subi v662 v664
  let c5_i32_337 : BitVec 32 := 5#32
  let c0_i32_340 : BitVec 32 := 0#32
  let v666 : BitVec 1 := Scalar.cmpi .sgt c5_i32_337 c0_i32_340
  let v667 : BitVec 32 := Scalar.extui v666
  let c0_i32_341 : BitVec 32 := 0#32
  let v668 : BitVec 1 := Scalar.cmpi .slt c5_i32_337 c0_i32_341
  let v669 : BitVec 32 := Scalar.extui v668
  let v670 : BitVec 32 := Scalar.subi v667 v669
  let v671 : BitVec 1 := Scalar.cmpi .ne v665 v670
  let v672 : BitVec 32 := Scalar.remsi arg30 c5_i32_337
  let c0_i32_342 : BitVec 32 := 0#32
  let v673 : BitVec 1 := Scalar.cmpi .ne v672 c0_i32_342
  let v674 : BitVec 1 := Scalar.andi v671 v673
  let v660 : BitVec 32 := Scalar.divsi arg30 c5_i32_337
  let c1_i32_343 : BitVec 32 := 1#32
  let v675 : BitVec 32 := Scalar.subi v660 c1_i32_343
  let v676 : BitVec 32 := Scalar.select v674 v675 v660
  let v695 : Index := Scalar.indexCast v676
  let c64_i32 : BitVec 32 := 64#32
  let c5_i32_344 : BitVec 32 := 5#32
  let c0_i32_345 : BitVec 32 := 0#32
  let v677 : BitVec 1 := Scalar.cmpi .eq c5_i32_344 c0_i32_345
  let c1_i32_346 : BitVec 32 := 1#32
  let v678 : BitVec 32 := Scalar.select v677 c1_i32_346 c5_i32_344
  let v679 : BitVec 32 := Scalar.remsi arg30 v678
  let c0_i32_348 : BitVec 32 := 0#32
  let v681 : BitVec 1 := Scalar.cmpi .slt v679 c0_i32_348
  let c0_i32_349 : BitVec 32 := 0#32
  let v682 : BitVec 1 := Scalar.cmpi .slt v678 c0_i32_349
  let v683 : BitVec 1 := Scalar.xori v681 v682
  let c0_i32_347 : BitVec 32 := 0#32
  let v680 : BitVec 1 := Scalar.cmpi .ne v679 c0_i32_347
  let v684 : BitVec 1 := Scalar.andi v683 v680
  let v685 : BitVec 32 := Scalar.addi v679 v678
  let v686 : BitVec 32 := Scalar.select v684 v685 v679
  let v690 : BitVec 32 := Scalar.muli c64_i32 v686
  let c63_i32 : BitVec 32 := 63#32
  let v689 : BitVec 32 := Scalar.andi v688 c63_i32
  let v691 : BitVec 32 := Scalar.subi v690 v689
  let c0_i32_351 : BitVec 32 := 0#32
  let v692 : BitVec 32 := Scalar.maxsi v691 c0_i32_351
  let c255_i32 : BitVec 32 := 255#32
  let v694 : BitVec 32 := Scalar.minsi v692 c255_i32
  let v696 : Index := Scalar.indexCast v694
  ![v695.toNat, v696.toNat]

def k0_chk3 (k0_t4 : Fin k0_t4_loop.trips) (v688 : BitVec 32) : Prop :=
  (∀ a, (k0_off16 k0_t4 v688) a + S1x1.size a ≤ S6x256.size a)
theorem k0_off16_inb : ∀ (k0_t4 : Fin k0_t4_loop.trips) (v688 : BitVec 32) (k0_hw3 : k0_chk3 k0_t4 v688), ∀ a, (k0_off16 k0_t4 v688) a + S1x1.size a ≤ S6x256.size a := fun k0_t4 v688 k0_hw3 => k0_hw3

def k0_off17 (k0_t4 : Fin k0_t4_loop.trips) : Fin 2 → Nat :=
  let c0_i32_328 : BitVec 32 := 0#32
  let c1_i32_330 : BitVec 32 := 1#32
  let arg30 : BitVec 32 := Scf.iv c0_i32_328 c1_i32_330 k0_t4
  let c0_i32_338 : BitVec 32 := 0#32
  let v661 : BitVec 1 := Scalar.cmpi .sgt arg30 c0_i32_338
  let v662 : BitVec 32 := Scalar.extui v661
  let c0_i32_339 : BitVec 32 := 0#32
  let v663 : BitVec 1 := Scalar.cmpi .slt arg30 c0_i32_339
  let v664 : BitVec 32 := Scalar.extui v663
  let v665 : BitVec 32 := Scalar.subi v662 v664
  let c5_i32_337 : BitVec 32 := 5#32
  let c0_i32_340 : BitVec 32 := 0#32
  let v666 : BitVec 1 := Scalar.cmpi .sgt c5_i32_337 c0_i32_340
  let v667 : BitVec 32 := Scalar.extui v666
  let c0_i32_341 : BitVec 32 := 0#32
  let v668 : BitVec 1 := Scalar.cmpi .slt c5_i32_337 c0_i32_341
  let v669 : BitVec 32 := Scalar.extui v668
  let v670 : BitVec 32 := Scalar.subi v667 v669
  let v671 : BitVec 1 := Scalar.cmpi .ne v665 v670
  let v672 : BitVec 32 := Scalar.remsi arg30 c5_i32_337
  let c0_i32_342 : BitVec 32 := 0#32
  let v673 : BitVec 1 := Scalar.cmpi .ne v672 c0_i32_342
  let v674 : BitVec 1 := Scalar.andi v671 v673
  let v660 : BitVec 32 := Scalar.divsi arg30 c5_i32_337
  let c1_i32_343 : BitVec 32 := 1#32
  let v675 : BitVec 32 := Scalar.subi v660 c1_i32_343
  let v676 : BitVec 32 := Scalar.select v674 v675 v660
  let v736 : Index := Scalar.indexCast v676
  let c0_367 : Index := 0#32
  ![v736.toNat, 0]
def k0_off18 (k0_t4 : Fin k0_t4_loop.trips) (v737 : BitVec 32) : Fin 2 → Nat :=
  let c0_i32_328 : BitVec 32 := 0#32
  let c1_i32_330 : BitVec 32 := 1#32
  let arg30 : BitVec 32 := Scf.iv c0_i32_328 c1_i32_330 k0_t4
  let c0_i32_338 : BitVec 32 := 0#32
  let v661 : BitVec 1 := Scalar.cmpi .sgt arg30 c0_i32_338
  let v662 : BitVec 32 := Scalar.extui v661
  let c0_i32_339 : BitVec 32 := 0#32
  let v663 : BitVec 1 := Scalar.cmpi .slt arg30 c0_i32_339
  let v664 : BitVec 32 := Scalar.extui v663
  let v665 : BitVec 32 := Scalar.subi v662 v664
  let c5_i32_337 : BitVec 32 := 5#32
  let c0_i32_340 : BitVec 32 := 0#32
  let v666 : BitVec 1 := Scalar.cmpi .sgt c5_i32_337 c0_i32_340
  let v667 : BitVec 32 := Scalar.extui v666
  let c0_i32_341 : BitVec 32 := 0#32
  let v668 : BitVec 1 := Scalar.cmpi .slt c5_i32_337 c0_i32_341
  let v669 : BitVec 32 := Scalar.extui v668
  let v670 : BitVec 32 := Scalar.subi v667 v669
  let v671 : BitVec 1 := Scalar.cmpi .ne v665 v670
  let v672 : BitVec 32 := Scalar.remsi arg30 c5_i32_337
  let c0_i32_342 : BitVec 32 := 0#32
  let v673 : BitVec 1 := Scalar.cmpi .ne v672 c0_i32_342
  let v674 : BitVec 1 := Scalar.andi v671 v673
  let v660 : BitVec 32 := Scalar.divsi arg30 c5_i32_337
  let c1_i32_343 : BitVec 32 := 1#32
  let v675 : BitVec 32 := Scalar.subi v660 c1_i32_343
  let v676 : BitVec 32 := Scalar.select v674 v675 v660
  let v743 : Index := Scalar.indexCast v676
  let c64_i32_369 : BitVec 32 := 64#32
  let c5_i32_344 : BitVec 32 := 5#32
  let c0_i32_345 : BitVec 32 := 0#32
  let v677 : BitVec 1 := Scalar.cmpi .eq c5_i32_344 c0_i32_345
  let c1_i32_346 : BitVec 32 := 1#32
  let v678 : BitVec 32 := Scalar.select v677 c1_i32_346 c5_i32_344
  let v679 : BitVec 32 := Scalar.remsi arg30 v678
  let c0_i32_348 : BitVec 32 := 0#32
  let v681 : BitVec 1 := Scalar.cmpi .slt v679 c0_i32_348
  let c0_i32_349 : BitVec 32 := 0#32
  let v682 : BitVec 1 := Scalar.cmpi .slt v678 c0_i32_349
  let v683 : BitVec 1 := Scalar.xori v681 v682
  let c0_i32_347 : BitVec 32 := 0#32
  let v680 : BitVec 1 := Scalar.cmpi .ne v679 c0_i32_347
  let v684 : BitVec 1 := Scalar.andi v683 v680
  let v685 : BitVec 32 := Scalar.addi v679 v678
  let v686 : BitVec 32 := Scalar.select v684 v685 v679
  let v739 : BitVec 32 := Scalar.muli c64_i32_369 v686
  let c63_i32_368 : BitVec 32 := 63#32
  let v738 : BitVec 32 := Scalar.andi v737 c63_i32_368
  let v740 : BitVec 32 := Scalar.subi v739 v738
  let c0_i32_370 : BitVec 32 := 0#32
  let v741 : BitVec 32 := Scalar.maxsi v740 c0_i32_370
  let c255_i32_371 : BitVec 32 := 255#32
  let v742 : BitVec 32 := Scalar.minsi v741 c255_i32_371
  let v744 : Index := Scalar.indexCast v742
  ![v743.toNat, v744.toNat]
def k0_cond2 (k0_t3 : Fin k0_t3_loop.trips) (k0_t4 : Fin k0_t4_loop.trips) (v688 : BitVec 32) (v697 : BitVec 32) : BitVec 1 :=
  let c64_i32 : BitVec 32 := 64#32
  let c0_i32_328 : BitVec 32 := 0#32
  let c1_i32_330 : BitVec 32 := 1#32
  let arg30 : BitVec 32 := Scf.iv c0_i32_328 c1_i32_330 k0_t4
  let c5_i32_344 : BitVec 32 := 5#32
  let c0_i32_345 : BitVec 32 := 0#32
  let v677 : BitVec 1 := Scalar.cmpi .eq c5_i32_344 c0_i32_345
  let c1_i32_346 : BitVec 32 := 1#32
  let v678 : BitVec 32 := Scalar.select v677 c1_i32_346 c5_i32_344
  let v679 : BitVec 32 := Scalar.remsi arg30 v678
  let c0_i32_348 : BitVec 32 := 0#32
  let v681 : BitVec 1 := Scalar.cmpi .slt v679 c0_i32_348
  let c0_i32_349 : BitVec 32 := 0#32
  let v682 : BitVec 1 := Scalar.cmpi .slt v678 c0_i32_349
  let v683 : BitVec 1 := Scalar.xori v681 v682
  let c0_i32_347 : BitVec 32 := 0#32
  let v680 : BitVec 1 := Scalar.cmpi .ne v679 c0_i32_347
  let v684 : BitVec 1 := Scalar.andi v683 v680
  let v685 : BitVec 32 := Scalar.addi v679 v678
  let v686 : BitVec 32 := Scalar.select v684 v685 v679
  let v690 : BitVec 32 := Scalar.muli c64_i32 v686
  let c63_i32 : BitVec 32 := 63#32
  let v689 : BitVec 32 := Scalar.andi v688 c63_i32
  let v691 : BitVec 32 := Scalar.subi v690 v689
  let c0_i32_351 : BitVec 32 := 0#32
  let v692 : BitVec 32 := Scalar.maxsi v691 c0_i32_351
  let c256_i32 : BitVec 32 := 256#32
  let v693 : BitVec 1 := Scalar.cmpi .slt v692 c256_i32
  let c0_i32_353 : BitVec 32 := 0#32
  let v699 : BitVec 1 := Scalar.cmpi .sgt v697 c0_i32_353
  let v700 : BitVec 32 := Scalar.extui v699
  let c0_i32_354 : BitVec 32 := 0#32
  let v701 : BitVec 1 := Scalar.cmpi .slt v697 c0_i32_354
  let v702 : BitVec 32 := Scalar.extui v701
  let v703 : BitVec 32 := Scalar.subi v700 v702
  let c64_i32_352 : BitVec 32 := 64#32
  let c0_i32_355 : BitVec 32 := 0#32
  let v704 : BitVec 1 := Scalar.cmpi .sgt c64_i32_352 c0_i32_355
  let v705 : BitVec 32 := Scalar.extui v704
  let c0_i32_356 : BitVec 32 := 0#32
  let v706 : BitVec 1 := Scalar.cmpi .slt c64_i32_352 c0_i32_356
  let v707 : BitVec 32 := Scalar.extui v706
  let v708 : BitVec 32 := Scalar.subi v705 v707
  let v709 : BitVec 1 := Scalar.cmpi .ne v703 v708
  let v710 : BitVec 32 := Scalar.remsi v697 c64_i32_352
  let c0_i32_357 : BitVec 32 := 0#32
  let v711 : BitVec 1 := Scalar.cmpi .ne v710 c0_i32_357
  let v712 : BitVec 1 := Scalar.andi v709 v711
  let v698 : BitVec 32 := Scalar.divsi v697 c64_i32_352
  let c1_i32_358 : BitVec 32 := 1#32
  let v713 : BitVec 32 := Scalar.subi v698 c1_i32_358
  let v714 : BitVec 32 := Scalar.select v712 v713 v698
  let c0_i32_360 : BitVec 32 := 0#32
  let v716 : BitVec 1 := Scalar.cmpi .sgt v714 c0_i32_360
  let v717 : BitVec 32 := Scalar.extui v716
  let c0_i32_361 : BitVec 32 := 0#32
  let v718 : BitVec 1 := Scalar.cmpi .slt v714 c0_i32_361
  let v719 : BitVec 32 := Scalar.extui v718
  let v720 : BitVec 32 := Scalar.subi v717 v719
  let c258_i32_359 : BitVec 32 := 258#32
  let c0_i32_362 : BitVec 32 := 0#32
  let v721 : BitVec 1 := Scalar.cmpi .sgt c258_i32_359 c0_i32_362
  let v722 : BitVec 32 := Scalar.extui v721
  let c0_i32_363 : BitVec 32 := 0#32
  let v723 : BitVec 1 := Scalar.cmpi .slt c258_i32_359 c0_i32_363
  let v724 : BitVec 32 := Scalar.extui v723
  let v725 : BitVec 32 := Scalar.subi v722 v724
  let v726 : BitVec 1 := Scalar.cmpi .ne v720 v725
  let v727 : BitVec 32 := Scalar.remsi v714 c258_i32_359
  let c0_i32_364 : BitVec 32 := 0#32
  let v728 : BitVec 1 := Scalar.cmpi .ne v727 c0_i32_364
  let v729 : BitVec 1 := Scalar.andi v726 v728
  let v715 : BitVec 32 := Scalar.divsi v714 c258_i32_359
  let c1_i32_365 : BitVec 32 := 1#32
  let v730 : BitVec 32 := Scalar.subi v715 c1_i32_365
  let v731 : BitVec 32 := Scalar.select v729 v730 v715
  let c0_i32_312 : BitVec 32 := 0#32
  let c1_i32_313 : BitVec 32 := 1#32
  let arg29 : BitVec 32 := Scf.iv c0_i32_312 c1_i32_313 k0_t3
  let v732 : BitVec 1 := Scalar.cmpi .eq v731 arg29
  let v733 : BitVec 1 := Scalar.andi v693 v732
  let v734 : BitVec 32 := Scalar.extui v733
  let c0_i32_366 : BitVec 32 := 0#32
  let v735 : BitVec 1 := Scalar.cmpi .ne v734 c0_i32_366
  v735

def k0_off19 (k0_t4 : Fin k0_t4_loop.trips) (v737 : BitVec 32) : Fin 2 → Nat :=
  let c64_i32_382 : BitVec 32 := 64#32
  let c0_i32_328 : BitVec 32 := 0#32
  let c1_i32_330 : BitVec 32 := 1#32
  let arg30 : BitVec 32 := Scf.iv c0_i32_328 c1_i32_330 k0_t4
  let c0_i32_338 : BitVec 32 := 0#32
  let v661 : BitVec 1 := Scalar.cmpi .sgt arg30 c0_i32_338
  let v662 : BitVec 32 := Scalar.extui v661
  let c0_i32_339 : BitVec 32 := 0#32
  let v663 : BitVec 1 := Scalar.cmpi .slt arg30 c0_i32_339
  let v664 : BitVec 32 := Scalar.extui v663
  let v665 : BitVec 32 := Scalar.subi v662 v664
  let c5_i32_337 : BitVec 32 := 5#32
  let c0_i32_340 : BitVec 32 := 0#32
  let v666 : BitVec 1 := Scalar.cmpi .sgt c5_i32_337 c0_i32_340
  let v667 : BitVec 32 := Scalar.extui v666
  let c0_i32_341 : BitVec 32 := 0#32
  let v668 : BitVec 1 := Scalar.cmpi .slt c5_i32_337 c0_i32_341
  let v669 : BitVec 32 := Scalar.extui v668
  let v670 : BitVec 32 := Scalar.subi v667 v669
  let v671 : BitVec 1 := Scalar.cmpi .ne v665 v670
  let v672 : BitVec 32 := Scalar.remsi arg30 c5_i32_337
  let c0_i32_342 : BitVec 32 := 0#32
  let v673 : BitVec 1 := Scalar.cmpi .ne v672 c0_i32_342
  let v674 : BitVec 1 := Scalar.andi v671 v673
  let v660 : BitVec 32 := Scalar.divsi arg30 c5_i32_337
  let c1_i32_343 : BitVec 32 := 1#32
  let v675 : BitVec 32 := Scalar.subi v660 c1_i32_343
  let v676 : BitVec 32 := Scalar.select v674 v675 v660
  let c256_i32_381 : BitVec 32 := 256#32
  let v766 : BitVec 32 := Scalar.muli v676 c256_i32_381
  let v767 : BitVec 32 := Scalar.addi c64_i32_382 v766
  let c64_i32_369 : BitVec 32 := 64#32
  let c5_i32_344 : BitVec 32 := 5#32
  let c0_i32_345 : BitVec 32 := 0#32
  let v677 : BitVec 1 := Scalar.cmpi .eq c5_i32_344 c0_i32_345
  let c1_i32_346 : BitVec 32 := 1#32
  let v678 : BitVec 32 := Scalar.select v677 c1_i32_346 c5_i32_344
  let v679 : BitVec 32 := Scalar.remsi arg30 v678
  let c0_i32_348 : BitVec 32 := 0#32
  let v681 : BitVec 1 := Scalar.cmpi .slt v679 c0_i32_348
  let c0_i32_349 : BitVec 32 := 0#32
  let v682 : BitVec 1 := Scalar.cmpi .slt v678 c0_i32_349
  let v683 : BitVec 1 := Scalar.xori v681 v682
  let c0_i32_347 : BitVec 32 := 0#32
  let v680 : BitVec 1 := Scalar.cmpi .ne v679 c0_i32_347
  let v684 : BitVec 1 := Scalar.andi v683 v680
  let v685 : BitVec 32 := Scalar.addi v679 v678
  let v686 : BitVec 32 := Scalar.select v684 v685 v679
  let v739 : BitVec 32 := Scalar.muli c64_i32_369 v686
  let c63_i32_368 : BitVec 32 := 63#32
  let v738 : BitVec 32 := Scalar.andi v737 c63_i32_368
  let v740 : BitVec 32 := Scalar.subi v739 v738
  let v768 : BitVec 32 := Scalar.addi v767 v740
  let v769 : Index := Scalar.indexCast v768
  let c0_383 : Index := 0#32
  ![v769.toNat, 0]

def k0_chk4 (k0_t3 : Fin k0_t3_loop.trips) (k0_t4 : Fin k0_t4_loop.trips) (v688 : BitVec 32) (v697 : BitVec 32) (v737 : BitVec 32) : Prop :=
  (∀ (k0_h2 : k0_cond2 k0_t3 k0_t4 v688 v697 = 1#1), ∀ a, (k0_off18 k0_t4 v737) a + S1x1.size a ≤ S6x256.size a) ∧
  (∀ (k0_h2 : k0_cond2 k0_t3 k0_t4 v688 v697 = 1#1), ∀ a, (k0_off19 k0_t4 v737) a + S64x128.size a ≤ S1664x128.size a)
theorem k0_off18_inb : ∀ (k0_t3 : Fin k0_t3_loop.trips) (k0_t4 : Fin k0_t4_loop.trips) (v688 : BitVec 32) (v697 : BitVec 32) (v737 : BitVec 32) (k0_hw4 : k0_chk4 k0_t3 k0_t4 v688 v697 v737), ∀ (k0_h2 : k0_cond2 k0_t3 k0_t4 v688 v697 = 1#1), ∀ a, (k0_off18 k0_t4 v737) a + S1x1.size a ≤ S6x256.size a := fun k0_t3 k0_t4 v688 v697 v737 k0_hw4 k0_h2 => k0_hw4.1 k0_h2
theorem k0_off19_inb : ∀ (k0_t3 : Fin k0_t3_loop.trips) (k0_t4 : Fin k0_t4_loop.trips) (v688 : BitVec 32) (v697 : BitVec 32) (v737 : BitVec 32) (k0_hw4 : k0_chk4 k0_t3 k0_t4 v688 v697 v737), ∀ (k0_h2 : k0_cond2 k0_t3 k0_t4 v688 v697 = 1#1), ∀ a, (k0_off19 k0_t4 v737) a + S64x128.size a ≤ S1664x128.size a := fun k0_t3 k0_t4 v688 v697 v737 k0_hw4 k0_h2 => k0_hw4.2 k0_h2

def k0_off20 (v745 : BitVec 32) : Fin 3 → Nat :=
  let c0_i32_373 : BitVec 32 := 0#32
  let v747 : BitVec 1 := Scalar.cmpi .sgt v745 c0_i32_373
  let v748 : BitVec 32 := Scalar.extui v747
  let c0_i32_374 : BitVec 32 := 0#32
  let v749 : BitVec 1 := Scalar.cmpi .slt v745 c0_i32_374
  let v750 : BitVec 32 := Scalar.extui v749
  let v751 : BitVec 32 := Scalar.subi v748 v750
  let c64_i32_372 : BitVec 32 := 64#32
  let c0_i32_375 : BitVec 32 := 0#32
  let v752 : BitVec 1 := Scalar.cmpi .sgt c64_i32_372 c0_i32_375
  let v753 : BitVec 32 := Scalar.extui v752
  let c0_i32_376 : BitVec 32 := 0#32
  let v754 : BitVec 1 := Scalar.cmpi .slt c64_i32_372 c0_i32_376
  let v755 : BitVec 32 := Scalar.extui v754
  let v756 : BitVec 32 := Scalar.subi v753 v755
  let v757 : BitVec 1 := Scalar.cmpi .ne v751 v756
  let v758 : BitVec 32 := Scalar.remsi v745 c64_i32_372
  let c0_i32_377 : BitVec 32 := 0#32
  let v759 : BitVec 1 := Scalar.cmpi .ne v758 c0_i32_377
  let v760 : BitVec 1 := Scalar.andi v757 v759
  let v746 : BitVec 32 := Scalar.divsi v745 c64_i32_372
  let c1_i32_378 : BitVec 32 := 1#32
  let v761 : BitVec 32 := Scalar.subi v746 c1_i32_378
  let v762 : BitVec 32 := Scalar.select v760 v761 v746
  let v772 : Index := Scalar.indexCast v762
  let c0_384 : Index := 0#32
  let c0_385 : Index := 0#32
  ![v772.toNat, 0, 0]

def k0_chk5 (k0_t3 : Fin k0_t3_loop.trips) (k0_t4 : Fin k0_t4_loop.trips) (v688 : BitVec 32) (v697 : BitVec 32) (v745 : BitVec 32) : Prop :=
  (∀ (k0_h2 : k0_cond2 k0_t3 k0_t4 v688 v697 = 1#1), ∀ a, (k0_off20 v745) a + S1x64x128.size a ≤ S3870x64x128.size a) ∧
  (∀ (k0_h2 : k0_cond2 k0_t3 k0_t4 v688 v697 = 1#1), ∀ (hinb : ∀ a, (k0_off20 v745) a + S1x64x128.size a ≤ S3870x64x128.size a), (Rect.unit (s := S3870x64x128) (k0_off20 v745) S1x64x128.size hinb).PackedRows (EltTy.packing .fp8e4m3))
theorem k0_off20_inb : ∀ (k0_t3 : Fin k0_t3_loop.trips) (k0_t4 : Fin k0_t4_loop.trips) (v688 : BitVec 32) (v697 : BitVec 32) (v745 : BitVec 32) (k0_hw5 : k0_chk5 k0_t3 k0_t4 v688 v697 v745), ∀ (k0_h2 : k0_cond2 k0_t3 k0_t4 v688 v697 = 1#1), ∀ a, (k0_off20 v745) a + S1x64x128.size a ≤ S3870x64x128.size a := fun k0_t3 k0_t4 v688 v697 v745 k0_hw5 k0_h2 => k0_hw5.1 k0_h2
theorem k0_off20_packedfp8e4m3 : ∀ (k0_t3 : Fin k0_t3_loop.trips) (k0_t4 : Fin k0_t4_loop.trips) (v688 : BitVec 32) (v697 : BitVec 32) (v745 : BitVec 32) (k0_hw5 : k0_chk5 k0_t3 k0_t4 v688 v697 v745), ∀ (k0_h2 : k0_cond2 k0_t3 k0_t4 v688 v697 = 1#1), (Rect.unit (s := S3870x64x128) (k0_off20 v745) S1x64x128.size (k0_off20_inb k0_t3 k0_t4 v688 v697 v745 k0_hw5 k0_h2)).PackedRows (EltTy.packing .fp8e4m3) := fun k0_t3 k0_t4 v688 v697 v745 k0_hw5 k0_h2 => k0_hw5.2 k0_h2 (k0_off20_inb k0_t3 k0_t4 v688 v697 v745 k0_hw5 k0_h2)

@[reducible] def k0_t5_loop : Scf.Loop 32 :=
  let c0_i32_316 : BitVec 32 := 0#32
  let c15_i32_317 : BitVec 32 := 15#32
  let v644 : BitVec 32 := Scalar.addi c0_i32_316 c15_i32_317
  let c1_i32_318 : BitVec 32 := 1#32
  ⟨c0_i32_316, v644, c1_i32_318⟩
def k0_off21 (k0_t5 : Fin k0_t5_loop.trips) : Fin 3 → Nat :=
  let c0_i32_316 : BitVec 32 := 0#32
  let c1_i32_318 : BitVec 32 := 1#32
  let arg29 : BitVec 32 := Scf.iv c0_i32_316 c1_i32_318 k0_t5
  let c258_i32_323 : BitVec 32 := 258#32
  let v651 : BitVec 32 := Scalar.muli arg29 c258_i32_323
  let c0_i32_324 : BitVec 32 := 0#32
  let c0_i32_325 : BitVec 32 := 0#32
  ![v651.toNat, 0, 0]
abbrev stage0_0 : Fin 1 → Memref sig .tc .smem S6x256 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S56 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x256 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S6x256x7168 : Shape := ⟨3, ![6, 256, 7168]⟩
abbrev S128x7168 : Shape := ⟨2, ![128, 7168]⟩
abbrev S56 : Shape := ⟨1, ![56]⟩
abbrev S128 : Shape := ⟨1, ![128]⟩
abbrev S6x256 : Shape := ⟨2, ![6, 256]⟩
abbrev S3870x64x128 : Shape := ⟨3, ![3870, 64, 128]⟩
abbrev S3870x64x4 : Shape := ⟨3, ![3870, 64, 4]⟩
abbrev S1x32 : Shape := ⟨2, ![1, 32]⟩
abbrev S1x252 : Shape := ⟨2, ![1, 252]⟩
abbrev S1536x7168 : Shape := ⟨2, ![1536, 7168]⟩
abbrev S56x128 : Shape := ⟨2, ![56, 128]⟩
abbrev S7168 : Shape := ⟨1, ![7168]⟩
abbrev S1x7168 : Shape := ⟨2, ![1, 7168]⟩
abbrev S1x128 : Shape := ⟨2, ![1, 128]⟩
abbrev S1536x1 : Shape := ⟨2, ![1536, 1]⟩
abbrev S1x1x1536 : Shape := ⟨3, ![1, 1, 1536]⟩
abbrev S3870x64 : Shape := ⟨2, ![3870, 64]⟩
abbrev S64x3870 : Shape := ⟨2, ![64, 3870]⟩
abbrev S64x1x3870 : Shape := ⟨3, ![64, 1, 3870]⟩
abbrev S6x256x128 : Shape := ⟨3, ![6, 256, 128]⟩
abbrev S6x1x256 : Shape := ⟨3, ![6, 1, 256]⟩
abbrev S1536x128 : Shape := ⟨2, ![1536, 128]⟩
abbrev S1536 : Shape := ⟨1, ![1536]⟩
abbrev S1536x32 : Shape := ⟨2, ![1536, 32]⟩
abbrev S1536x64 : Shape := ⟨2, ![1536, 64]⟩
abbrev S128x128 : Shape := ⟨2, ![128, 128]⟩
abbrev S1536x4x32 : Shape := ⟨3, ![1536, 4, 32]⟩
abbrev S1536x4 : Shape := ⟨2, ![1536, 4]⟩
abbrev S1536x4x1 : Shape := ⟨3, ![1536, 4, 1]⟩
abbrev S1x1x252 : Shape := ⟨3, ![1, 1, 252]⟩
abbrev S1536x4x252 : Shape := ⟨3, ![1536, 4, 252]⟩
abbrev S64x3870x1536 : Shape := ⟨3, ![64, 3870, 1536]⟩

abbrev nBuf : Space → Nat
  | .hbm => 26
  | .vmem => 13
  | .smem => 0
  | _ => 0

abbrev bufTy : (tb : Table) → Fin (tcTables nBuf tb) → BufTy
  | .hbm, ⟨0, _⟩ => ⟨S6x256x7168, .bf16⟩
  | .hbm, ⟨1, _⟩ => ⟨S128x7168, .fp8e4m3⟩
  | .hbm, ⟨2, _⟩ => ⟨S56, .f32⟩
  | .hbm, ⟨3, _⟩ => ⟨S128, .f32⟩
  | .hbm, ⟨4, _⟩ => ⟨S128, .f32⟩
  | .hbm, ⟨5, _⟩ => ⟨S6x256, .i32⟩
  | .hbm, ⟨6, _⟩ => ⟨S6x256, .i32⟩
  | .hbm, ⟨7, _⟩ => ⟨S3870x64x128, .fp8e4m3⟩
  | .hbm, ⟨8, _⟩ => ⟨S3870x64x4, .i8⟩
  | .hbm, ⟨9, _⟩ => ⟨S1x32, .f32⟩
  | .hbm, ⟨10, _⟩ => ⟨S1x252, .f32⟩
  | .hbm, ⟨11, _⟩ => ⟨S1536x7168, .bf16⟩
  | .hbm, ⟨12, _⟩ => ⟨S56, .bf16⟩
  | .hbm, ⟨13, _⟩ => ⟨S56x128, .bf16⟩
  | .hbm, ⟨14, _⟩ => ⟨S7168, .bf16⟩
  | .hbm, ⟨15, _⟩ => ⟨S1x7168, .bf16⟩
  | .hbm, ⟨16, _⟩ => ⟨S1x128, .f32⟩
  | .hbm, ⟨17, _⟩ => ⟨S1x128, .f32⟩
  | .hbm, ⟨18, _⟩ => ⟨S1536x1, .i32⟩
  | .hbm, ⟨19, _⟩ => ⟨S1x1x1536, .i32⟩
  | .hbm, ⟨20, _⟩ => ⟨S3870x64, .i32⟩
  | .hbm, ⟨21, _⟩ => ⟨S64x3870, .i32⟩
  | .hbm, ⟨22, _⟩ => ⟨S64x1x3870, .i32⟩
  | .hbm, ⟨23, _⟩ => ⟨S64x1x3870, .i32⟩
  | .hbm, ⟨24, _⟩ => ⟨S6x256x128, .fp8e4m3⟩
  | .hbm, ⟨25, _⟩ => ⟨S6x1x256, .i32⟩
  | .local _ .vmem, ⟨0, _⟩ => ⟨S1536x7168, .bf16⟩
  | .local _ .vmem, ⟨1, _⟩ => ⟨S128x7168, .fp8e4m3⟩
  | .local _ .vmem, ⟨2, _⟩ => ⟨S1x7168, .bf16⟩
  | .local _ .vmem, ⟨3, _⟩ => ⟨S1x128, .f32⟩
  | .local _ .vmem, ⟨4, _⟩ => ⟨S1x128, .f32⟩
  | .local _ .vmem, ⟨5, _⟩ => ⟨S1536x1, .i32⟩
  | .local _ .vmem, ⟨6, _⟩ => ⟨S1x32, .f32⟩
  | .local _ .vmem, ⟨7, _⟩ => ⟨S1x252, .f32⟩
  | .local _ .vmem, ⟨8, _⟩ => ⟨S1x1x1536, .i32⟩
  | .local _ .vmem, ⟨9, _⟩ => ⟨S64x1x3870, .i32⟩
  | .local _ .vmem, ⟨10, _⟩ => ⟨S64x1x3870, .i32⟩
  | .local _ .vmem, ⟨11, _⟩ => ⟨S6x256x128, .fp8e4m3⟩
  | .local _ .vmem, ⟨12, _⟩ => ⟨S6x1x256, .i32⟩
  | _, _ => ⟨S6x256x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_cst_0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12_0 : Ref sig .tc := ⟨.hbm, 23, rfl⟩
abbrev main_v12_1 : Ref sig .tc := ⟨.hbm, 24, rfl⟩
abbrev main_v12_2 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S1536x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x7168 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x7168 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1536x1 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x252 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1x1536 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S64x1x3870 .i32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S64x1x3870 .i32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S6x256x128 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S6x1x256 .i32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Proof.K.Names.lean ====
/-
  The names the hand proof of `Kernel` uses: its operands, its scratch buffers, its semaphores and what the launch
  hands the body (arrays read by the body's own copies, arrays written by them, counters at zero).
-/
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Frame
public import proofs.«01_k».proof.Proof.Gen.Kernel.Loops
public import Idealize.ShloMosaic.Lib.Pipeline.FrameBody
public import Idealize.ShloMosaic.Lib.Pipeline.FrameValue
public import Idealize.ShloMosaic.Lib.Batch
public import Idealize.ShloMosaic.Lib.Ring
public import Idealize.ShloMosaic.Lib.Tactic
public import Idealize.ShloMosaic.Lib.WordCmp
public import Idealize.ShloMosaic.Lib.WritesUnit

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

/-! ## Operands -/

abbrev aSlot : Memref sig .tc .smem S6x256 .i32 := Memref.whole cc0_stg0_0
abbrev aWs : Memref sig .tc .smem S56 .f32 := Memref.whole cc0_stg1_0
abbrev aLnw : Memref sig .tc .vmem S128x1 .f32 := Memref.whole cc0_stg2_0
abbrev aLnb : Memref sig .tc .vmem S128x1 .f32 := Memref.whole cc0_stg3_0
abbrev aPos : Memref sig .tc .vmem S6x256 .i32 := Memref.whole cc0_stg4_0
abbrev aFreq : Memref sig .tc .vmem S32x1 .f32 := Memref.whole cc0_stg5_0
abbrev hX : Memref sig .tc .hbm S6x256x7168 .bf16 := Memref.whole main_arg0
abbrev hW : Memref sig .tc .hbm S128x7168 .fp8e4m3 := Memref.whole main_arg1
abbrev hKc : Memref sig .tc .hbm S3870x64x128 .fp8e4m3 := Memref.whole main_arg7
abbrev hKs : Memref sig .tc .hbm S64x1x3870 .i32 := Memref.whole main_v2
abbrev hKcOut : Memref sig .tc .hbm S3870x64x128 .fp8e4m3 := Memref.whole main_v5_0
abbrev hKsOut : Memref sig .tc .hbm S64x1x3870 .i32 := Memref.whole main_v5_1
abbrev hCodes : Memref sig .tc .hbm S6x256x128 .fp8e4m3 := Memref.whole main_v5_2
abbrev hScales : Memref sig .tc .hbm S6x1x256 .i32 := Memref.whole main_v5_3
abbrev sX : Memref sig .tc .vmem S6x256x7168 .bf16 := Memref.whole cc0_scratch0
abbrev sKc : Memref sig .tc .vmem S3870x64x128 .fp8e4m3 := Memref.whole cc0_scratch1
abbrev sKs : Memref sig .tc .vmem S64x1x3870 .i32 := Memref.whole cc0_scratch2
abbrev sWq : Memref sig .tc .vmem S128x7168 .fp8e4m3 := Memref.whole cc0_scratch3
abbrev sWb : Memref sig .tc .vmem S128x7168 .bf16 := Memref.whole cc0_scratch4
abbrev sY : Memref sig .tc .vmem S1664x128 .f32 := Memref.whole cc0_scratch5
abbrev sWt : Memref sig .tc .vmem S1664x128 .i32 := Memref.whole cc0_scratch6
abbrev sCodes : Memref sig .tc .vmem S6x256x128 .fp8e4m3 := Memref.whole cc0_scratch7
abbrev sScales : Memref sig .tc .vmem S6x1x256 .i32 := Memref.whole cc0_scratch8

/-- The contents of a buffer, and the buffer held whole at them. -/
abbrev BufOf (c : Dev nD) {sp : Space} {S : Shape} {e : EltTy} (M : Memref sig .tc sp S e) : Type := Buf (Elt F) (M.view.loc (c : Thread nD τ))
abbrev held (c : Dev nD) {sp : Space} {S : Shape} {e : EltTy} (M : Memref sig .tc sp S e) (f : BufOf (F := F) c M) : sProp 𝕄 :=
  M.view.loc (c : Thread nD τ) ↦{fullShare} f

/-- A cell's counter at zero. -/
abbrev cell0 (c : Dev nD) (k : Fin 33) : sProp 𝕄 := semVal ((c : Thread nD τ), SemLoc.dma k) 0

/-- The body's own DMA cells: pool numbers 6 to 32. -/
abbrev osem0 : Fin 27 → SemLoc sig := fun j => SemLoc.dma ⟨6 + j.val, by have := j.isLt; show 6 + j.val < 33; omega⟩
theorem ownSemFacts0 : Pipeline.OwnSemFacts spec0 osem0 := by decide

theorem stage0 (t : Fin cfg0.N) : st0_0 t = aSlot := by rw [fin_N0 t]
theorem stage1 (t : Fin cfg0.N) : st0_1 t = aWs := by rw [fin_N0 t]
theorem stage2 (t : Fin cfg0.N) : st0_2 t = aLnw := by rw [fin_N0 t]
theorem stage3 (t : Fin cfg0.N) : st0_3 t = aLnb := by rw [fin_N0 t]
theorem stage4 (t : Fin cfg0.N) : st0_4 t = aPos := by rw [fin_N0 t]
theorem stage5 (t : Fin cfg0.N) : st0_5 t = aFreq := by rw [fin_N0 t]

end Cert.Kernel.Hand

end
-- ==== Proof.K.Words.lean ====
/-
  The words the patch loops compute from a slot: floor divisions by literal counts, the offsets' bounds and the page's chunk.
-/
module

public import proofs.«01_k».proof.Proof.K.Names

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

/-! ## Floor division as the kernel spells it -/

/-- `v // d` on signed words: the quotient, less one when the signs differ and the remainder is not zero. -/
def fdiv (v d : BitVec 32) : BitVec 32 :=
  Scalar.select
    (Scalar.andi
      (Scalar.cmpi .ne (Scalar.subi (Scalar.extui (Scalar.cmpi .sgt v 0#32)) (Scalar.extui (Scalar.cmpi .slt v 0#32)))
        (Scalar.subi (Scalar.extui (Scalar.cmpi .sgt d 0#32)) (Scalar.extui (Scalar.cmpi .slt d 0#32))))
      (Scalar.cmpi .ne (Scalar.remsi v d) 0#32))
    (Scalar.subi (Scalar.divsi v d) 1#32) (Scalar.divsi v d)

theorem fdiv_toNat (v d : BitVec 32) (hv : v.toNat < 2 ^ 31) (hd : d.toNat < 2 ^ 31) (hd0 : 0 < d.toNat) : (fdiv v d).toNat = v.toNat / d.toNat := by
  have hvm : v.msb = false := by rw [BitVec.msb_eq_false_iff_two_mul_lt]; omega
  have hdm : d.msb = false := by rw [BitVec.msb_eq_false_iff_two_mul_lt]; omega
  have hvi : v.toInt = v.toNat := BitVec.toInt_eq_toNat_of_lt (by omega)
  have hdi : d.toInt = d.toNat := BitVec.toInt_eq_toNat_of_lt (by omega)
  have hc : ¬ IntOp.SDivCorner v d := by
    unfold IntOp.SDivCorner
    rintro (h | ⟨-, h⟩)
    · subst h; simp at hd0
    · subst h; simp at hd
  have hq : Scalar.divsi v d = v / d := by
    unfold Scalar.divsi IntOp.divsi
    rw [if_neg hc, BitVec.sdiv_eq, hvm, hdm]
    rfl
  have hr : Scalar.remsi v d = v % d := by
    unfold Scalar.remsi IntOp.remsi
    rw [if_neg hc, BitVec.srem_eq, hvm, hdm]
  have hd1 : Scalar.cmpi .sgt d 0#32 = 1#1 := by
    show BitVec.ofBool ((0#32).slt d) = 1#1
    rw [show (0#32).slt d = true from by rw [BitVec.slt_iff_toInt_lt, hdi]; simpa using hd0]; rfl
  have hd2 : Scalar.cmpi .slt d 0#32 = 0#1 := by
    show BitVec.ofBool (d.slt 0#32) = 0#1
    rw [show d.slt 0#32 = false from by rw [BitVec.slt_eq_decide, hdi]; simp]; rfl
  have hv2 : Scalar.cmpi .slt v 0#32 = 0#1 := by
    show BitVec.ofBool (v.slt 0#32) = 0#1
    rw [show v.slt 0#32 = false from by rw [BitVec.slt_eq_decide, hvi]; simp]; rfl
  unfold fdiv
  rw [hd1, hd2, hv2, hq, hr]
  by_cases h0 : v = 0#32
  · subst h0
    have : (0#32 % d) = 0#32 := by simp
    rw [this]
    rw [show Scalar.cmpi .ne (0#32) 0#32 = 0#1 from rfl]
    rw [show Scalar.andi (Scalar.cmpi .ne (Scalar.subi (Scalar.extui (Scalar.cmpi .sgt 0#32 0#32)) (Scalar.extui 0#1)) (Scalar.subi (Scalar.extui 1#1) (Scalar.extui 0#1))) 0#1 = 0#1 from by decide]
    unfold Scalar.select
    rw [if_neg (by decide)]
    exact BitVec.toNat_udiv
  · have hvp : 0 < v.toNat := Nat.pos_of_ne_zero fun h => h0 (BitVec.eq_of_toNat_eq (by simpa using h))
    have hv1 : Scalar.cmpi .sgt v 0#32 = 1#1 := by
      show BitVec.ofBool ((0#32).slt v) = 1#1
      rw [show (0#32).slt v = true from by rw [BitVec.slt_iff_toInt_lt, hvi]; simpa using hvp]; rfl
    rw [hv1, show Scalar.cmpi .ne (Scalar.subi (Scalar.extui 1#1) (Scalar.extui 0#1)) (Scalar.subi (Scalar.extui 1#1) (Scalar.extui 0#1)) = 0#1 from by decide]
    have hz (x : BitVec 1) : Scalar.andi 0#1 x = 0#1 := by
      unfold Scalar.andi IntOp.andi; simp
    rw [hz]
    unfold Scalar.select
    rw [if_neg (by decide)]
    exact BitVec.toNat_udiv

/-! ## Only a slot's last six bits choose its rows -/

theorem and63_and63 (v : BitVec 32) : Scalar.andi v 63#32 = Scalar.andi (BitVec.ofNat 32 (v.toNat % 64)) 63#32 := by
  unfold Scalar.andi IntOp.andi
  apply BitVec.eq_of_toNat_eq
  simp only [BitVec.toNat_and, BitVec.toNat_ofNat]
  rw [show (63 % 2 ^ 32 : ℕ) = 2 ^ 6 - 1 from rfl, Nat.and_two_pow_sub_one_eq_mod, Nat.and_two_pow_sub_one_eq_mod]
  omega

theorem off10_mod (k : Fin k0_t2_loop.trips) (v : BitVec 32) : k0_off10 k v = k0_off10 k (BitVec.ofNat 32 (v.toNat % 64)) := by
  simp only [k0_off10]; rw [and63_and63 v]
theorem off11_mod (k : Fin k0_t2_loop.trips) (v : BitVec 32) : k0_off11 k v = k0_off11 k (BitVec.ofNat 32 (v.toNat % 64)) := by
  simp only [k0_off11]; rw [and63_and63 v]
theorem cond1_mod (k : Fin k0_t2_loop.trips) (v : BitVec 32) : k0_cond1 k v = k0_cond1 k (BitVec.ofNat 32 (v.toNat % 64)) := by
  simp only [k0_cond1]; rw [and63_and63 v]
theorem off16_mod (k : Fin k0_t4_loop.trips) (v : BitVec 32) : k0_off16 k v = k0_off16 k (BitVec.ofNat 32 (v.toNat % 64)) := by
  simp only [k0_off16]; rw [and63_and63 v]

theorem off18_eq (k : Fin k0_t4_loop.trips) (v : BitVec 32) : k0_off18 k v = k0_off16 k v := rfl
theorem off19_mod (k : Fin k0_t4_loop.trips) (v : BitVec 32) : k0_off19 k v = k0_off19 k (BitVec.ofNat 32 (v.toNat % 64)) := by
  simp only [k0_off19]; rw [and63_and63 v]

theorem off10_inb_small : ∀ (k : Fin k0_t2_loop.trips) (u : Fin 64) (a : Fin 2), (k0_off10 k (BitVec.ofNat 32 u.val)) a + S1x1.size a ≤ S6x256.size a := by
  decide +kernel
theorem off11_inb_small : ∀ (k : Fin k0_t2_loop.trips) (u : Fin 64) (a : Fin 2), (k0_off11 k (BitVec.ofNat 32 u.val)) a + S64x128.size a ≤ S1664x128.size a := by
  decide +kernel
theorem off16_inb_small : ∀ (k : Fin k0_t4_loop.trips) (u : Fin 64) (a : Fin 2), (k0_off16 k (BitVec.ofNat 32 u.val)) a + S1x1.size a ≤ S6x256.size a := by
  decide +kernel
theorem off19_inb_small : ∀ (k : Fin k0_t4_loop.trips) (u : Fin 64) (a : Fin 2), (k0_off19 k (BitVec.ofNat 32 u.val)) a + S64x128.size a ≤ S1664x128.size a := by
  decide +kernel

/-- A slot's last six bits, as a number below 64. -/
def low (v : BitVec 32) : Fin 64 := ⟨v.toNat % 64, Nat.mod_lt _ (by decide)⟩

theorem chk1_all (k : Fin k0_t2_loop.trips) (u v : BitVec 32) : k0_chk1 k u v := by
  refine ⟨fun _ a => ?_, fun _ a => ?_⟩
  · rw [off10_mod]; exact off10_inb_small k (low v) a
  · rw [off11_mod]; exact off11_inb_small k (low v) a

theorem chk3_all (k : Fin k0_t4_loop.trips) (v : BitVec 32) : k0_chk3 k v := by
  intro a; rw [off16_mod]; exact off16_inb_small k (low v) a

theorem chk4_all (i : Fin k0_t3_loop.trips) (k : Fin k0_t4_loop.trips) (u v w : BitVec 32) : k0_chk4 i k u v w := by
  refine ⟨fun _ a => ?_, fun _ a => ?_⟩
  · rw [off18_eq, off16_mod]; exact off16_inb_small k (low w) a
  · rw [off19_mod]; exact off19_inb_small k (low w) a

/-! ## The page of a slot in reach -/

theorem off12_eq (v : BitVec 32) : k0_off12 v = ![0, 0, (Scalar.muli (fdiv (fdiv v 64#32) 128#32) 128#32).toNat] := rfl
theorem mult3_eq (v : BitVec 32) : k0_mult3 v = Scalar.muli (fdiv (fdiv v 64#32) 128#32) 128#32 := rfl
theorem off20_eq (v : BitVec 32) : k0_off20 v = ![(fdiv v 64#32).toNat, 0, 0] := rfl

theorem fdiv64 (v : BitVec 32) (h : v.toNat < 245760) : (fdiv v 64#32).toNat = v.toNat / 64 :=
  fdiv_toNat v 64#32 (by omega) (by decide) (by decide)

theorem lane_toNat (v : BitVec 32) (h : v.toNat < 245760) :
    (Scalar.muli (fdiv (fdiv v 64#32) 128#32) 128#32).toNat = v.toNat / 64 / 128 * 128 := by
  have h1 := fdiv64 v h
  have h2 : (fdiv (fdiv v 64#32) 128#32).toNat = (fdiv v 64#32).toNat / 128 := fdiv_toNat _ 128#32 (by omega) (by decide) (by decide)
  show ((fdiv (fdiv v 64#32) 128#32) * 128#32).toNat = _
  rw [BitVec.toNat_mul, h2, h1]
  show v.toNat / 64 / 128 * 128 % 2 ^ 32 = _
  omega

theorem chk2_of (k : Fin k0_t2_loop.trips) (u v : BitVec 32) (h : v.toNat < 245760) : k0_chk2 k u v := by
  refine ⟨fun _ => ?_, fun _ => ?_⟩
  · rw [mult3_eq, lane_toNat v h]; exact Nat.dvd_mul_left _ _
  · rw [off12_eq, lane_toNat v h]
    intro a
    match a with
    | 0 => show 0 + 64 ≤ 64; omega
    | 1 => show 0 + 1 ≤ 1; omega
    | 2 => show v.toNat / 64 / 128 * 128 + 128 ≤ 3870; omega

theorem chk5_of (i : Fin k0_t3_loop.trips) (k : Fin k0_t4_loop.trips) (u w v : BitVec 32) (h : v.toNat < 245760) : k0_chk5 i k u w v := by
  refine ⟨fun _ => ?_, fun _ hinb => ?_⟩
  · rw [off20_eq, fdiv64 v h]
    intro a
    match a with
    | 0 => show v.toNat / 64 + 1 ≤ 3870; omega
    | 1 => show 0 + 64 ≤ 64; omega
    | 2 => show 0 + 128 ≤ 128; omega
  · refine Or.inr ⟨by decide, rfl, Or.inl ⟨?_, ?_⟩⟩
    · show EltTy.packing .fp8e4m3 ∣ (k0_off20 v) 1
      rw [off20_eq]; exact Dvd.intro 0 rfl
    · show EltTy.packing .fp8e4m3 ∣ 64
      decide

/-- What the chunk test asks: the rows are live, and the page's chunk is the trip's. -/
theorem cond2_eq (i : Fin k0_t3_loop.trips) (k : Fin k0_t4_loop.trips) (u v : BitVec 32) : ∃ l : BitVec 1,
    k0_cond2 i k u v = Scalar.cmpi .ne (Scalar.extui (Scalar.andi l (Scalar.cmpi .eq (fdiv (fdiv v 64#32) 258#32) (Scf.iv 0#32 1#32 i)))) 0#32 :=
  ⟨_, rfl⟩

theorem and_ne (l m : BitVec 1) (h : Scalar.cmpi .ne (Scalar.extui (Scalar.andi l m)) 0#32 = 1#1) : m = 1#1 := by
  revert l m; decide

theorem iv_toNat : ∀ i : Fin k0_t3_loop.trips, (Scf.iv 0#32 1#32 i : BitVec 32).toNat = i.val := by
  decide +kernel

/-- In the branch the page written lies in the trip's chunk. -/
theorem page_in_chunk (i : Fin k0_t3_loop.trips) (k : Fin k0_t4_loop.trips) (u v : BitVec 32) (h : v.toNat < 245760)
    (hc : k0_cond2 i k u v = 1#1) : v.toNat / 64 / 258 = i.val := by
  obtain ⟨l, e⟩ := cond2_eq i k u v
  rw [e] at hc
  have hm := and_ne _ _ hc
  have heq : fdiv (fdiv v 64#32) 258#32 = Scf.iv 0#32 1#32 i := by
    by_contra hne
    have : Scalar.cmpi .eq (fdiv (fdiv v 64#32) 258#32) (Scf.iv 0#32 1#32 i) = 0#1 := by
      show BitVec.ofBool (_ == _) = 0#1
      rw [beq_false_of_ne hne]; rfl
    rw [this] at hm; exact absurd hm (by decide)
  have h1 := fdiv64 v h
  have h2 : (fdiv (fdiv v 64#32) 258#32).toNat = (fdiv v 64#32).toNat / 258 := fdiv_toNat _ 258#32 (by omega) (by decide) (by decide)
  rw [← h1, ← h2, heq, iv_toNat]

end Cert.Kernel.Hand

end
-- ==== Proof.K.Loop2.lean ====
/-
  The scales loop: each trip patches the words of one page of the scales array.
-/
module

public import proofs.«01_k».proof.Proof.K.Words

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

/-- Every slot is in reach of the page arrays. -/
abbrev InReach (c : Dev nD) (sl : BufOf (F := F) c aSlot) : Prop := ∀ x, (aSlot.view.read (Elt F) sl x).toNat < 245760

section Loop
variable (c : Dev nD) (sl : BufOf (F := F) c aSlot) (had : FVec F S128x128 .f32)

/-- Before every trip: the slots, the scale words of the tokens and the scales array at some contents. -/
def inv2 (_ : ℕ) (_ : Unit) : sProp 𝕄 :=
  iprop(held c aSlot sl ∗ (∃ f, held c sWt f) ∗ (∃ f, held c sKs f))

abbrev body2 := k0_t2_body (F := F) aSlot (Memref.isWhole_whole _) aWs (Memref.isWhole_whole _) aLnw (Memref.isWhole_whole _) aLnb (Memref.isWhole_whole _) aPos (Memref.isWhole_whole _) aFreq (Memref.isWhole_whole _)
    hX (Memref.isWhole_whole _) hW (Memref.isWhole_whole _) hKc (Memref.isWhole_whole _) hKs (Memref.isWhole_whole _) hKcOut (Memref.isWhole_whole _) hKsOut (Memref.isWhole_whole _) hCodes (Memref.isWhole_whole _) hScales (Memref.isWhole_whole _)
    sX (Memref.isWhole_whole _) sKc (Memref.isWhole_whole _) sKs (Memref.isWhole_whole _) sWq (Memref.isWhole_whole _) sWb (Memref.isWhole_whole _) sY (Memref.isWhole_whole _) sWt (Memref.isWhole_whole _) sCodes (Memref.isWhole_whole _) sScales (Memref.isWhole_whole _)
    cc0_scratch9 cc0_scratch10 cc0_scratch11 cc0_scratch12 cc0_scratch13 cc0_scratch14 had

theorem step2 (hsl : InReach c sl) (k : Fin k0_t2_loop.trips) (acc : Unit) :
    inv2 c sl k.val acc
      ⊢ wp frame (wpE (defs₀ (F := F)) Variants.none (c : Thread nD τ) none) Set.univ (body2 had k acc)
          (fun _ => inv2 c sl (k.val + 1) ()) := by
  unfold inv2
  iintro ⟨Hsl, ⟨%fw, Hw⟩, ⟨%f0, Hs⟩⟩
  unfold body2 k0_t2_body
  sl_exec
  split
  · sl_exec (disch := first | exact chk1_all _ _ _ | exact chk2_of _ _ _ (hsl _))
    sl_step
    isplitl [Hsl]; · iexact Hsl
    isplitl [Hw]; · iexists _; iexact Hw
    iexists _; iexact Hs
  · sl_exec
    sl_step
    isplitl [Hsl]; · iexact Hsl
    isplitl [Hw]; · iexists _; iexact Hw
    iexists _; iexact Hs

end Loop

end Cert.Kernel.Hand

end
-- ==== Proof.K.Loop4.lean ====
/-
  The patch loop inside the pool loop: each trip rewrites at most one page, and only a page of the trip's chunk.
-/
module

public import proofs.«01_k».proof.Proof.K.Loop2

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

/-- Chunk `i` of the pool, 258 pages. -/
abbrev rectKc (i : Fin k0_t3_loop.trips) : Rect S3870x64x128 := Rect.unit (s := S3870x64x128) (k0_off14 i) S258x64x128.size (k0_off14_inb i)

section Loop
variable (c : Dev nD) (sl : BufOf (F := F) c aSlot) (had : FVec F S128x128 .f32) (i : Fin k0_t3_loop.trips)

/-- Before every trip: the slots, the token rows and the chunk's scratch pages at some contents. -/
def inv4 (_ : ℕ) (_ : Unit) : sProp 𝕄 :=
  iprop(held c aSlot sl ∗ (∃ f, held c sY f)
    ∗ (∃ f, sKc.view.loc (c : Thread nD τ) ↦[sKc.view.setOn (Rect.unit (s := S3870x64x128) (k0_off14 i) S258x64x128.size (k0_off14_inb i)).set]{fullShare} f))

abbrev body4 := k0_t4_body (F := F) aSlot (Memref.isWhole_whole _) aWs (Memref.isWhole_whole _) aLnw (Memref.isWhole_whole _) aLnb (Memref.isWhole_whole _) aPos (Memref.isWhole_whole _) aFreq (Memref.isWhole_whole _)
    hX (Memref.isWhole_whole _) hW (Memref.isWhole_whole _) hKc (Memref.isWhole_whole _) hKs (Memref.isWhole_whole _) hKcOut (Memref.isWhole_whole _) hKsOut (Memref.isWhole_whole _) hCodes (Memref.isWhole_whole _) hScales (Memref.isWhole_whole _)
    sX (Memref.isWhole_whole _) sKc (Memref.isWhole_whole _) sKs (Memref.isWhole_whole _) sWq (Memref.isWhole_whole _) sWb (Memref.isWhole_whole _) sY (Memref.isWhole_whole _) sWt (Memref.isWhole_whole _) sCodes (Memref.isWhole_whole _) sScales (Memref.isWhole_whole _)
    cc0_scratch9 cc0_scratch10 cc0_scratch11 cc0_scratch12 cc0_scratch13 cc0_scratch14 had i

theorem readSlot_congr {o o' : Fin 2 → ℕ} (e : o = o') (h : ∀ a, o a + S1x1.size a ≤ S6x256.size a) (h' : ∀ a, o' a + S1x1.size a ≤ S6x256.size a) :
    aSlot.view.readAt (Elt F) (Rect.unit (s := S6x256) o S1x1.size h).toLoadRect sl
      = aSlot.view.readAt (Elt F) (Rect.unit (s := S6x256) o' S1x1.size h').toLoadRect sl := by
  subst e; rfl

theorem off17_eq (k : Fin k0_t4_loop.trips) : k0_off17 k = k0_off15 k := rfl

theorem step4 (hsl : InReach c sl) (k : Fin k0_t4_loop.trips) (acc : Unit) :
    inv4 c sl i k.val acc
      ⊢ wp frame (wpE (defs₀ (F := F)) Variants.none (c : Thread nD τ) none) Set.univ (body4 had i k acc)
          (fun _ => inv4 c sl i (k.val + 1) ()) := by
  unfold inv4
  iintro ⟨Hsl, ⟨%fy, Hy⟩, ⟨%f0, Hc⟩⟩
  unfold body4 k0_t4_body
  sl_exec (disch := first | exact chk3_all _ _)
  split
  · sl_exec (disch := first | exact chk3_all _ _ | exact chk4_all _ _ _ _ _ | exact chk5_of _ _ _ _ _ (hsl _))
    rename_i hC
    have hr2 : step4.sl.r_3 c sl k = step4.sl.r c sl k := congrFun (readSlot_congr c sl (off17_eq k) _ _) _
    have hr3 : step4.sl.r_4 c sl i k hC = step4.sl.r_1 c sl k := by
      have e : k0_off18 k (step4.sl.r_3 c sl k) = k0_off16 k (step4.sl.r c sl k) := by rw [off18_eq, hr2]
      delta step4.sl.r_4 step4.sl.r_1
      exact congrFun (readSlot_congr c sl e _ _) _
    have hv : (step4.sl.r_1 c sl k).toNat < 245760 := hsl _
    have hp := page_in_chunk i k _ _ hv hC
    rw [← hr3] at hv hp
    have hoff : k0_off20 (step4.sl.r_4 c sl i k hC) = ![(step4.sl.r_4 c sl i k hC).toNat / 64, 0, 0] := by rw [off20_eq, fdiv64 _ hv]
    clear hr2 hr3
    obtain ⟨n, hn⟩ : ∃ n, n = (step4.sl.r_4 c sl i k hC).toNat / 64 := ⟨_, rfl⟩
    rw [← hn] at hoff hp
    have hlo : 258 * i.val ≤ n := by omega
    have hhi : n + 1 ≤ 258 * i.val + 258 := by omega
    have hn' : n + 1 ≤ 3870 := by omega
    letI : ClosedOff (k0_off20 (step4.sl.r_4 c sl i k hC)) := ⟨![n, 0, 0], hoff⟩
    sl_exec
    sl_step
    isplitl [Hsl]; · iexact Hsl
    isplitl [Hy]; · iexists _; iexact Hy
    iexists _; iexact Hc
  · sl_exec
    sl_step
    isplitl [Hsl]; · iexact Hsl
    isplitl [Hy]; · iexists _; iexact Hy
    iexists _; iexact Hc

end Loop

end Cert.Kernel.Hand

end
-- ==== Proof.K.Trip.lean ====
/-
  What one trip of the projection loop computes from the operands it loads: the chain of the generated
  payloads, one definition for the codes and one for the scale words.
-/
module

public import proofs.«01_k».proof.Proof.K.Names

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

/-- The rotated and mixed vectors of one trip: 128 features by 256 tokens. -/
def mixed (wb : Vec F S128x7168 .bf16) (x : Vec F S1x256x7168 .bf16) (lnw lnb : Vec F S128x1 .f32)
    (pos : Vec F S1x256 .i32) (fr : Vec F S32x1 .f32) (had : FVec F S128x128 .f32) : FVec F S128x256 .f32 :=
  k0_pay3 had (k0_pay1 wb x lnw lnb) (k0_pay2 pos) fr

/-- Group 0's scaled lanes and the word after group 0. -/
def grp0 (wb : Vec F S128x7168 .bf16) (x : Vec F S1x256x7168 .bf16) (lnw lnb : Vec F S128x1 .f32)
    (pos : Vec F S1x256 .i32) (fr : Vec F S32x1 .f32) (had : FVec F S128x128 .f32) : FVec F S32x256 .f32 × IVec S1x256 32 :=
  let a := k0_pay1 wb x lnw lnb
  let p := k0_pay2 pos
  let v716 := k0_pay8 had a p fr
  let v778 := k0_pay12 v716 (k0_pay9 had a p fr) (k0_pay10 had a p fr) k0_pay11
  (k0_pay15 (k0_pay5 had a p fr) (k0_pay7 had a p fr) v778 (k0_pay13 v716) 255#32,
   k0_pay16 k0_pay4 (k0_pay7 had a p fr) v778 (k0_pay13 v716) 255#32)

/-- Group 1's scaled lanes and the word after groups 0 and 1. -/
def grp1 (v : FVec F S128x256 .f32) (w : IVec S1x256 32) : FVec F S32x256 .f32 × IVec S1x256 32 :=
  let v870 := k0_pay23 (k0_pay20 v) (k0_pay21 v) (k0_pay22 v) 23#32
  (k0_pay25 (k0_pay17 v) (k0_pay19 v) (k0_pay20 v) v870 255#32, k0_pay26 w (k0_pay19 v) (k0_pay20 v) v870 255#32)

/-- Group 2's scaled lanes and the word after groups 0 to 2. -/
def grp2 (v : FVec F S128x256 .f32) (w : IVec S1x256 32) : FVec F S32x256 .f32 × IVec S1x256 32 :=
  let v960 := k0_pay33 (k0_pay30 v) k0_pay31 k0_pay32
  (k0_pay35 (k0_pay27 v) (k0_pay29 v) (k0_pay30 v) v960, k0_pay36 w (k0_pay29 v) (k0_pay30 v) v960)

/-- Group 3's scaled lanes and its exponent field. -/
def grp3 (v : FVec F S128x256 .f32) : FVec F S32x256 .f32 × IVec S1x256 32 :=
  let m := k0_pay38 v
  let z := k0_pay39 m (Scalar.ofBits .f32 0#32)
  (k0_pay45 (k0_pay37 v) z (k0_pay40 m) (k0_pay41 m) (k0_pay42 m) (k0_pay43 m),
   k0_pay46 z (k0_pay40 m) (k0_pay41 m) (k0_pay42 m) (k0_pay43 m))

/-- The four groups' scaled lanes and packed exponents of one trip. -/
def tripCodes (wb : Vec F S128x7168 .bf16) (x : Vec F S1x256x7168 .bf16) (lnw lnb : Vec F S128x1 .f32)
    (pos : Vec F S1x256 .i32) (fr : Vec F S32x1 .f32) (had : FVec F S128x128 .f32) : FVec F S1x256x128 .fp8e4m3 :=
  let v := mixed wb x lnw lnb pos fr had
  let q0 := grp0 wb x lnw lnb pos fr had
  let q1 := grp1 v q0.2
  let q2 := grp2 v q1.2
  let q3 := grp3 v
  k0_pay140 q0.1 q1.1 q2.1 q3.1

def tripWords (wb : Vec F S128x7168 .bf16) (x : Vec F S1x256x7168 .bf16) (lnw lnb : Vec F S128x1 .f32)
    (pos : Vec F S1x256 .i32) (fr : Vec F S32x1 .f32) (had : FVec F S128x128 .f32) : IVec S1x1x256 32 :=
  let v := mixed wb x lnw lnb pos fr had
  let q0 := grp0 wb x lnw lnb pos fr had
  let q1 := grp1 v q0.2
  let q2 := grp2 v q1.2
  let q3 := grp3 v
  k0_pay142 q2.2 q3.2

end Cert.Kernel.Hand

end
-- ==== Proof.K.Loop1.lean ====
/-
  The projection loop: trip `k` waits for the copy of token block `k`, projects, quantises and stores the block's codes
  and scale words.
-/
module

public import proofs.«01_k».proof.Proof.K.Trip

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

/-! ## Rows of a buffer stored block by block -/

section Blocks
variable {κ : Kind} {sp : Space} {s : Shape} {e : EltTy} {n : ℕ}

/-- After block `k` is stored over contents whose blocks before `k` are known, the blocks up to `k` are known. -/
theorem blocks_step (v : View sig κ sp s e) (f : v.ty.Contents (Elt F)) (a : Fin s.rank) {size : Fin s.rank → ℕ} (hs : size a = 1)
    (off : Fin n → Fin s.rank → ℕ) (hoff : ∀ b, off b a = b.val) (inb : ∀ b x, off b x + size x ≤ s.size x)
    (p : (b : Fin n) → (Rect.unit (off b) size (inb b)).shape.Idx → Elt F e) (k : Fin n)
    (hf : ∀ b : Fin n, b.val < k.val → v.readAt (Elt F) (Rect.unit (off b) size (inb b)).toLoadRect f = p b) :
    ∀ b : Fin n, b.val < k.val + 1 →
      v.readAt (Elt F) (Rect.unit (off b) size (inb b)).toLoadRect (v.writes (Elt F) f [⟨Rect.unit (off k) size (inb k), p k⟩]) = p b := by
  intro b hb
  funext x
  by_cases hk : b = k
  · subst hk
    exact View.read_writes_cons_unit_of_mem v f (inb b) (p b) [] _ x rfl (fun a => by
      show off b a + 1 * (x a).val = _; rw [Nat.one_mul])
  · have hlt : b.val < k.val := by
      have : b.val ≠ k.val := fun h => hk (Fin.ext h)
      omega
    rw [← hf b hlt]
    refine View.read_writes_cons_unit_of_not_mem v f (inb k) (p k) [] _ rfl a (Or.inl ?_)
    have hx : (x a).val < size a := (x a).isLt
    show off b a + 1 * (x a).val < off k a
    rw [hoff, hoff]; omega

end Blocks

/-- Trip numbers of the projection loop. -/
abbrev T1 := Fin k0_t1_loop.trips

/-- Token block `k` of a `6 × 256 × 7168` array, as the loop's wait names it. -/
def blkOf {sp : Space} (M : Memref sig .tc sp S6x256x7168 .bf16) (k : T1) : Memref sig .tc sp S256x7168 .bf16 :=
  (M.slice (Rect.unit (s := S6x256x7168) (k0_off2 k) S1x256x7168.size (k0_off2_inb k)) (fun _ => rfl)).squeeze S256x7168 squeezes_S1x256x7168_S256x7168

abbrev rectX (k : T1) : Rect S6x256x7168 := Rect.unit (s := S6x256x7168) (k0_off3 k) S1x256x7168.size (k0_off3_inb k)

/-- The counter of block `k`'s copy. -/
abbrev cellX (k : T1) : SemLoc sig :=
  SemLoc.dma ((cc0_scratch9.slice (Rect.unit (s := S6) (k0_off1 k) S1.size (k0_off1_inb k))).squeeze S_ squeezes_S1_S_).sem

/-- What the copy of block `k` delivers: the scratch block at the argument's values, and the argument's block back. -/
abbrev landedX (c : Dev nD) (q : PosShare TreeShare) (fx : T1 → BufOf (F := F) c sX) (gx : BufOf (F := F) c hX) (k : T1) : sProp 𝕄 :=
  iprop((sX.view.loc (c : Thread nD τ) ↦[sX.view.setOn (rectX k).set]{fullShare} (fx k))
    ∗ ((blkOf hX k).view.loc (c : Thread nD τ) ↦[(blkOf hX k).view.set]{q} gx))

def ΦX (c : Dev nD) (q : PosShare TreeShare) (fx : T1 → BufOf (F := F) c sX) (gx : BufOf (F := F) c hX) (k : T1) (b : Bool) : sProp 𝕄 :=
  if b then Transfers.Flight (countersEmb (U := Pipeline.UD sig nD τ)) (c : Thread nD τ) (cellX k) () 114688 (landedX c q fx gx k)
  else iprop(semVal ((c : Thread nD τ), cellX k) 0 ∗ landedX c q fx gx k)

theorem ΦX_true (c : Dev nD) (q : PosShare TreeShare) (fx : T1 → BufOf (F := F) c sX) (gx : BufOf (F := F) c hX) (k : T1) :
    ΦX c q fx gx k true = Transfers.Flight (countersEmb (U := Pipeline.UD sig nD τ)) (c : Thread nD τ) (cellX k) () 114688
      iprop((sX.view.loc (c : Thread nD τ) ↦[sX.view.setOn (Rect.unit (s := S6x256x7168) (k0_off3 k) S1x256x7168.size (k0_off3_inb k)).set]{fullShare} (fx k))
        ∗ ((blkOf hX k).view.loc (c : Thread nD τ) ↦[(blkOf hX k).view.set]{q} gx)) := rfl
theorem ΦX_false (c : Dev nD) (q : PosShare TreeShare) (fx : T1 → BufOf (F := F) c sX) (gx : BufOf (F := F) c hX) (k : T1) :
    ΦX c q fx gx k false = iprop(semVal ((c : Thread nD τ), cellX k) 0
      ∗ (sX.view.loc (c : Thread nD τ) ↦[sX.view.setOn (Rect.unit (s := S6x256x7168) (k0_off3 k) S1x256x7168.size (k0_off3_inb k)).set]{fullShare} (fx k))
      ∗ ((blkOf hX k).view.loc (c : Thread nD τ) ↦[(blkOf hX k).view.set]{q} gx)) := rfl

/-- The operand reads of trip `k`, and the codes and scale words it stores. -/
def codesOf (c : Dev nD) (fx : T1 → BufOf (F := F) c sX) (wb : BufOf (F := F) c sWb) (lnw : BufOf (F := F) c aLnw) (lnb : BufOf (F := F) c aLnb) (pos : BufOf (F := F) c aPos)
    (fr : BufOf (F := F) c aFreq) (had : FVec F S128x128 .f32) (k : T1) : FVec F S1x256x128 .fp8e4m3 :=
  tripCodes (sWb.view.readAt (Elt F) (Rect.unit (s := S128x7168) ![0, 0] S128x7168.size inb_S128x7168_S128x7168_0_0).toLoadRect wb)
    (sX.view.readAt (Elt F) (Rect.unit (s := S6x256x7168) (k0_off3 k) S1x256x7168.size (k0_off3_inb k)).toLoadRect (fx k))
    (aLnw.view.readAt (Elt F) (Rect.unit (s := S128x1) ![0, 0] S128x1.size inb_S128x1_S128x1_0_0).toLoadRect lnw)
    (aLnb.view.readAt (Elt F) (Rect.unit (s := S128x1) ![0, 0] S128x1.size inb_S128x1_S128x1_0_0).toLoadRect lnb)
    (aPos.view.readAt (Elt F) (Rect.unit (s := S6x256) (k0_off4 k) S1x256.size (k0_off4_inb k)).toLoadRect pos)
    (aFreq.view.readAt (Elt F) (Rect.unit (s := S32x1) ![0, 0] S32x1.size inb_S32x1_S32x1_0_0).toLoadRect fr) had

def wordsOf (c : Dev nD) (fx : T1 → BufOf (F := F) c sX) (wb : BufOf (F := F) c sWb) (lnw : BufOf (F := F) c aLnw) (lnb : BufOf (F := F) c aLnb) (pos : BufOf (F := F) c aPos)
    (fr : BufOf (F := F) c aFreq) (had : FVec F S128x128 .f32) (k : T1) : IVec S1x1x256 32 :=
  tripWords (sWb.view.readAt (Elt F) (Rect.unit (s := S128x7168) ![0, 0] S128x7168.size inb_S128x7168_S128x7168_0_0).toLoadRect wb)
    (sX.view.readAt (Elt F) (Rect.unit (s := S6x256x7168) (k0_off3 k) S1x256x7168.size (k0_off3_inb k)).toLoadRect (fx k))
    (aLnw.view.readAt (Elt F) (Rect.unit (s := S128x1) ![0, 0] S128x1.size inb_S128x1_S128x1_0_0).toLoadRect lnw)
    (aLnb.view.readAt (Elt F) (Rect.unit (s := S128x1) ![0, 0] S128x1.size inb_S128x1_S128x1_0_0).toLoadRect lnb)
    (aPos.view.readAt (Elt F) (Rect.unit (s := S6x256) (k0_off4 k) S1x256.size (k0_off4_inb k)).toLoadRect pos)
    (aFreq.view.readAt (Elt F) (Rect.unit (s := S32x1) ![0, 0] S32x1.size inb_S32x1_S32x1_0_0).toLoadRect fr) had

/-- Blocks of the codes scratch, and of the scale-word scratch, before trip `k`. -/
abbrev codesTo (c : Dev nD) (C : T1 → FVec F S1x256x128 .fp8e4m3) (k : ℕ) (f : BufOf (F := F) c sCodes) : Prop :=
  ∀ b : T1, b.val < k → sCodes.view.readAt (Elt F) (Rect.unit (s := S6x256x128) (k0_off5 b) S1x256x128.size (k0_off5_inb b)).toLoadRect f = C b
abbrev wordsTo (c : Dev nD) (C : T1 → IVec S1x1x256 32) (k : ℕ) (f : BufOf (F := F) c sScales) : Prop :=
  ∀ b : T1, b.val < k → sScales.view.readAt (Elt F) (Rect.unit (s := S6x1x256) (k0_off7 b) S1x1x256.size (k0_off7_inb b)).toLoadRect f = C b

section Loop
variable (c : Dev nD) (q : PosShare TreeShare) (fx : T1 → BufOf (F := F) c sX) (gx : BufOf (F := F) c hX)
    (wb : BufOf (F := F) c sWb) (lnw : BufOf (F := F) c aLnw) (lnb : BufOf (F := F) c aLnb) (pos : BufOf (F := F) c aPos) (fr : BufOf (F := F) c aFreq)
    (had : FVec F S128x128 .f32)

/-- Before trip `k`: blocks before `k` landed and the others in flight; the operands as they were; the codes and words of
    the blocks before `k` stored. -/
def inv1 (k : ℕ) (_ : Unit) : sProp 𝕄 :=
  iprop(Ring.AtW (ΦX c q fx gx) (fun b => decide (k ≤ b.val)) ∗ (∃ W, owes (c : Thread nD τ) 0 W)
    ∗ held c sWb wb ∗ held c aLnw lnw ∗ held c aLnb lnb ∗ held c aPos pos ∗ held c aFreq fr
    ∗ (∃ f, held c sY f) ∗ (∃ f, held c sWt f)
    ∗ (∃ f, held c sCodes f ∗ ⌜codesTo c (codesOf c fx wb lnw lnb pos fr had) k f⌝)
    ∗ (∃ f, held c sScales f ∗ ⌜wordsTo (F := F) c (wordsOf c fx wb lnw lnb pos fr had) k f⌝))

abbrev body1 := k0_t1_body (F := F) aSlot (Memref.isWhole_whole _) aWs (Memref.isWhole_whole _) aLnw (Memref.isWhole_whole _) aLnb (Memref.isWhole_whole _) aPos (Memref.isWhole_whole _) aFreq (Memref.isWhole_whole _)
    hX (Memref.isWhole_whole _) hW (Memref.isWhole_whole _) hKc (Memref.isWhole_whole _) hKs (Memref.isWhole_whole _) hKcOut (Memref.isWhole_whole _) hKsOut (Memref.isWhole_whole _) hCodes (Memref.isWhole_whole _) hScales (Memref.isWhole_whole _)
    sX (Memref.isWhole_whole _) sKc (Memref.isWhole_whole _) sKs (Memref.isWhole_whole _) sWq (Memref.isWhole_whole _) sWb (Memref.isWhole_whole _) sY (Memref.isWhole_whole _) sWt (Memref.isWhole_whole _) sCodes (Memref.isWhole_whole _) sScales (Memref.isWhole_whole _)
    cc0_scratch9 cc0_scratch10 cc0_scratch11 cc0_scratch12 cc0_scratch13 cc0_scratch14 had

theorem step1 (k : T1) (acc : Unit) :
    inv1 c q fx gx wb lnw lnb pos fr had k.val acc
      ⊢ wp frame (wpE (defs₀ (F := F)) Variants.none (c : Thread nD τ) none) Set.univ (body1 had k acc)
          (fun _ => inv1 c q fx gx wb lnw lnb pos fr had (k.val + 1) ()) := by
  unfold inv1
  have hst : decide (k.val ≤ k.val) = true := by simp
  rw [Ring.AtW_focus (ΦX c q fx gx) _ k, hst, ΦX_true]
  iintro ⟨⟨Hk, Hrest⟩, ⟨%W, HO⟩, Hwb, Hlnw, Hlnb, Hpos, Hfr, ⟨%ft, Hy⟩, ⟨%fw, Hw⟩, ⟨%f0, Hc, %hf⟩, ⟨%g0, Hs, %hg⟩⟩
  unfold body1 k0_t1_body
  sl_exec
  sl_step
  isplitl [Hrest Hk_dst Hk_src Hk]
  · have hu : (fun b : T1 => decide (k.val + 1 ≤ b.val)) = Function.update (fun b : T1 => decide (k.val ≤ b.val)) k false := by
      funext b
      by_cases h : b = k
      · subst h; simp
      · rw [Function.update_of_ne h]
        have : b.val ≠ k.val := fun h' => h (Fin.ext h')
        exact decide_eq_decide.mpr (by omega)
    rw [hu]
    iapply (Ring.AtW_update (σ := fun _ => Bool) (ΦX c q fx gx) _ k false)
    isplitr [Hrest]
    · rw [ΦX_false]
      isplitl [Hk]; · iexact Hk
      isplitl [Hk_dst] <;> iassumption
    · iexact Hrest
  isplitl [HO]; · iexists _; iexact HO
  isplitl [Hwb]; · iexact Hwb
  isplitl [Hlnw]; · iexact Hlnw
  isplitl [Hlnb]; · iexact Hlnb
  isplitl [Hpos]; · iexact Hpos
  isplitl [Hfr]; · iexact Hfr
  isplitl [Hy]; · iexists _; iexact Hy
  isplitl [Hw]; · iexists _; iexact Hw
  isplitl [Hc]
  · iexists _
    isplitl [Hc]; · iexact Hc
    ipureintro
    exact blocks_step sCodes.view f0 (0 : Fin 3) rfl k0_off5 (fun b => by rw [k0_off5_eq]; rfl) k0_off5_inb (codesOf c fx wb lnw lnb pos fr had) k hf
  · iexists _
    isplitl [Hs]; · iexact Hs
    ipureintro
    exact blocks_step (F := F) sScales.view g0 (0 : Fin 3) rfl k0_off7 (fun b => by rw [k0_off7_eq]; rfl) k0_off7_inb (wordsOf c fx wb lnw lnb pos fr had) k hg

end Loop

end Cert.Kernel.Hand

end
-- ==== Proof.K.Loop3.lean ====
/-
  The pool loop: trip `i` waits for the copy of chunk `i`, patches its pages and starts writing the chunk back, all the writes on one counter.
-/
module

public import proofs.«01_k».proof.Proof.K.Loop4
public import proofs.«01_k».proof.Proof.K.Loop1

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

/-- Trip numbers of the pool loop. -/
abbrev T3 := Fin k0_t3_loop.trips

/-- Chunk `i` of a pool, as the copies name it. -/
def chunkOf {sp : Space} (M : Memref sig .tc sp S3870x64x128 .fp8e4m3) (i : T3) : Memref sig .tc sp S258x64x128 .fp8e4m3 :=
  M.slice (Rect.unit (s := S3870x64x128) (k0_off14 i) S258x64x128.size (k0_off14_inb i)) (fun _ => rfl)

/-- The counter of chunk `i`'s copy in. -/
abbrev cellC (i : T3) : SemLoc sig :=
  SemLoc.dma ((cc0_scratch10.slice (Rect.unit (s := S15) (k0_off13 i) S1.size (k0_off13_inb i))).squeeze S_ squeezes_S1_S_).sem

/-- The one counter of the writes back. -/
abbrev cellW : SemLoc sig := SemLoc.dma cc0_scratch11.sem

/-- Chunk `i` before its trip: the copy in flight, and the chunk of the result to write; after it: the counter at zero and
    the argument's chunk back. -/
def ΦC (c : Dev nD) (q : PosShare TreeShare) (fc : T3 → BufOf (F := F) c sKc) (gc : BufOf (F := F) c hKc) (i : T3) (b : Bool) : sProp 𝕄 :=
  if b then iprop(Transfers.Flight (countersEmb (U := Pipeline.UD sig nD τ)) (c : Thread nD τ) (cellC i) () 66048
      iprop((sKc.view.loc (c : Thread nD τ) ↦[sKc.view.setOn (Rect.unit (s := S3870x64x128) (k0_off14 i) S258x64x128.size (k0_off14_inb i)).set]{fullShare} (fc i))
        ∗ ((chunkOf hKc i).view.loc (c : Thread nD τ) ↦[(chunkOf hKc i).view.set]{q} gc))
      ∗ (∃ g, (chunkOf hKcOut i).view.loc (c : Thread nD τ) ↦[(chunkOf hKcOut i).view.set]{fullShare} g))
  else iprop(semVal ((c : Thread nD τ), cellC i) 0 ∗ ((chunkOf hKc i).view.loc (c : Thread nD τ) ↦[(chunkOf hKc i).view.set]{q} gc))

theorem ΦC_true (c : Dev nD) (q : PosShare TreeShare) (fc : T3 → BufOf (F := F) c sKc) (gc : BufOf (F := F) c hKc) (i : T3) :
    ΦC c q fc gc i true = iprop(Transfers.Flight (countersEmb (U := Pipeline.UD sig nD τ)) (c : Thread nD τ) (cellC i) () 66048
      iprop((sKc.view.loc (c : Thread nD τ) ↦[sKc.view.setOn (Rect.unit (s := S3870x64x128) (k0_off14 i) S258x64x128.size (k0_off14_inb i)).set]{fullShare} (fc i))
        ∗ ((chunkOf hKc i).view.loc (c : Thread nD τ) ↦[(chunkOf hKc i).view.set]{q} gc))
      ∗ (∃ g, (chunkOf hKcOut i).view.loc (c : Thread nD τ) ↦[(chunkOf hKcOut i).view.set]{fullShare} g)) := rfl
theorem ΦC_false (c : Dev nD) (q : PosShare TreeShare) (fc : T3 → BufOf (F := F) c sKc) (gc : BufOf (F := F) c hKc) (i : T3) :
    ΦC c q fc gc i false = iprop(semVal ((c : Thread nD τ), cellC i) 0 ∗ ((chunkOf hKc i).view.loc (c : Thread nD τ) ↦[(chunkOf hKc i).view.set]{q} gc)) := rfl

/-- What write `i` delivers: the result's chunk, and the scratch chunk back. -/
abbrev dW (c : Dev nD) (i : T3) : sProp 𝕄 :=
  iprop((∃ g, (chunkOf hKcOut i).view.loc (c : Thread nD τ) ↦[(chunkOf hKcOut i).view.set]{fullShare} (g : BufOf (F := F) c hKcOut))
    ∗ (∃ f, (chunkOf sKc i).view.loc (c : Thread nD τ) ↦[(chunkOf sKc i).view.set]{fullShare} (f : BufOf (F := F) c sKc)))

abbrev batchW (c : Dev nD) (j u : ℕ) : sProp 𝕄 :=
  Transfers.Batch (countersEmb (U := Pipeline.UD sig nD τ)) (c : Thread nD τ) cellW () 66048 (dW (F := F) c) j u

section Loop
variable (c : Dev nD) (q : PosShare TreeShare) (fc : T3 → BufOf (F := F) c sKc) (gc : BufOf (F := F) c hKc) (sl : BufOf (F := F) c aSlot) (had : FVec F S128x128 .f32)

/-- Before trip `k`: the chunks before `k` being written, the others being copied in. -/
def inv3 (k : ℕ) (_ : Unit) : sProp 𝕄 :=
  iprop(Ring.AtW (ΦC c q fc gc) (fun i => decide (k ≤ i.val)) ∗ (∃ W, owes (c : Thread nD τ) 0 W)
    ∗ held c aSlot sl ∗ (∃ f, held c sY f) ∗ batchW (F := F) c k 0)

abbrev body3 := k0_t3_body (F := F) aSlot (Memref.isWhole_whole _) aWs (Memref.isWhole_whole _) aLnw (Memref.isWhole_whole _) aLnb (Memref.isWhole_whole _) aPos (Memref.isWhole_whole _) aFreq (Memref.isWhole_whole _)
    hX (Memref.isWhole_whole _) hW (Memref.isWhole_whole _) hKc (Memref.isWhole_whole _) hKs (Memref.isWhole_whole _) hKcOut (Memref.isWhole_whole _) hKsOut (Memref.isWhole_whole _) hCodes (Memref.isWhole_whole _) hScales (Memref.isWhole_whole _)
    sX (Memref.isWhole_whole _) sKc (Memref.isWhole_whole _) sKs (Memref.isWhole_whole _) sWq (Memref.isWhole_whole _) sWb (Memref.isWhole_whole _) sY (Memref.isWhole_whole _) sWt (Memref.isWhole_whole _) sCodes (Memref.isWhole_whole _) sScales (Memref.isWhole_whole _)
    cc0_scratch9 cc0_scratch10 cc0_scratch11 cc0_scratch12 cc0_scratch13 cc0_scratch14 had

theorem step3 (hsl : InReach c sl) (i : T3) (acc : Unit) :
    inv3 c q fc gc sl i.val acc
      ⊢ wp frame (wpE (defs₀ (F := F)) Variants.none (c : Thread nD τ) none) Set.univ (body3 had i acc)
          (fun _ => inv3 c q fc gc sl (i.val + 1) ()) := by
  have hi : i.val < 15 := i.isLt
  unfold inv3
  have hst : decide (i.val ≤ i.val) = true := by simp
  rw [Ring.AtW_focus (ΦC c q fc gc) _ i, hst, ΦC_true]
  iintro ⟨⟨⟨Hk, ⟨%g, Hout⟩⟩, Hrest⟩, ⟨%W, HO⟩, Hsl, ⟨%fy, Hy⟩, HB⟩
  sl_unfold [body3, k0_t3_body]
  sl_exec
  sl_for (inv4 c sl i) $$ [Hk_dst Hsl Hy]
  · intro k acc; exact step4 c sl had i hsl k acc
  · unfold inv4
    isplitl [Hsl]; · iexact Hsl
    isplitl [Hy]; · iexists _; iexact Hy
    iexists _; iexact Hk_dst
  unfold inv4
  iintro %acc ⟨Hsl, ⟨%fy', Hy⟩, ⟨%f1, Hc⟩⟩
  have hset : sKc.view.setOn (Rect.unit (s := S3870x64x128) (k0_off14 i) S258x64x128.size (k0_off14_inb i)).set = (chunkOf sKc i).view.set := by
    unfold chunkOf; exact (View.set_slice sKc.view _).symm
  ihave Hc' := (show (sKc.view.loc (c : Thread nD τ) ↦[sKc.view.setOn (Rect.unit (s := S3870x64x128) (k0_off14 i) S258x64x128.size (k0_off14_inb i)).set]{fullShare} f1)
    ⊢ (((chunkOf sKc i).view.loc (c : Thread nD τ) ↦[(chunkOf sKc i).view.set]{fullShare} (f1 : BufOf (F := F) c sKc)) : sProp 𝕄) from by rw [hset]; exact .rfl) $$ Hc
  sl_exec
  sl_step
  isplitl [Hrest Hk_src Hk]
  · have hu : (fun b : T3 => decide (i.val + 1 ≤ b.val)) = Function.update (fun b : T3 => decide (i.val ≤ b.val)) i false := by
      funext b
      by_cases h : b = i
      · subst h; simp
      · rw [Function.update_of_ne h]
        have : b.val ≠ i.val := fun h' => h (Fin.ext h')
        exact decide_eq_decide.mpr (by omega)
    rw [hu]
    iapply (Ring.AtW_update (σ := fun _ => Bool) (ΦC c q fc gc) _ i false)
    isplitr [Hrest]
    · rw [ΦC_false]
      isplitl [Hk] <;> iassumption
    · iexact Hrest
  isplitl [HO]; · iexists _; iexact HO
  isplitl [Hsl]; · iexact Hsl
  isplitl [Hy]; · iexists _; iexact Hy
  iexact HB

/-! ## Draining the writes -/

/-- Before trip `k` of the drain: the waits so far; and either the batch with `k` writes taken, or — after the last trip —
    the counter at zero and every delivery. -/
def inv5 (k : ℕ) (_ : Unit) : sProp 𝕄 :=
  iprop(⌜k ≤ 15⌝ ∗ (∃ W, owes (c : Thread nD τ) 0 W)
    ∗ (if k < 15 then batchW (F := F) c 15 (k * 66048) else iprop(semVal ((c : Thread nD τ), cellW) 0 ∗ bigSep Finset.univ (dW (F := F) c))))

abbrev body5 := k0_t5_body (F := F) aSlot (Memref.isWhole_whole _) aWs (Memref.isWhole_whole _) aLnw (Memref.isWhole_whole _) aLnb (Memref.isWhole_whole _) aPos (Memref.isWhole_whole _) aFreq (Memref.isWhole_whole _)
    hX (Memref.isWhole_whole _) hW (Memref.isWhole_whole _) hKc (Memref.isWhole_whole _) hKs (Memref.isWhole_whole _) hKcOut (Memref.isWhole_whole _) hKsOut (Memref.isWhole_whole _) hCodes (Memref.isWhole_whole _) hScales (Memref.isWhole_whole _)
    sX (Memref.isWhole_whole _) sKc (Memref.isWhole_whole _) sKs (Memref.isWhole_whole _) sWq (Memref.isWhole_whole _) sWb (Memref.isWhole_whole _) sY (Memref.isWhole_whole _) sWt (Memref.isWhole_whole _) sCodes (Memref.isWhole_whole _) sScales (Memref.isWhole_whole _)
    cc0_scratch9 cc0_scratch10 cc0_scratch11 cc0_scratch12 cc0_scratch13 cc0_scratch14 had

theorem step5 (k : Fin k0_t5_loop.trips) (acc : Unit) :
    inv5 (F := F) c k.val acc
      ⊢ wp frame (wpE (defs₀ (F := F)) Variants.none (c : Thread nD τ) none) Set.univ (body5 had k acc)
          (fun _ => inv5 (F := F) c (k.val + 1) ()) := by
  have hk : k.val < 15 := k.isLt
  unfold inv5
  simp only [if_pos hk]
  rcases Nat.lt_or_ge (k.val + 1) 15 with h1 | h1
  · simp only [if_pos h1]
    iintro ⟨-, ⟨%W, HO⟩, HB⟩
    sl_unfold [body5, k0_t5_body]
    sl_exec
    sl_step
    isplitr; · ipureintro; omega
    isplitl [HO]; · iexists _; iexact HO
    rw [show (k.val + 1) * 66048 = k.val * 66048 + 66048 by omega]
    iexact HB
  · simp only [if_neg (Nat.not_lt.mpr h1)]
    iintro ⟨-, ⟨%W, HO⟩, HB⟩
    sl_unfold [body5, k0_t5_body]
    sl_exec
    sl_step
    isplitr; · ipureintro; omega
    isplitl [HO]; · iexists _; iexact HO
    isplitl [HB]; · iexact HB
    iexact HB_all

end Loop

end Cert.Kernel.Hand

end
-- ==== Proof.K.Blocks.lean ====
/-
  The token blocks and the chunks of the pools: which elements each has, the buffers split into them and joined again, and the
  two families written out as the body names their members.
-/
module

public import proofs.«01_k».proof.Proof.K.Loop3

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

/-! ## The token blocks and the pool chunks, as the body names them -/

/-- A token block of a `6 × 256 × 7168` array at a stated corner. -/
abbrev xAt {sp : Space} (M : Memref sig .tc sp S6x256x7168 .bf16) (o : Fin 3 → ℕ) (h : ∀ a, o a + S1x256x7168.size a ≤ S6x256x7168.size a) :
    Memref sig .tc sp S256x7168 .bf16 :=
  (M.slice (Rect.unit (s := S6x256x7168) o S1x256x7168.size h) (fun _ => rfl)).squeeze S256x7168 squeezes_S1x256x7168_S256x7168
/-- A chunk of a pool at a stated corner. -/
abbrev cAt {sp : Space} (M : Memref sig .tc sp S3870x64x128 .fp8e4m3) (o : Fin 3 → ℕ) (h : ∀ a, o a + S258x64x128.size a ≤ S3870x64x128.size a) :
    Memref sig .tc sp S258x64x128 .fp8e4m3 :=
  M.slice (Rect.unit (s := S3870x64x128) o S258x64x128.size h) (fun _ => rfl)

/-- A memref's elements held at contents. -/
abbrev own (c : Dev nD) {sp : Space} {S : Shape} {e : EltTy} (M : Memref sig .tc sp S e) (f : BufOf (F := F) c M) : sProp 𝕄 :=
  M.view.loc (c : Thread nD τ) ↦[M.view.set]{fullShare} f

theorem blk_lit {sp : Space} (M : Memref sig .tc sp S6x256x7168 .bf16) (k : T1) (o) (h) (e : k0_off2 k = o) : blkOf M k = xAt M o h := by
  subst e; rfl
theorem chunk_lit {sp : Space} (M : Memref sig .tc sp S3870x64x128 .fp8e4m3) (i : T3) (o) (h) (e : k0_off14 i = o) : chunkOf M i = cAt M o h := by
  subst e; rfl

/-! ## Which elements they have -/

abbrev xset (k : T1) : Finset S6x256x7168.Idx := (Rect.unit (s := S6x256x7168) (k0_off2 k) S1x256x7168.size (k0_off2_inb k)).set
theorem mem_xset (k : T1) (y : S6x256x7168.Idx) : y ∈ xset k ↔ (y 0).val = k.val := by
  rw [Rect.mem_set_unit, k0_off2_eq]
  have h1 : (y 1).val < 256 := (y 1).isLt
  have h2 : (y 2).val < 7168 := (y 2).isLt
  constructor
  · intro H; have a0 : k.val ≤ (y 0).val ∧ (y 0).val < k.val + 1 := H 0; omega
  · intro H a; fin_cases a
    · show k.val ≤ (y 0).val ∧ (y 0).val < k.val + 1; omega
    · show 0 ≤ (y 1).val ∧ (y 1).val < 0 + 256; omega
    · show 0 ≤ (y 2).val ∧ (y 2).val < 0 + 7168; omega
theorem xset_disjoint : ∀ b b' : T1, b ≠ b' → Disjoint (xset b) (xset b') := fun b b' hne => by
  rw [Finset.disjoint_left]; intro y hy hy'; rw [mem_xset] at hy hy'; exact hne (Fin.ext (by omega))
theorem xset_cover : Finset.univ.biUnion xset = Finset.univ := by
  ext y; simp only [Finset.mem_biUnion, Finset.mem_univ, true_and, iff_true]
  exact ⟨⟨(y 0).val, (y 0).isLt⟩, (mem_xset _ _).mpr rfl⟩

abbrev cset (i : T3) : Finset S3870x64x128.Idx := (Rect.unit (s := S3870x64x128) (k0_off14 i) S258x64x128.size (k0_off14_inb i)).set
theorem mem_cset (i : T3) (y : S3870x64x128.Idx) : y ∈ cset i ↔ 258 * i.val ≤ (y 0).val ∧ (y 0).val < 258 * i.val + 258 := by
  rw [Rect.mem_set_unit, k0_off14_eq]
  have h1 : (y 1).val < 64 := (y 1).isLt
  have h2 : (y 2).val < 128 := (y 2).isLt
  constructor
  · intro H; exact H 0
  · intro H a; fin_cases a
    · exact H
    · show 0 ≤ (y 1).val ∧ (y 1).val < 0 + 64; omega
    · show 0 ≤ (y 2).val ∧ (y 2).val < 0 + 128; omega
theorem cset_disjoint : ∀ b b' : T3, b ≠ b' → Disjoint (cset b) (cset b') := fun b b' hne => by
  rw [Finset.disjoint_left]; intro y hy hy'; rw [mem_cset] at hy hy'; exact hne (Fin.ext (by omega))
theorem cset_cover : Finset.univ.biUnion cset = Finset.univ := by
  ext y; simp only [Finset.mem_biUnion, Finset.mem_univ, true_and, iff_true]
  have h0 : (y 0).val < 3870 := (y 0).isLt
  exact ⟨⟨(y 0).val / 258, by show _ < 15; omega⟩, (mem_cset _ _).mpr (by show 258 * ((y 0).val / 258) ≤ _ ∧ _ < 258 * ((y 0).val / 258) + 258; omega)⟩

section Sets
variable (k : T1) (i : T3)
theorem set_hX : (blkOf hX k).view.set = xset k := (View.set_reshape _ _).trans (View.set_slice_whole _ _)
theorem set_sX : (blkOf sX k).view.set = xset k := (View.set_reshape _ _).trans (View.set_slice_whole _ _)
theorem set_hKc : (chunkOf hKc i).view.set = cset i := View.set_slice_whole _ _
theorem set_sKc : (chunkOf sKc i).view.set = cset i := View.set_slice_whole _ _
theorem set_hKcOut : (chunkOf hKcOut i).view.set = cset i := View.set_slice_whole _ _
/-- The two spellings of a scratch block's elements. -/
theorem setOn_sX : (blkOf sX k).view.set = sX.view.setOn (Rect.unit (s := S6x256x7168) (k0_off3 k) S1x256x7168.size (k0_off3_inb k)).set :=
  (View.set_reshape _ _).trans (View.set_slice _ _)
theorem setOn_sKc : (chunkOf sKc i).view.set = sKc.view.setOn (Rect.unit (s := S3870x64x128) (k0_off14 i) S258x64x128.size (k0_off14_inb i)).set :=
  View.set_slice _ _
end Sets

/-! ## A buffer whole, and its parts -/

section Parts
variable (c : Dev nD)

theorem split_hX (f : BufOf (F := F) c hX) : (held c hX f : sProp 𝕄) = bigSep Finset.univ (fun k => own c (blkOf hX k) f) :=
  (Ring.pointsTo_blocks (ℓ := hX.view.loc (c : Thread nD τ)) (q := fullShare) xset xset_disjoint xset_cover f).trans
    (BI.bigSep_congr fun k _ => by show _ = (hX.view.loc (c : Thread nD τ) ↦[(blkOf hX k).view.set]{fullShare} f : sProp 𝕄); rw [set_hX])
theorem split_sX (f : BufOf (F := F) c sX) : (held c sX f : sProp 𝕄) = bigSep Finset.univ (fun k => own c (blkOf sX k) f) :=
  (Ring.pointsTo_blocks (ℓ := sX.view.loc (c : Thread nD τ)) (q := fullShare) xset xset_disjoint xset_cover f).trans
    (BI.bigSep_congr fun k _ => by show _ = (sX.view.loc (c : Thread nD τ) ↦[(blkOf sX k).view.set]{fullShare} f : sProp 𝕄); rw [set_sX])
theorem split_hKc (f : BufOf (F := F) c hKc) : (held c hKc f : sProp 𝕄) = bigSep Finset.univ (fun i => own c (chunkOf hKc i) f) :=
  (Ring.pointsTo_blocks (ℓ := hKc.view.loc (c : Thread nD τ)) (q := fullShare) cset cset_disjoint cset_cover f).trans
    (BI.bigSep_congr fun i _ => by show _ = (hKc.view.loc (c : Thread nD τ) ↦[(chunkOf hKc i).view.set]{fullShare} f : sProp 𝕄); rw [set_hKc])
theorem split_sKc (f : BufOf (F := F) c sKc) : (held c sKc f : sProp 𝕄) = bigSep Finset.univ (fun i => own c (chunkOf sKc i) f) :=
  (Ring.pointsTo_blocks (ℓ := sKc.view.loc (c : Thread nD τ)) (q := fullShare) cset cset_disjoint cset_cover f).trans
    (BI.bigSep_congr fun i _ => by show _ = (sKc.view.loc (c : Thread nD τ) ↦[(chunkOf sKc i).view.set]{fullShare} f : sProp 𝕄); rw [set_sKc])
theorem split_hKcOut (f : BufOf (F := F) c hKcOut) : (held c hKcOut f : sProp 𝕄) = bigSep Finset.univ (fun i => own c (chunkOf hKcOut i) f) :=
  (Ring.pointsTo_blocks (ℓ := hKcOut.view.loc (c : Thread nD τ)) (q := fullShare) cset cset_disjoint cset_cover f).trans
    (BI.bigSep_congr fun i _ => by show _ = (hKcOut.view.loc (c : Thread nD τ) ↦[(chunkOf hKcOut i).view.set]{fullShare} f : sProp 𝕄); rw [set_hKcOut])

/-- Blocks at contents of their own make a buffer at some contents. -/
theorem join_sX (fs : T1 → BufOf (F := F) c sX) :
    (bigSep Finset.univ (fun k => own c (blkOf sX k) (fs k)) : sProp 𝕄) ⊢ iprop(∃ f, held c sX f) := by
  refine BIBase.Entails.trans (Entails.of_eq (BI.bigSep_congr fun k _ => ?_)) (Ring.pointsTo_blocks_join (ℓ := sX.view.loc (c : Thread nD τ)) (q := fullShare)
    xset xset_disjoint xset_cover fs sX.view.junk)
  show (sX.view.loc (c : Thread nD τ) ↦[(blkOf sX k).view.set]{fullShare} fs k : sProp 𝕄) = _
  rw [set_sX]
theorem join_sKc :
    (bigSep Finset.univ (fun i => iprop(∃ f, own c (chunkOf sKc i) (f : BufOf (F := F) c sKc))) : sProp 𝕄) ⊢ iprop(∃ f, held c sKc f) := by
  refine BIBase.Entails.trans (Entails.of_eq (BI.bigSep_congr fun i _ => ?_)) (Ring.pointsTo_blocks_join_exists (ℓ := sKc.view.loc (c : Thread nD τ)) (q := fullShare)
    cset cset_disjoint cset_cover sKc.view.junk)
  show (iprop(∃ f, sKc.view.loc (c : Thread nD τ) ↦[(chunkOf sKc i).view.set]{fullShare} f) : sProp 𝕄) = _
  rw [set_sKc]
theorem join_hKcOut :
    (bigSep Finset.univ (fun i => iprop(∃ f, own c (chunkOf hKcOut i) (f : BufOf (F := F) c hKcOut))) : sProp 𝕄) ⊢ iprop(∃ f, held c hKcOut f) := by
  refine BIBase.Entails.trans (Entails.of_eq (BI.bigSep_congr fun i _ => ?_)) (Ring.pointsTo_blocks_join_exists (ℓ := hKcOut.view.loc (c : Thread nD τ)) (q := fullShare)
    cset cset_disjoint cset_cover hKcOut.view.junk)
  show (iprop(∃ f, hKcOut.view.loc (c : Thread nD τ) ↦[(chunkOf hKcOut i).view.set]{fullShare} f) : sProp 𝕄) = _
  rw [set_hKcOut]

/-! ## The families as the chains the body's run holds -/

/-- The six blocks, and the fifteen chunks, in order. -/
abbrev T1s : List T1 := List.finRange 6
abbrev T3s : List T3 := List.finRange 15

theorem x_list (Φ : T1 → sProp 𝕄) : bigSep Finset.univ Φ = bigSepL T1s Φ := BI.bigSep_univ_eq_bigSepL T1s (by decide) (by decide) Φ
theorem c_list (Φ : T3 → sProp 𝕄) : bigSep Finset.univ Φ = bigSepL T3s Φ := BI.bigSep_univ_eq_bigSepL T3s (by decide) (by decide) Φ

theorem xs_lit {sp : Space} (M : Memref sig .tc sp S6x256x7168 .bf16) (f : BufOf (F := F) c M) :
    (bigSep Finset.univ (fun k => own c (blkOf M k) f) : sProp 𝕄)
      = iprop(own c (xAt M ![0, 0, 0] inb_S6x256x7168_S1x256x7168_0_0_0) f
          ∗ own c (xAt M ![1, 0, 0] inb_S6x256x7168_S1x256x7168_1_0_0) f
          ∗ own c (xAt M ![2, 0, 0] inb_S6x256x7168_S1x256x7168_2_0_0) f
          ∗ own c (xAt M ![3, 0, 0] inb_S6x256x7168_S1x256x7168_3_0_0) f
          ∗ own c (xAt M ![4, 0, 0] inb_S6x256x7168_S1x256x7168_4_0_0) f
          ∗ own c (xAt M ![5, 0, 0] inb_S6x256x7168_S1x256x7168_5_0_0) f) := by
  rw [x_list]
  rfl

theorem cs_lit {sp : Space} (M : Memref sig .tc sp S3870x64x128 .fp8e4m3) (f : BufOf (F := F) c M) :
    (bigSep Finset.univ (fun i => own c (chunkOf M i) f) : sProp 𝕄)
      = iprop(own c (cAt M ![0, 0, 0] inb_S3870x64x128_S258x64x128_0_0_0) f
          ∗ own c (cAt M ![258, 0, 0] inb_S3870x64x128_S258x64x128_258_0_0) f
          ∗ own c (cAt M ![516, 0, 0] inb_S3870x64x128_S258x64x128_516_0_0) f
          ∗ own c (cAt M ![774, 0, 0] inb_S3870x64x128_S258x64x128_774_0_0) f
          ∗ own c (cAt M ![1032, 0, 0] inb_S3870x64x128_S258x64x128_1032_0_0) f
          ∗ own c (cAt M ![1290, 0, 0] inb_S3870x64x128_S258x64x128_1290_0_0) f
          ∗ own c (cAt M ![1548, 0, 0] inb_S3870x64x128_S258x64x128_1548_0_0) f
          ∗ own c (cAt M ![1806, 0, 0] inb_S3870x64x128_S258x64x128_1806_0_0) f
          ∗ own c (cAt M ![2064, 0, 0] inb_S3870x64x128_S258x64x128_2064_0_0) f
          ∗ own c (cAt M ![2322, 0, 0] inb_S3870x64x128_S258x64x128_2322_0_0) f
          ∗ own c (cAt M ![2580, 0, 0] inb_S3870x64x128_S258x64x128_2580_0_0) f
          ∗ own c (cAt M ![2838, 0, 0] inb_S3870x64x128_S258x64x128_2838_0_0) f
          ∗ own c (cAt M ![3096, 0, 0] inb_S3870x64x128_S258x64x128_3096_0_0) f
          ∗ own c (cAt M ![3354, 0, 0] inb_S3870x64x128_S258x64x128_3354_0_0) f
          ∗ own c (cAt M ![3612, 0, 0] inb_S3870x64x128_S258x64x128_3612_0_0) f) := by
  rw [c_list]
  rfl

/-- A family from its members, and its members from it. -/
theorem x_chain (Φ : T1 → Bool → sProp 𝕄) (st : T1 → Bool) :
    iprop(Φ ⟨0, by decide⟩ (st ⟨0, by decide⟩) ∗ Φ ⟨1, by decide⟩ (st ⟨1, by decide⟩) ∗ Φ ⟨2, by decide⟩ (st ⟨2, by decide⟩) ∗ Φ ⟨3, by decide⟩ (st ⟨3, by decide⟩) ∗ Φ ⟨4, by decide⟩ (st ⟨4, by decide⟩) ∗ Φ ⟨5, by decide⟩ (st ⟨5, by decide⟩)) ⊢ Ring.AtW (σ := fun _ => Bool) Φ st := Entails.of_eq (x_list (fun k => Φ k (st k))).symm
theorem c_chain (Φ : T3 → Bool → sProp 𝕄) (st : T3 → Bool) :
    iprop(Φ ⟨0, by decide⟩ (st ⟨0, by decide⟩) ∗ Φ ⟨1, by decide⟩ (st ⟨1, by decide⟩) ∗ Φ ⟨2, by decide⟩ (st ⟨2, by decide⟩) ∗ Φ ⟨3, by decide⟩ (st ⟨3, by decide⟩) ∗ Φ ⟨4, by decide⟩ (st ⟨4, by decide⟩) ∗ Φ ⟨5, by decide⟩ (st ⟨5, by decide⟩) ∗ Φ ⟨6, by decide⟩ (st ⟨6, by decide⟩) ∗ Φ ⟨7, by decide⟩ (st ⟨7, by decide⟩) ∗ Φ ⟨8, by decide⟩ (st ⟨8, by decide⟩) ∗ Φ ⟨9, by decide⟩ (st ⟨9, by decide⟩) ∗ Φ ⟨10, by decide⟩ (st ⟨10, by decide⟩) ∗ Φ ⟨11, by decide⟩ (st ⟨11, by decide⟩) ∗ Φ ⟨12, by decide⟩ (st ⟨12, by decide⟩) ∗ Φ ⟨13, by decide⟩ (st ⟨13, by decide⟩) ∗ Φ ⟨14, by decide⟩ (st ⟨14, by decide⟩)) ⊢ Ring.AtW (σ := fun _ => Bool) Φ st := Entails.of_eq (c_list (fun i => Φ i (st i))).symm
theorem c_unchain (Φ : T3 → sProp 𝕄) :
    bigSep Finset.univ Φ ⊢ iprop(Φ ⟨0, by decide⟩ ∗ Φ ⟨1, by decide⟩ ∗ Φ ⟨2, by decide⟩ ∗ Φ ⟨3, by decide⟩ ∗ Φ ⟨4, by decide⟩ ∗ Φ ⟨5, by decide⟩ ∗ Φ ⟨6, by decide⟩ ∗ Φ ⟨7, by decide⟩ ∗ Φ ⟨8, by decide⟩ ∗ Φ ⟨9, by decide⟩ ∗ Φ ⟨10, by decide⟩ ∗ Φ ⟨11, by decide⟩ ∗ Φ ⟨12, by decide⟩ ∗ Φ ⟨13, by decide⟩ ∗ Φ ⟨14, by decide⟩) := Entails.of_eq (c_list Φ)

end Parts

end Cert.Kernel.Hand

end
-- ==== Proof.K.Flights.lean ====
/-
  The copies the body starts before its loops: each in flight as the loops' invariants hold it, and what is left when all have landed.
-/
module

public import proofs.«01_k».proof.Proof.K.Blocks

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

section Body
variable (c : Dev nD)

/-! ## The copies in flight before the loops -/

/-- Scratch block `k` once the argument's block `k` landed on it. -/
def landX (f0 : BufOf (F := F) c sX) (gx : BufOf (F := F) c hX) (k : T1) : BufOf (F := F) c sX :=
  (blkOf sX k).view.writes (Elt F) f0 [⟨Rect.whole S256x7168, ReadAs.same.apply ((blkOf hX k).view.read (Elt F) gx)⟩]
/-- Scratch chunk `i` once the argument's chunk `i` landed on it. -/
def landC (f0 : BufOf (F := F) c sKc) (gc : BufOf (F := F) c hKc) (i : T3) : BufOf (F := F) c sKc :=
  (chunkOf sKc i).view.writes (Elt F) f0 [⟨Rect.whole S258x64x128, ReadAs.same.apply ((chunkOf hKc i).view.read (Elt F) gc)⟩]

theorem packX (f0 : BufOf (F := F) c sX) (gx : BufOf (F := F) c hX) (k : T1) (o) (h) (e : k0_off2 k = o) (s : SemLoc sig) (es : s = cellX k) :
    (Transfers.Flight (countersEmb (U := Pipeline.UD sig nD τ)) (c : Thread nD τ) s () 114688
      iprop((sX.view.loc (c : Thread nD τ) ↦[(xAt sX o h).view.set]{fullShare}
          (xAt sX o h).view.writes (Elt F) f0 [⟨Rect.whole S256x7168, ReadAs.same.apply ((xAt hX o h).view.read (Elt F) gx)⟩])
        ∗ own c (xAt hX o h) gx) : sProp 𝕄) ⊢ ΦX c fullShare (landX c f0 gx) gx k true := by
  subst e; subst es
  rw [ΦX_true, ← setOn_sX]
  exact BIBase.Entails.rfl

theorem packC (f0 : BufOf (F := F) c sKc) (gc : BufOf (F := F) c hKc) (i : T3) (o) (h) (e : k0_off14 i = o) (s : SemLoc sig) (es : s = cellC i) :
    (iprop(Transfers.Flight (countersEmb (U := Pipeline.UD sig nD τ)) (c : Thread nD τ) s () 66048
      iprop((sKc.view.loc (c : Thread nD τ) ↦[(cAt sKc o h).view.set]{fullShare}
          (cAt sKc o h).view.writes (Elt F) f0 [⟨Rect.whole S258x64x128, ReadAs.same.apply ((cAt hKc o h).view.read (Elt F) gc)⟩])
        ∗ own c (cAt hKc o h) gc) ∗ ∃ g, own c (chunkOf hKcOut i) g) : sProp 𝕄) ⊢ ΦC c fullShare (landC c f0 gc) gc i true := by
  subst e; subst es
  rw [ΦC_true, ← setOn_sKc]
  exact BIBase.Entails.rfl

/-- Every block landed: the argument whole again, the scratch at some contents, the counters at zero. -/
theorem after1 (f0 : BufOf (F := F) c sX) (gx : BufOf (F := F) c hX) (st : T1 → Bool) (hst : ∀ k, st k = false) :
    (Ring.AtW (ΦX c fullShare (landX c f0 gx) gx) st : sProp 𝕄)
      ⊢ iprop(bigSep Finset.univ (fun k => semVal ((c : Thread nD τ), cellX k) 0) ∗ (∃ f, held c sX f) ∗ held c hX gx) := by
  unfold Ring.AtW
  have e : ∀ k : T1, (ΦX c fullShare (landX c f0 gx) gx k (st k) : sProp 𝕄)
      = iprop(semVal ((c : Thread nD τ), cellX k) 0 ∗ own c (blkOf sX k) (landX c f0 gx k) ∗ own c (blkOf hX k) gx) := fun k => by
    rw [hst, ΦX_false, ← setOn_sX]; rfl
  rw [BI.bigSep_congr fun k _ => e k, bigSep_sep' _ (fun k : T1 => semVal ((c : Thread nD τ), cellX k) 0) (fun k : T1 => iprop(own c (blkOf sX k) (landX c f0 gx k) ∗ own c (blkOf hX k) gx)),
    bigSep_sep' _ (fun k : T1 => own c (blkOf sX k) (landX c f0 gx k)) (fun k : T1 => own c (blkOf hX k) gx), ← split_hX]
  iintro ⟨H1, H2, H3⟩
  isplitl [H1]; · iexact H1
  isplitl [H2]
  · iapply (join_sX c _); iexact H2
  · iexact H3

theorem after3 (f0 : BufOf (F := F) c sKc) (gc : BufOf (F := F) c hKc) (st : T3 → Bool) (hst : ∀ k, st k = false) :
    (Ring.AtW (ΦC c fullShare (landC c f0 gc) gc) st : sProp 𝕄)
      ⊢ iprop(bigSep Finset.univ (fun k => semVal ((c : Thread nD τ), cellC k) 0) ∗ held c hKc gc) := by
  unfold Ring.AtW
  have e : ∀ k : T3, (ΦC c fullShare (landC c f0 gc) gc k (st k) : sProp 𝕄)
      = iprop(semVal ((c : Thread nD τ), cellC k) 0 ∗ own c (chunkOf hKc k) gc) := fun k => by
    rw [hst, ΦC_false]
  rw [BI.bigSep_congr fun k _ => e k, bigSep_sep' _ (fun k : T3 => semVal ((c : Thread nD τ), cellC k) 0) (fun k : T3 => own c (chunkOf hKc k) gc), ← split_hKc]

theorem after5 : (bigSep Finset.univ (dW (F := F) c) : sProp 𝕄) ⊢ iprop((∃ f, held c hKcOut f) ∗ (∃ f, held c sKc f)) := by
  refine (Entails.of_eq (bigSep_sep' _ (fun i => iprop(∃ f, own c (chunkOf hKcOut i) (f : BufOf (F := F) c hKcOut)))
    (fun i => iprop(∃ f, own c (chunkOf sKc i) (f : BufOf (F := F) c sKc))))).trans ?_
  iintro ⟨H1, H2⟩
  isplitl [H1]
  · iapply (join_hKcOut c); iexact H1
  · iapply (join_sKc c); iexact H2

/-- A region held at some contents may be stored. -/
instance own_storable (ℓ : Loc nD τ sig) (I : Finset (Idx ℓ)) :
    BI.Storable (upEmb : UEmb _ 𝕄) (iprop(∃ g : Buf (Elt F) ℓ, ℓ ↦[I]{fullShare} g)) := by infer_instance

instance both_storable (ℓ ℓ' : Loc nD τ sig) (I : Finset (Idx ℓ)) (I' : Finset (Idx ℓ')) :
    BI.Storable (upEmb : UEmb _ 𝕄) (iprop((∃ g : Buf (Elt F) ℓ, ℓ ↦[I]{fullShare} g) ∗ ∃ g : Buf (Elt F) ℓ', ℓ' ↦[I']{fullShare} g)) := by infer_instance

instance dW_storable (i : T3) : BI.Storable (upEmb : UEmb _ 𝕄) (dW (F := F) c i) :=
  both_storable _ _ _ _

/-- The batch of the writes back, nothing started. -/
theorem startW : (semVal ((c : Thread nD τ), cellW) 0 : sProp 𝕄) ⊢ |={Set.univ}=> batchW (F := F) c 0 0 :=
  Transfers.batch_alloc' (countersEmb (U := Pipeline.UD sig nD τ)) (c : Thread nD τ) () 66048 (dW (F := F) c) (sm := cellW) (E := Set.univ)

/-! ## The loops' ends -/

theorem enter5 : (batchW (F := F) c (Scf.trips k0_t3_loop.lb k0_t3_loop.ub k0_t3_loop.st) 0 : sProp 𝕄)
    ⊢ if 0 < 15 then batchW (F := F) c 15 (0 * 66048) else iprop(semVal ((c : Thread nD τ), cellW) 0 ∗ bigSep Finset.univ (dW (F := F) c)) := by
  rw [if_pos (by decide), show Scf.trips k0_t3_loop.lb k0_t3_loop.ub k0_t3_loop.st = 15 from by decide, Nat.zero_mul]

theorem leave5 : ((if Scf.trips k0_t5_loop.lb k0_t5_loop.ub k0_t5_loop.st < 15 then
      batchW (F := F) c 15 (Scf.trips k0_t5_loop.lb k0_t5_loop.ub k0_t5_loop.st * 66048)
      else iprop(semVal ((c : Thread nD τ), cellW) 0 ∗ bigSep Finset.univ (dW (F := F) c))) : sProp 𝕄)
    ⊢ iprop(cell0 c 27 ∗ (∃ f, held c hKcOut f) ∗ (∃ f, held c sKc f)) := by
  rw [show Scf.trips k0_t5_loop.lb k0_t5_loop.ub k0_t5_loop.st = 15 from by decide, if_neg (by decide)]
  iintro ⟨H1, H2⟩
  isplitl [H1]; · iexact H1
  iapply (after5 c); iexact H2

theorem cells_X : (bigSep Finset.univ (fun k => semVal ((c : Thread nD τ), cellX k) 0) : sProp 𝕄)
    ⊢ iprop(cell0 c 6 ∗ cell0 c 7 ∗ cell0 c 8 ∗ cell0 c 9 ∗ cell0 c 10 ∗ cell0 c 11) := Entails.of_eq (x_list _)

theorem cells_C : (bigSep Finset.univ (fun k => semVal ((c : Thread nD τ), cellC k) 0) : sProp 𝕄)
    ⊢ iprop(cell0 c 12 ∗ cell0 c 13 ∗ cell0 c 14 ∗ cell0 c 15 ∗ cell0 c 16 ∗ cell0 c 17 ∗ cell0 c 18 ∗ cell0 c 19 ∗ cell0 c 20 ∗ cell0 c 21 ∗ cell0 c 22 ∗ cell0 c 23 ∗ cell0 c 24 ∗ cell0 c 25 ∗ cell0 c 26) := Entails.of_eq (c_list _)

/-! ## The results leaving the scratch -/

theorem moved_codes (f : BufOf (F := F) c sCodes) (o : BufOf (F := F) c hCodes) (b : T1) :
    hCodes.view.readAt (Elt F) (Rect.unit (s := S6x256x128) (k0_off5 b) S1x256x128.size (k0_off5_inb b)).toLoadRect
        (View.write (Elt F) hCodes.view o (ReadAs.same.apply (sCodes.view.read (Elt F) f)) Finset.univ)
      = sCodes.view.readAt (Elt F) (Rect.unit (s := S6x256x128) (k0_off5 b) S1x256x128.size (k0_off5_inb b)).toLoadRect f := by
  funext x
  rw [View.readAt_apply, View.readAt_apply, View.read_write_univ]

theorem moved_words (f : BufOf (F := F) c sScales) (o : BufOf (F := F) c hScales) (b : T1) :
    hScales.view.readAt (Elt F) (Rect.unit (s := S6x1x256) (k0_off7 b) S1x1x256.size (k0_off7_inb b)).toLoadRect
        (View.write (Elt F) hScales.view o (ReadAs.same.apply (sScales.view.read (Elt F) f)) Finset.univ)
      = sScales.view.readAt (Elt F) (Rect.unit (s := S6x1x256) (k0_off7 b) S1x1x256.size (k0_off7_inb b)).toLoadRect f := by
  funext x
  rw [View.readAt_apply, View.readAt_apply, View.read_write_univ]

end Body

end Cert.Kernel.Hand

end
-- ==== Proof.K.Body.lean ====
/-
  The body's run.
-/
module

public import proofs.«01_k».proof.Proof.K.Flights
public import proofs.«01_k».proof.Proof.K.Loop2

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

section Body
variable (c : Dev nD)

/-! ## The dequantised weight -/

/-- The weight's scratch once the argument landed on it. -/
abbrev wqAt (gw : BufOf (F := F) c hW) (fq : BufOf (F := F) c sWq) : BufOf (F := F) c sWq :=
  View.write (Elt F) sWq.view fq (ReadAs.same.apply (hW.view.read (Elt F) gw)) Finset.univ

theorem wcol_inb (j : Fin 56) : ∀ a, (![0, 128 * j.val] : Fin 2 → ℕ) a + S128x128.size a ≤ S128x7168.size a := fun a => by
  have := j.isLt
  fin_cases a
  · show 0 + 128 ≤ 128; omega
  · show 128 * j.val + 128 ≤ 7168; omega
theorem wscale_inb (j : Fin 56) : ∀ a, (![j.val] : Fin 1 → ℕ) a + S1.size a ≤ S56.size a := fun a => by
  have := j.isLt
  fin_cases a
  show j.val + 1 ≤ 56; omega

/-! ## What the body starts from and what it leaves -/

/-- The body's own counters, each at zero. -/
abbrev cells0 : sProp 𝕄 :=
  iprop(cell0 c 6
      ∗ cell0 c 7
      ∗ cell0 c 8
      ∗ cell0 c 9
      ∗ cell0 c 10
      ∗ cell0 c 11
      ∗ cell0 c 12
      ∗ cell0 c 13
      ∗ cell0 c 14
      ∗ cell0 c 15
      ∗ cell0 c 16
      ∗ cell0 c 17
      ∗ cell0 c 18
      ∗ cell0 c 19
      ∗ cell0 c 20
      ∗ cell0 c 21
      ∗ cell0 c 22
      ∗ cell0 c 23
      ∗ cell0 c 24
      ∗ cell0 c 25
      ∗ cell0 c 26
      ∗ cell0 c 27
      ∗ cell0 c 28
      ∗ cell0 c 29
      ∗ cell0 c 30
      ∗ cell0 c 31
      ∗ cell0 c 32)

/-- The body's operands as it finds them: the arguments at their values, the results and the scratch at some contents. -/
abbrev pre0 (gx : BufOf (F := F) c hX) (gw : BufOf (F := F) c hW) (gc : BufOf (F := F) c hKc) (gk : BufOf (F := F) c hKs)
    (sl : BufOf (F := F) c aSlot) (ws : BufOf (F := F) c aWs) (lnw : BufOf (F := F) c aLnw) (lnb : BufOf (F := F) c aLnb) (pos : BufOf (F := F) c aPos) (fr : BufOf (F := F) c aFreq) : sProp 𝕄 :=
  iprop(cells0 (F := F) c
    ∗ held c hX gx ∗ held c hW gw ∗ held c hKc gc ∗ held c hKs gk
    ∗ (∃ f, held c hKcOut f) ∗ (∃ f, held c hKsOut f) ∗ (∃ f, held c hCodes f) ∗ (∃ f, held c hScales f)
    ∗ held c aSlot sl ∗ held c aWs ws ∗ held c aLnw lnw ∗ held c aLnb lnb ∗ held c aPos pos ∗ held c aFreq fr
    ∗ (∃ f, held c sX f) ∗ (∃ f, held c sKc f) ∗ (∃ f, held c sKs f) ∗ (∃ f, held c sWq f) ∗ (∃ f, held c sWb f)
    ∗ (∃ f, held c sY f) ∗ (∃ f, held c sWt f) ∗ (∃ f, held c sCodes f) ∗ (∃ f, held c sScales f))

/-- One of the fifty-six stores of the dequantised weight, and the scratch after them all. -/
def wbPiece (gw : BufOf (F := F) c hW) (ws : BufOf (F := F) c aWs) (fq : BufOf (F := F) c sWq) (j : Fin 56) : View.Piece (Elt F) S128x7168 .bf16 :=
  ⟨Rect.unit (s := S128x7168) ![0, 128 * j.val] S128x128.size (wcol_inb j),
    k0_pay53 (View.readAt (Elt F) aWs.view (Rect.unit (s := S56) ![j.val] S1.size (wscale_inb j)).toLoadRect ws (Shape.Idx.first (s := S1) (by decide)))
      (View.readAt (Elt F) sWq.view (Rect.unit (s := S128x7168) ![0, 128 * j.val] S128x128.size (wcol_inb j)).toLoadRect (wqAt c gw fq))⟩
/-- The stores in their order, the last one first. -/
def wbOrder : List (Fin 56) := [55, 54, 53, 52, 51, 50, 49, 48, 47, 46, 45, 44, 43, 42, 41, 40, 39, 38, 37, 36, 35, 34, 33, 32, 31, 30, 29, 28, 27, 26, 25, 24, 23, 22, 21, 20, 19, 18, 17, 16, 15, 14, 13, 12, 11, 10, 9, 8, 7, 6, 5, 4, 3, 2, 1, 0]
def wbAt (gw : BufOf (F := F) c hW) (ws : BufOf (F := F) c aWs) (fq : BufOf (F := F) c sWq) : BufOf (F := F) c sWb :=
  sWb.view.writes (Elt F) sWb.view.junk (wbOrder.map (wbPiece c gw ws fq))

/-- The codes the body leaves, and the scales' words. -/
def codesLeft (gx : BufOf (F := F) c hX) (gw : BufOf (F := F) c hW) (ws : BufOf (F := F) c aWs) (lnw : BufOf (F := F) c aLnw) (lnb : BufOf (F := F) c aLnb) (pos : BufOf (F := F) c aPos) (fr : BufOf (F := F) c aFreq)
    (f : BufOf (F := F) c hCodes) : Prop :=
  ∃ f0 fq, ∀ b : T1, hCodes.view.readAt (Elt F) (Rect.unit (s := S6x256x128) (k0_off5 b) S1x256x128.size (k0_off5_inb b)).toLoadRect f
    = codesOf c (landX c f0 gx) (wbAt c gw ws fq) lnw lnb pos fr k0_pay49 b
def wordsLeft (gx : BufOf (F := F) c hX) (gw : BufOf (F := F) c hW) (ws : BufOf (F := F) c aWs) (lnw : BufOf (F := F) c aLnw) (lnb : BufOf (F := F) c aLnb) (pos : BufOf (F := F) c aPos) (fr : BufOf (F := F) c aFreq)
    (f : BufOf (F := F) c hScales) : Prop :=
  ∃ f0 fq, ∀ b : T1, hScales.view.readAt (Elt F) (Rect.unit (s := S6x1x256) (k0_off7 b) S1x1x256.size (k0_off7_inb b)).toLoadRect f
    = wordsOf c (landX c f0 gx) (wbAt c gw ws fq) lnw lnb pos fr k0_pay49 b

/-- What the body leaves: its counters at zero, its arguments as they were, the codes and the scales of its own computation. -/
abbrev post0 (gx : BufOf (F := F) c hX) (gw : BufOf (F := F) c hW) (gc : BufOf (F := F) c hKc) (gk : BufOf (F := F) c hKs)
    (sl : BufOf (F := F) c aSlot) (ws : BufOf (F := F) c aWs) (lnw : BufOf (F := F) c aLnw) (lnb : BufOf (F := F) c aLnb) (pos : BufOf (F := F) c aPos) (fr : BufOf (F := F) c aFreq) : sProp 𝕄 :=
  iprop(cells0 (F := F) c
    ∗ held c hX gx ∗ held c hW gw ∗ held c hKc gc ∗ held c hKs gk
    ∗ (∃ f, held c hKcOut f) ∗ (∃ f, held c hKsOut f)
    ∗ (∃ f, held c hCodes f ∗ ⌜codesLeft c gx gw ws lnw lnb pos fr f⌝) ∗ (∃ f, held c hScales f ∗ ⌜wordsLeft c gx gw ws lnw lnb pos fr f⌝)
    ∗ held c aSlot sl ∗ held c aWs ws ∗ held c aLnw lnw ∗ held c aLnb lnb ∗ held c aPos pos ∗ held c aFreq fr
    ∗ (∃ f, held c sX f) ∗ (∃ f, held c sKc f) ∗ (∃ f, held c sKs f) ∗ (∃ f, held c sWq f) ∗ (∃ f, held c sWb f)
    ∗ (∃ f, held c sY f) ∗ (∃ f, held c sWt f) ∗ (∃ f, held c sCodes f) ∗ (∃ f, held c sScales f))

variable (gx : BufOf (F := F) c hX) (gw : BufOf (F := F) c hW) (gc : BufOf (F := F) c hKc) (gk : BufOf (F := F) c hKs)
    (sl : BufOf (F := F) c aSlot) (ws : BufOf (F := F) c aWs) (lnw : BufOf (F := F) c aLnw) (lnb : BufOf (F := F) c aLnb) (pos : BufOf (F := F) c aPos) (fr : BufOf (F := F) c aFreq)

set_option pp.maxSteps 900 in
set_option maxHeartbeats 4000000 in
theorem body0 (hsl : InReach c sl) (W : Waits sig Unit) :
    iprop(pre0 c gx gw gc gk sl ws lnw lnb pos fr ∗ owes (c : Thread nD τ) 0 W)
      ⊢ wp frame (wpE (defs₀ (F := F)) Variants.none (c : Thread nD τ) none) Set.univ (cc0_indexer_key_write_skel (F := F) aSlot (Memref.isWhole_whole _) aWs (Memref.isWhole_whole _) aLnw (Memref.isWhole_whole _) aLnb (Memref.isWhole_whole _) aPos (Memref.isWhole_whole _) aFreq (Memref.isWhole_whole _)
    hX (Memref.isWhole_whole _) hW (Memref.isWhole_whole _) hKc (Memref.isWhole_whole _) hKs (Memref.isWhole_whole _) hKcOut (Memref.isWhole_whole _) hKsOut (Memref.isWhole_whole _) hCodes (Memref.isWhole_whole _) hScales (Memref.isWhole_whole _)
    sX (Memref.isWhole_whole _) sKc (Memref.isWhole_whole _) sKs (Memref.isWhole_whole _) sWq (Memref.isWhole_whole _) sWb (Memref.isWhole_whole _) sY (Memref.isWhole_whole _) sWt (Memref.isWhole_whole _) sCodes (Memref.isWhole_whole _) sScales (Memref.isWhole_whole _)
    cc0_scratch9 cc0_scratch10 cc0_scratch11 cc0_scratch12 cc0_scratch13 cc0_scratch14)
          (fun _ => iprop(post0 c gx gw gc gk sl ws lnw lnb pos fr ∗ (∃ W', owes (c : Thread nD τ) 0 W'))) := by
  unfold pre0 cells0
  iintro ⟨⟨⟨Hc6, Hc7, Hc8, Hc9, Hc10, Hc11, Hc12, Hc13, Hc14, Hc15, Hc16, Hc17, Hc18, Hc19, Hc20, Hc21, Hc22, Hc23, Hc24, Hc25, Hc26, Hc27, Hc28, Hc29, Hc30, Hc31, Hc32⟩, HhX, HhW, HhKc, HhKs, ⟨%o0, HhKcOut⟩, ⟨%o1, HhKsOut⟩, ⟨%o2, HhCodes⟩, ⟨%o3, HhScales⟩,
    HaSlot, HaWs, HaLnw, HaLnb, HaPos, HaFreq,
    ⟨%f0, HsX⟩, ⟨%f1, HsKc⟩, ⟨%fk, HsKs⟩, ⟨%fq, HsWq⟩, ⟨%fb, HsWb⟩, ⟨%fy, HsY⟩, ⟨%fw, HsWt⟩, ⟨%f7, HsCodes⟩, ⟨%f8, HsScales⟩⟩, HO⟩
  ihave HhX' := (Entails.of_eq ((split_hX c gx).trans (xs_lit c hX gx))) $$ HhX
  icases HhX' with ⟨HgX0, HgX1, HgX2, HgX3, HgX4, HgX5⟩
  ihave HsX' := (Entails.of_eq ((split_sX c f0).trans (xs_lit c sX f0))) $$ HsX
  icases HsX' with ⟨HsX0, HsX1, HsX2, HsX3, HsX4, HsX5⟩
  ihave HhKc' := (Entails.of_eq ((split_hKc c gc).trans (cs_lit c hKc gc))) $$ HhKc
  icases HhKc' with ⟨HgC0, HgC1, HgC2, HgC3, HgC4, HgC5, HgC6, HgC7, HgC8, HgC9, HgC10, HgC11, HgC12, HgC13, HgC14⟩
  ihave HsKc' := (Entails.of_eq ((split_sKc c f1).trans (cs_lit c sKc f1))) $$ HsKc
  icases HsKc' with ⟨HsC0, HsC1, HsC2, HsC3, HsC4, HsC5, HsC6, HsC7, HsC8, HsC9, HsC10, HsC11, HsC12, HsC13, HsC14⟩
  unfold cc0_indexer_key_write_skel
  sl_exec
  sl_for (inv1 c fullShare (landX c f0 gx) gx (sWb.view.writes (Elt F) sWb.view.junk (body0.sl.HsWb_56 c gw ws fq)) lnw lnb pos fr k0_pay49) $$ [Hc6 Hc7 Hc8 Hc9 Hc10 Hc11 HO HsWb HaLnw HaLnb HaPos HaFreq HsY HsWt HsCodes HsScales]
  · intro k acc; exact step1 c fullShare (landX c f0 gx) gx _ lnw lnb pos fr k0_pay49 k acc
  · unfold inv1
    isplitl [Hc6 Hc7 Hc8 Hc9 Hc10 Hc11]
    · iapply (x_chain (ΦX c fullShare (landX c f0 gx) gx) _)
      isplitl [Hc6]; · iapply (packX c f0 gx ⟨0, by decide⟩ ![0, 0, 0] inb_S6x256x7168_S1x256x7168_0_0_0 (k0_off2_eq _) (SemLoc.dma 6) rfl); iexact Hc6
      isplitl [Hc7]; · iapply (packX c f0 gx ⟨1, by decide⟩ ![1, 0, 0] inb_S6x256x7168_S1x256x7168_1_0_0 (k0_off2_eq _) (SemLoc.dma 7) rfl); iexact Hc7
      isplitl [Hc8]; · iapply (packX c f0 gx ⟨2, by decide⟩ ![2, 0, 0] inb_S6x256x7168_S1x256x7168_2_0_0 (k0_off2_eq _) (SemLoc.dma 8) rfl); iexact Hc8
      isplitl [Hc9]; · iapply (packX c f0 gx ⟨3, by decide⟩ ![3, 0, 0] inb_S6x256x7168_S1x256x7168_3_0_0 (k0_off2_eq _) (SemLoc.dma 9) rfl); iexact Hc9
      isplitl [Hc10]; · iapply (packX c f0 gx ⟨4, by decide⟩ ![4, 0, 0] inb_S6x256x7168_S1x256x7168_4_0_0 (k0_off2_eq _) (SemLoc.dma 10) rfl); iexact Hc10
      iapply (packX c f0 gx ⟨5, by decide⟩ ![5, 0, 0] inb_S6x256x7168_S1x256x7168_5_0_0 (k0_off2_eq _) (SemLoc.dma 11) rfl); iexact Hc11
    isplitl [HO]; · iexists _; iexact HO
    isplitl [HsWb]; · iexact HsWb
    isplitl [HaLnw]; · iexact HaLnw
    isplitl [HaLnb]; · iexact HaLnb
    isplitl [HaPos]; · iexact HaPos
    isplitl [HaFreq]; · iexact HaFreq
    isplitl [HsY]; · iexists _; iexact HsY
    isplitl [HsWt]; · iexists _; iexact HsWt
    isplitl [HsCodes]
    · iexists _
      isplitl [HsCodes]; · iexact HsCodes
      ipureintro; intro b hb; exact absurd hb (Nat.not_lt_zero _)
    · iexists _
      isplitl [HsScales]; · iexact HsScales
      ipureintro; intro b hb; exact absurd hb (Nat.not_lt_zero _)
  unfold inv1
  iintro %acc ⟨HX, ⟨%W1, HO⟩, HsWb, HaLnw, HaLnb, HaPos, HaFreq, ⟨%fy1, HsY⟩, ⟨%fw1, HsWt⟩, ⟨%f7', HsCodes, %hcodes⟩, ⟨%f8', HsScales, %hscales⟩⟩
  sl_exec
  sl_for (inv2 c sl) $$ [HaSlot HsWt HsKs]
  · intro k acc; exact step2 c sl k0_pay49 hsl k acc
  · unfold inv2
    isplitl [HaSlot]; · iexact HaSlot
    isplitl [HsWt]; · iexists _; iexact HsWt
    iexists _; iexact HsKs
  unfold inv2
  iintro %acc2 ⟨HaSlot, ⟨%fw2, HsWt⟩, ⟨%fk2, HsKs⟩⟩
  ihave HhKcOut' := ((Entails.of_eq (split_hKcOut c o0)).trans (c_unchain _)) $$ HhKcOut
  icases HhKcOut' with ⟨HoC0, HoC1, HoC2, HoC3, HoC4, HoC5, HoC6, HoC7, HoC8, HoC9, HoC10, HoC11, HoC12, HoC13, HoC14⟩
  imod ((show (cell0 c 27 : sProp 𝕄) ⊢ |={Set.univ}=> batchW (F := F) c 0 0 from startW c)) $$ Hc27 with HB
  sl_for (inv3 c fullShare (landC c f1 gc) gc sl) $$ [Hc12 Hc13 Hc14 Hc15 Hc16 Hc17 Hc18 Hc19 Hc20 Hc21 Hc22 Hc23 Hc24 Hc25 Hc26 HoC0 HoC1 HoC2 HoC3 HoC4 HoC5 HoC6 HoC7 HoC8 HoC9 HoC10 HoC11 HoC12 HoC13 HoC14 HO HaSlot HsY HB]
  · intro k acc; exact step3 c fullShare (landC c f1 gc) gc sl k0_pay49 hsl k acc
  · unfold inv3
    isplitl [Hc12 Hc13 Hc14 Hc15 Hc16 Hc17 Hc18 Hc19 Hc20 Hc21 Hc22 Hc23 Hc24 Hc25 Hc26 HoC0 HoC1 HoC2 HoC3 HoC4 HoC5 HoC6 HoC7 HoC8 HoC9 HoC10 HoC11 HoC12 HoC13 HoC14]
    · iapply (c_chain (ΦC c fullShare (landC c f1 gc) gc) _)
      isplitl [Hc12 HoC0]; · iapply (packC c f1 gc ⟨0, by decide⟩ ![0, 0, 0] inb_S3870x64x128_S258x64x128_0_0_0 (k0_off14_eq _) (SemLoc.dma 12) rfl); isplitl [Hc12]; (iexact Hc12); iexists _; iexact HoC0
      isplitl [Hc13 HoC1]; · iapply (packC c f1 gc ⟨1, by decide⟩ ![258, 0, 0] inb_S3870x64x128_S258x64x128_258_0_0 (k0_off14_eq _) (SemLoc.dma 13) rfl); isplitl [Hc13]; (iexact Hc13); iexists _; iexact HoC1
      isplitl [Hc14 HoC2]; · iapply (packC c f1 gc ⟨2, by decide⟩ ![516, 0, 0] inb_S3870x64x128_S258x64x128_516_0_0 (k0_off14_eq _) (SemLoc.dma 14) rfl); isplitl [Hc14]; (iexact Hc14); iexists _; iexact HoC2
      isplitl [Hc15 HoC3]; · iapply (packC c f1 gc ⟨3, by decide⟩ ![774, 0, 0] inb_S3870x64x128_S258x64x128_774_0_0 (k0_off14_eq _) (SemLoc.dma 15) rfl); isplitl [Hc15]; (iexact Hc15); iexists _; iexact HoC3
      isplitl [Hc16 HoC4]; · iapply (packC c f1 gc ⟨4, by decide⟩ ![1032, 0, 0] inb_S3870x64x128_S258x64x128_1032_0_0 (k0_off14_eq _) (SemLoc.dma 16) rfl); isplitl [Hc16]; (iexact Hc16); iexists _; iexact HoC4
      isplitl [Hc17 HoC5]; · iapply (packC c f1 gc ⟨5, by decide⟩ ![1290, 0, 0] inb_S3870x64x128_S258x64x128_1290_0_0 (k0_off14_eq _) (SemLoc.dma 17) rfl); isplitl [Hc17]; (iexact Hc17); iexists _; iexact HoC5
      isplitl [Hc18 HoC6]; · iapply (packC c f1 gc ⟨6, by decide⟩ ![1548, 0, 0] inb_S3870x64x128_S258x64x128_1548_0_0 (k0_off14_eq _) (SemLoc.dma 18) rfl); isplitl [Hc18]; (iexact Hc18); iexists _; iexact HoC6
      isplitl [Hc19 HoC7]; · iapply (packC c f1 gc ⟨7, by decide⟩ ![1806, 0, 0] inb_S3870x64x128_S258x64x128_1806_0_0 (k0_off14_eq _) (SemLoc.dma 19) rfl); isplitl [Hc19]; (iexact Hc19); iexists _; iexact HoC7
      isplitl [Hc20 HoC8]; · iapply (packC c f1 gc ⟨8, by decide⟩ ![2064, 0, 0] inb_S3870x64x128_S258x64x128_2064_0_0 (k0_off14_eq _) (SemLoc.dma 20) rfl); isplitl [Hc20]; (iexact Hc20); iexists _; iexact HoC8
      isplitl [Hc21 HoC9]; · iapply (packC c f1 gc ⟨9, by decide⟩ ![2322, 0, 0] inb_S3870x64x128_S258x64x128_2322_0_0 (k0_off14_eq _) (SemLoc.dma 21) rfl); isplitl [Hc21]; (iexact Hc21); iexists _; iexact HoC9
      isplitl [Hc22 HoC10]; · iapply (packC c f1 gc ⟨10, by decide⟩ ![2580, 0, 0] inb_S3870x64x128_S258x64x128_2580_0_0 (k0_off14_eq _) (SemLoc.dma 22) rfl); isplitl [Hc22]; (iexact Hc22); iexists _; iexact HoC10
      isplitl [Hc23 HoC11]; · iapply (packC c f1 gc ⟨11, by decide⟩ ![2838, 0, 0] inb_S3870x64x128_S258x64x128_2838_0_0 (k0_off14_eq _) (SemLoc.dma 23) rfl); isplitl [Hc23]; (iexact Hc23); iexists _; iexact HoC11
      isplitl [Hc24 HoC12]; · iapply (packC c f1 gc ⟨12, by decide⟩ ![3096, 0, 0] inb_S3870x64x128_S258x64x128_3096_0_0 (k0_off14_eq _) (SemLoc.dma 24) rfl); isplitl [Hc24]; (iexact Hc24); iexists _; iexact HoC12
      isplitl [Hc25 HoC13]; · iapply (packC c f1 gc ⟨13, by decide⟩ ![3354, 0, 0] inb_S3870x64x128_S258x64x128_3354_0_0 (k0_off14_eq _) (SemLoc.dma 25) rfl); isplitl [Hc25]; (iexact Hc25); iexists _; iexact HoC13
      iapply (packC c f1 gc ⟨14, by decide⟩ ![3612, 0, 0] inb_S3870x64x128_S258x64x128_3612_0_0 (k0_off14_eq _) (SemLoc.dma 26) rfl); isplitl [Hc26]; (iexact Hc26); iexists _; iexact HoC14
    isplitl [HO]; · iexists _; iexact HO
    isplitl [HaSlot]; · iexact HaSlot
    isplitl [HsY]; · iexists _; iexact HsY
    iexact HB
  unfold inv3
  iintro %acc3 ⟨HC, ⟨%W3, HO⟩, HaSlot, ⟨%fy3, HsY⟩, HB⟩
  sl_exec
  sl_for (inv5 (F := F) c) $$ [HO HB]
  · intro k acc; exact step5 c k0_pay49 k acc
  · unfold inv5
    isplitr; · ipureintro; omega
    isplitl [HO]; · iexists _; iexact HO
    iapply (enter5 c); iexact HB
  unfold inv5
  iintro %acc5 ⟨-, ⟨%W5, HO⟩, HWr⟩
  sl_exec
  sl_step
  ihave HX' := (after1 c f0 gx _ (fun k => decide_eq_false (Nat.not_le.mpr k.isLt))) $$ HX
  icases HX' with ⟨HcX, HsX, HhX⟩
  ihave HcX' := (cells_X c) $$ HcX
  ihave HC' := (after3 c f1 gc _ (fun k => decide_eq_false (Nat.not_le.mpr k.isLt))) $$ HC
  icases HC' with ⟨HcC, HhKc⟩
  ihave HcC' := (cells_C c) $$ HcC
  ihave HW' := (leave5 c) $$ HWr
  icases HW' with ⟨Hc27, HhKcOut, HsKc⟩
  icases HcX' with ⟨Hc6, Hc7, Hc8, Hc9, Hc10, Hc11⟩
  icases HcC' with ⟨Hc12, Hc13, Hc14, Hc15, Hc16, Hc17, Hc18, Hc19, Hc20, Hc21, Hc22, Hc23, Hc24, Hc25, Hc26⟩
  unfold post0 cells0
  isplitr [HO]
  · isplitl [Hc6 Hc7 Hc8 Hc9 Hc10 Hc11 Hc12 Hc13 Hc14 Hc15 Hc16 Hc17 Hc18 Hc19 Hc20 Hc21 Hc22 Hc23 Hc24 Hc25 Hc26 Hc27 Hc28 Hc29 Hc30 Hc31 Hc32]
    · isplitl [Hc6]; · iexact Hc6
      isplitl [Hc7]; · iexact Hc7
      isplitl [Hc8]; · iexact Hc8
      isplitl [Hc9]; · iexact Hc9
      isplitl [Hc10]; · iexact Hc10
      isplitl [Hc11]; · iexact Hc11
      isplitl [Hc12]; · iexact Hc12
      isplitl [Hc13]; · iexact Hc13
      isplitl [Hc14]; · iexact Hc14
      isplitl [Hc15]; · iexact Hc15
      isplitl [Hc16]; · iexact Hc16
      isplitl [Hc17]; · iexact Hc17
      isplitl [Hc18]; · iexact Hc18
      isplitl [Hc19]; · iexact Hc19
      isplitl [Hc20]; · iexact Hc20
      isplitl [Hc21]; · iexact Hc21
      isplitl [Hc22]; · iexact Hc22
      isplitl [Hc23]; · iexact Hc23
      isplitl [Hc24]; · iexact Hc24
      isplitl [Hc25]; · iexact Hc25
      isplitl [Hc26]; · iexact Hc26
      isplitl [Hc27]; · iexact Hc27
      isplitl [Hc28]; · iexact Hc28
      isplitl [Hc29]; · iexact Hc29
      isplitl [Hc30]; · iexact Hc30
      isplitl [Hc31]; · iexact Hc31
      iexact Hc32
    isplitl [HhX]; · iexact HhX
    isplitl [HhW]; · iexact HhW
    isplitl [HhKc]; · iexact HhKc
    isplitl [HhKs]; · iexact HhKs
    isplitl [HhKcOut]; · iexact HhKcOut
    isplitl [HhKsOut]; · iexists _; iexact HhKsOut
    have hL : body0.sl.HsWb_56 c gw ws fq = wbOrder.map (wbPiece c gw ws fq) := by
      unfold body0.sl.HsWb_56 wbOrder
      simp only [List.map_cons, List.map_nil]
      repeat' (first | apply congrArg₂ List.cons | rfl)
    rw [hL] at hcodes hscales
    isplitl [HhCodes]
    · iexists _
      isplitl [HhCodes]; · iexact HhCodes
      ipureintro
      exact ⟨f0, fq, fun b => (moved_codes c f7' o2 b).trans ((hcodes b b.isLt).trans rfl)⟩
    isplitl [HhScales]
    · iexists _
      isplitl [HhScales]; · iexact HhScales
      ipureintro
      exact ⟨f0, fq, fun b => (moved_words c f8' o3 b).trans ((hscales b b.isLt).trans rfl)⟩
    isplitl [HaSlot]; · iexact HaSlot
    isplitl [HaWs]; · iexact HaWs
    isplitl [HaLnw]; · iexact HaLnw
    isplitl [HaLnb]; · iexact HaLnb
    isplitl [HaPos]; · iexact HaPos
    isplitl [HaFreq]; · iexact HaFreq
    isplitl [HsX]; · iexact HsX
    isplitl [HsKc]; · iexact HsKc
    isplitl [HsKs]; · iexists _; iexact HsKs
    isplitl [HsWq]; · iexists _; iexact HsWq
    isplitl [HsWb]; · iexists _; iexact HsWb
    isplitl [HsY]; · iexists _; iexact HsY
    isplitl [HsWt]; · iexists _; iexact HsWt
    isplitl [HsCodes]; · iexists _; iexact HsCodes
    iexists _; iexact HsScales
  · iexists _; iexact HO

end Body

end Cert.Kernel.Hand

end
-- ==== Proof.K.Run.lean ====
/-
  The launch: the body's operands and cells as the pipeline hands them over, and the run of the program.
-/
module

public import proofs.«01_k».proof.Proof.K.Body
public import proofs.«01_k».proof.Proof.Gen.Kernel.Frame
public import Idealize.ShloMosaic.Lib.Pipeline.FrameValue

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

variable (m : (ℓ : Loc nD τ sig) → Buf (Elt F) ℓ) (ρ : Dev nD → PrngReg)

/-- The arrays the body's copies read, and those they write. -/
def H0 : Finset (Ref sig .tc) := {main_arg0, main_arg1, main_arg7, main_v2}
def R0 : Finset (Ref sig .tc) := {main_v5_0, main_v5_1, main_v5_2, main_v5_3}
theorem hrest (b : Ref sig .tc) (h : b ∈ Pipeline.restRefs sig spec0) : b ∈ Pipeline.restRefsP sig Pipeline.Prefetch.none spec0 :=
  Finset.mem_sdiff.mpr ⟨h, fun h => ((Finset.mem_image.mp h).elim fun k _ => k.elim0)⟩
theorem H0_sub : H0 ⊆ Pipeline.restRefs sig spec0 := by decide
theorem R0_sub : R0 ⊆ Pipeline.restRefs sig spec0 \ H0 := by decide

theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

theorem ownSems00_eq (c : Dev nD) :
    (Pipeline.ownSems0 (Ix := Unit) (Name := ℕ) (U := Pipeline.UD sig nD τ) (Lvl := ℕ) (Val := Elt F) (τ := τ) osem0 c : sProp 𝕄)
      = cells0 (F := F) c := by
  rw [Pipeline.ownSems0_eq_of_list c osem0 [0, 1, 2, 3, 4, 5, 6, 7, 8, 9, 10, 11, 12, 13, 14, 15, 16, 17, 18, 19, 20, 21, 22, 23, 24, 25, 26] (by decide) (by decide)]; rfl

theorem hbmPts0_eq (c : Dev nD) :
    (bigSep H0 (fun b => ((c : Thread nD τ).loc b) ↦{fullShare} V m c b) : sProp 𝕄)
      = iprop(held c hX (V m c main_arg0) ∗ held c hW (V m c main_arg1) ∗ held c hKc (V m c main_arg7) ∗ held c hKs (V m c main_v2)) := by
  rw [BI.bigSep_eq_bigSepL_of_eq [main_arg0, main_arg1, main_arg7, main_v2] (by decide) (by decide)]; rfl

theorem routed0_eq (c : Dev nD) (W : (b : Ref sig .tc) → Buf (Elt F) ((c : Thread nD τ).loc b)) :
    (Pipeline.routed R0 c W : sProp 𝕄)
      = iprop(held c hKcOut (W main_v5_0) ∗ held c hKsOut (W main_v5_1) ∗ held c hCodes (W main_v5_2) ∗ held c hScales (W main_v5_3)) := by
  unfold Pipeline.routed; rw [BI.bigSep_eq_bigSepL_of_eq [main_v5_0, main_v5_1, main_v5_2, main_v5_3] (by decide) (by decide)]; rfl

theorem scoped0_eq (c : Dev nD) :
    (Pipeline.scopedRest (Ix := Unit) (Name := ℕ) (U := Pipeline.UD sig nD τ) (Lvl := ℕ) (Val := Elt F) spec0 c : sProp 𝕄)
      = iprop((∃ f, held c sX f) ∗ (∃ f, held c sKc f) ∗ (∃ f, held c sKs f) ∗ (∃ f, held c sWq f) ∗ (∃ f, held c sWb f)
          ∗ (∃ f, held c sY f) ∗ (∃ f, held c sWt f) ∗ (∃ f, held c sCodes f) ∗ (∃ f, held c sScales f)) := by
  rw [scopedRest0_eq]

/-! ## What the run leaves -/

/-- The operands the body reads through its windows. -/
abbrev slW (c : Dev nD) : BufOf (F := F) c aSlot := iblk m c 0 t0_0
abbrev wsW (c : Dev nD) : BufOf (F := F) c aWs := iblk m c 1 t0_0
abbrev lnwW (c : Dev nD) : BufOf (F := F) c aLnw := iblk m c 2 t0_0
abbrev lnbW (c : Dev nD) : BufOf (F := F) c aLnb := iblk m c 3 t0_0
abbrev posW (c : Dev nD) : BufOf (F := F) c aPos := iblk m c 4 t0_0
abbrev freqW (c : Dev nD) : BufOf (F := F) c aFreq := iblk m c 5 t0_0

/-- A whole buffer owned is the buffer held. -/
theorem held_of_owns (c : Dev nD) (b : Ref sig .tc) (f : Buf (Elt F) ((c : Thread nD τ).loc b)) :
    (owns (c : Thread nD τ) (Memref.whole b) fullShare f : sProp 𝕄) ⊢ ((c : Thread nD τ).loc b) ↦{fullShare} f := by
  unfold owns
  rw [show (Memref.whole b).view.set = Finset.univ from View.set_whole b]
  iintro ⟨%f1, %h, H⟩
  obtain rfl : f1 = f := h
  iexact H
theorem owns_of_held (c : Dev nD) (b : Ref sig .tc) (f : Buf (Elt F) ((c : Thread nD τ).loc b)) :
    (((c : Thread nD τ).loc b) ↦{fullShare} f : sProp 𝕄) ⊢ owns (c : Thread nD τ) (Memref.whole b) fullShare f := by
  unfold owns
  rw [show (Memref.whole b).view.set = Finset.univ from View.set_whole b]
  iintro H
  iexists f; isplitr; · ipureintro; rfl
  iexact H

theorem take0 (c : Dev nD) : (owns (c : Thread nD τ) (st0_0 (t0_0 : Fin cfg0.N)) fullShare (iblk m c 0 t0_0) : sProp 𝕄) ⊢ held c aSlot (slW m c) :=
  held_of_owns c _ _
theorem give0 (c : Dev nD) : (held c aSlot (slW m c) : sProp 𝕄) ⊢ owns (c : Thread nD τ) (st0_0 (t0_0 : Fin cfg0.N)) fullShare (iblk m c 0 t0_0) :=
  owns_of_held c _ _
theorem take1 (c : Dev nD) : (owns (c : Thread nD τ) (st0_1 (t0_0 : Fin cfg0.N)) fullShare (iblk m c 1 t0_0) : sProp 𝕄) ⊢ held c aWs (wsW m c) :=
  held_of_owns c _ _
theorem give1 (c : Dev nD) : (held c aWs (wsW m c) : sProp 𝕄) ⊢ owns (c : Thread nD τ) (st0_1 (t0_0 : Fin cfg0.N)) fullShare (iblk m c 1 t0_0) :=
  owns_of_held c _ _
theorem take2 (c : Dev nD) : (owns (c : Thread nD τ) (st0_2 (t0_0 : Fin cfg0.N)) fullShare (iblk m c 2 t0_0) : sProp 𝕄) ⊢ held c aLnw (lnwW m c) :=
  held_of_owns c _ _
theorem give2 (c : Dev nD) : (held c aLnw (lnwW m c) : sProp 𝕄) ⊢ owns (c : Thread nD τ) (st0_2 (t0_0 : Fin cfg0.N)) fullShare (iblk m c 2 t0_0) :=
  owns_of_held c _ _
theorem take3 (c : Dev nD) : (owns (c : Thread nD τ) (st0_3 (t0_0 : Fin cfg0.N)) fullShare (iblk m c 3 t0_0) : sProp 𝕄) ⊢ held c aLnb (lnbW m c) :=
  held_of_owns c _ _
theorem give3 (c : Dev nD) : (held c aLnb (lnbW m c) : sProp 𝕄) ⊢ owns (c : Thread nD τ) (st0_3 (t0_0 : Fin cfg0.N)) fullShare (iblk m c 3 t0_0) :=
  owns_of_held c _ _
theorem take4 (c : Dev nD) : (owns (c : Thread nD τ) (st0_4 (t0_0 : Fin cfg0.N)) fullShare (iblk m c 4 t0_0) : sProp 𝕄) ⊢ held c aPos (posW m c) :=
  held_of_owns c _ _
theorem give4 (c : Dev nD) : (held c aPos (posW m c) : sProp 𝕄) ⊢ owns (c : Thread nD τ) (st0_4 (t0_0 : Fin cfg0.N)) fullShare (iblk m c 4 t0_0) :=
  owns_of_held c _ _
theorem take5 (c : Dev nD) : (owns (c : Thread nD τ) (st0_5 (t0_0 : Fin cfg0.N)) fullShare (iblk m c 5 t0_0) : sProp 𝕄) ⊢ held c aFreq (freqW m c) :=
  held_of_owns c _ _
theorem give5 (c : Dev nD) : (held c aFreq (freqW m c) : sProp 𝕄) ⊢ owns (c : Thread nD τ) (st0_5 (t0_0 : Fin cfg0.N)) fullShare (iblk m c 5 t0_0) :=
  owns_of_held c _ _
/-- The codes and the scales are those of the body's own computation. -/
def PG (c : Dev nD) (W : (b : Ref sig .tc) → Buf (Elt F) ((c : Thread nD τ).loc b)) : Prop :=
  codesLeft c (V m c main_arg0) (V m c main_arg1) (wsW m c) (lnwW m c) (lnbW m c) (posW m c) (freqW m c) (W main_v5_2)
  ∧ wordsLeft c (V m c main_arg0) (V m c main_arg1) (wsW m c) (lnwW m c) (lnbW m c) (posW m c) (freqW m c) (W main_v5_3)

/-- Contents of every buffer that are `f0` to `f3` on the four arrays written. -/
def pick (c : Dev nD) (f0 : BufOf (F := F) c hKcOut) (f1 : BufOf (F := F) c hKsOut) (f2 : BufOf (F := F) c hCodes) (f3 : BufOf (F := F) c hScales) :
    (b : Ref sig .tc) → Buf (Elt F) ((c : Thread nD τ).loc b) :=
  Function.update (Function.update (Function.update (Function.update (V m c) main_v5_0 f0) main_v5_1 f1) main_v5_2 f2) main_v5_3 f3

theorem pick3 (c : Dev nD) (f0 f1 f2 f3) : pick m c f0 f1 f2 f3 main_v5_3 = f3 := Function.update_self _ _ _
theorem pick2 (c : Dev nD) (f0 f1 f2 f3) : pick m c f0 f1 f2 f3 main_v5_2 = f2 := by
  unfold pick; rw [Function.update_of_ne (by decide), Function.update_self]
theorem pick1 (c : Dev nD) (f0 f1 f2 f3) : pick m c f0 f1 f2 f3 main_v5_1 = f1 := by
  unfold pick; rw [Function.update_of_ne (by decide), Function.update_of_ne (by decide), Function.update_self]
theorem pick0 (c : Dev nD) (f0 f1 f2 f3) : pick m c f0 f1 f2 f3 main_v5_0 = f0 := by
  unfold pick; rw [Function.update_of_ne (by decide), Function.update_of_ne (by decide), Function.update_of_ne (by decide), Function.update_self]

theorem left_intro (c : Dev nD) :
    iprop((∃ f, held c hKcOut f) ∗ (∃ f, held c hKsOut f)
      ∗ (∃ f, held c hCodes f ∗ ⌜codesLeft c (V m c main_arg0) (V m c main_arg1) (wsW m c) (lnwW m c) (lnbW m c) (posW m c) (freqW m c) f⌝)
      ∗ (∃ f, held c hScales f ∗ ⌜wordsLeft c (V m c main_arg0) (V m c main_arg1) (wsW m c) (lnwW m c) (lnbW m c) (posW m c) (freqW m c) f⌝))
      ⊢ (Pipeline.routedSat R0 c (PG m c) : sProp 𝕄) := by
  unfold Pipeline.routedSat
  iintro ⟨⟨%f0, H0⟩, ⟨%f1, H1⟩, ⟨%f2, H2, %h2⟩, ⟨%f3, H3, %h3⟩⟩
  iexists pick m c f0 f1 f2 f3
  isplitr
  · ipureintro; unfold PG; rw [pick2, pick3]; exact ⟨h2, h3⟩
  rw [routed0_eq, pick0, pick1, pick2, pick3]
  isplitl [H0]; · iexact H0
  isplitl [H1]; · iexact H1
  isplitl [H2]; · iexact H2
  iexact H3

/-! ## The proof data and the body's obligation -/

def ΦAt (c : Dev nD) (t : ℕ) : sProp 𝕄 :=
  if t = 0 then Pipeline.ΦDRG osem0 spec0 H0 R0 (V m) (V m) c
  else iprop(Pipeline.ΦD osem0 spec0 H0 (V m) c ∗ Pipeline.routedSat R0 c (PG m c))

/-- The proof data of the one pipeline: every window an argument, left as found. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
  Φ t := ΦAt m c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)

def bodyPre (c : Dev nD) : sProp 𝕄 :=
  iprop((dats m 0 c).Φ (t0_0 : Fin cfg0.N).castSucc ∗ (dats m 0 c).owesAt () (t0_0 : Fin cfg0.N).castSucc
    ∗ (∃ d, owns (c : Thread nD τ) (st0_0 (t0_0 : Fin cfg0.N)) fullShare ((dats m 0 c).before 0 (t0_0 : Fin cfg0.N) d)) ∗ (∃ d, owns (c : Thread nD τ) (st0_1 (t0_0 : Fin cfg0.N)) fullShare ((dats m 0 c).before 1 (t0_0 : Fin cfg0.N) d)) ∗ (∃ d, owns (c : Thread nD τ) (st0_2 (t0_0 : Fin cfg0.N)) fullShare ((dats m 0 c).before 2 (t0_0 : Fin cfg0.N) d)) ∗ (∃ d, owns (c : Thread nD τ) (st0_3 (t0_0 : Fin cfg0.N)) fullShare ((dats m 0 c).before 3 (t0_0 : Fin cfg0.N) d)) ∗ (∃ d, owns (c : Thread nD τ) (st0_4 (t0_0 : Fin cfg0.N)) fullShare ((dats m 0 c).before 4 (t0_0 : Fin cfg0.N) d)) ∗ (∃ d, owns (c : Thread nD τ) (st0_5 (t0_0 : Fin cfg0.N)) fullShare ((dats m 0 c).before 5 (t0_0 : Fin cfg0.N) d)))
def bodyPost (c : Dev nD) : sProp 𝕄 :=
  iprop((dats m 0 c).Φ (t0_0 : Fin cfg0.N).succ ∗ (dats m 0 c).owesAt () (t0_0 : Fin cfg0.N).succ
    ∗ owns (c : Thread nD τ) (st0_0 (t0_0 : Fin cfg0.N)) fullShare ((dats m 0 c).after 0 (t0_0 : Fin cfg0.N)) ∗ owns (c : Thread nD τ) (st0_1 (t0_0 : Fin cfg0.N)) fullShare ((dats m 0 c).after 1 (t0_0 : Fin cfg0.N)) ∗ owns (c : Thread nD τ) (st0_2 (t0_0 : Fin cfg0.N)) fullShare ((dats m 0 c).after 2 (t0_0 : Fin cfg0.N)) ∗ owns (c : Thread nD τ) (st0_3 (t0_0 : Fin cfg0.N)) fullShare ((dats m 0 c).after 3 (t0_0 : Fin cfg0.N)) ∗ owns (c : Thread nD τ) (st0_4 (t0_0 : Fin cfg0.N)) fullShare ((dats m 0 c).after 4 (t0_0 : Fin cfg0.N)) ∗ owns (c : Thread nD τ) (st0_5 (t0_0 : Fin cfg0.N)) fullShare ((dats m 0 c).after 5 (t0_0 : Fin cfg0.N)))

set_option maxHeartbeats 1000000 in
theorem sound_body (c : Dev nD) (hsl : InReach c (slW m c)) :
    bodyPre m c ⊢ wp frame (wpE (defs₀ (F := F)) Variants.none c none) Set.univ (bodyAt0 (t0_0 : Fin cfg0.N)) (fun _ => bodyPost m c) := by
  unfold bodyPre bodyPost
  rw [show (dats m 0 c).Φ (t0_0 : Fin cfg0.N).succ = iprop(Pipeline.ΦD osem0 spec0 H0 (V m) c ∗ Pipeline.routedSat R0 c (PG m c)) from rfl,
    show (dats m 0 c).Φ (t0_0 : Fin cfg0.N).castSucc = Pipeline.ΦDRG osem0 spec0 H0 R0 (V m) (V m) c from rfl,
    Pipeline.ΦDRG_eq, Pipeline.ΦD_eq, ownSems00_eq, hbmPts0_eq, routed0_eq, scoped0_eq]
  unfold Dat.owesAt Pipeline.owesWithin
  rw [show (dats m 0 c).owed (t0_0 : Fin cfg0.N).castSucc = 0 from rfl, show (dats m 0 c).owed (t0_0 : Fin cfg0.N).succ = 0 from rfl]
  simp only [before0_0, before0_1, before0_2, before0_3, before0_4, before0_5, after0_0, after0_1, after0_2, after0_3, after0_4, after0_5]
  iintro ⟨⟨⟨S0, S1, S2, S3, S4, S5, S6, S7, S8⟩, Hg, Hc, ⟨HX, HW, HKc, HKs⟩, ⟨O0, O1, O2, O3⟩⟩, ⟨%W, -, HO⟩, ⟨%d0, A0⟩, ⟨%d1, A1⟩, ⟨%d2, A2⟩, ⟨%d3, A3⟩, ⟨%d4, A4⟩, ⟨%d5, A5⟩⟩
  iapply (wp_wand_r frame (wpE (defs₀ (F := F)) Variants.none c none) Set.univ (Q := fun _ => iprop(post0 c (V m c main_arg0) (V m c main_arg1) (V m c main_arg7) (V m c main_v2) (slW m c) (wsW m c) (lnwW m c) (lnbW m c) (posW m c) (freqW m c) ∗ (∃ W', owes (c : Thread nD τ) 0 W'))))
  isplitr [Hg]
  · iapply (body0 c (V m c main_arg0) (V m c main_arg1) (V m c main_arg7) (V m c main_v2) (slW m c) (wsW m c) (lnwW m c) (lnbW m c) (posW m c) (freqW m c) hsl W)
    isplitr [HO]
    · unfold pre0
      isplitl [Hc]; · iexact Hc
      isplitl [HX]; · iexact HX
      isplitl [HW]; · iexact HW
      isplitl [HKc]; · iexact HKc
      isplitl [HKs]; · iexact HKs
      isplitl [O0]; · iexists _; iexact O0
      isplitl [O1]; · iexists _; iexact O1
      isplitl [O2]; · iexists _; iexact O2
      isplitl [O3]; · iexists _; iexact O3
      isplitl [A0]; · iapply (take0 m c); iexact A0
      isplitl [A1]; · iapply (take1 m c); iexact A1
      isplitl [A2]; · iapply (take2 m c); iexact A2
      isplitl [A3]; · iapply (take3 m c); iexact A3
      isplitl [A4]; · iapply (take4 m c); iexact A4
      isplitl [A5]; · iapply (take5 m c); iexact A5
      isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      iexact S8
    · iexact HO
  iintro %_ ⟨H, ⟨%W', HO⟩⟩
  unfold post0
  icases H with ⟨Hc, HX, HW, HKc, HKs, O0, O1, O2, O3, A0, A1, A2, A3, A4, A5, S0, S1, S2, S3, S4, S5, S6, S7, S8⟩
  isplitl [S0 S1 S2 S3 S4 S5 S6 S7 S8 Hg Hc HX HW HKc HKs O0 O1 O2 O3]
  · isplitr [O0 O1 O2 O3]
    · isplitl [S0 S1 S2 S3 S4 S5 S6 S7 S8]
      · isplitl [S0]; · iexact S0
        isplitl [S1]; · iexact S1
        isplitl [S2]; · iexact S2
        isplitl [S3]; · iexact S3
        isplitl [S4]; · iexact S4
        isplitl [S5]; · iexact S5
        isplitl [S6]; · iexact S6
        isplitl [S7]; · iexact S7
        iexact S8
      isplitl [Hg]; · iexact Hg
      isplitl [Hc]; · iexact Hc
      isplitl [HX]; · iexact HX
      isplitl [HW]; · iexact HW
      isplitl [HKc]; · iexact HKc
      iexact HKs
    · iapply (left_intro m c)
      isplitl [O0]; · iexact O0
      isplitl [O1]; · iexact O1
      isplitl [O2]; · iexact O2
      iexact O3
  isplitl [HO]
  · iexists W'; isplitr; · ipureintro; exact fun _ _ => Or.inl trivial
    iexact HO
  isplitl [A0]; · iapply (give0 m c); iexact A0
  isplitl [A1]; · iapply (give1 m c); iexact A1
  isplitl [A2]; · iapply (give2 m c); iexact A2
  isplitl [A3]; · iapply (give3 m c); iexact A3
  isplitl [A4]; · iapply (give4 m c); iexact A4
  iapply (give5 m c); iexact A5

theorem defs₀_row (t : Fin cfg0.N) :
    defs₀ (F := F) .tc cfg0.body (cfg0.bodyArgs t (cfg0.slots t)) = bodyAt0 t := by
  unfold defs₀; rw [Defs.onTc_tc]

theorem body_obligation (c : Dev nD) (hsl : InReach c (slW m c)) : BodyObligation (dats (F := F) m 0 c) (defs₀ (F := F)) Variants.none () Set.univ := fun t => by
  obtain rfl : t = t0_0 := fin_N0 t
  rw [bigSep_W0, bigSep_W0, defs₀_row]
  exact triple_restated (sound_body m c hsl) rfl .rfl fun _ => .rfl

/-! ## The run -/

set_option backward.isDefEq.respectTransparency.types false in
theorem run_main (hsl : ∀ c, InReach c (slW m c)) :
    θ_run defs (onTc (τ := τ) (main (F := F))) (s₀ m ρ) (fun r => (Pipeline.RDat.FramePostR cfg0 (fun c => (dats m 0 c).toR) R0 (V m) r
      ∧ ∀ c : Dev nD, ∃ W : (b : Ref sig .tc) → Buf (Elt F) ((c : Thread nD τ).loc b),
          PG m c W ∧ ∀ b ∈ R0, r.2.mem ((c : Thread nD τ).loc b) = W b) ∧ r.2.sem = fun _ => 0) :=
  Pipeline.RDat.θ_run_frameP_dmaRSat_shared (Q' := _) (fun q => (cfgs q).toPCfg) (fun q => (cfgs q).toPCfg_adm) (0 : Fin 1) launch0.toP.to₀ osem0 defs₀ Variants.none
    (fun c => (dats m 0 c).toR) ownSemFacts0 H0 R0 (fun b h => hrest b (H0_sub h))
    (fun b h => Finset.mem_sdiff.mpr ⟨hrest b (Finset.mem_sdiff.mp (R0_sub h)).1, (Finset.mem_sdiff.mp (R0_sub h)).2⟩) m ρ main
    (hbody := fun c => (body_obligation m c (hsl c)).loose.toR) (hq := fun c w hw => (dats m 0 c).toR.q_eq_shareOf_of_share_full winFacts0.arr_inj ((dats m 0 c).share_full fun _ => rfl) w hw)
    (howed := fun _ _ => rfl) (V := V m) (hmain := hmain m Variants.none) (hA := A_eq m)
    (hpf := fun _ k => k.elim0) (PG := PG m)
    (hin := fun c => BIBase.Entails.trans (show _ ⊢ Pipeline.ΦDRG osem0 spec0 H0 R0 (V m) (V m) c by iintro ⟨H, -⟩; iexact H) (Entails.of_eq rfl)) (hout := fun _ => .rfl) (hQ' := fun _ h => h)

/-- What is left of one run, read at the arrays: every argument as it was, the cells at zero, and the two results. -/
def Left (r : PUnit × MemSt nD τ sig (Elt F)) : Prop :=
  (∀ c : Dev nD, r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) ∧ r.2.mem ((c : Thread nD τ).loc main_arg3) = m ((c : Thread nD τ).loc main_arg3) ∧ r.2.mem ((c : Thread nD τ).loc main_arg4) = m ((c : Thread nD τ).loc main_arg4) ∧ r.2.mem ((c : Thread nD τ).loc main_arg5) = m ((c : Thread nD τ).loc main_arg5) ∧ r.2.mem ((c : Thread nD τ).loc main_arg6) = m ((c : Thread nD τ).loc main_arg6) ∧ r.2.mem ((c : Thread nD τ).loc main_arg7) = m ((c : Thread nD τ).loc main_arg7) ∧ r.2.mem ((c : Thread nD τ).loc main_arg8) = m ((c : Thread nD τ).loc main_arg8))
  ∧ r.2.sem = (fun _ => 0) ∧ ∀ c : Dev nD, PG m c (fun b => r.2.mem ((c : Thread nD τ).loc b))

theorem kept_rest (b : Ref sig .tc) (hs : b.isScoped = false) (hu : ∀ w, (spec0 w).arr.view.ref ≠ b)
    (hR : b ∉ R0) (r : PUnit × MemSt nD τ sig (Elt F))
    (h : Pipeline.RDat.FramePostR cfg0 (fun c => (dats m 0 c).toR) R0 (V m) r) (c : Dev nD) :
    r.2.mem ((c : Thread nD τ).loc b) = V m c b :=
  (h c).2 b (Finset.mem_sdiff.mpr ⟨Pipeline.mem_restRefs_of b hs hu, hR⟩)

theorem left_of (hsl : ∀ c, InReach c (slW m c)) :
    θ_run defs (onTc (τ := τ) (main (F := F))) (s₀ m ρ) (Left m) := by
  refine (θ_run defs _ _).mono (fun r h => ?_) (run_main m ρ hsl)
  obtain ⟨⟨hf, hp⟩, hs⟩ := h
  refine ⟨fun c => ⟨(kept_rest m main_arg0 (by decide) (by decide) (by decide) r hf c).trans (V_main_arg0 m c), (kept_rest m main_arg1 (by decide) (by decide) (by decide) r hf c).trans (V_main_arg1 m c), (hf.arr_in c 1 rfl).trans ((A_eq m c 1).trans (V_main_arg2 m c)), (kept_rest m main_arg3 (by decide) (by decide) (by decide) r hf c).trans (V_main_arg3 m c), (kept_rest m main_arg4 (by decide) (by decide) (by decide) r hf c).trans (V_main_arg4 m c), (hf.arr_in c 4 rfl).trans ((A_eq m c 4).trans (V_main_arg5 m c)), (hf.arr_in c 0 rfl).trans ((A_eq m c 0).trans (V_main_arg6 m c)), (kept_rest m main_arg7 (by decide) (by decide) (by decide) r hf c).trans (V_main_arg7 m c), (kept_rest m main_arg8 (by decide) (by decide) (by decide) r hf c).trans (V_main_arg8 m c)⟩, hs, fun c => ?_⟩
  obtain ⟨W, hW, hb⟩ := hp c
  unfold PG at hW ⊢
  dsimp only
  rw [hb main_v5_2 (by decide), hb main_v5_3 (by decide)]
  exact hW

end Cert.Kernel.Hand

end
-- ==== Proof.K.Slots.lean ====
/-
  The precondition, read at one slot.
-/
module

public import proofs.«01_k».proof.Proof.K.Run
public import proofs.«01_k».proof.Pre_slots_in_reach
public import Idealize.ShloMosaic.Lib.ReduceAll
public import Idealize.ShloMosaic.Lib.WordCmp

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

variable (m : (ℓ : Loc nD τ sig) → Buf (Elt F) ℓ)

theorem slot_lt (w : BitVec 32) : IntOp.andi (IntOp.cmpi .sge w 0#32) (IntOp.cmpi .slt w 245760#32) = 1#1 ↔ w.toNat < 245760 := by
  word_cmp

/-- The precondition, element by element. -/
theorem slots_lt [Cert.Pre_slots_in_reach.Facts] (x a2 a3 a4 a5 a7 a8 a9) (sl : IVec Cert.Pre_slots_in_reach.S6x256 32)
    (h : Cert.Pre_slots_in_reach.fn (F := F) x a2 a3 a4 a5 a7 sl a8 a9 = fun _ => 1#1) (i : Cert.Pre_slots_in_reach.S6x256.Idx) : (sl i).toNat < 245760 := by
  dsimp only [Cert.Pre_slots_in_reach.fn] at h
  have hi := Host.reduce_andi_all (t := Cert.Pre_slots_in_reach.S_) _ _ _ _ _ (congrFun h (Shape.Idx.first Cert.Pre_slots_in_reach.Facts.h_S_)) i
  exact (slot_lt _).mp hi

theorem inReach (c : Dev nD) (h : ∀ i, (m ((c : Thread nD τ).loc main_arg6) i).toNat < 245760) : InReach c (slW m c) := by
  intro x
  have hV : V m c main_arg6 = m ((c : Thread nD τ).loc main_arg6) := V_main_arg6 m c
  have : ∀ i, ((V m c main_arg6) i).toNat < 245760 := by rw [hV]; exact h
  exact this _

end Cert.Kernel.Hand

end
-- ==== Proof.KI.Names.lean ====
/-
  The names the hand proof of `Kernel` uses: its operands, its scratch buffers, its semaphores and what the launch
  hands the body (arrays read by the body's own copies, arrays written by them, counters at zero).
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import proofs.«01_k».proof.Proof.Gen.KernelIdeal.Loops
public import Idealize.ShloMosaic.Lib.Pipeline.FrameBody
public import Idealize.ShloMosaic.Lib.Pipeline.FrameValue
public import Idealize.ShloMosaic.Lib.Batch
public import Idealize.ShloMosaic.Lib.Ring
public import Idealize.ShloMosaic.Lib.Tactic
public import Idealize.ShloMosaic.Lib.WordCmp
public import Idealize.ShloMosaic.Lib.WritesUnit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

/-! ## Operands -/

abbrev aSlot : Memref sig .tc .smem S6x256 .i32 := Memref.whole cc0_stg0_0
abbrev aWs : Memref sig .tc .smem S56 .f32 := Memref.whole cc0_stg1_0
abbrev aLnw : Memref sig .tc .vmem S128x1 .f32 := Memref.whole cc0_stg2_0
abbrev aLnb : Memref sig .tc .vmem S128x1 .f32 := Memref.whole cc0_stg3_0
abbrev aPos : Memref sig .tc .vmem S6x256 .i32 := Memref.whole cc0_stg4_0
abbrev aFreq : Memref sig .tc .vmem S32x1 .f32 := Memref.whole cc0_stg5_0
abbrev hX : Memref sig .tc .hbm S6x256x7168 .bf16 := Memref.whole main_arg0
abbrev hW : Memref sig .tc .hbm S128x7168 .fp8e4m3 := Memref.whole main_arg1
abbrev hKc : Memref sig .tc .hbm S3870x64x128 .fp8e4m3 := Memref.whole main_arg7
abbrev hKs : Memref sig .tc .hbm S64x1x3870 .i32 := Memref.whole main_v2
abbrev hKcOut : Memref sig .tc .hbm S3870x64x128 .fp8e4m3 := Memref.whole main_v5_0
abbrev hKsOut : Memref sig .tc .hbm S64x1x3870 .i32 := Memref.whole main_v5_1
abbrev hCodes : Memref sig .tc .hbm S6x256x128 .fp8e4m3 := Memref.whole main_v5_2
abbrev hScales : Memref sig .tc .hbm S6x1x256 .i32 := Memref.whole main_v5_3
abbrev sX : Memref sig .tc .vmem S6x256x7168 .bf16 := Memref.whole cc0_scratch0
abbrev sKc : Memref sig .tc .vmem S3870x64x128 .fp8e4m3 := Memref.whole cc0_scratch1
abbrev sKs : Memref sig .tc .vmem S64x1x3870 .i32 := Memref.whole cc0_scratch2
abbrev sWq : Memref sig .tc .vmem S128x7168 .fp8e4m3 := Memref.whole cc0_scratch3
abbrev sWb : Memref sig .tc .vmem S128x7168 .bf16 := Memref.whole cc0_scratch4
abbrev sY : Memref sig .tc .vmem S1664x128 .f32 := Memref.whole cc0_scratch5
abbrev sWt : Memref sig .tc .vmem S1664x128 .i32 := Memref.whole cc0_scratch6
abbrev sCodes : Memref sig .tc .vmem S6x256x128 .fp8e4m3 := Memref.whole cc0_scratch7
abbrev sScales : Memref sig .tc .vmem S6x1x256 .i32 := Memref.whole cc0_scratch8

/-- The contents of a buffer, and the buffer held whole at them. -/
abbrev BufOf (c : Dev nD) {sp : Space} {S : Shape} {e : EltTy} (M : Memref sig .tc sp S e) : Type := Buf (Elt F) (M.view.loc (c : Thread nD τ))
abbrev held (c : Dev nD) {sp : Space} {S : Shape} {e : EltTy} (M : Memref sig .tc sp S e) (f : BufOf (F := F) c M) : sProp 𝕄 :=
  M.view.loc (c : Thread nD τ) ↦{fullShare} f

/-- A cell's counter at zero. -/
abbrev cell0 (c : Dev nD) (k : Fin 33) : sProp 𝕄 := semVal ((c : Thread nD τ), SemLoc.dma k) 0

/-- The body's own DMA cells: pool numbers 6 to 32. -/
abbrev osem0 : Fin 27 → SemLoc sig := fun j => SemLoc.dma ⟨6 + j.val, by have := j.isLt; show 6 + j.val < 33; omega⟩
theorem ownSemFacts0 : Pipeline.OwnSemFacts spec0 osem0 := by decide

theorem stage0 (t : Fin cfg0.N) : st0_0 t = aSlot := by rw [fin_N0 t]
theorem stage1 (t : Fin cfg0.N) : st0_1 t = aWs := by rw [fin_N0 t]
theorem stage2 (t : Fin cfg0.N) : st0_2 t = aLnw := by rw [fin_N0 t]
theorem stage3 (t : Fin cfg0.N) : st0_3 t = aLnb := by rw [fin_N0 t]
theorem stage4 (t : Fin cfg0.N) : st0_4 t = aPos := by rw [fin_N0 t]
theorem stage5 (t : Fin cfg0.N) : st0_5 t = aFreq := by rw [fin_N0 t]

end Cert.KernelIdeal.Hand

end
-- ==== Proof.KI.Words.lean ====
/-
  The words the patch loops compute from a slot: floor divisions by literal counts, the offsets' bounds and the page's chunk.
-/
module

public import proofs.«01_k».proof.Proof.KI.Names

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

/-! ## Floor division as the kernel spells it -/

/-- `v // d` on signed words: the quotient, less one when the signs differ and the remainder is not zero. -/
def fdiv (v d : BitVec 32) : BitVec 32 :=
  Scalar.select
    (Scalar.andi
      (Scalar.cmpi .ne (Scalar.subi (Scalar.extui (Scalar.cmpi .sgt v 0#32)) (Scalar.extui (Scalar.cmpi .slt v 0#32)))
        (Scalar.subi (Scalar.extui (Scalar.cmpi .sgt d 0#32)) (Scalar.extui (Scalar.cmpi .slt d 0#32))))
      (Scalar.cmpi .ne (Scalar.remsi v d) 0#32))
    (Scalar.subi (Scalar.divsi v d) 1#32) (Scalar.divsi v d)

theorem fdiv_toNat (v d : BitVec 32) (hv : v.toNat < 2 ^ 31) (hd : d.toNat < 2 ^ 31) (hd0 : 0 < d.toNat) : (fdiv v d).toNat = v.toNat / d.toNat := by
  have hvm : v.msb = false := by rw [BitVec.msb_eq_false_iff_two_mul_lt]; omega
  have hdm : d.msb = false := by rw [BitVec.msb_eq_false_iff_two_mul_lt]; omega
  have hvi : v.toInt = v.toNat := BitVec.toInt_eq_toNat_of_lt (by omega)
  have hdi : d.toInt = d.toNat := BitVec.toInt_eq_toNat_of_lt (by omega)
  have hc : ¬ IntOp.SDivCorner v d := by
    unfold IntOp.SDivCorner
    rintro (h | ⟨-, h⟩)
    · subst h; simp at hd0
    · subst h; simp at hd
  have hq : Scalar.divsi v d = v / d := by
    unfold Scalar.divsi IntOp.divsi
    rw [if_neg hc, BitVec.sdiv_eq, hvm, hdm]
    rfl
  have hr : Scalar.remsi v d = v % d := by
    unfold Scalar.remsi IntOp.remsi
    rw [if_neg hc, BitVec.srem_eq, hvm, hdm]
  have hd1 : Scalar.cmpi .sgt d 0#32 = 1#1 := by
    show BitVec.ofBool ((0#32).slt d) = 1#1
    rw [show (0#32).slt d = true from by rw [BitVec.slt_iff_toInt_lt, hdi]; simpa using hd0]; rfl
  have hd2 : Scalar.cmpi .slt d 0#32 = 0#1 := by
    show BitVec.ofBool (d.slt 0#32) = 0#1
    rw [show d.slt 0#32 = false from by rw [BitVec.slt_eq_decide, hdi]; simp]; rfl
  have hv2 : Scalar.cmpi .slt v 0#32 = 0#1 := by
    show BitVec.ofBool (v.slt 0#32) = 0#1
    rw [show v.slt 0#32 = false from by rw [BitVec.slt_eq_decide, hvi]; simp]; rfl
  unfold fdiv
  rw [hd1, hd2, hv2, hq, hr]
  by_cases h0 : v = 0#32
  · subst h0
    have : (0#32 % d) = 0#32 := by simp
    rw [this]
    rw [show Scalar.cmpi .ne (0#32) 0#32 = 0#1 from rfl]
    rw [show Scalar.andi (Scalar.cmpi .ne (Scalar.subi (Scalar.extui (Scalar.cmpi .sgt 0#32 0#32)) (Scalar.extui 0#1)) (Scalar.subi (Scalar.extui 1#1) (Scalar.extui 0#1))) 0#1 = 0#1 from by decide]
    unfold Scalar.select
    rw [if_neg (by decide)]
    exact BitVec.toNat_udiv
  · have hvp : 0 < v.toNat := Nat.pos_of_ne_zero fun h => h0 (BitVec.eq_of_toNat_eq (by simpa using h))
    have hv1 : Scalar.cmpi .sgt v 0#32 = 1#1 := by
      show BitVec.ofBool ((0#32).slt v) = 1#1
      rw [show (0#32).slt v = true from by rw [BitVec.slt_iff_toInt_lt, hvi]; simpa using hvp]; rfl
    rw [hv1, show Scalar.cmpi .ne (Scalar.subi (Scalar.extui 1#1) (Scalar.extui 0#1)) (Scalar.subi (Scalar.extui 1#1) (Scalar.extui 0#1)) = 0#1 from by decide]
    have hz (x : BitVec 1) : Scalar.andi 0#1 x = 0#1 := by
      unfold Scalar.andi IntOp.andi; simp
    rw [hz]
    unfold Scalar.select
    rw [if_neg (by decide)]
    exact BitVec.toNat_udiv

/-! ## Only a slot's last six bits choose its rows -/

theorem and63_and63 (v : BitVec 32) : Scalar.andi v 63#32 = Scalar.andi (BitVec.ofNat 32 (v.toNat % 64)) 63#32 := by
  unfold Scalar.andi IntOp.andi
  apply BitVec.eq_of_toNat_eq
  simp only [BitVec.toNat_and, BitVec.toNat_ofNat]
  rw [show (63 % 2 ^ 32 : ℕ) = 2 ^ 6 - 1 from rfl, Nat.and_two_pow_sub_one_eq_mod, Nat.and_two_pow_sub_one_eq_mod]
  omega

theorem off10_mod (k : Fin k0_t2_loop.trips) (v : BitVec 32) : k0_off10 k v = k0_off10 k (BitVec.ofNat 32 (v.toNat % 64)) := by
  simp only [k0_off10]; rw [and63_and63 v]
theorem off11_mod (k : Fin k0_t2_loop.trips) (v : BitVec 32) : k0_off11 k v = k0_off11 k (BitVec.ofNat 32 (v.toNat % 64)) := by
  simp only [k0_off11]; rw [and63_and63 v]
theorem cond1_mod (k : Fin k0_t2_loop.trips) (v : BitVec 32) : k0_cond1 k v = k0_cond1 k (BitVec.ofNat 32 (v.toNat % 64)) := by
  simp only [k0_cond1]; rw [and63_and63 v]
theorem off16_mod (k : Fin k0_t4_loop.trips) (v : BitVec 32) : k0_off16 k v = k0_off16 k (BitVec.ofNat 32 (v.toNat % 64)) := by
  simp only [k0_off16]; rw [and63_and63 v]

theorem off18_eq (k : Fin k0_t4_loop.trips) (v : BitVec 32) : k0_off18 k v = k0_off16 k v := rfl
theorem off19_mod (k : Fin k0_t4_loop.trips) (v : BitVec 32) : k0_off19 k v = k0_off19 k (BitVec.ofNat 32 (v.toNat % 64)) := by
  simp only [k0_off19]; rw [and63_and63 v]

theorem off10_inb_small : ∀ (k : Fin k0_t2_loop.trips) (u : Fin 64) (a : Fin 2), (k0_off10 k (BitVec.ofNat 32 u.val)) a + S1x1.size a ≤ S6x256.size a := by
  decide +kernel
theorem off11_inb_small : ∀ (k : Fin k0_t2_loop.trips) (u : Fin 64) (a : Fin 2), (k0_off11 k (BitVec.ofNat 32 u.val)) a + S64x128.size a ≤ S1664x128.size a := by
  decide +kernel
theorem off16_inb_small : ∀ (k : Fin k0_t4_loop.trips) (u : Fin 64) (a : Fin 2), (k0_off16 k (BitVec.ofNat 32 u.val)) a + S1x1.size a ≤ S6x256.size a := by
  decide +kernel
theorem off19_inb_small : ∀ (k : Fin k0_t4_loop.trips) (u : Fin 64) (a : Fin 2), (k0_off19 k (BitVec.ofNat 32 u.val)) a + S64x128.size a ≤ S1664x128.size a := by
  decide +kernel

/-- A slot's last six bits, as a number below 64. -/
def low (v : BitVec 32) : Fin 64 := ⟨v.toNat % 64, Nat.mod_lt _ (by decide)⟩

theorem chk1_all (k : Fin k0_t2_loop.trips) (u v : BitVec 32) : k0_chk1 k u v := by
  refine ⟨fun _ a => ?_, fun _ a => ?_⟩
  · rw [off10_mod]; exact off10_inb_small k (low v) a
  · rw [off11_mod]; exact off11_inb_small k (low v) a

theorem chk3_all (k : Fin k0_t4_loop.trips) (v : BitVec 32) : k0_chk3 k v := by
  intro a; rw [off16_mod]; exact off16_inb_small k (low v) a

theorem chk4_all (i : Fin k0_t3_loop.trips) (k : Fin k0_t4_loop.trips) (u v w : BitVec 32) : k0_chk4 i k u v w := by
  refine ⟨fun _ a => ?_, fun _ a => ?_⟩
  · rw [off18_eq, off16_mod]; exact off16_inb_small k (low w) a
  · rw [off19_mod]; exact off19_inb_small k (low w) a

/-! ## The page of a slot in reach -/

theorem off12_eq (v : BitVec 32) : k0_off12 v = ![0, 0, (Scalar.muli (fdiv (fdiv v 64#32) 128#32) 128#32).toNat] := rfl
theorem mult3_eq (v : BitVec 32) : k0_mult3 v = Scalar.muli (fdiv (fdiv v 64#32) 128#32) 128#32 := rfl
theorem off20_eq (v : BitVec 32) : k0_off20 v = ![(fdiv v 64#32).toNat, 0, 0] := rfl

theorem fdiv64 (v : BitVec 32) (h : v.toNat < 245760) : (fdiv v 64#32).toNat = v.toNat / 64 :=
  fdiv_toNat v 64#32 (by omega) (by decide) (by decide)

theorem lane_toNat (v : BitVec 32) (h : v.toNat < 245760) :
    (Scalar.muli (fdiv (fdiv v 64#32) 128#32) 128#32).toNat = v.toNat / 64 / 128 * 128 := by
  have h1 := fdiv64 v h
  have h2 : (fdiv (fdiv v 64#32) 128#32).toNat = (fdiv v 64#32).toNat / 128 := fdiv_toNat _ 128#32 (by omega) (by decide) (by decide)
  show ((fdiv (fdiv v 64#32) 128#32) * 128#32).toNat = _
  rw [BitVec.toNat_mul, h2, h1]
  show v.toNat / 64 / 128 * 128 % 2 ^ 32 = _
  omega

theorem chk2_of (k : Fin k0_t2_loop.trips) (u v : BitVec 32) (h : v.toNat < 245760) : k0_chk2 k u v := by
  refine ⟨fun _ => ?_, fun _ => ?_⟩
  · rw [mult3_eq, lane_toNat v h]; exact Nat.dvd_mul_left _ _
  · rw [off12_eq, lane_toNat v h]
    intro a
    match a with
    | 0 => show 0 + 64 ≤ 64; omega
    | 1 => show 0 + 1 ≤ 1; omega
    | 2 => show v.toNat / 64 / 128 * 128 + 128 ≤ 3870; omega

theorem chk5_of (i : Fin k0_t3_loop.trips) (k : Fin k0_t4_loop.trips) (u w v : BitVec 32) (h : v.toNat < 245760) : k0_chk5 i k u w v := by
  refine ⟨fun _ => ?_, fun _ hinb => ?_⟩
  · rw [off20_eq, fdiv64 v h]
    intro a
    match a with
    | 0 => show v.toNat / 64 + 1 ≤ 3870; omega
    | 1 => show 0 + 64 ≤ 64; omega
    | 2 => show 0 + 128 ≤ 128; omega
  · refine Or.inr ⟨by decide, rfl, Or.inl ⟨?_, ?_⟩⟩
    · show EltTy.packing .fp8e4m3 ∣ (k0_off20 v) 1
      rw [off20_eq]; exact Dvd.intro 0 rfl
    · show EltTy.packing .fp8e4m3 ∣ 64
      decide

/-- What the chunk test asks: the rows are live, and the page's chunk is the trip's. -/
theorem cond2_eq (i : Fin k0_t3_loop.trips) (k : Fin k0_t4_loop.trips) (u v : BitVec 32) : ∃ l : BitVec 1,
    k0_cond2 i k u v = Scalar.cmpi .ne (Scalar.extui (Scalar.andi l (Scalar.cmpi .eq (fdiv (fdiv v 64#32) 258#32) (Scf.iv 0#32 1#32 i)))) 0#32 :=
  ⟨_, rfl⟩

theorem and_ne (l m : BitVec 1) (h : Scalar.cmpi .ne (Scalar.extui (Scalar.andi l m)) 0#32 = 1#1) : m = 1#1 := by
  revert l m; decide

theorem iv_toNat : ∀ i : Fin k0_t3_loop.trips, (Scf.iv 0#32 1#32 i : BitVec 32).toNat = i.val := by
  decide +kernel

/-- In the branch the page written lies in the trip's chunk. -/
theorem page_in_chunk (i : Fin k0_t3_loop.trips) (k : Fin k0_t4_loop.trips) (u v : BitVec 32) (h : v.toNat < 245760)
    (hc : k0_cond2 i k u v = 1#1) : v.toNat / 64 / 258 = i.val := by
  obtain ⟨l, e⟩ := cond2_eq i k u v
  rw [e] at hc
  have hm := and_ne _ _ hc
  have heq : fdiv (fdiv v 64#32) 258#32 = Scf.iv 0#32 1#32 i := by
    by_contra hne
    have : Scalar.cmpi .eq (fdiv (fdiv v 64#32) 258#32) (Scf.iv 0#32 1#32 i) = 0#1 := by
      show BitVec.ofBool (_ == _) = 0#1
      rw [beq_false_of_ne hne]; rfl
    rw [this] at hm; exact absurd hm (by decide)
  have h1 := fdiv64 v h
  have h2 : (fdiv (fdiv v 64#32) 258#32).toNat = (fdiv v 64#32).toNat / 258 := fdiv_toNat _ 258#32 (by omega) (by decide) (by decide)
  rw [← h1, ← h2, heq, iv_toNat]

end Cert.KernelIdeal.Hand

end
-- ==== Proof.KI.Patch.lean ====
/-
  Patching paged rows of slots run by run: the bookkeeping of which tokens have been written where.
-/
module

public import proofs.«01_k».proof.Proof.KI.Names

@[expose] public section

namespace Cert.KernelIdeal.Hand

/-- Each row of slots runs on inside a page and starts the next page at its head, and no slot is taken twice. -/
structure Paged (s : Fin 6 → Fin 256 → ℕ) : Prop where
  step : ∀ b (t : ℕ) (h : t + 1 < 256), s b ⟨t + 1, h⟩ = s b ⟨t, by omega⟩ + 1 ∨ (s b ⟨t, by omega⟩ % 64 = 63 ∧ s b ⟨t + 1, h⟩ % 64 = 0)
  inj : ∀ b t b' t', s b t = s b' t' → b = b' ∧ t = t'

theorem Paged.low {s : Fin 6 → Fin 256 → ℕ} (H : Paged s) (b : Fin 6) : ∀ (t : ℕ) (h : t < 256), s b ⟨t, h⟩ % 64 = (s b 0 + t) % 64
  | 0, h => rfl
  | t + 1, h => by
    have ih := H.low b t (by omega)
    rcases H.step b t h with h1 | ⟨h1, h2⟩
    · rw [h1]; omega
    · rw [h2]; omega

theorem Paged.page {s : Fin 6 → Fin 256 → ℕ} (H : Paged s) (b : Fin 6) (t : ℕ) : ∀ (d : ℕ) (h : t + d < 256), (s b 0 + t) % 64 + d < 64 →
    s b ⟨t + d, h⟩ = s b ⟨t, by omega⟩ + d
  | 0, h, _ => rfl
  | d + 1, h, hd => by
    have ih := H.page b t d (by omega) (by omega)
    have hl := H.low b (t + d) (by omega)
    rcases H.step b (t + d) h with h1 | ⟨h1, h2⟩
    · show s b ⟨t + d + 1, h⟩ = _
      rw [h1, ih]; omega
    · exfalso; omega

/-- Tokens of one run share the page of the run's first token. -/
theorem Paged.run {s : Fin 6 → Fin 256 → ℕ} (H : Paged s) (b : Fin 6) (j t : ℕ) (ht : t < 256) (hj : (s b 0 % 64 + t) / 64 = j)
    (h0 : 64 * j - s b 0 % 64 < 256) : s b ⟨t, ht⟩ / 64 = s b ⟨64 * j - s b 0 % 64, h0⟩ / 64 := by
  obtain ⟨d, hd⟩ : ∃ d, t = 64 * j - s b 0 % 64 + d := ⟨t - (64 * j - s b 0 % 64), by omega⟩
  subst hd
  have hl := H.low b (64 * j - s b 0 % 64) h0
  have hp := H.page b (64 * j - s b 0 % 64) d ht (by omega)
  rw [hp]; omega

/-- After `k` runs: the words of the tokens of those runs lie at their slots, the rest is as it was. -/
def Patched {α : Type} (s : Fin 6 → Fin 256 → ℕ) (W : Fin 6 → Fin 256 → α) (old : Fin 64 → Fin 3870 → α) (k : ℕ) (f : Fin 64 → Fin 3870 → α) : Prop :=
  ∀ (r : Fin 64) (p : Fin 3870),
    (∀ (b : Fin 6) (t : Fin 256), 5 * b.val + (s b 0 % 64 + t.val) / 64 < k → s b t = 64 * p.val + r.val → f r p = W b t)
    ∧ ((∀ (b : Fin 6) (t : Fin 256), 5 * b.val + (s b 0 % 64 + t.val) / 64 < k → s b t ≠ 64 * p.val + r.val) → f r p = old r p)

theorem patched_zero {α : Type} (s : Fin 6 → Fin 256 → ℕ) (W : Fin 6 → Fin 256 → α) (old : Fin 64 → Fin 3870 → α) : Patched s W old 0 old :=
  fun _ _ => ⟨fun _ _ h => absurd h (Nat.not_lt_zero _), fun _ => rfl⟩

theorem patched_step {α : Type} {s : Fin 6 → Fin 256 → ℕ} (H : Paged s) {W : Fin 6 → Fin 256 → α} {old f f' : Fin 64 → Fin 3870 → α} (b : Fin 6) (j k : ℕ)
    (hj : j < 5) (hk : k = 5 * b.val + j) (v : ℕ) (hv : ∀ h : 64 * j - s b 0 % 64 < 256, v = s b ⟨64 * j - s b 0 % 64, h⟩)
    (h1 : ∀ (r : Fin 64) (p : Fin 3870) (t : Fin 256), t.val + s b 0 % 64 = r.val + 64 * j → p.val = v / 64 → f' r p = W b t)
    (h2 : ∀ (r : Fin 64) (p : Fin 3870), (∀ t : Fin 256, t.val + s b 0 % 64 = r.val + 64 * j → p.val ≠ v / 64) → f' r p = f r p)
    (hf : Patched s W old k f) : Patched s W old (k + 1) f' := by
  have key : ∀ (r : Fin 64) (p : Fin 3870) (t : Fin 256), (s b 0 % 64 + t.val) / 64 = j → s b t = 64 * p.val + r.val →
      t.val + s b 0 % 64 = r.val + 64 * j ∧ p.val = v / 64 := by
    intro r p t hg hs
    have ht := t.isLt
    have hr := r.isLt
    have h0 : 64 * j - s b 0 % 64 < 256 := by omega
    have hrun := H.run b j t.val t.isLt hg h0
    have hl := H.low b t.val t.isLt
    have hvv := hv h0
    have e1 : s b ⟨t.val, t.isLt⟩ = s b t := rfl
    rw [e1] at hrun hl
    rw [hvv, ← hrun]
    constructor <;> omega
  have yek : ∀ (r : Fin 64) (p : Fin 3870) (t : Fin 256), t.val + s b 0 % 64 = r.val + 64 * j → p.val = v / 64 →
      (s b 0 % 64 + t.val) / 64 = j ∧ s b t = 64 * p.val + r.val := by
    intro r p t hg hp
    have ht := t.isLt
    have hr := r.isLt
    have hgj : (s b 0 % 64 + t.val) / 64 = j := by omega
    have h0 : 64 * j - s b 0 % 64 < 256 := by omega
    have hrun := H.run b j t.val t.isLt hgj h0
    have hl := H.low b t.val t.isLt
    have hvv := hv h0
    have e1 : s b ⟨t.val, t.isLt⟩ = s b t := rfl
    rw [e1] at hrun hl
    rw [← hvv] at hrun
    constructor <;> omega
  intro r p
  constructor
  · intro b' t' hlt hs
    by_cases hlast : 5 * b'.val + (s b' 0 % 64 + t'.val) / 64 = k
    · have hb : b' = b := by
        have ht := t'.isLt
        apply Fin.ext; omega
      subst hb
      obtain ⟨e1, e2⟩ := key r p t' (by omega) hs
      exact h1 r p t' e1 e2
    · rw [h2 r p fun t ht hp => ?_]
      · exact (hf r p).1 b' t' (by omega) hs
      · obtain ⟨e1, e2⟩ := yek r p t ht hp
        obtain ⟨rfl, rfl⟩ := H.inj b' t' b t (hs.trans e2.symm)
        omega
  · intro hno
    rw [h2 r p fun t ht hp => ?_]
    · exact (hf r p).2 fun b' t' hlt => hno b' t' (by omega)
    · obtain ⟨e1, e2⟩ := yek r p t ht hp
      exact hno b t (by omega) e2

/-- After all thirty runs every token's word lies at its slot. -/
theorem patched_all {α : Type} {s : Fin 6 → Fin 256 → ℕ} {W : Fin 6 → Fin 256 → α} {old f : Fin 64 → Fin 3870 → α} (hf : Patched s W old 30 f)
    (r : Fin 64) (p : Fin 3870) :
    (∀ (b : Fin 6) (t : Fin 256), s b t = 64 * p.val + r.val → f r p = W b t)
    ∧ ((∀ (b : Fin 6) (t : Fin 256), s b t ≠ 64 * p.val + r.val) → f r p = old r p) :=
  ⟨fun b t h => (hf r p).1 b t (by have := b.isLt; have := t.isLt; omega) h, fun h => (hf r p).2 fun b t _ => h b t⟩

end Cert.KernelIdeal.Hand
-- ==== Proof.KI.Runs.lean ====
/-
  One run of the scales loop: where it reads and writes, and what it leaves at one entry of the scales array.
-/
module

public import proofs.«01_k».proof.Proof.KI.Words
public import proofs.«01_k».proof.Proof.KI.Patch
public import Idealize.ShloMosaic.Lib.Pointwise

@[expose] public section

set_option maxRecDepth 16384

noncomputable section

namespace Cert.KernelIdeal.Hand

open Cert.KernelIdeal Cert.KernelIdeal.Gen
open Idealize.ShloMosaic

variable {F : FTy → Type} [FloatOps F]

/-- Sixty-four times the number of run `k` in its row, as the kernel computes it. -/
def runW (k : Fin k0_t2_loop.trips) : BitVec 32 :=
  let arg29 : BitVec 32 := Scf.iv 0#32 1#32 k
  let v669 : BitVec 32 := Scalar.select (Scalar.cmpi .eq 5#32 0#32) 1#32 5#32
  let v670 : BitVec 32 := Scalar.remsi arg29 v669
  let v675 : BitVec 1 := Scalar.andi (Scalar.xori (Scalar.cmpi .slt v670 0#32) (Scalar.cmpi .slt v669 0#32)) (Scalar.cmpi .ne v670 0#32)
  let v677 : BitVec 32 := Scalar.select v675 (Scalar.addi v670 v669) v670
  Scalar.muli 64#32 v677

/-- The first token of run `k` as the kernel computes it, counted from the row's first page head. -/
def tokW (k : Fin k0_t2_loop.trips) (u : BitVec 32) : BitVec 32 := Scalar.subi (runW k) (Scalar.andi u 63#32)

/-- The first row of the page run `k` writes, and the row after its last. -/
def firstW (k : Fin k0_t2_loop.trips) (u : BitVec 32) : BitVec 32 := Scalar.subi (Scalar.maxsi (tokW k u) 0#32) (tokW k u)
def afterW (k : Fin k0_t2_loop.trips) (u : BitVec 32) : BitVec 32 := Scalar.minsi 64#32 (Scalar.subi 256#32 (tokW k u))

theorem tokW_mod (k : Fin k0_t2_loop.trips) (u : BitVec 32) : tokW k u = tokW k (BitVec.ofNat 32 (u.toNat % 64)) := by
  unfold tokW; rw [and63_and63 u]

theorem start_small : ∀ (k : Fin k0_t2_loop.trips) (u : Fin 64), (firstW k (BitVec.ofNat 32 u.val)).toNat = u.val - 64 * (k.val % 5) := by
  decide +kernel
theorem stop_small : ∀ (k : Fin k0_t2_loop.trips) (u : Fin 64), 64 * (k.val % 5) < 256 + u.val →
    (afterW k (BitVec.ofNat 32 u.val)).toNat = min 64 (256 + u.val - 64 * (k.val % 5)) := by
  decide +kernel
theorem cond1_small : ∀ (k : Fin k0_t2_loop.trips) (u : Fin 64), k0_cond1 k (BitVec.ofNat 32 u.val) = 1#1 ↔ 64 * (k.val % 5) < 256 + u.val := by
  decide +kernel
theorem off10_small : ∀ (k : Fin k0_t2_loop.trips) (u : Fin 64), 64 * (k.val % 5) < 256 + u.val →
    k0_off10 k (BitVec.ofNat 32 u.val) 0 = k.val / 5 ∧ k0_off10 k (BitVec.ofNat 32 u.val) 1 = 64 * (k.val % 5) - u.val := by
  decide +kernel
theorem off11_small : ∀ (k : Fin k0_t2_loop.trips) (u : Fin 64), 64 * (k.val % 5) < 256 + u.val →
    k0_off11 k (BitVec.ofNat 32 u.val) 0 = 64 + 256 * (k.val / 5) + 64 * (k.val % 5) - u.val ∧ k0_off11 k (BitVec.ofNat 32 u.val) 1 = 0 := by
  decide +kernel
theorem off9_small : ∀ (k : Fin k0_t2_loop.trips), k0_off9 k = ![k.val / 5, 0] := by
  decide +kernel

theorem start_toNat (k : Fin k0_t2_loop.trips) (u : BitVec 32) : (firstW k u).toNat = u.toNat % 64 - 64 * (k.val % 5) := by
  unfold firstW; rw [tokW_mod]; exact start_small k (low u)
theorem stop_toNat (k : Fin k0_t2_loop.trips) (u : BitVec 32) (h : 64 * (k.val % 5) < 256 + u.toNat % 64) :
    (afterW k u).toNat = min 64 (256 + u.toNat % 64 - 64 * (k.val % 5)) := by
  unfold afterW; rw [tokW_mod]; exact stop_small k (low u) h
theorem cond1_iff (k : Fin k0_t2_loop.trips) (u : BitVec 32) : k0_cond1 k u = 1#1 ↔ 64 * (k.val % 5) < 256 + u.toNat % 64 := by
  rw [cond1_mod]; exact cond1_small k (low u)
theorem off10_lit (k : Fin k0_t2_loop.trips) (u : BitVec 32) (h : 64 * (k.val % 5) < 256 + u.toNat % 64) :
    k0_off10 k u 0 = k.val / 5 ∧ k0_off10 k u 1 = 64 * (k.val % 5) - u.toNat % 64 := by
  rw [off10_mod]; exact off10_small k (low u) h
theorem off11_lit (k : Fin k0_t2_loop.trips) (u : BitVec 32) (h : 64 * (k.val % 5) < 256 + u.toNat % 64) :
    k0_off11 k u 0 = 64 + 256 * (k.val / 5) + 64 * (k.val % 5) - u.toNat % 64 ∧ k0_off11 k u 1 = 0 := by
  rw [off11_mod]; exact off11_small k (low u) h

/-- The three tests a patched entry passes. -/
theorem hit_iff (l r a st sp : BitVec 32) (hl : l.toNat < 2 ^ 31) (hr : r.toNat < 2 ^ 31) (hs : st.toNat < 2 ^ 31) (hp : sp.toNat < 2 ^ 31) :
    IntOp.andi (IntOp.andi (IntOp.cmpi .eq l a) (IntOp.cmpi .sge r st)) (IntOp.cmpi .slt r sp) = 1#1
      ↔ l = a ∧ st.toNat ≤ r.toNat ∧ r.toNat < sp.toNat := by
  have e1 : IntOp.cmpi .eq l a = 1#1 ↔ l = a := by
    show BitVec.ofBool (l == a) = 1#1 ↔ l = a
    by_cases h : l = a
    · simp [h]
    · rw [beq_false_of_ne h]; simp [h]
  have hri : r.toInt = r.toNat := BitVec.toInt_eq_toNat_of_lt (by omega)
  have hsi : st.toInt = st.toNat := BitVec.toInt_eq_toNat_of_lt (by omega)
  have hpi : sp.toInt = sp.toNat := BitVec.toInt_eq_toNat_of_lt (by omega)
  have e2 : IntOp.cmpi .sge r st = 1#1 ↔ st.toNat ≤ r.toNat := by
    show BitVec.ofBool (st.sle r) = 1#1 ↔ _
    rw [BitVec.sle_eq_decide, hri, hsi]
    by_cases h : st.toNat ≤ r.toNat <;> simp [h]
  have e3 : IntOp.cmpi .slt r sp = 1#1 ↔ r.toNat < sp.toNat := by
    show BitVec.ofBool (r.slt sp) = 1#1 ↔ _
    rw [BitVec.slt_eq_decide, hri, hpi]
    by_cases h : r.toNat < sp.toNat <;> simp [h]
  have e4 : ∀ x y : BitVec 1, IntOp.andi x y = 1#1 ↔ x = 1#1 ∧ y = 1#1 := by decide
  rw [e4, e4, e1, e2, e3, and_assoc]

theorem pay144_apply (v st sp : BitVec 32) (hv : v.toNat < 245760) (hs : st.toNat < 2 ^ 31) (hp : sp.toNat < 2 ^ 31)
    (W : Vec F S64x128 .i32) (old : Vec F S64x1x128 .i32) (r : Fin 64) (l : Fin 128) :
    k0_pay144 (F := F) (fdiv v 64#32) st sp 128#32 (Scalar.divsi (fdiv v 64#32) 128#32)
        (Scalar.subi (Scalar.extui (Scalar.cmpi .sgt (fdiv v 64#32) 0#32)) (Scalar.extui (Scalar.cmpi .slt (fdiv v 64#32) 0#32))) 1#32 0#1 W old (ix3 r 0 l)
      = if l.val + v.toNat / 64 / 128 * 128 = v.toNat / 64 ∧ st.toNat ≤ r.val ∧ r.val < sp.toNat then W (ix2 r l) else old (ix3 r 0 l) := by
  have hr : (BitVec.ofNat 32 r.val).toNat = r.val := by rw [BitVec.toNat_ofNat]; omega
  have hl : (BitVec.ofNat 32 l.val).toNat = l.val := by rw [BitVec.toNat_ofNat]; omega
  have h64 := fdiv64 v hv
  have hlane := lane_toNat v hv
  have key := hit_iff (BitVec.ofNat 32 l.val) (BitVec.ofNat 32 r.val) (Scalar.subi (fdiv v 64#32) (Scalar.muli (fdiv (fdiv v 64#32) 128#32) 128#32)) st sp
    (by omega) (by omega) hs hp
  have hl2 : BitVec.ofNat 32 l.val = Scalar.subi (fdiv v 64#32) (Scalar.muli (fdiv (fdiv v 64#32) 128#32) 128#32)
      ↔ l.val + v.toNat / 64 / 128 * 128 = v.toNat / 64 := by
    have hsub : (Scalar.subi (fdiv v 64#32) (Scalar.muli (fdiv (fdiv v 64#32) 128#32) 128#32)).toNat = v.toNat / 64 - v.toNat / 64 / 128 * 128 := by
      show ((fdiv v 64#32) - (Scalar.muli (fdiv (fdiv v 64#32) 128#32) 128#32)).toNat = _
      rw [BitVec.toNat_sub, h64, hlane]; omega
    constructor
    · intro e
      have := congrArg BitVec.toNat e
      rw [hl, hsub] at this; omega
    · intro e
      apply BitVec.eq_of_toNat_eq
      rw [hl, hsub]; omega
  rw [hl2, hr] at key
  have hsel : k0_pay144 (F := F) (fdiv v 64#32) st sp 128#32 (Scalar.divsi (fdiv v 64#32) 128#32)
        (Scalar.subi (Scalar.extui (Scalar.cmpi .sgt (fdiv v 64#32) 0#32)) (Scalar.extui (Scalar.cmpi .slt (fdiv v 64#32) 0#32))) 1#32 0#1 W old (ix3 r 0 l)
      = Scalar.select (IntOp.andi (IntOp.andi (IntOp.cmpi .eq (BitVec.ofNat 32 l.val) (Scalar.subi (fdiv v 64#32) (Scalar.muli (fdiv (fdiv v 64#32) 128#32) 128#32)))
          (IntOp.cmpi .sge (BitVec.ofNat 32 r.val) st)) (IntOp.cmpi .slt (BitVec.ofNat 32 r.val) sp)) (W (ix2 r l)) (old (ix3 r 0 l)) := by
    unfold k0_pay144
    generalize hA : Scalar.muli (fdiv (fdiv v 64#32) 128#32) 128#32 = A
    have hA' : Scalar.muli (Scalar.select (Scalar.andi (Scalar.cmpi .ne (Scalar.subi (Scalar.extui (Scalar.cmpi .sgt (fdiv v 64#32) 0#32)) (Scalar.extui (Scalar.cmpi .slt (fdiv v 64#32) 0#32)))
        (Scalar.subi 1#32 (Scalar.extui 0#1))) (Scalar.cmpi .ne (Scalar.remsi (fdiv v 64#32) 128#32) 0#32)) (Scalar.subi (Scalar.divsi (fdiv v 64#32) 128#32) 1#32) (Scalar.divsi (fdiv v 64#32) 128#32)) 128#32 = A := hA
    dsimp only
    rw [hA']
    generalize Scalar.subi (fdiv v 64#32) A = a
    refine (shapeCast_apply _ _ _ (ix2 r l) ?_).trans ?_
    · rw [Shape.rowMajor_val_two, Shape.rowMajor_val_three]; show r.val * 128 + l.val = (r.val * 1 + 0) * 128 + l.val; omega
    show Scalar.select _ _ (shapeCast S64x128 old shapeCasts_S64x1x128_S64x128 (ix2 r l)) = _
    rw [shapeCast_apply old _ _ (ix3 r 0 l) (by
      rw [Shape.rowMajor_val_two, Shape.rowMajor_val_three]; show (r.val * 1 + 0) * 128 + l.val = r.val * 128 + l.val; omega)]
    have i0 : iota .tc S64x128 32 [0] iota_S64x128_d0_w32 (ix2 r l) = BitVec.ofNat 32 r.val := by
      show BitVec.ofNat 32 (0 * 64 + r.val) = BitVec.ofNat 32 r.val; rw [Nat.zero_mul, Nat.zero_add]
    have i1 : iota .tc S64x128 32 [1] iota_S64x128_d1_w32 (ix2 r l) = BitVec.ofNat 32 l.val := by
      show BitVec.ofNat 32 (0 * 128 + l.val) = BitVec.ofNat 32 l.val; rw [Nat.zero_mul, Nat.zero_add]
    rw [← i0, ← i1]
    rfl
  rw [hsel]
  unfold Scalar.select
  by_cases hc : l.val + v.toNat / 64 / 128 * 128 = v.toNat / 64 ∧ st.toNat ≤ r.val ∧ r.val < sp.toNat
  · rw [if_pos hc]; exact if_pos (key.mpr hc)
  · rw [if_neg hc]; exact if_neg fun h => hc (key.mp h)

/-! ## The scales array after one run -/

/-- The slot of token `t` of row `b`. -/
def slotNo (c : Dev nD) (sl : BufOf (F := F) c aSlot) (b : Fin 6) (t : Fin 256) : ℕ := (aSlot.view.read (Elt F) sl (ix2 b t)).toNat

/-- The scales array, entry by entry. -/
def wordAt (c : Dev nD) (f : BufOf (F := F) c sKs) (r : Fin 64) (p : Fin 3870) : BitVec 32 := sKs.view.read (Elt F) f (ix3 r 0 p)

theorem slot_read (c : Dev nD) (sl : BufOf (F := F) c aSlot) {off : Fin 2 → ℕ} (inb : ∀ a, off a + S1x1.size a ≤ S6x256.size a) (h1 : 0 < S1x1.numel)
    (b : Fin 6) (t : Fin 256) (hb : off 0 = b.val) (ht : off 1 = t.val) :
    (View.readAt (Elt F) aSlot.view (Rect.unit (s := S6x256) off S1x1.size inb).toLoadRect sl (Shape.Idx.first h1)).toNat = slotNo c sl b t := by
  unfold slotNo
  refine congrArg (fun i => (aSlot.view.read (Elt F) sl i).toNat) (funext fun a => Fin.ext ?_)
  fin_cases a
  · have h : ((Shape.Idx.first h1 : S1x1.Idx) 0).val < 1 := ((Shape.Idx.first h1 : S1x1.Idx) 0).isLt
    show off 0 + 1 * ((Shape.Idx.first h1 : S1x1.Idx) 0).val = b.val
    omega
  · have h : ((Shape.Idx.first h1 : S1x1.Idx) 1).val < 1 := ((Shape.Idx.first h1 : S1x1.Idx) 1).isLt
    show off 1 + 1 * ((Shape.Idx.first h1 : S1x1.Idx) 1).val = t.val
    omega

theorem trips2 (k : Fin k0_t2_loop.trips) : k.val < 30 := k.isLt

/-- The row a run belongs to. -/
def rowOf (k : Fin k0_t2_loop.trips) : Fin 6 := ⟨k.val / 5, by have := trips2 k; omega⟩

section
variable (c : Dev nD) (sl : BufOf (F := F) c aSlot) (fw : BufOf (F := F) c sWt) (W : Fin 6 → Fin 256 → BitVec 32) (old : Fin 64 → Fin 3870 → BitVec 32)

/-- The scratch of the token words holds them, lane by lane. -/
def LanesAre : Prop := ∀ (b : Fin 6) (t : Fin 256) (l : Fin 128), sWt.view.read (Elt F) fw (ix2 (⟨64 + 256 * b.val + t.val, by omega⟩ : Fin 1664) l) = W b t

theorem run_live (H : Paged (slotNo c sl)) (hW : LanesAre c fw W) (k : Fin k0_t2_loop.trips) (u v : BitVec 32)
    (hu : u.toNat = slotNo c sl (rowOf k) 0) (hl : 64 * (k.val % 5) < 256 + u.toNat % 64)
    (hv : ∀ h : 64 * (k.val % 5) - u.toNat % 64 < 256, v.toNat = slotNo c sl (rowOf k) ⟨64 * (k.val % 5) - u.toNat % 64, h⟩) (hlt : v.toNat < 245760)
    (f0 : BufOf (F := F) c sKs) (inb11 : ∀ a, k0_off11 k u a + S64x128.size a ≤ S1664x128.size a) (inb12 : ∀ a, k0_off12 v a + S64x1x128.size a ≤ S64x1x3870.size a)
    (hf : Patched (slotNo c sl) W old k.val (wordAt c f0)) :
    Patched (slotNo c sl) W old (k.val + 1) (wordAt c (sKs.view.writes (Elt F) f0
      [⟨Rect.unit (s := S64x1x3870) (k0_off12 v) S64x1x128.size inb12,
        k0_pay144 (fdiv v 64#32) (firstW k u) (afterW k u) 128#32 (Scalar.divsi (fdiv v 64#32) 128#32)
          (Scalar.subi (Scalar.extui (Scalar.cmpi .sgt (fdiv v 64#32) 0#32)) (Scalar.extui (Scalar.cmpi .slt (fdiv v 64#32) 0#32))) 1#32 0#1
          (View.readAt (Elt F) sWt.view (Rect.unit (s := S1664x128) (k0_off11 k u) S64x128.size inb11).toLoadRect fw)
          (View.readAt (Elt F) sKs.view (Rect.unit (s := S64x1x3870) (k0_off12 v) S64x1x128.size inb12).toLoadRect f0)⟩])) := by
  have hk := trips2 k
  have hst := start_toNat k u
  have hsp := stop_toNat k u hl
  obtain ⟨h110, h111⟩ := off11_lit k u hl
  have h12 : k0_off12 v = ![0, 0, v.toNat / 64 / 128 * 128] := by rw [off12_eq, lane_toNat v hlt]
  have entry : ∀ (r : Fin 64) (p : Fin 3870), wordAt c (sKs.view.writes (Elt F) f0
      [⟨Rect.unit (s := S64x1x3870) (k0_off12 v) S64x1x128.size inb12,
        k0_pay144 (fdiv v 64#32) (firstW k u) (afterW k u) 128#32 (Scalar.divsi (fdiv v 64#32) 128#32)
          (Scalar.subi (Scalar.extui (Scalar.cmpi .sgt (fdiv v 64#32) 0#32)) (Scalar.extui (Scalar.cmpi .slt (fdiv v 64#32) 0#32))) 1#32 0#1
          (View.readAt (Elt F) sWt.view (Rect.unit (s := S1664x128) (k0_off11 k u) S64x128.size inb11).toLoadRect fw)
          (View.readAt (Elt F) sKs.view (Rect.unit (s := S64x1x3870) (k0_off12 v) S64x1x128.size inb12).toLoadRect f0)⟩]) r p
      = if h : p.val = v.toNat / 64 ∧ u.toNat % 64 ≤ r.val + 64 * (k.val % 5) ∧ r.val + 64 * (k.val % 5) < 256 + u.toNat % 64
        then W (rowOf k) ⟨r.val + 64 * (k.val % 5) - u.toNat % 64, by omega⟩ else wordAt c f0 r p := by
    intro r p
    by_cases hp : v.toNat / 64 / 128 * 128 ≤ p.val ∧ p.val < v.toNat / 64 / 128 * 128 + 128
    · have hin := View.read_writes_cons_unit_of_mem sKs.view f0 inb12
        (k0_pay144 (fdiv v 64#32) (firstW k u) (afterW k u) 128#32 (Scalar.divsi (fdiv v 64#32) 128#32)
          (Scalar.subi (Scalar.extui (Scalar.cmpi .sgt (fdiv v 64#32) 0#32)) (Scalar.extui (Scalar.cmpi .slt (fdiv v 64#32) 0#32))) 1#32 0#1
          (View.readAt (Elt F) sWt.view (Rect.unit (s := S1664x128) (k0_off11 k u) S64x128.size inb11).toLoadRect fw)
          (View.readAt (Elt F) sKs.view (Rect.unit (s := S64x1x3870) (k0_off12 v) S64x1x128.size inb12).toLoadRect f0)) []
        (ix3 r 0 p) (ix3 r (0 : Fin 1) (⟨p.val - v.toNat / 64 / 128 * 128, by omega⟩ : Fin 128)) h12 (fun a => by
          fin_cases a
          · show r.val = 0 + r.val; omega
          · rfl
          · show p.val = v.toNat / 64 / 128 * 128 + (p.val - v.toNat / 64 / 128 * 128); omega)
      refine hin.trans ((pay144_apply v _ _ hlt (by omega) (by omega) _ _ r _).trans ?_)
      rw [hst, hsp]
      have hc : ((p.val - v.toNat / 64 / 128 * 128 + v.toNat / 64 / 128 * 128 = v.toNat / 64 ∧ u.toNat % 64 - 64 * (k.val % 5) ≤ r.val
          ∧ r.val < min 64 (256 + u.toNat % 64 - 64 * (k.val % 5)))
          ↔ (p.val = v.toNat / 64 ∧ u.toNat % 64 ≤ r.val + 64 * (k.val % 5) ∧ r.val + 64 * (k.val % 5) < 256 + u.toNat % 64)) := by
        have := r.isLt
        omega
      by_cases h : p.val = v.toNat / 64 ∧ u.toNat % 64 ≤ r.val + 64 * (k.val % 5) ∧ r.val + 64 * (k.val % 5) < 256 + u.toNat % 64
      · rw [dif_pos h]
        refine (if_pos (hc.mpr h)).trans ?_
        rw [← hW (rowOf k) ⟨r.val + 64 * (k.val % 5) - u.toNat % 64, by omega⟩ (⟨p.val - v.toNat / 64 / 128 * 128, by omega⟩ : Fin 128)]
        refine congrArg (sWt.view.read (Elt F) fw) (funext fun a => Fin.ext ?_)
        fin_cases a
        · show k0_off11 k u 0 + 1 * r.val = 64 + 256 * (k.val / 5) + (r.val + 64 * (k.val % 5) - u.toNat % 64)
          rw [h110]; omega
        · show k0_off11 k u 1 + 1 * (p.val - v.toNat / 64 / 128 * 128) = p.val - v.toNat / 64 / 128 * 128
          rw [h111]; omega
      · rw [dif_neg h]
        refine (if_neg fun g => h (hc.mp g)).trans ?_
        refine congrArg (sKs.view.read (Elt F) f0) (funext fun a => Fin.ext ?_)
        have e0 : k0_off12 v 0 = 0 := by rw [h12]; rfl
        have e1 : k0_off12 v 1 = 0 := by rw [h12]; rfl
        have e2 : k0_off12 v 2 = v.toNat / 64 / 128 * 128 := by rw [h12]; rfl
        fin_cases a
        · show k0_off12 v 0 + 1 * r.val = r.val; omega
        · show k0_off12 v 1 + 1 * 0 = 0; omega
        · show k0_off12 v 2 + 1 * (p.val - v.toNat / 64 / 128 * 128) = p.val; omega
    · rw [dif_neg (by rintro ⟨h, -⟩; omega)]
      exact View.read_writes_cons_unit_of_not_mem sKs.view f0 inb12 _ [] (ix3 r 0 p) h12 2 (by
        show p.val < v.toNat / 64 / 128 * 128 ∨ v.toNat / 64 / 128 * 128 + 128 ≤ p.val; omega)
  refine patched_step H (rowOf k) (k.val % 5) k.val (by omega) (by show k.val = 5 * (k.val / 5) + k.val % 5; omega) v.toNat
    (by rw [← hu]; exact hv) (fun r p t ht hp => ?_) (fun r p hno => ?_) hf
  · rw [← hu] at ht
    have := t.isLt
    rw [entry, dif_pos ⟨hp, by omega, by omega⟩]
    exact congrArg (W (rowOf k)) (Fin.ext (by show r.val + 64 * (k.val % 5) - u.toNat % 64 = t.val; omega))
  · rw [← hu] at hno
    rw [entry, dif_neg]
    rintro ⟨hp, h1, h2⟩
    exact hno ⟨r.val + 64 * (k.val % 5) - u.toNat % 64, by omega⟩ (by show r.val + 64 * (k.val % 5) - u.toNat % 64 + u.toNat % 64 = _; omega) hp

theorem run_dead (H : Paged (slotNo c sl)) (k : Fin k0_t2_loop.trips) (u : BitVec 32)
    (hu : u.toNat = slotNo c sl (rowOf k) 0) (hl : ¬ 64 * (k.val % 5) < 256 + u.toNat % 64)
    (f0 : BufOf (F := F) c sKs) (hf : Patched (slotNo c sl) W old k.val (wordAt c f0)) :
    Patched (slotNo c sl) W old (k.val + 1) (wordAt c f0) := by
  have hk := trips2 k
  refine patched_step H (rowOf k) (k.val % 5) k.val (by omega) (by show k.val = 5 * (k.val / 5) + k.val % 5; omega)
    (if h : 64 * (k.val % 5) - slotNo c sl (rowOf k) 0 % 64 < 256 then slotNo c sl (rowOf k) ⟨_, h⟩ else 0)
    (fun h => dif_pos h) (fun r p t ht hp => ?_) (fun r p hno => rfl) hf
  rw [← hu] at ht
  have := t.isLt
  omega

end

end Cert.KernelIdeal.Hand

end
-- ==== Proof.KI.Loop2.lean ====
/-
  The scales loop: each trip patches the words of one page of the scales array.
-/
module

public import proofs.«01_k».proof.Proof.KI.Runs

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

/-- Every slot is in reach of the page arrays. -/
abbrev InReach (c : Dev nD) (sl : BufOf (F := F) c aSlot) : Prop := ∀ x, (aSlot.view.read (Elt F) sl x).toNat < 245760

section Loop
variable (c : Dev nD) (sl : BufOf (F := F) c aSlot) (fw : BufOf (F := F) c sWt) (W : Fin 6 → Fin 256 → BitVec 32) (old : Fin 64 → Fin 3870 → BitVec 32)
    (had : FVec F S128x128 .f32)

/-- Before trip `k`: the slots, the scale words of the tokens and the scales array with the words of the runs so far at their slots. -/
def inv2 (k : ℕ) (_ : Unit) : sProp 𝕄 :=
  iprop(held c aSlot sl ∗ held c sWt fw ∗ (∃ f, held c sKs f ∗ ⌜Paged (slotNo c sl) → Patched (slotNo c sl) W old k (wordAt c f)⌝))

abbrev body2 := k0_t2_body (F := F) aSlot (Memref.isWhole_whole _) aWs (Memref.isWhole_whole _) aLnw (Memref.isWhole_whole _) aLnb (Memref.isWhole_whole _) aPos (Memref.isWhole_whole _) aFreq (Memref.isWhole_whole _)
    hX (Memref.isWhole_whole _) hW (Memref.isWhole_whole _) hKc (Memref.isWhole_whole _) hKs (Memref.isWhole_whole _) hKcOut (Memref.isWhole_whole _) hKsOut (Memref.isWhole_whole _) hCodes (Memref.isWhole_whole _) hScales (Memref.isWhole_whole _)
    sX (Memref.isWhole_whole _) sKc (Memref.isWhole_whole _) sKs (Memref.isWhole_whole _) sWq (Memref.isWhole_whole _) sWb (Memref.isWhole_whole _) sY (Memref.isWhole_whole _) sWt (Memref.isWhole_whole _) sCodes (Memref.isWhole_whole _) sScales (Memref.isWhole_whole _)
    cc0_scratch9 cc0_scratch10 cc0_scratch11 cc0_scratch12 cc0_scratch13 cc0_scratch14 had

theorem step2 (hsl : InReach c sl) (hW : LanesAre c fw W) (k : Fin k0_t2_loop.trips) (acc : Unit) :
    inv2 c sl fw W old k.val acc
      ⊢ wp frame (wpE (defs₀ (F := F)) Variants.none (c : Thread nD τ) none) Set.univ (body2 had k acc)
          (fun _ => inv2 c sl fw W old (k.val + 1) ()) := by
  unfold inv2
  iintro ⟨Hsl, Hw, ⟨%f0, Hs, %hs⟩⟩
  unfold body2 k0_t2_body
  sl_exec
  split <;> rename_i hc
  · sl_exec (disch := first | exact chk1_all _ _ _ | exact chk2_of _ _ _ (hsl _))
    sl_step
    isplitl [Hsl]; · iexact Hsl
    isplitl [Hw]; · iexact Hw
    iexists _
    isplitl [Hs]; · iexact Hs
    ipureintro
    intro H
    have hr : (step2.sl.r_2 c sl k).toNat = slotNo c sl (rowOf k) 0 := by
      unfold step2.sl.r_2
      exact slot_read c sl (off := k0_off9 k) (k0_off9_inb k) (by decide) (rowOf k) 0 (by rw [off9_small]; rfl) (by rw [off9_small]; rfl)
    have er : step2.sl.r c sl k = step2.sl.r_2 c sl k := by unfold step2.sl.r step2.sl.r_2; rfl
    have hl := (cond1_iff k _).mp (er ▸ hc)
    have ho := off10_lit k _ hl
    have e1 : step2.sl.v713 c sl k hc = fdiv (step2.sl.r_3 c sl k hc) 64#32 := rfl
    have e0 : step2.sl.v691 c sl k = tokW k (step2.sl.r_2 c sl k) := by
      have e690 : ∀ k, step2.sl.v690 k = runW k := by decide +kernel
      unfold step2.sl.v691 tokW step2.sl.v689
      rw [e690]
    have e2 : step2.sl.v714 c sl k = firstW k (step2.sl.r_2 c sl k) := by
      unfold firstW step2.sl.v714 step2.sl.v692
      rw [e0]
    have e3 : step2.sl.v716 c sl k = afterW k (step2.sl.r_2 c sl k) := by
      unfold afterW step2.sl.v716 step2.sl.v715
      rw [e0]
    have e4 : step2.sl.v717 c sl k hc = Scalar.divsi (step2.sl.v713 c sl k hc) 128#32 := rfl
    have e5 : step2.sl.v722 c sl k hc = Scalar.subi (Scalar.extui (Scalar.cmpi .sgt (step2.sl.v713 c sl k hc) 0#32)) (Scalar.extui (Scalar.cmpi .slt (step2.sl.v713 c sl k hc) 0#32)) := by
      unfold step2.sl.v722 step2.sl.v719 step2.sl.v721
      rfl
    unfold step2.sl.v742
    rw [e4, e5, e2, e3, e1]
    refine run_live c sl fw W old H hW k (step2.sl.r_2 c sl k) (step2.sl.r_3 c sl k hc) hr hl (fun h => ?_) ?_ f0 _ _ (hs H)
    · unfold step2.sl.r_3
      exact slot_read c sl _ _ (rowOf k) ⟨_, h⟩ ho.1 ho.2
    · unfold step2.sl.r_3
      exact hsl _
  · sl_exec
    sl_step
    isplitl [Hsl]; · iexact Hsl
    isplitl [Hw]; · iexact Hw
    iexists _
    isplitl [Hs]; · iexact Hs
    ipureintro
    intro H
    have hr : (step2.sl.r c sl k).toNat = slotNo c sl (rowOf k) 0 := by
      unfold step2.sl.r
      exact slot_read c sl (off := k0_off8 k) (k0_off8_inb k) (by decide) (rowOf k) 0
        (by rw [show k0_off8 k = k0_off9 k from rfl, off9_small]; rfl) (by rw [show k0_off8 k = k0_off9 k from rfl, off9_small]; rfl)
    exact run_dead c sl W old H k _ hr (fun h => hc ((cond1_iff k _).mpr h)) f0 (hs H)

end Loop

end Cert.KernelIdeal.Hand

end
-- ==== Proof.KI.Loop4.lean ====
/-
  The patch loop inside the pool loop: each trip rewrites at most one page, and only a page of the trip's chunk.
-/
module

public import proofs.«01_k».proof.Proof.KI.Loop2

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

/-- Chunk `i` of the pool, 258 pages. -/
abbrev rectKc (i : Fin k0_t3_loop.trips) : Rect S3870x64x128 := Rect.unit (s := S3870x64x128) (k0_off14 i) S258x64x128.size (k0_off14_inb i)

section Loop
variable (c : Dev nD) (sl : BufOf (F := F) c aSlot) (had : FVec F S128x128 .f32) (i : Fin k0_t3_loop.trips)

/-- Before every trip: the slots, the token rows and the chunk's scratch pages at some contents. -/
def inv4 (_ : ℕ) (_ : Unit) : sProp 𝕄 :=
  iprop(held c aSlot sl ∗ (∃ f, held c sY f)
    ∗ (∃ f, sKc.view.loc (c : Thread nD τ) ↦[sKc.view.setOn (Rect.unit (s := S3870x64x128) (k0_off14 i) S258x64x128.size (k0_off14_inb i)).set]{fullShare} f))

abbrev body4 := k0_t4_body (F := F) aSlot (Memref.isWhole_whole _) aWs (Memref.isWhole_whole _) aLnw (Memref.isWhole_whole _) aLnb (Memref.isWhole_whole _) aPos (Memref.isWhole_whole _) aFreq (Memref.isWhole_whole _)
    hX (Memref.isWhole_whole _) hW (Memref.isWhole_whole _) hKc (Memref.isWhole_whole _) hKs (Memref.isWhole_whole _) hKcOut (Memref.isWhole_whole _) hKsOut (Memref.isWhole_whole _) hCodes (Memref.isWhole_whole _) hScales (Memref.isWhole_whole _)
    sX (Memref.isWhole_whole _) sKc (Memref.isWhole_whole _) sKs (Memref.isWhole_whole _) sWq (Memref.isWhole_whole _) sWb (Memref.isWhole_whole _) sY (Memref.isWhole_whole _) sWt (Memref.isWhole_whole _) sCodes (Memref.isWhole_whole _) sScales (Memref.isWhole_whole _)
    cc0_scratch9 cc0_scratch10 cc0_scratch11 cc0_scratch12 cc0_scratch13 cc0_scratch14 had i

theorem readSlot_congr {o o' : Fin 2 → ℕ} (e : o = o') (h : ∀ a, o a + S1x1.size a ≤ S6x256.size a) (h' : ∀ a, o' a + S1x1.size a ≤ S6x256.size a) :
    aSlot.view.readAt (Elt F) (Rect.unit (s := S6x256) o S1x1.size h).toLoadRect sl
      = aSlot.view.readAt (Elt F) (Rect.unit (s := S6x256) o' S1x1.size h').toLoadRect sl := by
  subst e; rfl

theorem off17_eq (k : Fin k0_t4_loop.trips) : k0_off17 k = k0_off15 k := rfl

theorem step4 (hsl : InReach c sl) (k : Fin k0_t4_loop.trips) (acc : Unit) :
    inv4 c sl i k.val acc
      ⊢ wp frame (wpE (defs₀ (F := F)) Variants.none (c : Thread nD τ) none) Set.univ (body4 had i k acc)
          (fun _ => inv4 c sl i (k.val + 1) ()) := by
  unfold inv4
  iintro ⟨Hsl, ⟨%fy, Hy⟩, ⟨%f0, Hc⟩⟩
  unfold body4 k0_t4_body
  sl_exec (disch := first | exact chk3_all _ _)
  split
  · sl_exec (disch := first | exact chk3_all _ _ | exact chk4_all _ _ _ _ _ | exact chk5_of _ _ _ _ _ (hsl _))
    rename_i hC
    have hr2 : step4.sl.r_3 c sl k = step4.sl.r c sl k := congrFun (readSlot_congr c sl (off17_eq k) _ _) _
    have hr3 : step4.sl.r_4 c sl i k hC = step4.sl.r_1 c sl k := by
      have e : k0_off18 k (step4.sl.r_3 c sl k) = k0_off16 k (step4.sl.r c sl k) := by rw [off18_eq, hr2]
      delta step4.sl.r_4 step4.sl.r_1
      exact congrFun (readSlot_congr c sl e _ _) _
    have hv : (step4.sl.r_1 c sl k).toNat < 245760 := hsl _
    have hp := page_in_chunk i k _ _ hv hC
    rw [← hr3] at hv hp
    have hoff : k0_off20 (step4.sl.r_4 c sl i k hC) = ![(step4.sl.r_4 c sl i k hC).toNat / 64, 0, 0] := by rw [off20_eq, fdiv64 _ hv]
    clear hr2 hr3
    obtain ⟨n, hn⟩ : ∃ n, n = (step4.sl.r_4 c sl i k hC).toNat / 64 := ⟨_, rfl⟩
    rw [← hn] at hoff hp
    have hlo : 258 * i.val ≤ n := by omega
    have hhi : n + 1 ≤ 258 * i.val + 258 := by omega
    have hn' : n + 1 ≤ 3870 := by omega
    letI : ClosedOff (k0_off20 (step4.sl.r_4 c sl i k hC)) := ⟨![n, 0, 0], hoff⟩
    sl_exec
    sl_step
    isplitl [Hsl]; · iexact Hsl
    isplitl [Hy]; · iexists _; iexact Hy
    iexists _; iexact Hc
  · sl_exec
    sl_step
    isplitl [Hsl]; · iexact Hsl
    isplitl [Hy]; · iexists _; iexact Hy
    iexists _; iexact Hc

end Loop

end Cert.KernelIdeal.Hand

end
-- ==== Proof.KI.Trip.lean ====
/-
  What one trip of the projection loop computes from the operands it loads: the chain of the generated
  payloads, one definition for the codes and one for the scale words.
-/
module

public import proofs.«01_k».proof.Proof.KI.Names

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

/-- The rotated and mixed vectors of one trip: 128 features by 256 tokens. -/
def mixed (wb : Vec F S128x7168 .bf16) (x : Vec F S1x256x7168 .bf16) (lnw lnb : Vec F S128x1 .f32)
    (pos : Vec F S1x256 .i32) (fr : Vec F S32x1 .f32) (had : FVec F S128x128 .f32) : FVec F S128x256 .f32 :=
  k0_pay3 had (k0_pay1 wb x lnw lnb) (k0_pay2 pos) fr

/-- Group 0's scaled lanes and the word after group 0. -/
def grp0 (wb : Vec F S128x7168 .bf16) (x : Vec F S1x256x7168 .bf16) (lnw lnb : Vec F S128x1 .f32)
    (pos : Vec F S1x256 .i32) (fr : Vec F S32x1 .f32) (had : FVec F S128x128 .f32) : FVec F S32x256 .f32 × IVec S1x256 32 :=
  let a := k0_pay1 wb x lnw lnb
  let p := k0_pay2 pos
  let v716 := k0_pay8 had a p fr
  let v778 := k0_pay12 v716 (k0_pay9 had a p fr) (k0_pay10 had a p fr) k0_pay11
  (k0_pay15 (k0_pay5 had a p fr) (k0_pay7 had a p fr) v778 (k0_pay13 v716) 255#32,
   k0_pay16 k0_pay4 (k0_pay7 had a p fr) v778 (k0_pay13 v716) 255#32)

/-- Group 1's scaled lanes and the word after groups 0 and 1. -/
def grp1 (v : FVec F S128x256 .f32) (w : IVec S1x256 32) : FVec F S32x256 .f32 × IVec S1x256 32 :=
  let v870 := k0_pay23 (k0_pay20 v) (k0_pay21 v) (k0_pay22 v) 23#32
  (k0_pay25 (k0_pay17 v) (k0_pay19 v) (k0_pay20 v) v870 255#32, k0_pay26 w (k0_pay19 v) (k0_pay20 v) v870 255#32)

/-- Group 2's scaled lanes and the word after groups 0 to 2. -/
def grp2 (v : FVec F S128x256 .f32) (w : IVec S1x256 32) : FVec F S32x256 .f32 × IVec S1x256 32 :=
  let v960 := k0_pay33 (k0_pay30 v) k0_pay31 k0_pay32
  (k0_pay35 (k0_pay27 v) (k0_pay29 v) (k0_pay30 v) v960, k0_pay36 w (k0_pay29 v) (k0_pay30 v) v960)

/-- Group 3's scaled lanes and its exponent field. -/
def grp3 (v : FVec F S128x256 .f32) : FVec F S32x256 .f32 × IVec S1x256 32 :=
  let m := k0_pay38 v
  let z := k0_pay39 m (Scalar.ofBits .f32 0#32)
  (k0_pay45 (k0_pay37 v) z (k0_pay40 m) (k0_pay41 m) (k0_pay42 m) (k0_pay43 m),
   k0_pay46 z (k0_pay40 m) (k0_pay41 m) (k0_pay42 m) (k0_pay43 m))

/-- The four groups' scaled lanes and packed exponents of one trip. -/
def tripCodes (wb : Vec F S128x7168 .bf16) (x : Vec F S1x256x7168 .bf16) (lnw lnb : Vec F S128x1 .f32)
    (pos : Vec F S1x256 .i32) (fr : Vec F S32x1 .f32) (had : FVec F S128x128 .f32) : FVec F S1x256x128 .fp8e4m3 :=
  let v := mixed wb x lnw lnb pos fr had
  let q0 := grp0 wb x lnw lnb pos fr had
  let q1 := grp1 v q0.2
  let q2 := grp2 v q1.2
  let q3 := grp3 v
  k0_pay140 q0.1 q1.1 q2.1 q3.1

def tripWords (wb : Vec F S128x7168 .bf16) (x : Vec F S1x256x7168 .bf16) (lnw lnb : Vec F S128x1 .f32)
    (pos : Vec F S1x256 .i32) (fr : Vec F S32x1 .f32) (had : FVec F S128x128 .f32) : IVec S1x1x256 32 :=
  let v := mixed wb x lnw lnb pos fr had
  let q0 := grp0 wb x lnw lnb pos fr had
  let q1 := grp1 v q0.2
  let q2 := grp2 v q1.2
  let q3 := grp3 v
  k0_pay142 q2.2 q3.2

def tripLanes (wb : Vec F S128x7168 .bf16) (x : Vec F S1x256x7168 .bf16) (lnw lnb : Vec F S128x1 .f32)
    (pos : Vec F S1x256 .i32) (fr : Vec F S32x1 .f32) (had : FVec F S128x128 .f32) : IVec S256x128 32 :=
  let v := mixed wb x lnw lnb pos fr had
  let q0 := grp0 wb x lnw lnb pos fr had
  let q1 := grp1 v q0.2
  let q2 := grp2 v q1.2
  let q3 := grp3 v
  k0_pay143 q2.2 q3.2

end Cert.KernelIdeal.Hand

end
-- ==== Proof.KI.Loop1.lean ====
/-
  The projection loop: trip `k` waits for the copy of token block `k`, projects, quantises and stores the block's codes
  and scale words.
-/
module

public import proofs.«01_k».proof.Proof.KI.Trip

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

/-! ## Rows of a buffer stored block by block -/

section Blocks
variable {κ : Kind} {sp : Space} {s : Shape} {e : EltTy} {n : ℕ}

/-- After block `k` is stored over contents whose blocks before `k` are known, the blocks up to `k` are known. -/
theorem blocks_step (v : View sig κ sp s e) (f : v.ty.Contents (Elt F)) (a : Fin s.rank) {size : Fin s.rank → ℕ} (o : ℕ)
    (off : Fin n → Fin s.rank → ℕ) (hoff : ∀ b, off b a = size a * b.val + o) (inb : ∀ b x, off b x + size x ≤ s.size x)
    (p : (b : Fin n) → (Rect.unit (off b) size (inb b)).shape.Idx → Elt F e) (k : Fin n)
    (hf : ∀ b : Fin n, b.val < k.val → v.readAt (Elt F) (Rect.unit (off b) size (inb b)).toLoadRect f = p b) :
    ∀ b : Fin n, b.val < k.val + 1 →
      v.readAt (Elt F) (Rect.unit (off b) size (inb b)).toLoadRect (v.writes (Elt F) f [⟨Rect.unit (off k) size (inb k), p k⟩]) = p b := by
  intro b hb
  funext x
  by_cases hk : b = k
  · subst hk
    exact View.read_writes_cons_unit_of_mem v f (inb b) (p b) [] _ x rfl (fun a => by
      show off b a + 1 * (x a).val = _; rw [Nat.one_mul])
  · have hlt : b.val < k.val := by
      have : b.val ≠ k.val := fun h => hk (Fin.ext h)
      omega
    rw [← hf b hlt]
    refine View.read_writes_cons_unit_of_not_mem v f (inb k) (p k) [] _ rfl a (Or.inl ?_)
    have hx : (x a).val < size a := (x a).isLt
    show off b a + 1 * (x a).val < off k a
    rw [hoff, hoff]
    have hm : size a * b.val + size a ≤ size a * k.val := by
      rw [← Nat.mul_succ]; exact Nat.mul_le_mul_left _ hlt
    omega

end Blocks

/-- Trip numbers of the projection loop. -/
abbrev T1 := Fin k0_t1_loop.trips

/-- Token block `k` of a `6 × 256 × 7168` array, as the loop's wait names it. -/
def blkOf {sp : Space} (M : Memref sig .tc sp S6x256x7168 .bf16) (k : T1) : Memref sig .tc sp S256x7168 .bf16 :=
  (M.slice (Rect.unit (s := S6x256x7168) (k0_off2 k) S1x256x7168.size (k0_off2_inb k)) (fun _ => rfl)).squeeze S256x7168 squeezes_S1x256x7168_S256x7168

abbrev rectX (k : T1) : Rect S6x256x7168 := Rect.unit (s := S6x256x7168) (k0_off3 k) S1x256x7168.size (k0_off3_inb k)

/-- The counter of block `k`'s copy. -/
abbrev cellX (k : T1) : SemLoc sig :=
  SemLoc.dma ((cc0_scratch9.slice (Rect.unit (s := S6) (k0_off1 k) S1.size (k0_off1_inb k))).squeeze S_ squeezes_S1_S_).sem

/-- What the copy of block `k` delivers: the scratch block at the argument's values, and the argument's block back. -/
abbrev landedX (c : Dev nD) (q : PosShare TreeShare) (fx : T1 → BufOf (F := F) c sX) (gx : BufOf (F := F) c hX) (k : T1) : sProp 𝕄 :=
  iprop((sX.view.loc (c : Thread nD τ) ↦[sX.view.setOn (rectX k).set]{fullShare} (fx k))
    ∗ ((blkOf hX k).view.loc (c : Thread nD τ) ↦[(blkOf hX k).view.set]{q} gx))

def ΦX (c : Dev nD) (q : PosShare TreeShare) (fx : T1 → BufOf (F := F) c sX) (gx : BufOf (F := F) c hX) (k : T1) (b : Bool) : sProp 𝕄 :=
  if b then Transfers.Flight (countersEmb (U := Pipeline.UD sig nD τ)) (c : Thread nD τ) (cellX k) () 114688 (landedX c q fx gx k)
  else iprop(semVal ((c : Thread nD τ), cellX k) 0 ∗ landedX c q fx gx k)

theorem ΦX_true (c : Dev nD) (q : PosShare TreeShare) (fx : T1 → BufOf (F := F) c sX) (gx : BufOf (F := F) c hX) (k : T1) :
    ΦX c q fx gx k true = Transfers.Flight (countersEmb (U := Pipeline.UD sig nD τ)) (c : Thread nD τ) (cellX k) () 114688
      iprop((sX.view.loc (c : Thread nD τ) ↦[sX.view.setOn (Rect.unit (s := S6x256x7168) (k0_off3 k) S1x256x7168.size (k0_off3_inb k)).set]{fullShare} (fx k))
        ∗ ((blkOf hX k).view.loc (c : Thread nD τ) ↦[(blkOf hX k).view.set]{q} gx)) := rfl
theorem ΦX_false (c : Dev nD) (q : PosShare TreeShare) (fx : T1 → BufOf (F := F) c sX) (gx : BufOf (F := F) c hX) (k : T1) :
    ΦX c q fx gx k false = iprop(semVal ((c : Thread nD τ), cellX k) 0
      ∗ (sX.view.loc (c : Thread nD τ) ↦[sX.view.setOn (Rect.unit (s := S6x256x7168) (k0_off3 k) S1x256x7168.size (k0_off3_inb k)).set]{fullShare} (fx k))
      ∗ ((blkOf hX k).view.loc (c : Thread nD τ) ↦[(blkOf hX k).view.set]{q} gx)) := rfl

/-- The operand reads of trip `k`, and the codes and scale words it stores. -/
def codesOf (c : Dev nD) (fx : T1 → BufOf (F := F) c sX) (wb : BufOf (F := F) c sWb) (lnw : BufOf (F := F) c aLnw) (lnb : BufOf (F := F) c aLnb) (pos : BufOf (F := F) c aPos)
    (fr : BufOf (F := F) c aFreq) (had : FVec F S128x128 .f32) (k : T1) : FVec F S1x256x128 .fp8e4m3 :=
  tripCodes (sWb.view.readAt (Elt F) (Rect.unit (s := S128x7168) ![0, 0] S128x7168.size inb_S128x7168_S128x7168_0_0).toLoadRect wb)
    (sX.view.readAt (Elt F) (Rect.unit (s := S6x256x7168) (k0_off3 k) S1x256x7168.size (k0_off3_inb k)).toLoadRect (fx k))
    (aLnw.view.readAt (Elt F) (Rect.unit (s := S128x1) ![0, 0] S128x1.size inb_S128x1_S128x1_0_0).toLoadRect lnw)
    (aLnb.view.readAt (Elt F) (Rect.unit (s := S128x1) ![0, 0] S128x1.size inb_S128x1_S128x1_0_0).toLoadRect lnb)
    (aPos.view.readAt (Elt F) (Rect.unit (s := S6x256) (k0_off4 k) S1x256.size (k0_off4_inb k)).toLoadRect pos)
    (aFreq.view.readAt (Elt F) (Rect.unit (s := S32x1) ![0, 0] S32x1.size inb_S32x1_S32x1_0_0).toLoadRect fr) had

def wordsOf (c : Dev nD) (fx : T1 → BufOf (F := F) c sX) (wb : BufOf (F := F) c sWb) (lnw : BufOf (F := F) c aLnw) (lnb : BufOf (F := F) c aLnb) (pos : BufOf (F := F) c aPos)
    (fr : BufOf (F := F) c aFreq) (had : FVec F S128x128 .f32) (k : T1) : IVec S1x1x256 32 :=
  tripWords (sWb.view.readAt (Elt F) (Rect.unit (s := S128x7168) ![0, 0] S128x7168.size inb_S128x7168_S128x7168_0_0).toLoadRect wb)
    (sX.view.readAt (Elt F) (Rect.unit (s := S6x256x7168) (k0_off3 k) S1x256x7168.size (k0_off3_inb k)).toLoadRect (fx k))
    (aLnw.view.readAt (Elt F) (Rect.unit (s := S128x1) ![0, 0] S128x1.size inb_S128x1_S128x1_0_0).toLoadRect lnw)
    (aLnb.view.readAt (Elt F) (Rect.unit (s := S128x1) ![0, 0] S128x1.size inb_S128x1_S128x1_0_0).toLoadRect lnb)
    (aPos.view.readAt (Elt F) (Rect.unit (s := S6x256) (k0_off4 k) S1x256.size (k0_off4_inb k)).toLoadRect pos)
    (aFreq.view.readAt (Elt F) (Rect.unit (s := S32x1) ![0, 0] S32x1.size inb_S32x1_S32x1_0_0).toLoadRect fr) had

/-- The words of one trip as the patches read them: a row of 128 equal lanes for each token. -/
def lanesOf (c : Dev nD) (fx : T1 → BufOf (F := F) c sX) (wb : BufOf (F := F) c sWb) (lnw : BufOf (F := F) c aLnw) (lnb : BufOf (F := F) c aLnb) (pos : BufOf (F := F) c aPos)
    (fr : BufOf (F := F) c aFreq) (had : FVec F S128x128 .f32) (k : T1) : IVec S256x128 32 :=
  tripLanes (sWb.view.readAt (Elt F) (Rect.unit (s := S128x7168) ![0, 0] S128x7168.size inb_S128x7168_S128x7168_0_0).toLoadRect wb)
    (sX.view.readAt (Elt F) (Rect.unit (s := S6x256x7168) (k0_off3 k) S1x256x7168.size (k0_off3_inb k)).toLoadRect (fx k))
    (aLnw.view.readAt (Elt F) (Rect.unit (s := S128x1) ![0, 0] S128x1.size inb_S128x1_S128x1_0_0).toLoadRect lnw)
    (aLnb.view.readAt (Elt F) (Rect.unit (s := S128x1) ![0, 0] S128x1.size inb_S128x1_S128x1_0_0).toLoadRect lnb)
    (aPos.view.readAt (Elt F) (Rect.unit (s := S6x256) (k0_off4 k) S1x256.size (k0_off4_inb k)).toLoadRect pos)
    (aFreq.view.readAt (Elt F) (Rect.unit (s := S32x1) ![0, 0] S32x1.size inb_S32x1_S32x1_0_0).toLoadRect fr) had

/-- Blocks of the codes scratch, and of the scale-word scratch, before trip `k`. -/
abbrev codesTo (c : Dev nD) (C : T1 → FVec F S1x256x128 .fp8e4m3) (k : ℕ) (f : BufOf (F := F) c sCodes) : Prop :=
  ∀ b : T1, b.val < k → sCodes.view.readAt (Elt F) (Rect.unit (s := S6x256x128) (k0_off5 b) S1x256x128.size (k0_off5_inb b)).toLoadRect f = C b
abbrev wordsTo (c : Dev nD) (C : T1 → IVec S1x1x256 32) (k : ℕ) (f : BufOf (F := F) c sScales) : Prop :=
  ∀ b : T1, b.val < k → sScales.view.readAt (Elt F) (Rect.unit (s := S6x1x256) (k0_off7 b) S1x1x256.size (k0_off7_inb b)).toLoadRect f = C b

/-- Blocks of the token words' scratch before trip `k`. -/
abbrev lanesTo (c : Dev nD) (C : T1 → IVec S256x128 32) (k : ℕ) (f : BufOf (F := F) c sWt) : Prop :=
  ∀ b : T1, b.val < k → sWt.view.readAt (Elt F) (Rect.unit (s := S1664x128) (k0_off6 b) S256x128.size (k0_off6_inb b)).toLoadRect f = C b

section Loop
variable (c : Dev nD) (q : PosShare TreeShare) (fx : T1 → BufOf (F := F) c sX) (gx : BufOf (F := F) c hX)
    (wb : BufOf (F := F) c sWb) (lnw : BufOf (F := F) c aLnw) (lnb : BufOf (F := F) c aLnb) (pos : BufOf (F := F) c aPos) (fr : BufOf (F := F) c aFreq)
    (had : FVec F S128x128 .f32)

/-- Before trip `k`: blocks before `k` landed and the others in flight; the operands as they were; the codes and words of
    the blocks before `k` stored. -/
def inv1 (k : ℕ) (_ : Unit) : sProp 𝕄 :=
  iprop(Ring.AtW (ΦX c q fx gx) (fun b => decide (k ≤ b.val)) ∗ (∃ W, owes (c : Thread nD τ) 0 W)
    ∗ held c sWb wb ∗ held c aLnw lnw ∗ held c aLnb lnb ∗ held c aPos pos ∗ held c aFreq fr
    ∗ (∃ f, held c sY f) ∗ (∃ f, held c sWt f ∗ ⌜lanesTo (F := F) c (lanesOf c fx wb lnw lnb pos fr had) k f⌝)
    ∗ (∃ f, held c sCodes f ∗ ⌜codesTo c (codesOf c fx wb lnw lnb pos fr had) k f⌝)
    ∗ (∃ f, held c sScales f ∗ ⌜wordsTo (F := F) c (wordsOf c fx wb lnw lnb pos fr had) k f⌝))

abbrev body1 := k0_t1_body (F := F) aSlot (Memref.isWhole_whole _) aWs (Memref.isWhole_whole _) aLnw (Memref.isWhole_whole _) aLnb (Memref.isWhole_whole _) aPos (Memref.isWhole_whole _) aFreq (Memref.isWhole_whole _)
    hX (Memref.isWhole_whole _) hW (Memref.isWhole_whole _) hKc (Memref.isWhole_whole _) hKs (Memref.isWhole_whole _) hKcOut (Memref.isWhole_whole _) hKsOut (Memref.isWhole_whole _) hCodes (Memref.isWhole_whole _) hScales (Memref.isWhole_whole _)
    sX (Memref.isWhole_whole _) sKc (Memref.isWhole_whole _) sKs (Memref.isWhole_whole _) sWq (Memref.isWhole_whole _) sWb (Memref.isWhole_whole _) sY (Memref.isWhole_whole _) sWt (Memref.isWhole_whole _) sCodes (Memref.isWhole_whole _) sScales (Memref.isWhole_whole _)
    cc0_scratch9 cc0_scratch10 cc0_scratch11 cc0_scratch12 cc0_scratch13 cc0_scratch14 had

theorem step1 (k : T1) (acc : Unit) :
    inv1 c q fx gx wb lnw lnb pos fr had k.val acc
      ⊢ wp frame (wpE (defs₀ (F := F)) Variants.none (c : Thread nD τ) none) Set.univ (body1 had k acc)
          (fun _ => inv1 c q fx gx wb lnw lnb pos fr had (k.val + 1) ()) := by
  unfold inv1
  have hst : decide (k.val ≤ k.val) = true := by simp
  rw [Ring.AtW_focus (ΦX c q fx gx) _ k, hst, ΦX_true]
  iintro ⟨⟨Hk, Hrest⟩, ⟨%W, HO⟩, Hwb, Hlnw, Hlnb, Hpos, Hfr, ⟨%ft, Hy⟩, ⟨%fw, Hw, %hw⟩, ⟨%f0, Hc, %hf⟩, ⟨%g0, Hs, %hg⟩⟩
  unfold body1 k0_t1_body
  sl_exec
  sl_step
  isplitl [Hrest Hk_dst Hk_src Hk]
  · have hu : (fun b : T1 => decide (k.val + 1 ≤ b.val)) = Function.update (fun b : T1 => decide (k.val ≤ b.val)) k false := by
      funext b
      by_cases h : b = k
      · subst h; simp
      · rw [Function.update_of_ne h]
        have : b.val ≠ k.val := fun h' => h (Fin.ext h')
        exact decide_eq_decide.mpr (by omega)
    rw [hu]
    iapply (Ring.AtW_update (σ := fun _ => Bool) (ΦX c q fx gx) _ k false)
    isplitr [Hrest]
    · rw [ΦX_false]
      isplitl [Hk]; · iexact Hk
      isplitl [Hk_dst] <;> iassumption
    · iexact Hrest
  isplitl [HO]; · iexists _; iexact HO
  isplitl [Hwb]; · iexact Hwb
  isplitl [Hlnw]; · iexact Hlnw
  isplitl [Hlnb]; · iexact Hlnb
  isplitl [Hpos]; · iexact Hpos
  isplitl [Hfr]; · iexact Hfr
  isplitl [Hy]; · iexists _; iexact Hy
  isplitl [Hw]
  · iexists _
    isplitl [Hw]; · iexact Hw
    ipureintro
    exact blocks_step (F := F) sWt.view fw (0 : Fin 2) 64 k0_off6 (fun b => by rw [k0_off6_eq]; rfl) k0_off6_inb (lanesOf c fx wb lnw lnb pos fr had) k hw
  isplitl [Hc]
  · iexists _
    isplitl [Hc]; · iexact Hc
    ipureintro
    exact blocks_step sCodes.view f0 (0 : Fin 3) 0 k0_off5 (fun b => by rw [k0_off5_eq]; show b.val = 1 * b.val + 0; omega) k0_off5_inb (codesOf c fx wb lnw lnb pos fr had) k hf
  · iexists _
    isplitl [Hs]; · iexact Hs
    ipureintro
    exact blocks_step (F := F) sScales.view g0 (0 : Fin 3) 0 k0_off7 (fun b => by rw [k0_off7_eq]; show b.val = 1 * b.val + 0; omega) k0_off7_inb (wordsOf c fx wb lnw lnb pos fr had) k hg

end Loop

end Cert.KernelIdeal.Hand

end
-- ==== Proof.KI.Loop3.lean ====
/-
  The pool loop: trip `i` waits for the copy of chunk `i`, patches its pages and starts writing the chunk back, all the writes on one counter.
-/
module

public import proofs.«01_k».proof.Proof.KI.Loop4
public import proofs.«01_k».proof.Proof.KI.Loop1

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

/-- Trip numbers of the pool loop. -/
abbrev T3 := Fin k0_t3_loop.trips

/-- Chunk `i` of a pool, as the copies name it. -/
def chunkOf {sp : Space} (M : Memref sig .tc sp S3870x64x128 .fp8e4m3) (i : T3) : Memref sig .tc sp S258x64x128 .fp8e4m3 :=
  M.slice (Rect.unit (s := S3870x64x128) (k0_off14 i) S258x64x128.size (k0_off14_inb i)) (fun _ => rfl)

/-- The counter of chunk `i`'s copy in. -/
abbrev cellC (i : T3) : SemLoc sig :=
  SemLoc.dma ((cc0_scratch10.slice (Rect.unit (s := S15) (k0_off13 i) S1.size (k0_off13_inb i))).squeeze S_ squeezes_S1_S_).sem

/-- The one counter of the writes back. -/
abbrev cellW : SemLoc sig := SemLoc.dma cc0_scratch11.sem

/-- Chunk `i` before its trip: the copy in flight, and the chunk of the result to write; after it: the counter at zero and
    the argument's chunk back. -/
def ΦC (c : Dev nD) (q : PosShare TreeShare) (fc : T3 → BufOf (F := F) c sKc) (gc : BufOf (F := F) c hKc) (i : T3) (b : Bool) : sProp 𝕄 :=
  if b then iprop(Transfers.Flight (countersEmb (U := Pipeline.UD sig nD τ)) (c : Thread nD τ) (cellC i) () 66048
      iprop((sKc.view.loc (c : Thread nD τ) ↦[sKc.view.setOn (Rect.unit (s := S3870x64x128) (k0_off14 i) S258x64x128.size (k0_off14_inb i)).set]{fullShare} (fc i))
        ∗ ((chunkOf hKc i).view.loc (c : Thread nD τ) ↦[(chunkOf hKc i).view.set]{q} gc))
      ∗ (∃ g, (chunkOf hKcOut i).view.loc (c : Thread nD τ) ↦[(chunkOf hKcOut i).view.set]{fullShare} g))
  else iprop(semVal ((c : Thread nD τ), cellC i) 0 ∗ ((chunkOf hKc i).view.loc (c : Thread nD τ) ↦[(chunkOf hKc i).view.set]{q} gc))

theorem ΦC_true (c : Dev nD) (q : PosShare TreeShare) (fc : T3 → BufOf (F := F) c sKc) (gc : BufOf (F := F) c hKc) (i : T3) :
    ΦC c q fc gc i true = iprop(Transfers.Flight (countersEmb (U := Pipeline.UD sig nD τ)) (c : Thread nD τ) (cellC i) () 66048
      iprop((sKc.view.loc (c : Thread nD τ) ↦[sKc.view.setOn (Rect.unit (s := S3870x64x128) (k0_off14 i) S258x64x128.size (k0_off14_inb i)).set]{fullShare} (fc i))
        ∗ ((chunkOf hKc i).view.loc (c : Thread nD τ) ↦[(chunkOf hKc i).view.set]{q} gc))
      ∗ (∃ g, (chunkOf hKcOut i).view.loc (c : Thread nD τ) ↦[(chunkOf hKcOut i).view.set]{fullShare} g)) := rfl
theorem ΦC_false (c : Dev nD) (q : PosShare TreeShare) (fc : T3 → BufOf (F := F) c sKc) (gc : BufOf (F := F) c hKc) (i : T3) :
    ΦC c q fc gc i false = iprop(semVal ((c : Thread nD τ), cellC i) 0 ∗ ((chunkOf hKc i).view.loc (c : Thread nD τ) ↦[(chunkOf hKc i).view.set]{q} gc)) := rfl

/-- What write `i` delivers: the result's chunk, and the scratch chunk back. -/
abbrev dW (c : Dev nD) (i : T3) : sProp 𝕄 :=
  iprop((∃ g, (chunkOf hKcOut i).view.loc (c : Thread nD τ) ↦[(chunkOf hKcOut i).view.set]{fullShare} (g : BufOf (F := F) c hKcOut))
    ∗ (∃ f, (chunkOf sKc i).view.loc (c : Thread nD τ) ↦[(chunkOf sKc i).view.set]{fullShare} (f : BufOf (F := F) c sKc)))

abbrev batchW (c : Dev nD) (j u : ℕ) : sProp 𝕄 :=
  Transfers.Batch (countersEmb (U := Pipeline.UD sig nD τ)) (c : Thread nD τ) cellW () 66048 (dW (F := F) c) j u

section Loop
variable (c : Dev nD) (q : PosShare TreeShare) (fc : T3 → BufOf (F := F) c sKc) (gc : BufOf (F := F) c hKc) (sl : BufOf (F := F) c aSlot) (had : FVec F S128x128 .f32)

/-- Before trip `k`: the chunks before `k` being written, the others being copied in. -/
def inv3 (k : ℕ) (_ : Unit) : sProp 𝕄 :=
  iprop(Ring.AtW (ΦC c q fc gc) (fun i => decide (k ≤ i.val)) ∗ (∃ W, owes (c : Thread nD τ) 0 W)
    ∗ held c aSlot sl ∗ (∃ f, held c sY f) ∗ batchW (F := F) c k 0)

abbrev body3 := k0_t3_body (F := F) aSlot (Memref.isWhole_whole _) aWs (Memref.isWhole_whole _) aLnw (Memref.isWhole_whole _) aLnb (Memref.isWhole_whole _) aPos (Memref.isWhole_whole _) aFreq (Memref.isWhole_whole _)
    hX (Memref.isWhole_whole _) hW (Memref.isWhole_whole _) hKc (Memref.isWhole_whole _) hKs (Memref.isWhole_whole _) hKcOut (Memref.isWhole_whole _) hKsOut (Memref.isWhole_whole _) hCodes (Memref.isWhole_whole _) hScales (Memref.isWhole_whole _)
    sX (Memref.isWhole_whole _) sKc (Memref.isWhole_whole _) sKs (Memref.isWhole_whole _) sWq (Memref.isWhole_whole _) sWb (Memref.isWhole_whole _) sY (Memref.isWhole_whole _) sWt (Memref.isWhole_whole _) sCodes (Memref.isWhole_whole _) sScales (Memref.isWhole_whole _)
    cc0_scratch9 cc0_scratch10 cc0_scratch11 cc0_scratch12 cc0_scratch13 cc0_scratch14 had

theorem step3 (hsl : InReach c sl) (i : T3) (acc : Unit) :
    inv3 c q fc gc sl i.val acc
      ⊢ wp frame (wpE (defs₀ (F := F)) Variants.none (c : Thread nD τ) none) Set.univ (body3 had i acc)
          (fun _ => inv3 c q fc gc sl (i.val + 1) ()) := by
  have hi : i.val < 15 := i.isLt
  unfold inv3
  have hst : decide (i.val ≤ i.val) = true := by simp
  rw [Ring.AtW_focus (ΦC c q fc gc) _ i, hst, ΦC_true]
  iintro ⟨⟨⟨Hk, ⟨%g, Hout⟩⟩, Hrest⟩, ⟨%W, HO⟩, Hsl, ⟨%fy, Hy⟩, HB⟩
  sl_unfold [body3, k0_t3_body]
  sl_exec
  sl_for (inv4 c sl i) $$ [Hk_dst Hsl Hy]
  · intro k acc; exact step4 c sl had i hsl k acc
  · unfold inv4
    isplitl [Hsl]; · iexact Hsl
    isplitl [Hy]; · iexists _; iexact Hy
    iexists _; iexact Hk_dst
  unfold inv4
  iintro %acc ⟨Hsl, ⟨%fy', Hy⟩, ⟨%f1, Hc⟩⟩
  have hset : sKc.view.setOn (Rect.unit (s := S3870x64x128) (k0_off14 i) S258x64x128.size (k0_off14_inb i)).set = (chunkOf sKc i).view.set := by
    unfold chunkOf; exact (View.set_slice sKc.view _).symm
  ihave Hc' := (show (sKc.view.loc (c : Thread nD τ) ↦[sKc.view.setOn (Rect.unit (s := S3870x64x128) (k0_off14 i) S258x64x128.size (k0_off14_inb i)).set]{fullShare} f1)
    ⊢ (((chunkOf sKc i).view.loc (c : Thread nD τ) ↦[(chunkOf sKc i).view.set]{fullShare} (f1 : BufOf (F := F) c sKc)) : sProp 𝕄) from by rw [hset]; exact .rfl) $$ Hc
  sl_exec
  sl_step
  isplitl [Hrest Hk_src Hk]
  · have hu : (fun b : T3 => decide (i.val + 1 ≤ b.val)) = Function.update (fun b : T3 => decide (i.val ≤ b.val)) i false := by
      funext b
      by_cases h : b = i
      · subst h; simp
      · rw [Function.update_of_ne h]
        have : b.val ≠ i.val := fun h' => h (Fin.ext h')
        exact decide_eq_decide.mpr (by omega)
    rw [hu]
    iapply (Ring.AtW_update (σ := fun _ => Bool) (ΦC c q fc gc) _ i false)
    isplitr [Hrest]
    · rw [ΦC_false]
      isplitl [Hk] <;> iassumption
    · iexact Hrest
  isplitl [HO]; · iexists _; iexact HO
  isplitl [Hsl]; · iexact Hsl
  isplitl [Hy]; · iexists _; iexact Hy
  iexact HB

/-! ## Draining the writes -/

/-- Before trip `k` of the drain: the waits so far; and either the batch with `k` writes taken, or — after the last trip —
    the counter at zero and every delivery. -/
def inv5 (k : ℕ) (_ : Unit) : sProp 𝕄 :=
  iprop(⌜k ≤ 15⌝ ∗ (∃ W, owes (c : Thread nD τ) 0 W)
    ∗ (if k < 15 then batchW (F := F) c 15 (k * 66048) else iprop(semVal ((c : Thread nD τ), cellW) 0 ∗ bigSep Finset.univ (dW (F := F) c))))

abbrev body5 := k0_t5_body (F := F) aSlot (Memref.isWhole_whole _) aWs (Memref.isWhole_whole _) aLnw (Memref.isWhole_whole _) aLnb (Memref.isWhole_whole _) aPos (Memref.isWhole_whole _) aFreq (Memref.isWhole_whole _)
    hX (Memref.isWhole_whole _) hW (Memref.isWhole_whole _) hKc (Memref.isWhole_whole _) hKs (Memref.isWhole_whole _) hKcOut (Memref.isWhole_whole _) hKsOut (Memref.isWhole_whole _) hCodes (Memref.isWhole_whole _) hScales (Memref.isWhole_whole _)
    sX (Memref.isWhole_whole _) sKc (Memref.isWhole_whole _) sKs (Memref.isWhole_whole _) sWq (Memref.isWhole_whole _) sWb (Memref.isWhole_whole _) sY (Memref.isWhole_whole _) sWt (Memref.isWhole_whole _) sCodes (Memref.isWhole_whole _) sScales (Memref.isWhole_whole _)
    cc0_scratch9 cc0_scratch10 cc0_scratch11 cc0_scratch12 cc0_scratch13 cc0_scratch14 had

theorem step5 (k : Fin k0_t5_loop.trips) (acc : Unit) :
    inv5 (F := F) c k.val acc
      ⊢ wp frame (wpE (defs₀ (F := F)) Variants.none (c : Thread nD τ) none) Set.univ (body5 had k acc)
          (fun _ => inv5 (F := F) c (k.val + 1) ()) := by
  have hk : k.val < 15 := k.isLt
  unfold inv5
  simp only [if_pos hk]
  rcases Nat.lt_or_ge (k.val + 1) 15 with h1 | h1
  · simp only [if_pos h1]
    iintro ⟨-, ⟨%W, HO⟩, HB⟩
    sl_unfold [body5, k0_t5_body]
    sl_exec
    sl_step
    isplitr; · ipureintro; omega
    isplitl [HO]; · iexists _; iexact HO
    rw [show (k.val + 1) * 66048 = k.val * 66048 + 66048 by omega]
    iexact HB
  · simp only [if_neg (Nat.not_lt.mpr h1)]
    iintro ⟨-, ⟨%W, HO⟩, HB⟩
    sl_unfold [body5, k0_t5_body]
    sl_exec
    sl_step
    isplitr; · ipureintro; omega
    isplitl [HO]; · iexists _; iexact HO
    isplitl [HB]; · iexact HB
    iexact HB_all

end Loop

end Cert.KernelIdeal.Hand

end
-- ==== Proof.KI.Blocks.lean ====
/-
  The token blocks and the chunks of the pools: which elements each has, the buffers split into them and joined again, and the
  two families written out as the body names their members.
-/
module

public import proofs.«01_k».proof.Proof.KI.Loop3

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

/-! ## The token blocks and the pool chunks, as the body names them -/

/-- A token block of a `6 × 256 × 7168` array at a stated corner. -/
abbrev xAt {sp : Space} (M : Memref sig .tc sp S6x256x7168 .bf16) (o : Fin 3 → ℕ) (h : ∀ a, o a + S1x256x7168.size a ≤ S6x256x7168.size a) :
    Memref sig .tc sp S256x7168 .bf16 :=
  (M.slice (Rect.unit (s := S6x256x7168) o S1x256x7168.size h) (fun _ => rfl)).squeeze S256x7168 squeezes_S1x256x7168_S256x7168
/-- A chunk of a pool at a stated corner. -/
abbrev cAt {sp : Space} (M : Memref sig .tc sp S3870x64x128 .fp8e4m3) (o : Fin 3 → ℕ) (h : ∀ a, o a + S258x64x128.size a ≤ S3870x64x128.size a) :
    Memref sig .tc sp S258x64x128 .fp8e4m3 :=
  M.slice (Rect.unit (s := S3870x64x128) o S258x64x128.size h) (fun _ => rfl)

/-- A memref's elements held at contents. -/
abbrev own (c : Dev nD) {sp : Space} {S : Shape} {e : EltTy} (M : Memref sig .tc sp S e) (f : BufOf (F := F) c M) : sProp 𝕄 :=
  M.view.loc (c : Thread nD τ) ↦[M.view.set]{fullShare} f

theorem blk_lit {sp : Space} (M : Memref sig .tc sp S6x256x7168 .bf16) (k : T1) (o) (h) (e : k0_off2 k = o) : blkOf M k = xAt M o h := by
  subst e; rfl
theorem chunk_lit {sp : Space} (M : Memref sig .tc sp S3870x64x128 .fp8e4m3) (i : T3) (o) (h) (e : k0_off14 i = o) : chunkOf M i = cAt M o h := by
  subst e; rfl

/-! ## Which elements they have -/

abbrev xset (k : T1) : Finset S6x256x7168.Idx := (Rect.unit (s := S6x256x7168) (k0_off2 k) S1x256x7168.size (k0_off2_inb k)).set
theorem mem_xset (k : T1) (y : S6x256x7168.Idx) : y ∈ xset k ↔ (y 0).val = k.val := by
  rw [Rect.mem_set_unit, k0_off2_eq]
  have h1 : (y 1).val < 256 := (y 1).isLt
  have h2 : (y 2).val < 7168 := (y 2).isLt
  constructor
  · intro H; have a0 : k.val ≤ (y 0).val ∧ (y 0).val < k.val + 1 := H 0; omega
  · intro H a; fin_cases a
    · show k.val ≤ (y 0).val ∧ (y 0).val < k.val + 1; omega
    · show 0 ≤ (y 1).val ∧ (y 1).val < 0 + 256; omega
    · show 0 ≤ (y 2).val ∧ (y 2).val < 0 + 7168; omega
theorem xset_disjoint : ∀ b b' : T1, b ≠ b' → Disjoint (xset b) (xset b') := fun b b' hne => by
  rw [Finset.disjoint_left]; intro y hy hy'; rw [mem_xset] at hy hy'; exact hne (Fin.ext (by omega))
theorem xset_cover : Finset.univ.biUnion xset = Finset.univ := by
  ext y; simp only [Finset.mem_biUnion, Finset.mem_univ, true_and, iff_true]
  exact ⟨⟨(y 0).val, (y 0).isLt⟩, (mem_xset _ _).mpr rfl⟩

abbrev cset (i : T3) : Finset S3870x64x128.Idx := (Rect.unit (s := S3870x64x128) (k0_off14 i) S258x64x128.size (k0_off14_inb i)).set
theorem mem_cset (i : T3) (y : S3870x64x128.Idx) : y ∈ cset i ↔ 258 * i.val ≤ (y 0).val ∧ (y 0).val < 258 * i.val + 258 := by
  rw [Rect.mem_set_unit, k0_off14_eq]
  have h1 : (y 1).val < 64 := (y 1).isLt
  have h2 : (y 2).val < 128 := (y 2).isLt
  constructor
  · intro H; exact H 0
  · intro H a; fin_cases a
    · exact H
    · show 0 ≤ (y 1).val ∧ (y 1).val < 0 + 64; omega
    · show 0 ≤ (y 2).val ∧ (y 2).val < 0 + 128; omega
theorem cset_disjoint : ∀ b b' : T3, b ≠ b' → Disjoint (cset b) (cset b') := fun b b' hne => by
  rw [Finset.disjoint_left]; intro y hy hy'; rw [mem_cset] at hy hy'; exact hne (Fin.ext (by omega))
theorem cset_cover : Finset.univ.biUnion cset = Finset.univ := by
  ext y; simp only [Finset.mem_biUnion, Finset.mem_univ, true_and, iff_true]
  have h0 : (y 0).val < 3870 := (y 0).isLt
  exact ⟨⟨(y 0).val / 258, by show _ < 15; omega⟩, (mem_cset _ _).mpr (by show 258 * ((y 0).val / 258) ≤ _ ∧ _ < 258 * ((y 0).val / 258) + 258; omega)⟩

section Sets
variable (k : T1) (i : T3)
theorem set_hX : (blkOf hX k).view.set = xset k := (View.set_reshape _ _).trans (View.set_slice_whole _ _)
theorem set_sX : (blkOf sX k).view.set = xset k := (View.set_reshape _ _).trans (View.set_slice_whole _ _)
theorem set_hKc : (chunkOf hKc i).view.set = cset i := View.set_slice_whole _ _
theorem set_sKc : (chunkOf sKc i).view.set = cset i := View.set_slice_whole _ _
theorem set_hKcOut : (chunkOf hKcOut i).view.set = cset i := View.set_slice_whole _ _
/-- The two spellings of a scratch block's elements. -/
theorem setOn_sX : (blkOf sX k).view.set = sX.view.setOn (Rect.unit (s := S6x256x7168) (k0_off3 k) S1x256x7168.size (k0_off3_inb k)).set :=
  (View.set_reshape _ _).trans (View.set_slice _ _)
theorem setOn_sKc : (chunkOf sKc i).view.set = sKc.view.setOn (Rect.unit (s := S3870x64x128) (k0_off14 i) S258x64x128.size (k0_off14_inb i)).set :=
  View.set_slice _ _
end Sets

/-! ## A buffer whole, and its parts -/

section Parts
variable (c : Dev nD)

theorem split_hX (f : BufOf (F := F) c hX) : (held c hX f : sProp 𝕄) = bigSep Finset.univ (fun k => own c (blkOf hX k) f) :=
  (Ring.pointsTo_blocks (ℓ := hX.view.loc (c : Thread nD τ)) (q := fullShare) xset xset_disjoint xset_cover f).trans
    (BI.bigSep_congr fun k _ => by show _ = (hX.view.loc (c : Thread nD τ) ↦[(blkOf hX k).view.set]{fullShare} f : sProp 𝕄); rw [set_hX])
theorem split_sX (f : BufOf (F := F) c sX) : (held c sX f : sProp 𝕄) = bigSep Finset.univ (fun k => own c (blkOf sX k) f) :=
  (Ring.pointsTo_blocks (ℓ := sX.view.loc (c : Thread nD τ)) (q := fullShare) xset xset_disjoint xset_cover f).trans
    (BI.bigSep_congr fun k _ => by show _ = (sX.view.loc (c : Thread nD τ) ↦[(blkOf sX k).view.set]{fullShare} f : sProp 𝕄); rw [set_sX])
theorem split_hKc (f : BufOf (F := F) c hKc) : (held c hKc f : sProp 𝕄) = bigSep Finset.univ (fun i => own c (chunkOf hKc i) f) :=
  (Ring.pointsTo_blocks (ℓ := hKc.view.loc (c : Thread nD τ)) (q := fullShare) cset cset_disjoint cset_cover f).trans
    (BI.bigSep_congr fun i _ => by show _ = (hKc.view.loc (c : Thread nD τ) ↦[(chunkOf hKc i).view.set]{fullShare} f : sProp 𝕄); rw [set_hKc])
theorem split_sKc (f : BufOf (F := F) c sKc) : (held c sKc f : sProp 𝕄) = bigSep Finset.univ (fun i => own c (chunkOf sKc i) f) :=
  (Ring.pointsTo_blocks (ℓ := sKc.view.loc (c : Thread nD τ)) (q := fullShare) cset cset_disjoint cset_cover f).trans
    (BI.bigSep_congr fun i _ => by show _ = (sKc.view.loc (c : Thread nD τ) ↦[(chunkOf sKc i).view.set]{fullShare} f : sProp 𝕄); rw [set_sKc])
theorem split_hKcOut (f : BufOf (F := F) c hKcOut) : (held c hKcOut f : sProp 𝕄) = bigSep Finset.univ (fun i => own c (chunkOf hKcOut i) f) :=
  (Ring.pointsTo_blocks (ℓ := hKcOut.view.loc (c : Thread nD τ)) (q := fullShare) cset cset_disjoint cset_cover f).trans
    (BI.bigSep_congr fun i _ => by show _ = (hKcOut.view.loc (c : Thread nD τ) ↦[(chunkOf hKcOut i).view.set]{fullShare} f : sProp 𝕄); rw [set_hKcOut])

/-- Blocks at contents of their own make a buffer at some contents. -/
theorem join_sX (fs : T1 → BufOf (F := F) c sX) :
    (bigSep Finset.univ (fun k => own c (blkOf sX k) (fs k)) : sProp 𝕄) ⊢ iprop(∃ f, held c sX f) := by
  refine BIBase.Entails.trans (Entails.of_eq (BI.bigSep_congr fun k _ => ?_)) (Ring.pointsTo_blocks_join (ℓ := sX.view.loc (c : Thread nD τ)) (q := fullShare)
    xset xset_disjoint xset_cover fs sX.view.junk)
  show (sX.view.loc (c : Thread nD τ) ↦[(blkOf sX k).view.set]{fullShare} fs k : sProp 𝕄) = _
  rw [set_sX]
theorem join_sKc :
    (bigSep Finset.univ (fun i => iprop(∃ f, own c (chunkOf sKc i) (f : BufOf (F := F) c sKc))) : sProp 𝕄) ⊢ iprop(∃ f, held c sKc f) := by
  refine BIBase.Entails.trans (Entails.of_eq (BI.bigSep_congr fun i _ => ?_)) (Ring.pointsTo_blocks_join_exists (ℓ := sKc.view.loc (c : Thread nD τ)) (q := fullShare)
    cset cset_disjoint cset_cover sKc.view.junk)
  show (iprop(∃ f, sKc.view.loc (c : Thread nD τ) ↦[(chunkOf sKc i).view.set]{fullShare} f) : sProp 𝕄) = _
  rw [set_sKc]
theorem join_hKcOut :
    (bigSep Finset.univ (fun i => iprop(∃ f, own c (chunkOf hKcOut i) (f : BufOf (F := F) c hKcOut))) : sProp 𝕄) ⊢ iprop(∃ f, held c hKcOut f) := by
  refine BIBase.Entails.trans (Entails.of_eq (BI.bigSep_congr fun i _ => ?_)) (Ring.pointsTo_blocks_join_exists (ℓ := hKcOut.view.loc (c : Thread nD τ)) (q := fullShare)
    cset cset_disjoint cset_cover hKcOut.view.junk)
  show (iprop(∃ f, hKcOut.view.loc (c : Thread nD τ) ↦[(chunkOf hKcOut i).view.set]{fullShare} f) : sProp 𝕄) = _
  rw [set_hKcOut]

/-! ## The families as the chains the body's run holds -/

/-- The six blocks, and the fifteen chunks, in order. -/
abbrev T1s : List T1 := List.finRange 6
abbrev T3s : List T3 := List.finRange 15

theorem x_list (Φ : T1 → sProp 𝕄) : bigSep Finset.univ Φ = bigSepL T1s Φ := BI.bigSep_univ_eq_bigSepL T1s (by decide) (by decide) Φ
theorem c_list (Φ : T3 → sProp 𝕄) : bigSep Finset.univ Φ = bigSepL T3s Φ := BI.bigSep_univ_eq_bigSepL T3s (by decide) (by decide) Φ

theorem xs_lit {sp : Space} (M : Memref sig .tc sp S6x256x7168 .bf16) (f : BufOf (F := F) c M) :
    (bigSep Finset.univ (fun k => own c (blkOf M k) f) : sProp 𝕄)
      = iprop(own c (xAt M ![0, 0, 0] inb_S6x256x7168_S1x256x7168_0_0_0) f
          ∗ own c (xAt M ![1, 0, 0] inb_S6x256x7168_S1x256x7168_1_0_0) f
          ∗ own c (xAt M ![2, 0, 0] inb_S6x256x7168_S1x256x7168_2_0_0) f
          ∗ own c (xAt M ![3, 0, 0] inb_S6x256x7168_S1x256x7168_3_0_0) f
          ∗ own c (xAt M ![4, 0, 0] inb_S6x256x7168_S1x256x7168_4_0_0) f
          ∗ own c (xAt M ![5, 0, 0] inb_S6x256x7168_S1x256x7168_5_0_0) f) := by
  rw [x_list]
  rfl

theorem cs_lit {sp : Space} (M : Memref sig .tc sp S3870x64x128 .fp8e4m3) (f : BufOf (F := F) c M) :
    (bigSep Finset.univ (fun i => own c (chunkOf M i) f) : sProp 𝕄)
      = iprop(own c (cAt M ![0, 0, 0] inb_S3870x64x128_S258x64x128_0_0_0) f
          ∗ own c (cAt M ![258, 0, 0] inb_S3870x64x128_S258x64x128_258_0_0) f
          ∗ own c (cAt M ![516, 0, 0] inb_S3870x64x128_S258x64x128_516_0_0) f
          ∗ own c (cAt M ![774, 0, 0] inb_S3870x64x128_S258x64x128_774_0_0) f
          ∗ own c (cAt M ![1032, 0, 0] inb_S3870x64x128_S258x64x128_1032_0_0) f
          ∗ own c (cAt M ![1290, 0, 0] inb_S3870x64x128_S258x64x128_1290_0_0) f
          ∗ own c (cAt M ![1548, 0, 0] inb_S3870x64x128_S258x64x128_1548_0_0) f
          ∗ own c (cAt M ![1806, 0, 0] inb_S3870x64x128_S258x64x128_1806_0_0) f
          ∗ own c (cAt M ![2064, 0, 0] inb_S3870x64x128_S258x64x128_2064_0_0) f
          ∗ own c (cAt M ![2322, 0, 0] inb_S3870x64x128_S258x64x128_2322_0_0) f
          ∗ own c (cAt M ![2580, 0, 0] inb_S3870x64x128_S258x64x128_2580_0_0) f
          ∗ own c (cAt M ![2838, 0, 0] inb_S3870x64x128_S258x64x128_2838_0_0) f
          ∗ own c (cAt M ![3096, 0, 0] inb_S3870x64x128_S258x64x128_3096_0_0) f
          ∗ own c (cAt M ![3354, 0, 0] inb_S3870x64x128_S258x64x128_3354_0_0) f
          ∗ own c (cAt M ![3612, 0, 0] inb_S3870x64x128_S258x64x128_3612_0_0) f) := by
  rw [c_list]
  rfl

/-- A family from its members, and its members from it. -/
theorem x_chain (Φ : T1 → Bool → sProp 𝕄) (st : T1 → Bool) :
    iprop(Φ ⟨0, by decide⟩ (st ⟨0, by decide⟩) ∗ Φ ⟨1, by decide⟩ (st ⟨1, by decide⟩) ∗ Φ ⟨2, by decide⟩ (st ⟨2, by decide⟩) ∗ Φ ⟨3, by decide⟩ (st ⟨3, by decide⟩) ∗ Φ ⟨4, by decide⟩ (st ⟨4, by decide⟩) ∗ Φ ⟨5, by decide⟩ (st ⟨5, by decide⟩)) ⊢ Ring.AtW (σ := fun _ => Bool) Φ st := Entails.of_eq (x_list (fun k => Φ k (st k))).symm
theorem c_chain (Φ : T3 → Bool → sProp 𝕄) (st : T3 → Bool) :
    iprop(Φ ⟨0, by decide⟩ (st ⟨0, by decide⟩) ∗ Φ ⟨1, by decide⟩ (st ⟨1, by decide⟩) ∗ Φ ⟨2, by decide⟩ (st ⟨2, by decide⟩) ∗ Φ ⟨3, by decide⟩ (st ⟨3, by decide⟩) ∗ Φ ⟨4, by decide⟩ (st ⟨4, by decide⟩) ∗ Φ ⟨5, by decide⟩ (st ⟨5, by decide⟩) ∗ Φ ⟨6, by decide⟩ (st ⟨6, by decide⟩) ∗ Φ ⟨7, by decide⟩ (st ⟨7, by decide⟩) ∗ Φ ⟨8, by decide⟩ (st ⟨8, by decide⟩) ∗ Φ ⟨9, by decide⟩ (st ⟨9, by decide⟩) ∗ Φ ⟨10, by decide⟩ (st ⟨10, by decide⟩) ∗ Φ ⟨11, by decide⟩ (st ⟨11, by decide⟩) ∗ Φ ⟨12, by decide⟩ (st ⟨12, by decide⟩) ∗ Φ ⟨13, by decide⟩ (st ⟨13, by decide⟩) ∗ Φ ⟨14, by decide⟩ (st ⟨14, by decide⟩)) ⊢ Ring.AtW (σ := fun _ => Bool) Φ st := Entails.of_eq (c_list (fun i => Φ i (st i))).symm
theorem c_unchain (Φ : T3 → sProp 𝕄) :
    bigSep Finset.univ Φ ⊢ iprop(Φ ⟨0, by decide⟩ ∗ Φ ⟨1, by decide⟩ ∗ Φ ⟨2, by decide⟩ ∗ Φ ⟨3, by decide⟩ ∗ Φ ⟨4, by decide⟩ ∗ Φ ⟨5, by decide⟩ ∗ Φ ⟨6, by decide⟩ ∗ Φ ⟨7, by decide⟩ ∗ Φ ⟨8, by decide⟩ ∗ Φ ⟨9, by decide⟩ ∗ Φ ⟨10, by decide⟩ ∗ Φ ⟨11, by decide⟩ ∗ Φ ⟨12, by decide⟩ ∗ Φ ⟨13, by decide⟩ ∗ Φ ⟨14, by decide⟩) := Entails.of_eq (c_list Φ)

end Parts

end Cert.KernelIdeal.Hand

end
-- ==== Proof.KI.Flights.lean ====
/-
  The copies the body starts before its loops: each in flight as the loops' invariants hold it, and what is left when all have landed.
-/
module

public import proofs.«01_k».proof.Proof.KI.Blocks

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

section Body
variable (c : Dev nD)

/-! ## The copies in flight before the loops -/

/-- Scratch block `k` once the argument's block `k` landed on it. -/
def landX (f0 : BufOf (F := F) c sX) (gx : BufOf (F := F) c hX) (k : T1) : BufOf (F := F) c sX :=
  (blkOf sX k).view.writes (Elt F) f0 [⟨Rect.whole S256x7168, ReadAs.same.apply ((blkOf hX k).view.read (Elt F) gx)⟩]
/-- Scratch chunk `i` once the argument's chunk `i` landed on it. -/
def landC (f0 : BufOf (F := F) c sKc) (gc : BufOf (F := F) c hKc) (i : T3) : BufOf (F := F) c sKc :=
  (chunkOf sKc i).view.writes (Elt F) f0 [⟨Rect.whole S258x64x128, ReadAs.same.apply ((chunkOf hKc i).view.read (Elt F) gc)⟩]

theorem packX (f0 : BufOf (F := F) c sX) (gx : BufOf (F := F) c hX) (k : T1) (o) (h) (e : k0_off2 k = o) (s : SemLoc sig) (es : s = cellX k) :
    (Transfers.Flight (countersEmb (U := Pipeline.UD sig nD τ)) (c : Thread nD τ) s () 114688
      iprop((sX.view.loc (c : Thread nD τ) ↦[(xAt sX o h).view.set]{fullShare}
          (xAt sX o h).view.writes (Elt F) f0 [⟨Rect.whole S256x7168, ReadAs.same.apply ((xAt hX o h).view.read (Elt F) gx)⟩])
        ∗ own c (xAt hX o h) gx) : sProp 𝕄) ⊢ ΦX c fullShare (landX c f0 gx) gx k true := by
  subst e; subst es
  rw [ΦX_true, ← setOn_sX]
  exact BIBase.Entails.rfl

theorem packC (f0 : BufOf (F := F) c sKc) (gc : BufOf (F := F) c hKc) (i : T3) (o) (h) (e : k0_off14 i = o) (s : SemLoc sig) (es : s = cellC i) :
    (iprop(Transfers.Flight (countersEmb (U := Pipeline.UD sig nD τ)) (c : Thread nD τ) s () 66048
      iprop((sKc.view.loc (c : Thread nD τ) ↦[(cAt sKc o h).view.set]{fullShare}
          (cAt sKc o h).view.writes (Elt F) f0 [⟨Rect.whole S258x64x128, ReadAs.same.apply ((cAt hKc o h).view.read (Elt F) gc)⟩])
        ∗ own c (cAt hKc o h) gc) ∗ ∃ g, own c (chunkOf hKcOut i) g) : sProp 𝕄) ⊢ ΦC c fullShare (landC c f0 gc) gc i true := by
  subst e; subst es
  rw [ΦC_true, ← setOn_sKc]
  exact BIBase.Entails.rfl

/-- Every block landed: the argument whole again, the scratch at some contents, the counters at zero. -/
theorem after1 (f0 : BufOf (F := F) c sX) (gx : BufOf (F := F) c hX) (st : T1 → Bool) (hst : ∀ k, st k = false) :
    (Ring.AtW (ΦX c fullShare (landX c f0 gx) gx) st : sProp 𝕄)
      ⊢ iprop(bigSep Finset.univ (fun k => semVal ((c : Thread nD τ), cellX k) 0) ∗ (∃ f, held c sX f) ∗ held c hX gx) := by
  unfold Ring.AtW
  have e : ∀ k : T1, (ΦX c fullShare (landX c f0 gx) gx k (st k) : sProp 𝕄)
      = iprop(semVal ((c : Thread nD τ), cellX k) 0 ∗ own c (blkOf sX k) (landX c f0 gx k) ∗ own c (blkOf hX k) gx) := fun k => by
    rw [hst, ΦX_false, ← setOn_sX]; rfl
  rw [BI.bigSep_congr fun k _ => e k, bigSep_sep' _ (fun k : T1 => semVal ((c : Thread nD τ), cellX k) 0) (fun k : T1 => iprop(own c (blkOf sX k) (landX c f0 gx k) ∗ own c (blkOf hX k) gx)),
    bigSep_sep' _ (fun k : T1 => own c (blkOf sX k) (landX c f0 gx k)) (fun k : T1 => own c (blkOf hX k) gx), ← split_hX]
  iintro ⟨H1, H2, H3⟩
  isplitl [H1]; · iexact H1
  isplitl [H2]
  · iapply (join_sX c _); iexact H2
  · iexact H3

theorem after3 (f0 : BufOf (F := F) c sKc) (gc : BufOf (F := F) c hKc) (st : T3 → Bool) (hst : ∀ k, st k = false) :
    (Ring.AtW (ΦC c fullShare (landC c f0 gc) gc) st : sProp 𝕄)
      ⊢ iprop(bigSep Finset.univ (fun k => semVal ((c : Thread nD τ), cellC k) 0) ∗ held c hKc gc) := by
  unfold Ring.AtW
  have e : ∀ k : T3, (ΦC c fullShare (landC c f0 gc) gc k (st k) : sProp 𝕄)
      = iprop(semVal ((c : Thread nD τ), cellC k) 0 ∗ own c (chunkOf hKc k) gc) := fun k => by
    rw [hst, ΦC_false]
  rw [BI.bigSep_congr fun k _ => e k, bigSep_sep' _ (fun k : T3 => semVal ((c : Thread nD τ), cellC k) 0) (fun k : T3 => own c (chunkOf hKc k) gc), ← split_hKc]

theorem after5 : (bigSep Finset.univ (dW (F := F) c) : sProp 𝕄) ⊢ iprop((∃ f, held c hKcOut f) ∗ (∃ f, held c sKc f)) := by
  refine (Entails.of_eq (bigSep_sep' _ (fun i => iprop(∃ f, own c (chunkOf hKcOut i) (f : BufOf (F := F) c hKcOut)))
    (fun i => iprop(∃ f, own c (chunkOf sKc i) (f : BufOf (F := F) c sKc))))).trans ?_
  iintro ⟨H1, H2⟩
  isplitl [H1]
  · iapply (join_hKcOut c); iexact H1
  · iapply (join_sKc c); iexact H2

/-- A region held at some contents may be stored. -/
instance own_storable (ℓ : Loc nD τ sig) (I : Finset (Idx ℓ)) :
    BI.Storable (upEmb : UEmb _ 𝕄) (iprop(∃ g : Buf (Elt F) ℓ, ℓ ↦[I]{fullShare} g)) := by infer_instance

instance both_storable (ℓ ℓ' : Loc nD τ sig) (I : Finset (Idx ℓ)) (I' : Finset (Idx ℓ')) :
    BI.Storable (upEmb : UEmb _ 𝕄) (iprop((∃ g : Buf (Elt F) ℓ, ℓ ↦[I]{fullShare} g) ∗ ∃ g : Buf (Elt F) ℓ', ℓ' ↦[I']{fullShare} g)) := by infer_instance

instance dW_storable (i : T3) : BI.Storable (upEmb : UEmb _ 𝕄) (dW (F := F) c i) :=
  both_storable _ _ _ _

/-- The batch of the writes back, nothing started. -/
theorem startW : (semVal ((c : Thread nD τ), cellW) 0 : sProp 𝕄) ⊢ |={Set.univ}=> batchW (F := F) c 0 0 :=
  Transfers.batch_alloc' (countersEmb (U := Pipeline.UD sig nD τ)) (c : Thread nD τ) () 66048 (dW (F := F) c) (sm := cellW) (E := Set.univ)

/-! ## The loops' ends -/

theorem enter5 : (batchW (F := F) c (Scf.trips k0_t3_loop.lb k0_t3_loop.ub k0_t3_loop.st) 0 : sProp 𝕄)
    ⊢ if 0 < 15 then batchW (F := F) c 15 (0 * 66048) else iprop(semVal ((c : Thread nD τ), cellW) 0 ∗ bigSep Finset.univ (dW (F := F) c)) := by
  rw [if_pos (by decide), show Scf.trips k0_t3_loop.lb k0_t3_loop.ub k0_t3_loop.st = 15 from by decide, Nat.zero_mul]

theorem leave5 : ((if Scf.trips k0_t5_loop.lb k0_t5_loop.ub k0_t5_loop.st < 15 then
      batchW (F := F) c 15 (Scf.trips k0_t5_loop.lb k0_t5_loop.ub k0_t5_loop.st * 66048)
      else iprop(semVal ((c : Thread nD τ), cellW) 0 ∗ bigSep Finset.univ (dW (F := F) c))) : sProp 𝕄)
    ⊢ iprop(cell0 c 27 ∗ (∃ f, held c hKcOut f) ∗ (∃ f, held c sKc f)) := by
  rw [show Scf.trips k0_t5_loop.lb k0_t5_loop.ub k0_t5_loop.st = 15 from by decide, if_neg (by decide)]
  iintro ⟨H1, H2⟩
  isplitl [H1]; · iexact H1
  iapply (after5 c); iexact H2

theorem cells_X : (bigSep Finset.univ (fun k => semVal ((c : Thread nD τ), cellX k) 0) : sProp 𝕄)
    ⊢ iprop(cell0 c 6 ∗ cell0 c 7 ∗ cell0 c 8 ∗ cell0 c 9 ∗ cell0 c 10 ∗ cell0 c 11) := Entails.of_eq (x_list _)

theorem cells_C : (bigSep Finset.univ (fun k => semVal ((c : Thread nD τ), cellC k) 0) : sProp 𝕄)
    ⊢ iprop(cell0 c 12 ∗ cell0 c 13 ∗ cell0 c 14 ∗ cell0 c 15 ∗ cell0 c 16 ∗ cell0 c 17 ∗ cell0 c 18 ∗ cell0 c 19 ∗ cell0 c 20 ∗ cell0 c 21 ∗ cell0 c 22 ∗ cell0 c 23 ∗ cell0 c 24 ∗ cell0 c 25 ∗ cell0 c 26) := Entails.of_eq (c_list _)

/-! ## The results leaving the scratch -/

theorem moved_codes (f : BufOf (F := F) c sCodes) (o : BufOf (F := F) c hCodes) (b : T1) :
    hCodes.view.readAt (Elt F) (Rect.unit (s := S6x256x128) (k0_off5 b) S1x256x128.size (k0_off5_inb b)).toLoadRect
        (View.write (Elt F) hCodes.view o (ReadAs.same.apply (sCodes.view.read (Elt F) f)) Finset.univ)
      = sCodes.view.readAt (Elt F) (Rect.unit (s := S6x256x128) (k0_off5 b) S1x256x128.size (k0_off5_inb b)).toLoadRect f := by
  funext x
  rw [View.readAt_apply, View.readAt_apply, View.read_write_univ]

theorem moved_words (f : BufOf (F := F) c sScales) (o : BufOf (F := F) c hScales) (b : T1) :
    hScales.view.readAt (Elt F) (Rect.unit (s := S6x1x256) (k0_off7 b) S1x1x256.size (k0_off7_inb b)).toLoadRect
        (View.write (Elt F) hScales.view o (ReadAs.same.apply (sScales.view.read (Elt F) f)) Finset.univ)
      = sScales.view.readAt (Elt F) (Rect.unit (s := S6x1x256) (k0_off7 b) S1x1x256.size (k0_off7_inb b)).toLoadRect f := by
  funext x
  rw [View.readAt_apply, View.readAt_apply, View.read_write_univ]

end Body

end Cert.KernelIdeal.Hand

end
-- ==== Proof.KI.Tokens.lean ====
/-
  The token words the scales loop reads are those of the projection loop's trips.
-/
module

public import proofs.«01_k».proof.Proof.KI.Loop1
public import proofs.«01_k».proof.Proof.KI.Runs

@[expose] public section

set_option maxRecDepth 16384

noncomputable section

namespace Cert.KernelIdeal.Hand

open Cert.KernelIdeal Cert.KernelIdeal.Gen
open Idealize.ShloMosaic

variable {F : FTy → Type} [FloatOps F]

theorem lanes_word (v w : IVec S1x256 32) (t : Fin 256) (l : Fin 128) : k0_pay143 v w (ix2 t l) = k0_pay142 v w (ix3 0 0 t) := by
  unfold k0_pay143 k0_pay142
  generalize k0_pay138 v w = z
  show shapeCast S256x128 (transpose S256x128 [1, 0] (broadcastTo S128x256 (shapeCast S1x256 z _) _) _) _ (ix2 t l) = shapeCast S1x1x256 z _ (ix3 0 0 t)
  rw [shapeCast_self, shapeCast_self]
  refine (transpose_apply _ _ _ _ (ix2 l t) (fun b => match b with | ⟨0, _⟩ => rfl | ⟨1, _⟩ => rfl)).trans ?_
  refine (broadcastTo_apply _ _ _ (ix2 (0 : Fin 1) t) (fun a => match a with | ⟨0, _⟩ => rfl | ⟨1, _⟩ => rfl)).trans ?_
  refine (shapeCast_apply z _ (ix3 (0 : Fin 1) (0 : Fin 1) t) (ix2 (0 : Fin 1) t) ?_).symm
  rw [Shape.rowMajor_val_two, Shape.rowMajor_val_three]; show 0 * 256 + t.val = (0 * 1 + 0) * 256 + t.val; omega

/-- The word of token `t` of row `b`, as the projection loop's trip `b` computes it. -/
def tokenWord (c : Dev nD) (fx : T1 → BufOf (F := F) c sX) (wb : BufOf (F := F) c sWb) (lnw : BufOf (F := F) c aLnw) (lnb : BufOf (F := F) c aLnb) (pos : BufOf (F := F) c aPos)
    (fr : BufOf (F := F) c aFreq) (had : FVec F S128x128 .f32) (b : Fin 6) (t : Fin 256) : BitVec 32 :=
  wordsOf c fx wb lnw lnb pos fr had (⟨b.val, b.isLt⟩ : T1) (ix3 0 0 t)

theorem lanes_are (c : Dev nD) (fx : T1 → BufOf (F := F) c sX) (wb : BufOf (F := F) c sWb) (lnw : BufOf (F := F) c aLnw) (lnb : BufOf (F := F) c aLnb) (pos : BufOf (F := F) c aPos)
    (fr : BufOf (F := F) c aFreq) (had : FVec F S128x128 .f32) (f : BufOf (F := F) c sWt)
    (h : ∀ b : T1, sWt.view.readAt (Elt F) (Rect.unit (s := S1664x128) (k0_off6 b) S256x128.size (k0_off6_inb b)).toLoadRect f = lanesOf c fx wb lnw lnb pos fr had b) :
    LanesAre c f (tokenWord c fx wb lnw lnb pos fr had) := by
  intro b t l
  have e := congrFun (h (⟨b.val, b.isLt⟩ : T1)) (ix2 t l)
  unfold tokenWord wordsOf tripWords
  rw [← lanes_word _ _ t l]
  refine Eq.trans ?_ (e.trans rfl)
  refine congrArg (sWt.view.read (Elt F) f) (funext fun a => Fin.ext ?_)
  fin_cases a
  · show 64 + 256 * b.val + t.val = k0_off6 (⟨b.val, b.isLt⟩ : T1) 0 + 1 * t.val
    rw [k0_off6_eq]; show 64 + 256 * b.val + t.val = 256 * b.val + 64 + 1 * t.val; omega
  · show l.val = k0_off6 (⟨b.val, b.isLt⟩ : T1) 1 + 1 * l.val
    rw [k0_off6_eq]; show l.val = 0 + 1 * l.val; omega

end Cert.KernelIdeal.Hand

end
-- ==== Proof.KI.Body.lean ====
/-
  The body's run.
-/
module

public import proofs.«01_k».proof.Proof.KI.Flights
public import proofs.«01_k».proof.Proof.KI.Loop2
public import proofs.«01_k».proof.Proof.KI.Tokens

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

section Body
variable (c : Dev nD)

/-! ## The dequantised weight -/

/-- The weight's scratch once the argument landed on it. -/
abbrev wqAt (gw : BufOf (F := F) c hW) (fq : BufOf (F := F) c sWq) : BufOf (F := F) c sWq :=
  View.write (Elt F) sWq.view fq (ReadAs.same.apply (hW.view.read (Elt F) gw)) Finset.univ

theorem wcol_inb (j : Fin 56) : ∀ a, (![0, 128 * j.val] : Fin 2 → ℕ) a + S128x128.size a ≤ S128x7168.size a := fun a => by
  have := j.isLt
  fin_cases a
  · show 0 + 128 ≤ 128; omega
  · show 128 * j.val + 128 ≤ 7168; omega
theorem wscale_inb (j : Fin 56) : ∀ a, (![j.val] : Fin 1 → ℕ) a + S1.size a ≤ S56.size a := fun a => by
  have := j.isLt
  fin_cases a
  show j.val + 1 ≤ 56; omega

/-! ## What the body starts from and what it leaves -/

/-- The body's own counters, each at zero. -/
abbrev cells0 : sProp 𝕄 :=
  iprop(cell0 c 6
      ∗ cell0 c 7
      ∗ cell0 c 8
      ∗ cell0 c 9
      ∗ cell0 c 10
      ∗ cell0 c 11
      ∗ cell0 c 12
      ∗ cell0 c 13
      ∗ cell0 c 14
      ∗ cell0 c 15
      ∗ cell0 c 16
      ∗ cell0 c 17
      ∗ cell0 c 18
      ∗ cell0 c 19
      ∗ cell0 c 20
      ∗ cell0 c 21
      ∗ cell0 c 22
      ∗ cell0 c 23
      ∗ cell0 c 24
      ∗ cell0 c 25
      ∗ cell0 c 26
      ∗ cell0 c 27
      ∗ cell0 c 28
      ∗ cell0 c 29
      ∗ cell0 c 30
      ∗ cell0 c 31
      ∗ cell0 c 32)

/-- The body's operands as it finds them: the arguments at their values, the results and the scratch at some contents. -/
abbrev pre0 (gx : BufOf (F := F) c hX) (gw : BufOf (F := F) c hW) (gc : BufOf (F := F) c hKc) (gk : BufOf (F := F) c hKs)
    (sl : BufOf (F := F) c aSlot) (ws : BufOf (F := F) c aWs) (lnw : BufOf (F := F) c aLnw) (lnb : BufOf (F := F) c aLnb) (pos : BufOf (F := F) c aPos) (fr : BufOf (F := F) c aFreq) : sProp 𝕄 :=
  iprop(cells0 (F := F) c
    ∗ held c hX gx ∗ held c hW gw ∗ held c hKc gc ∗ held c hKs gk
    ∗ (∃ f, held c hKcOut f) ∗ (∃ f, held c hKsOut f) ∗ (∃ f, held c hCodes f) ∗ (∃ f, held c hScales f)
    ∗ held c aSlot sl ∗ held c aWs ws ∗ held c aLnw lnw ∗ held c aLnb lnb ∗ held c aPos pos ∗ held c aFreq fr
    ∗ (∃ f, held c sX f) ∗ (∃ f, held c sKc f) ∗ (∃ f, held c sKs f) ∗ (∃ f, held c sWq f) ∗ (∃ f, held c sWb f)
    ∗ (∃ f, held c sY f) ∗ (∃ f, held c sWt f) ∗ (∃ f, held c sCodes f) ∗ (∃ f, held c sScales f))

/-- One of the fifty-six stores of the dequantised weight, and the scratch after them all. -/
def wbPiece (gw : BufOf (F := F) c hW) (ws : BufOf (F := F) c aWs) (fq : BufOf (F := F) c sWq) (j : Fin 56) : View.Piece (Elt F) S128x7168 .bf16 :=
  ⟨Rect.unit (s := S128x7168) ![0, 128 * j.val] S128x128.size (wcol_inb j),
    k0_pay53 (View.readAt (Elt F) aWs.view (Rect.unit (s := S56) ![j.val] S1.size (wscale_inb j)).toLoadRect ws (Shape.Idx.first (s := S1) (by decide)))
      (View.readAt (Elt F) sWq.view (Rect.unit (s := S128x7168) ![0, 128 * j.val] S128x128.size (wcol_inb j)).toLoadRect (wqAt c gw fq))⟩
/-- The stores in their order, the last one first. -/
def wbOrder : List (Fin 56) := [55, 54, 53, 52, 51, 50, 49, 48, 47, 46, 45, 44, 43, 42, 41, 40, 39, 38, 37, 36, 35, 34, 33, 32, 31, 30, 29, 28, 27, 26, 25, 24, 23, 22, 21, 20, 19, 18, 17, 16, 15, 14, 13, 12, 11, 10, 9, 8, 7, 6, 5, 4, 3, 2, 1, 0]
def wbAt (gw : BufOf (F := F) c hW) (ws : BufOf (F := F) c aWs) (fq : BufOf (F := F) c sWq) : BufOf (F := F) c sWb :=
  sWb.view.writes (Elt F) sWb.view.junk (wbOrder.map (wbPiece c gw ws fq))

/-- The codes the body leaves, and the scales' words. -/
def codesLeft (gx : BufOf (F := F) c hX) (gw : BufOf (F := F) c hW) (ws : BufOf (F := F) c aWs) (lnw : BufOf (F := F) c aLnw) (lnb : BufOf (F := F) c aLnb) (pos : BufOf (F := F) c aPos) (fr : BufOf (F := F) c aFreq)
    (f : BufOf (F := F) c hCodes) : Prop :=
  ∃ f0 fq, ∀ b : T1, hCodes.view.readAt (Elt F) (Rect.unit (s := S6x256x128) (k0_off5 b) S1x256x128.size (k0_off5_inb b)).toLoadRect f
    = codesOf c (landX c f0 gx) (wbAt c gw ws fq) lnw lnb pos fr k0_pay49 b
def wordsLeft (gx : BufOf (F := F) c hX) (gw : BufOf (F := F) c hW) (ws : BufOf (F := F) c aWs) (lnw : BufOf (F := F) c aLnw) (lnb : BufOf (F := F) c aLnb) (pos : BufOf (F := F) c aPos) (fr : BufOf (F := F) c aFreq)
    (f : BufOf (F := F) c hScales) : Prop :=
  ∃ f0 fq, ∀ b : T1, hScales.view.readAt (Elt F) (Rect.unit (s := S6x1x256) (k0_off7 b) S1x1x256.size (k0_off7_inb b)).toLoadRect f
    = wordsOf c (landX c f0 gx) (wbAt c gw ws fq) lnw lnb pos fr k0_pay49 b

/-- The scales array the body leaves: at the slot of a token the token's word, at any other what was there; of paged slots. -/
def scaleLeft (gx : BufOf (F := F) c hX) (gw : BufOf (F := F) c hW) (gk : BufOf (F := F) c hKs) (sl : BufOf (F := F) c aSlot) (ws : BufOf (F := F) c aWs) (lnw : BufOf (F := F) c aLnw)
    (lnb : BufOf (F := F) c aLnb) (pos : BufOf (F := F) c aPos) (fr : BufOf (F := F) c aFreq) (f : BufOf (F := F) c hKsOut) : Prop :=
  ∃ f0 fq, Paged (slotNo c sl) → ∀ (r : Fin 64) (p : Fin 3870),
    (∀ (b : Fin 6) (t : Fin 256), slotNo c sl b t = 64 * p.val + r.val →
      hKsOut.view.read (Elt F) f (ix3 r 0 p) = tokenWord c (landX c f0 gx) (wbAt c gw ws fq) lnw lnb pos fr k0_pay49 b t)
    ∧ ((∀ (b : Fin 6) (t : Fin 256), slotNo c sl b t ≠ 64 * p.val + r.val) →
      hKsOut.view.read (Elt F) f (ix3 r 0 p) = hKs.view.read (Elt F) gk (ix3 r 0 p))

/-- What the body leaves: its counters at zero, its arguments as they were, the codes and the scales of its own computation. -/
abbrev post0 (gx : BufOf (F := F) c hX) (gw : BufOf (F := F) c hW) (gc : BufOf (F := F) c hKc) (gk : BufOf (F := F) c hKs)
    (sl : BufOf (F := F) c aSlot) (ws : BufOf (F := F) c aWs) (lnw : BufOf (F := F) c aLnw) (lnb : BufOf (F := F) c aLnb) (pos : BufOf (F := F) c aPos) (fr : BufOf (F := F) c aFreq) : sProp 𝕄 :=
  iprop(cells0 (F := F) c
    ∗ held c hX gx ∗ held c hW gw ∗ held c hKc gc ∗ held c hKs gk
    ∗ (∃ f, held c hKcOut f) ∗ (∃ f, held c hKsOut f ∗ ⌜scaleLeft c gx gw gk sl ws lnw lnb pos fr f⌝)
    ∗ (∃ f, held c hCodes f ∗ ⌜codesLeft c gx gw ws lnw lnb pos fr f⌝) ∗ (∃ f, held c hScales f ∗ ⌜wordsLeft c gx gw ws lnw lnb pos fr f⌝)
    ∗ held c aSlot sl ∗ held c aWs ws ∗ held c aLnw lnw ∗ held c aLnb lnb ∗ held c aPos pos ∗ held c aFreq fr
    ∗ (∃ f, held c sX f) ∗ (∃ f, held c sKc f) ∗ (∃ f, held c sKs f) ∗ (∃ f, held c sWq f) ∗ (∃ f, held c sWb f)
    ∗ (∃ f, held c sY f) ∗ (∃ f, held c sWt f) ∗ (∃ f, held c sCodes f) ∗ (∃ f, held c sScales f))

variable (gx : BufOf (F := F) c hX) (gw : BufOf (F := F) c hW) (gc : BufOf (F := F) c hKc) (gk : BufOf (F := F) c hKs)
    (sl : BufOf (F := F) c aSlot) (ws : BufOf (F := F) c aWs) (lnw : BufOf (F := F) c aLnw) (lnb : BufOf (F := F) c aLnb) (pos : BufOf (F := F) c aPos) (fr : BufOf (F := F) c aFreq)

set_option pp.maxSteps 900 in
set_option maxHeartbeats 4000000 in
theorem body0 (hsl : InReach c sl) (W : Waits sig Unit) :
    iprop(pre0 c gx gw gc gk sl ws lnw lnb pos fr ∗ owes (c : Thread nD τ) 0 W)
      ⊢ wp frame (wpE (defs₀ (F := F)) Variants.none (c : Thread nD τ) none) Set.univ (cc0_indexer_key_write_skel (F := F) aSlot (Memref.isWhole_whole _) aWs (Memref.isWhole_whole _) aLnw (Memref.isWhole_whole _) aLnb (Memref.isWhole_whole _) aPos (Memref.isWhole_whole _) aFreq (Memref.isWhole_whole _)
    hX (Memref.isWhole_whole _) hW (Memref.isWhole_whole _) hKc (Memref.isWhole_whole _) hKs (Memref.isWhole_whole _) hKcOut (Memref.isWhole_whole _) hKsOut (Memref.isWhole_whole _) hCodes (Memref.isWhole_whole _) hScales (Memref.isWhole_whole _)
    sX (Memref.isWhole_whole _) sKc (Memref.isWhole_whole _) sKs (Memref.isWhole_whole _) sWq (Memref.isWhole_whole _) sWb (Memref.isWhole_whole _) sY (Memref.isWhole_whole _) sWt (Memref.isWhole_whole _) sCodes (Memref.isWhole_whole _) sScales (Memref.isWhole_whole _)
    cc0_scratch9 cc0_scratch10 cc0_scratch11 cc0_scratch12 cc0_scratch13 cc0_scratch14)
          (fun _ => iprop(post0 c gx gw gc gk sl ws lnw lnb pos fr ∗ (∃ W', owes (c : Thread nD τ) 0 W'))) := by
  unfold pre0 cells0
  iintro ⟨⟨⟨Hc6, Hc7, Hc8, Hc9, Hc10, Hc11, Hc12, Hc13, Hc14, Hc15, Hc16, Hc17, Hc18, Hc19, Hc20, Hc21, Hc22, Hc23, Hc24, Hc25, Hc26, Hc27, Hc28, Hc29, Hc30, Hc31, Hc32⟩, HhX, HhW, HhKc, HhKs, ⟨%o0, HhKcOut⟩, ⟨%o1, HhKsOut⟩, ⟨%o2, HhCodes⟩, ⟨%o3, HhScales⟩,
    HaSlot, HaWs, HaLnw, HaLnb, HaPos, HaFreq,
    ⟨%f0, HsX⟩, ⟨%f1, HsKc⟩, ⟨%fk, HsKs⟩, ⟨%fq, HsWq⟩, ⟨%fb, HsWb⟩, ⟨%fy, HsY⟩, ⟨%fw, HsWt⟩, ⟨%f7, HsCodes⟩, ⟨%f8, HsScales⟩⟩, HO⟩
  ihave HhX' := (Entails.of_eq ((split_hX c gx).trans (xs_lit c hX gx))) $$ HhX
  icases HhX' with ⟨HgX0, HgX1, HgX2, HgX3, HgX4, HgX5⟩
  ihave HsX' := (Entails.of_eq ((split_sX c f0).trans (xs_lit c sX f0))) $$ HsX
  icases HsX' with ⟨HsX0, HsX1, HsX2, HsX3, HsX4, HsX5⟩
  ihave HhKc' := (Entails.of_eq ((split_hKc c gc).trans (cs_lit c hKc gc))) $$ HhKc
  icases HhKc' with ⟨HgC0, HgC1, HgC2, HgC3, HgC4, HgC5, HgC6, HgC7, HgC8, HgC9, HgC10, HgC11, HgC12, HgC13, HgC14⟩
  ihave HsKc' := (Entails.of_eq ((split_sKc c f1).trans (cs_lit c sKc f1))) $$ HsKc
  icases HsKc' with ⟨HsC0, HsC1, HsC2, HsC3, HsC4, HsC5, HsC6, HsC7, HsC8, HsC9, HsC10, HsC11, HsC12, HsC13, HsC14⟩
  unfold cc0_indexer_key_write_skel
  sl_exec
  sl_for (inv1 c fullShare (landX c f0 gx) gx (sWb.view.writes (Elt F) sWb.view.junk (body0.sl.HsWb_56 c gw ws fq)) lnw lnb pos fr k0_pay49) $$ [Hc6 Hc7 Hc8 Hc9 Hc10 Hc11 HO HsWb HaLnw HaLnb HaPos HaFreq HsY HsWt HsCodes HsScales]
  · intro k acc; exact step1 c fullShare (landX c f0 gx) gx _ lnw lnb pos fr k0_pay49 k acc
  · unfold inv1
    isplitl [Hc6 Hc7 Hc8 Hc9 Hc10 Hc11]
    · iapply (x_chain (ΦX c fullShare (landX c f0 gx) gx) _)
      isplitl [Hc6]; · iapply (packX c f0 gx ⟨0, by decide⟩ ![0, 0, 0] inb_S6x256x7168_S1x256x7168_0_0_0 (k0_off2_eq _) (SemLoc.dma 6) rfl); iexact Hc6
      isplitl [Hc7]; · iapply (packX c f0 gx ⟨1, by decide⟩ ![1, 0, 0] inb_S6x256x7168_S1x256x7168_1_0_0 (k0_off2_eq _) (SemLoc.dma 7) rfl); iexact Hc7
      isplitl [Hc8]; · iapply (packX c f0 gx ⟨2, by decide⟩ ![2, 0, 0] inb_S6x256x7168_S1x256x7168_2_0_0 (k0_off2_eq _) (SemLoc.dma 8) rfl); iexact Hc8
      isplitl [Hc9]; · iapply (packX c f0 gx ⟨3, by decide⟩ ![3, 0, 0] inb_S6x256x7168_S1x256x7168_3_0_0 (k0_off2_eq _) (SemLoc.dma 9) rfl); iexact Hc9
      isplitl [Hc10]; · iapply (packX c f0 gx ⟨4, by decide⟩ ![4, 0, 0] inb_S6x256x7168_S1x256x7168_4_0_0 (k0_off2_eq _) (SemLoc.dma 10) rfl); iexact Hc10
      iapply (packX c f0 gx ⟨5, by decide⟩ ![5, 0, 0] inb_S6x256x7168_S1x256x7168_5_0_0 (k0_off2_eq _) (SemLoc.dma 11) rfl); iexact Hc11
    isplitl [HO]; · iexists _; iexact HO
    isplitl [HsWb]; · iexact HsWb
    isplitl [HaLnw]; · iexact HaLnw
    isplitl [HaLnb]; · iexact HaLnb
    isplitl [HaPos]; · iexact HaPos
    isplitl [HaFreq]; · iexact HaFreq
    isplitl [HsY]; · iexists _; iexact HsY
    isplitl [HsWt]
    · iexists _
      isplitl [HsWt]; · iexact HsWt
      ipureintro; intro b hb; exact absurd hb (Nat.not_lt_zero _)
    isplitl [HsCodes]
    · iexists _
      isplitl [HsCodes]; · iexact HsCodes
      ipureintro; intro b hb; exact absurd hb (Nat.not_lt_zero _)
    · iexists _
      isplitl [HsScales]; · iexact HsScales
      ipureintro; intro b hb; exact absurd hb (Nat.not_lt_zero _)
  unfold inv1
  iintro %acc ⟨HX, ⟨%W1, HO⟩, HsWb, HaLnw, HaLnb, HaPos, HaFreq, ⟨%fy1, HsY⟩, ⟨%fw1, HsWt, %hwt⟩, ⟨%f7', HsCodes, %hcodes⟩, ⟨%f8', HsScales, %hscales⟩⟩
  sl_exec
  have hlanes := lanes_are c (landX c f0 gx) (sWb.view.writes (Elt F) sWb.view.junk (body0.sl.HsWb_56 c gw ws fq)) lnw lnb pos fr k0_pay49 fw1 (fun b => hwt b b.isLt)
  sl_for (inv2 c sl fw1 (tokenWord c (landX c f0 gx) (sWb.view.writes (Elt F) sWb.view.junk (body0.sl.HsWb_56 c gw ws fq)) lnw lnb pos fr k0_pay49)
    (fun r p => hKs.view.read (Elt F) gk (ix3 r 0 p))) $$ [HaSlot HsWt HsKs]
  · intro k acc; exact step2 c sl fw1 _ _ k0_pay49 hsl hlanes k acc
  · unfold inv2
    isplitl [HaSlot]; · iexact HaSlot
    isplitl [HsWt]; · iexact HsWt
    iexists _
    isplitl [HsKs]; · iexact HsKs
    ipureintro; intro _
    refine (congrArg (Patched _ _ _ 0) ?_).mpr (patched_zero _ _ _)
    funext r p
    exact congrFun (View.read_write_univ _ _) (ix3 r 0 p)
  unfold inv2
  iintro %acc2 ⟨HaSlot, HsWt, ⟨%fk2, HsKs, %hpatched⟩⟩
  ihave HhKcOut' := ((Entails.of_eq (split_hKcOut c o0)).trans (c_unchain _)) $$ HhKcOut
  icases HhKcOut' with ⟨HoC0, HoC1, HoC2, HoC3, HoC4, HoC5, HoC6, HoC7, HoC8, HoC9, HoC10, HoC11, HoC12, HoC13, HoC14⟩
  imod ((show (cell0 c 27 : sProp 𝕄) ⊢ |={Set.univ}=> batchW (F := F) c 0 0 from startW c)) $$ Hc27 with HB
  sl_for (inv3 c fullShare (landC c f1 gc) gc sl) $$ [Hc12 Hc13 Hc14 Hc15 Hc16 Hc17 Hc18 Hc19 Hc20 Hc21 Hc22 Hc23 Hc24 Hc25 Hc26 HoC0 HoC1 HoC2 HoC3 HoC4 HoC5 HoC6 HoC7 HoC8 HoC9 HoC10 HoC11 HoC12 HoC13 HoC14 HO HaSlot HsY HB]
  · intro k acc; exact step3 c fullShare (landC c f1 gc) gc sl k0_pay49 hsl k acc
  · unfold inv3
    isplitl [Hc12 Hc13 Hc14 Hc15 Hc16 Hc17 Hc18 Hc19 Hc20 Hc21 Hc22 Hc23 Hc24 Hc25 Hc26 HoC0 HoC1 HoC2 HoC3 HoC4 HoC5 HoC6 HoC7 HoC8 HoC9 HoC10 HoC11 HoC12 HoC13 HoC14]
    · iapply (c_chain (ΦC c fullShare (landC c f1 gc) gc) _)
      isplitl [Hc12 HoC0]; · iapply (packC c f1 gc ⟨0, by decide⟩ ![0, 0, 0] inb_S3870x64x128_S258x64x128_0_0_0 (k0_off14_eq _) (SemLoc.dma 12) rfl); isplitl [Hc12]; (iexact Hc12); iexists _; iexact HoC0
      isplitl [Hc13 HoC1]; · iapply (packC c f1 gc ⟨1, by decide⟩ ![258, 0, 0] inb_S3870x64x128_S258x64x128_258_0_0 (k0_off14_eq _) (SemLoc.dma 13) rfl); isplitl [Hc13]; (iexact Hc13); iexists _; iexact HoC1
      isplitl [Hc14 HoC2]; · iapply (packC c f1 gc ⟨2, by decide⟩ ![516, 0, 0] inb_S3870x64x128_S258x64x128_516_0_0 (k0_off14_eq _) (SemLoc.dma 14) rfl); isplitl [Hc14]; (iexact Hc14); iexists _; iexact HoC2
      isplitl [Hc15 HoC3]; · iapply (packC c f1 gc ⟨3, by decide⟩ ![774, 0, 0] inb_S3870x64x128_S258x64x128_774_0_0 (k0_off14_eq _) (SemLoc.dma 15) rfl); isplitl [Hc15]; (iexact Hc15); iexists _; iexact HoC3
      isplitl [Hc16 HoC4]; · iapply (packC c f1 gc ⟨4, by decide⟩ ![1032, 0, 0] inb_S3870x64x128_S258x64x128_1032_0_0 (k0_off14_eq _) (SemLoc.dma 16) rfl); isplitl [Hc16]; (iexact Hc16); iexists _; iexact HoC4
      isplitl [Hc17 HoC5]; · iapply (packC c f1 gc ⟨5, by decide⟩ ![1290, 0, 0] inb_S3870x64x128_S258x64x128_1290_0_0 (k0_off14_eq _) (SemLoc.dma 17) rfl); isplitl [Hc17]; (iexact Hc17); iexists _; iexact HoC5
      isplitl [Hc18 HoC6]; · iapply (packC c f1 gc ⟨6, by decide⟩ ![1548, 0, 0] inb_S3870x64x128_S258x64x128_1548_0_0 (k0_off14_eq _) (SemLoc.dma 18) rfl); isplitl [Hc18]; (iexact Hc18); iexists _; iexact HoC6
      isplitl [Hc19 HoC7]; · iapply (packC c f1 gc ⟨7, by decide⟩ ![1806, 0, 0] inb_S3870x64x128_S258x64x128_1806_0_0 (k0_off14_eq _) (SemLoc.dma 19) rfl); isplitl [Hc19]; (iexact Hc19); iexists _; iexact HoC7
      isplitl [Hc20 HoC8]; · iapply (packC c f1 gc ⟨8, by decide⟩ ![2064, 0, 0] inb_S3870x64x128_S258x64x128_2064_0_0 (k0_off14_eq _) (SemLoc.dma 20) rfl); isplitl [Hc20]; (iexact Hc20); iexists _; iexact HoC8
      isplitl [Hc21 HoC9]; · iapply (packC c f1 gc ⟨9, by decide⟩ ![2322, 0, 0] inb_S3870x64x128_S258x64x128_2322_0_0 (k0_off14_eq _) (SemLoc.dma 21) rfl); isplitl [Hc21]; (iexact Hc21); iexists _; iexact HoC9
      isplitl [Hc22 HoC10]; · iapply (packC c f1 gc ⟨10, by decide⟩ ![2580, 0, 0] inb_S3870x64x128_S258x64x128_2580_0_0 (k0_off14_eq _) (SemLoc.dma 22) rfl); isplitl [Hc22]; (iexact Hc22); iexists _; iexact HoC10
      isplitl [Hc23 HoC11]; · iapply (packC c f1 gc ⟨11, by decide⟩ ![2838, 0, 0] inb_S3870x64x128_S258x64x128_2838_0_0 (k0_off14_eq _) (SemLoc.dma 23) rfl); isplitl [Hc23]; (iexact Hc23); iexists _; iexact HoC11
      isplitl [Hc24 HoC12]; · iapply (packC c f1 gc ⟨12, by decide⟩ ![3096, 0, 0] inb_S3870x64x128_S258x64x128_3096_0_0 (k0_off14_eq _) (SemLoc.dma 24) rfl); isplitl [Hc24]; (iexact Hc24); iexists _; iexact HoC12
      isplitl [Hc25 HoC13]; · iapply (packC c f1 gc ⟨13, by decide⟩ ![3354, 0, 0] inb_S3870x64x128_S258x64x128_3354_0_0 (k0_off14_eq _) (SemLoc.dma 25) rfl); isplitl [Hc25]; (iexact Hc25); iexists _; iexact HoC13
      iapply (packC c f1 gc ⟨14, by decide⟩ ![3612, 0, 0] inb_S3870x64x128_S258x64x128_3612_0_0 (k0_off14_eq _) (SemLoc.dma 26) rfl); isplitl [Hc26]; (iexact Hc26); iexists _; iexact HoC14
    isplitl [HO]; · iexists _; iexact HO
    isplitl [HaSlot]; · iexact HaSlot
    isplitl [HsY]; · iexists _; iexact HsY
    iexact HB
  unfold inv3
  iintro %acc3 ⟨HC, ⟨%W3, HO⟩, HaSlot, ⟨%fy3, HsY⟩, HB⟩
  sl_exec
  sl_for (inv5 (F := F) c) $$ [HO HB]
  · intro k acc; exact step5 c k0_pay49 k acc
  · unfold inv5
    isplitr; · ipureintro; omega
    isplitl [HO]; · iexists _; iexact HO
    iapply (enter5 c); iexact HB
  unfold inv5
  iintro %acc5 ⟨-, ⟨%W5, HO⟩, HWr⟩
  sl_exec
  sl_step
  ihave HX' := (after1 c f0 gx _ (fun k => decide_eq_false (Nat.not_le.mpr k.isLt))) $$ HX
  icases HX' with ⟨HcX, HsX, HhX⟩
  ihave HcX' := (cells_X c) $$ HcX
  ihave HC' := (after3 c f1 gc _ (fun k => decide_eq_false (Nat.not_le.mpr k.isLt))) $$ HC
  icases HC' with ⟨HcC, HhKc⟩
  ihave HcC' := (cells_C c) $$ HcC
  ihave HW' := (leave5 c) $$ HWr
  icases HW' with ⟨Hc27, HhKcOut, HsKc⟩
  icases HcX' with ⟨Hc6, Hc7, Hc8, Hc9, Hc10, Hc11⟩
  icases HcC' with ⟨Hc12, Hc13, Hc14, Hc15, Hc16, Hc17, Hc18, Hc19, Hc20, Hc21, Hc22, Hc23, Hc24, Hc25, Hc26⟩
  unfold post0 cells0
  isplitr [HO]
  · isplitl [Hc6 Hc7 Hc8 Hc9 Hc10 Hc11 Hc12 Hc13 Hc14 Hc15 Hc16 Hc17 Hc18 Hc19 Hc20 Hc21 Hc22 Hc23 Hc24 Hc25 Hc26 Hc27 Hc28 Hc29 Hc30 Hc31 Hc32]
    · isplitl [Hc6]; · iexact Hc6
      isplitl [Hc7]; · iexact Hc7
      isplitl [Hc8]; · iexact Hc8
      isplitl [Hc9]; · iexact Hc9
      isplitl [Hc10]; · iexact Hc10
      isplitl [Hc11]; · iexact Hc11
      isplitl [Hc12]; · iexact Hc12
      isplitl [Hc13]; · iexact Hc13
      isplitl [Hc14]; · iexact Hc14
      isplitl [Hc15]; · iexact Hc15
      isplitl [Hc16]; · iexact Hc16
      isplitl [Hc17]; · iexact Hc17
      isplitl [Hc18]; · iexact Hc18
      isplitl [Hc19]; · iexact Hc19
      isplitl [Hc20]; · iexact Hc20
      isplitl [Hc21]; · iexact Hc21
      isplitl [Hc22]; · iexact Hc22
      isplitl [Hc23]; · iexact Hc23
      isplitl [Hc24]; · iexact Hc24
      isplitl [Hc25]; · iexact Hc25
      isplitl [Hc26]; · iexact Hc26
      isplitl [Hc27]; · iexact Hc27
      isplitl [Hc28]; · iexact Hc28
      isplitl [Hc29]; · iexact Hc29
      isplitl [Hc30]; · iexact Hc30
      isplitl [Hc31]; · iexact Hc31
      iexact Hc32
    isplitl [HhX]; · iexact HhX
    isplitl [HhW]; · iexact HhW
    isplitl [HhKc]; · iexact HhKc
    isplitl [HhKs]; · iexact HhKs
    isplitl [HhKcOut]; · iexact HhKcOut
    have hL : body0.sl.HsWb_56 c gw ws fq = wbOrder.map (wbPiece c gw ws fq) := by
      unfold body0.sl.HsWb_56 wbOrder
      simp only [List.map_cons, List.map_nil]
      repeat' (first | apply congrArg₂ List.cons | rfl)
    rw [hL] at hcodes hscales hpatched
    isplitl [HhKsOut]
    · iexists _
      isplitl [HhKsOut]; · iexact HhKsOut
      ipureintro
      refine ⟨f0, fq, fun H r p => ?_⟩
      have h := patched_all (hpatched H) r p
      have e : ∀ g : BufOf (F := F) c sKs, hKsOut.view.read (Elt F) (View.write (Elt F) hKsOut.view o1 (ReadAs.same.apply (sKs.view.read (Elt F) g)) Finset.univ) (ix3 r 0 p) = wordAt c g r p :=
        fun g => congrFun (View.read_write_univ _ _) (ix3 r 0 p)
      exact ⟨fun b t hs => (e fk2).trans (h.1 b t hs), fun hs => (e fk2).trans (h.2 hs)⟩
    isplitl [HhCodes]
    · iexists _
      isplitl [HhCodes]; · iexact HhCodes
      ipureintro
      exact ⟨f0, fq, fun b => (moved_codes c f7' o2 b).trans ((hcodes b b.isLt).trans rfl)⟩
    isplitl [HhScales]
    · iexists _
      isplitl [HhScales]; · iexact HhScales
      ipureintro
      exact ⟨f0, fq, fun b => (moved_words c f8' o3 b).trans ((hscales b b.isLt).trans rfl)⟩
    isplitl [HaSlot]; · iexact HaSlot
    isplitl [HaWs]; · iexact HaWs
    isplitl [HaLnw]; · iexact HaLnw
    isplitl [HaLnb]; · iexact HaLnb
    isplitl [HaPos]; · iexact HaPos
    isplitl [HaFreq]; · iexact HaFreq
    isplitl [HsX]; · iexact HsX
    isplitl [HsKc]; · iexact HsKc
    isplitl [HsKs]; · iexists _; iexact HsKs
    isplitl [HsWq]; · iexists _; iexact HsWq
    isplitl [HsWb]; · iexists _; iexact HsWb
    isplitl [HsY]; · iexists _; iexact HsY
    isplitl [HsWt]; · iexists _; iexact HsWt
    isplitl [HsCodes]; · iexists _; iexact HsCodes
    iexists _; iexact HsScales
  · iexists _; iexact HO

end Body

end Cert.KernelIdeal.Hand

end
-- ==== Proof.KI.Run.lean ====
/-
  The launch: the body's operands and cells as the pipeline hands them over, and the run of the program.
-/
module

public import proofs.«01_k».proof.Proof.KI.Body
public import proofs.«01_k».proof.Proof.Gen.KernelIdeal.Frame
public import Idealize.ShloMosaic.Lib.Pipeline.FrameValue

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

variable (m : (ℓ : Loc nD τ sig) → Buf (Elt F) ℓ) (ρ : Dev nD → PrngReg)

/-- The arrays the body's copies read, and those they write. -/
def H0 : Finset (Ref sig .tc) := {main_arg0, main_arg1, main_arg7, main_v2}
def R0 : Finset (Ref sig .tc) := {main_v5_0, main_v5_1, main_v5_2, main_v5_3}
theorem hrest (b : Ref sig .tc) (h : b ∈ Pipeline.restRefs sig spec0) : b ∈ Pipeline.restRefsP sig Pipeline.Prefetch.none spec0 :=
  Finset.mem_sdiff.mpr ⟨h, fun h => ((Finset.mem_image.mp h).elim fun k _ => k.elim0)⟩
theorem H0_sub : H0 ⊆ Pipeline.restRefs sig spec0 := by decide
theorem R0_sub : R0 ⊆ Pipeline.restRefs sig spec0 \ H0 := by decide

theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

theorem ownSems00_eq (c : Dev nD) :
    (Pipeline.ownSems0 (Ix := Unit) (Name := ℕ) (U := Pipeline.UD sig nD τ) (Lvl := ℕ) (Val := Elt F) (τ := τ) osem0 c : sProp 𝕄)
      = cells0 (F := F) c := by
  rw [Pipeline.ownSems0_eq_of_list c osem0 [0, 1, 2, 3, 4, 5, 6, 7, 8, 9, 10, 11, 12, 13, 14, 15, 16, 17, 18, 19, 20, 21, 22, 23, 24, 25, 26] (by decide) (by decide)]; rfl

theorem hbmPts0_eq (c : Dev nD) :
    (bigSep H0 (fun b => ((c : Thread nD τ).loc b) ↦{fullShare} V m c b) : sProp 𝕄)
      = iprop(held c hX (V m c main_arg0) ∗ held c hW (V m c main_arg1) ∗ held c hKc (V m c main_arg7) ∗ held c hKs (V m c main_v2)) := by
  rw [BI.bigSep_eq_bigSepL_of_eq [main_arg0, main_arg1, main_arg7, main_v2] (by decide) (by decide)]; rfl

theorem routed0_eq (c : Dev nD) (W : (b : Ref sig .tc) → Buf (Elt F) ((c : Thread nD τ).loc b)) :
    (Pipeline.routed R0 c W : sProp 𝕄)
      = iprop(held c hKcOut (W main_v5_0) ∗ held c hKsOut (W main_v5_1) ∗ held c hCodes (W main_v5_2) ∗ held c hScales (W main_v5_3)) := by
  unfold Pipeline.routed; rw [BI.bigSep_eq_bigSepL_of_eq [main_v5_0, main_v5_1, main_v5_2, main_v5_3] (by decide) (by decide)]; rfl

theorem scoped0_eq (c : Dev nD) :
    (Pipeline.scopedRest (Ix := Unit) (Name := ℕ) (U := Pipeline.UD sig nD τ) (Lvl := ℕ) (Val := Elt F) spec0 c : sProp 𝕄)
      = iprop((∃ f, held c sX f) ∗ (∃ f, held c sKc f) ∗ (∃ f, held c sKs f) ∗ (∃ f, held c sWq f) ∗ (∃ f, held c sWb f)
          ∗ (∃ f, held c sY f) ∗ (∃ f, held c sWt f) ∗ (∃ f, held c sCodes f) ∗ (∃ f, held c sScales f)) := by
  rw [scopedRest0_eq]

/-! ## What the run leaves -/

/-- The operands the body reads through its windows. -/
abbrev slW (c : Dev nD) : BufOf (F := F) c aSlot := iblk m c 0 t0_0
abbrev wsW (c : Dev nD) : BufOf (F := F) c aWs := iblk m c 1 t0_0
abbrev lnwW (c : Dev nD) : BufOf (F := F) c aLnw := iblk m c 2 t0_0
abbrev lnbW (c : Dev nD) : BufOf (F := F) c aLnb := iblk m c 3 t0_0
abbrev posW (c : Dev nD) : BufOf (F := F) c aPos := iblk m c 4 t0_0
abbrev freqW (c : Dev nD) : BufOf (F := F) c aFreq := iblk m c 5 t0_0

/-- A whole buffer owned is the buffer held. -/
theorem held_of_owns (c : Dev nD) (b : Ref sig .tc) (f : Buf (Elt F) ((c : Thread nD τ).loc b)) :
    (owns (c : Thread nD τ) (Memref.whole b) fullShare f : sProp 𝕄) ⊢ ((c : Thread nD τ).loc b) ↦{fullShare} f := by
  unfold owns
  rw [show (Memref.whole b).view.set = Finset.univ from View.set_whole b]
  iintro ⟨%f1, %h, H⟩
  obtain rfl : f1 = f := h
  iexact H
theorem owns_of_held (c : Dev nD) (b : Ref sig .tc) (f : Buf (Elt F) ((c : Thread nD τ).loc b)) :
    (((c : Thread nD τ).loc b) ↦{fullShare} f : sProp 𝕄) ⊢ owns (c : Thread nD τ) (Memref.whole b) fullShare f := by
  unfold owns
  rw [show (Memref.whole b).view.set = Finset.univ from View.set_whole b]
  iintro H
  iexists f; isplitr; · ipureintro; rfl
  iexact H

theorem take0 (c : Dev nD) : (owns (c : Thread nD τ) (st0_0 (t0_0 : Fin cfg0.N)) fullShare (iblk m c 0 t0_0) : sProp 𝕄) ⊢ held c aSlot (slW m c) :=
  held_of_owns c _ _
theorem give0 (c : Dev nD) : (held c aSlot (slW m c) : sProp 𝕄) ⊢ owns (c : Thread nD τ) (st0_0 (t0_0 : Fin cfg0.N)) fullShare (iblk m c 0 t0_0) :=
  owns_of_held c _ _
theorem take1 (c : Dev nD) : (owns (c : Thread nD τ) (st0_1 (t0_0 : Fin cfg0.N)) fullShare (iblk m c 1 t0_0) : sProp 𝕄) ⊢ held c aWs (wsW m c) :=
  held_of_owns c _ _
theorem give1 (c : Dev nD) : (held c aWs (wsW m c) : sProp 𝕄) ⊢ owns (c : Thread nD τ) (st0_1 (t0_0 : Fin cfg0.N)) fullShare (iblk m c 1 t0_0) :=
  owns_of_held c _ _
theorem take2 (c : Dev nD) : (owns (c : Thread nD τ) (st0_2 (t0_0 : Fin cfg0.N)) fullShare (iblk m c 2 t0_0) : sProp 𝕄) ⊢ held c aLnw (lnwW m c) :=
  held_of_owns c _ _
theorem give2 (c : Dev nD) : (held c aLnw (lnwW m c) : sProp 𝕄) ⊢ owns (c : Thread nD τ) (st0_2 (t0_0 : Fin cfg0.N)) fullShare (iblk m c 2 t0_0) :=
  owns_of_held c _ _
theorem take3 (c : Dev nD) : (owns (c : Thread nD τ) (st0_3 (t0_0 : Fin cfg0.N)) fullShare (iblk m c 3 t0_0) : sProp 𝕄) ⊢ held c aLnb (lnbW m c) :=
  held_of_owns c _ _
theorem give3 (c : Dev nD) : (held c aLnb (lnbW m c) : sProp 𝕄) ⊢ owns (c : Thread nD τ) (st0_3 (t0_0 : Fin cfg0.N)) fullShare (iblk m c 3 t0_0) :=
  owns_of_held c _ _
theorem take4 (c : Dev nD) : (owns (c : Thread nD τ) (st0_4 (t0_0 : Fin cfg0.N)) fullShare (iblk m c 4 t0_0) : sProp 𝕄) ⊢ held c aPos (posW m c) :=
  held_of_owns c _ _
theorem give4 (c : Dev nD) : (held c aPos (posW m c) : sProp 𝕄) ⊢ owns (c : Thread nD τ) (st0_4 (t0_0 : Fin cfg0.N)) fullShare (iblk m c 4 t0_0) :=
  owns_of_held c _ _
theorem take5 (c : Dev nD) : (owns (c : Thread nD τ) (st0_5 (t0_0 : Fin cfg0.N)) fullShare (iblk m c 5 t0_0) : sProp 𝕄) ⊢ held c aFreq (freqW m c) :=
  held_of_owns c _ _
theorem give5 (c : Dev nD) : (held c aFreq (freqW m c) : sProp 𝕄) ⊢ owns (c : Thread nD τ) (st0_5 (t0_0 : Fin cfg0.N)) fullShare (iblk m c 5 t0_0) :=
  owns_of_held c _ _
/-- The codes, the words and the scales array are those of the body's own computation. -/
def PG (c : Dev nD) (W : (b : Ref sig .tc) → Buf (Elt F) ((c : Thread nD τ).loc b)) : Prop :=
  codesLeft c (V m c main_arg0) (V m c main_arg1) (wsW m c) (lnwW m c) (lnbW m c) (posW m c) (freqW m c) (W main_v5_2)
  ∧ wordsLeft c (V m c main_arg0) (V m c main_arg1) (wsW m c) (lnwW m c) (lnbW m c) (posW m c) (freqW m c) (W main_v5_3)
  ∧ scaleLeft c (V m c main_arg0) (V m c main_arg1) (V m c main_v2) (slW m c) (wsW m c) (lnwW m c) (lnbW m c) (posW m c) (freqW m c) (W main_v5_1)

/-- Contents of every buffer that are `f0` to `f3` on the four arrays written. -/
def pick (c : Dev nD) (f0 : BufOf (F := F) c hKcOut) (f1 : BufOf (F := F) c hKsOut) (f2 : BufOf (F := F) c hCodes) (f3 : BufOf (F := F) c hScales) :
    (b : Ref sig .tc) → Buf (Elt F) ((c : Thread nD τ).loc b) :=
  Function.update (Function.update (Function.update (Function.update (V m c) main_v5_0 f0) main_v5_1 f1) main_v5_2 f2) main_v5_3 f3

theorem pick3 (c : Dev nD) (f0 f1 f2 f3) : pick m c f0 f1 f2 f3 main_v5_3 = f3 := Function.update_self _ _ _
theorem pick2 (c : Dev nD) (f0 f1 f2 f3) : pick m c f0 f1 f2 f3 main_v5_2 = f2 := by
  unfold pick; rw [Function.update_of_ne (by decide), Function.update_self]
theorem pick1 (c : Dev nD) (f0 f1 f2 f3) : pick m c f0 f1 f2 f3 main_v5_1 = f1 := by
  unfold pick; rw [Function.update_of_ne (by decide), Function.update_of_ne (by decide), Function.update_self]
theorem pick0 (c : Dev nD) (f0 f1 f2 f3) : pick m c f0 f1 f2 f3 main_v5_0 = f0 := by
  unfold pick; rw [Function.update_of_ne (by decide), Function.update_of_ne (by decide), Function.update_of_ne (by decide), Function.update_self]

theorem left_intro (c : Dev nD) :
    iprop((∃ f, held c hKcOut f) ∗ (∃ f, held c hKsOut f ∗ ⌜scaleLeft c (V m c main_arg0) (V m c main_arg1) (V m c main_v2) (slW m c) (wsW m c) (lnwW m c) (lnbW m c) (posW m c) (freqW m c) f⌝)
      ∗ (∃ f, held c hCodes f ∗ ⌜codesLeft c (V m c main_arg0) (V m c main_arg1) (wsW m c) (lnwW m c) (lnbW m c) (posW m c) (freqW m c) f⌝)
      ∗ (∃ f, held c hScales f ∗ ⌜wordsLeft c (V m c main_arg0) (V m c main_arg1) (wsW m c) (lnwW m c) (lnbW m c) (posW m c) (freqW m c) f⌝))
      ⊢ (Pipeline.routedSat R0 c (PG m c) : sProp 𝕄) := by
  unfold Pipeline.routedSat
  iintro ⟨⟨%f0, H0⟩, ⟨%f1, H1, %h1⟩, ⟨%f2, H2, %h2⟩, ⟨%f3, H3, %h3⟩⟩
  iexists pick m c f0 f1 f2 f3
  isplitr
  · ipureintro; unfold PG; rw [pick1, pick2, pick3]; exact ⟨h2, h3, h1⟩
  rw [routed0_eq, pick0, pick1, pick2, pick3]
  isplitl [H0]; · iexact H0
  isplitl [H1]; · iexact H1
  isplitl [H2]; · iexact H2
  iexact H3

/-! ## The proof data and the body's obligation -/

def ΦAt (c : Dev nD) (t : ℕ) : sProp 𝕄 :=
  if t = 0 then Pipeline.ΦDRG osem0 spec0 H0 R0 (V m) (V m) c
  else iprop(Pipeline.ΦD osem0 spec0 H0 (V m) c ∗ Pipeline.routedSat R0 c (PG m c))

/-- The proof data of the one pipeline: every window an argument, left as found. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
  Φ t := ΦAt m c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)

def bodyPre (c : Dev nD) : sProp 𝕄 :=
  iprop((dats m 0 c).Φ (t0_0 : Fin cfg0.N).castSucc ∗ (dats m 0 c).owesAt () (t0_0 : Fin cfg0.N).castSucc
    ∗ (∃ d, owns (c : Thread nD τ) (st0_0 (t0_0 : Fin cfg0.N)) fullShare ((dats m 0 c).before 0 (t0_0 : Fin cfg0.N) d)) ∗ (∃ d, owns (c : Thread nD τ) (st0_1 (t0_0 : Fin cfg0.N)) fullShare ((dats m 0 c).before 1 (t0_0 : Fin cfg0.N) d)) ∗ (∃ d, owns (c : Thread nD τ) (st0_2 (t0_0 : Fin cfg0.N)) fullShare ((dats m 0 c).before 2 (t0_0 : Fin cfg0.N) d)) ∗ (∃ d, owns (c : Thread nD τ) (st0_3 (t0_0 : Fin cfg0.N)) fullShare ((dats m 0 c).before 3 (t0_0 : Fin cfg0.N) d)) ∗ (∃ d, owns (c : Thread nD τ) (st0_4 (t0_0 : Fin cfg0.N)) fullShare ((dats m 0 c).before 4 (t0_0 : Fin cfg0.N) d)) ∗ (∃ d, owns (c : Thread nD τ) (st0_5 (t0_0 : Fin cfg0.N)) fullShare ((dats m 0 c).before 5 (t0_0 : Fin cfg0.N) d)))
def bodyPost (c : Dev nD) : sProp 𝕄 :=
  iprop((dats m 0 c).Φ (t0_0 : Fin cfg0.N).succ ∗ (dats m 0 c).owesAt () (t0_0 : Fin cfg0.N).succ
    ∗ owns (c : Thread nD τ) (st0_0 (t0_0 : Fin cfg0.N)) fullShare ((dats m 0 c).after 0 (t0_0 : Fin cfg0.N)) ∗ owns (c : Thread nD τ) (st0_1 (t0_0 : Fin cfg0.N)) fullShare ((dats m 0 c).after 1 (t0_0 : Fin cfg0.N)) ∗ owns (c : Thread nD τ) (st0_2 (t0_0 : Fin cfg0.N)) fullShare ((dats m 0 c).after 2 (t0_0 : Fin cfg0.N)) ∗ owns (c : Thread nD τ) (st0_3 (t0_0 : Fin cfg0.N)) fullShare ((dats m 0 c).after 3 (t0_0 : Fin cfg0.N)) ∗ owns (c : Thread nD τ) (st0_4 (t0_0 : Fin cfg0.N)) fullShare ((dats m 0 c).after 4 (t0_0 : Fin cfg0.N)) ∗ owns (c : Thread nD τ) (st0_5 (t0_0 : Fin cfg0.N)) fullShare ((dats m 0 c).after 5 (t0_0 : Fin cfg0.N)))

set_option maxHeartbeats 1000000 in
theorem sound_body (c : Dev nD) (hsl : InReach c (slW m c)) :
    bodyPre m c ⊢ wp frame (wpE (defs₀ (F := F)) Variants.none c none) Set.univ (bodyAt0 (t0_0 : Fin cfg0.N)) (fun _ => bodyPost m c) := by
  unfold bodyPre bodyPost
  rw [show (dats m 0 c).Φ (t0_0 : Fin cfg0.N).succ = iprop(Pipeline.ΦD osem0 spec0 H0 (V m) c ∗ Pipeline.routedSat R0 c (PG m c)) from rfl,
    show (dats m 0 c).Φ (t0_0 : Fin cfg0.N).castSucc = Pipeline.ΦDRG osem0 spec0 H0 R0 (V m) (V m) c from rfl,
    Pipeline.ΦDRG_eq, Pipeline.ΦD_eq, ownSems00_eq, hbmPts0_eq, routed0_eq, scoped0_eq]
  unfold Dat.owesAt Pipeline.owesWithin
  rw [show (dats m 0 c).owed (t0_0 : Fin cfg0.N).castSucc = 0 from rfl, show (dats m 0 c).owed (t0_0 : Fin cfg0.N).succ = 0 from rfl]
  simp only [before0_0, before0_1, before0_2, before0_3, before0_4, before0_5, after0_0, after0_1, after0_2, after0_3, after0_4, after0_5]
  iintro ⟨⟨⟨S0, S1, S2, S3, S4, S5, S6, S7, S8⟩, Hg, Hc, ⟨HX, HW, HKc, HKs⟩, ⟨O0, O1, O2, O3⟩⟩, ⟨%W, -, HO⟩, ⟨%d0, A0⟩, ⟨%d1, A1⟩, ⟨%d2, A2⟩, ⟨%d3, A3⟩, ⟨%d4, A4⟩, ⟨%d5, A5⟩⟩
  iapply (wp_wand_r frame (wpE (defs₀ (F := F)) Variants.none c none) Set.univ (Q := fun _ => iprop(post0 c (V m c main_arg0) (V m c main_arg1) (V m c main_arg7) (V m c main_v2) (slW m c) (wsW m c) (lnwW m c) (lnbW m c) (posW m c) (freqW m c) ∗ (∃ W', owes (c : Thread nD τ) 0 W'))))
  isplitr [Hg]
  · iapply (body0 c (V m c main_arg0) (V m c main_arg1) (V m c main_arg7) (V m c main_v2) (slW m c) (wsW m c) (lnwW m c) (lnbW m c) (posW m c) (freqW m c) hsl W)
    isplitr [HO]
    · unfold pre0
      isplitl [Hc]; · iexact Hc
      isplitl [HX]; · iexact HX
      isplitl [HW]; · iexact HW
      isplitl [HKc]; · iexact HKc
      isplitl [HKs]; · iexact HKs
      isplitl [O0]; · iexists _; iexact O0
      isplitl [O1]; · iexists _; iexact O1
      isplitl [O2]; · iexists _; iexact O2
      isplitl [O3]; · iexists _; iexact O3
      isplitl [A0]; · iapply (take0 m c); iexact A0
      isplitl [A1]; · iapply (take1 m c); iexact A1
      isplitl [A2]; · iapply (take2 m c); iexact A2
      isplitl [A3]; · iapply (take3 m c); iexact A3
      isplitl [A4]; · iapply (take4 m c); iexact A4
      isplitl [A5]; · iapply (take5 m c); iexact A5
      isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      iexact S8
    · iexact HO
  iintro %_ ⟨H, ⟨%W', HO⟩⟩
  unfold post0
  icases H with ⟨Hc, HX, HW, HKc, HKs, O0, O1, O2, O3, A0, A1, A2, A3, A4, A5, S0, S1, S2, S3, S4, S5, S6, S7, S8⟩
  isplitl [S0 S1 S2 S3 S4 S5 S6 S7 S8 Hg Hc HX HW HKc HKs O0 O1 O2 O3]
  · isplitr [O0 O1 O2 O3]
    · isplitl [S0 S1 S2 S3 S4 S5 S6 S7 S8]
      · isplitl [S0]; · iexact S0
        isplitl [S1]; · iexact S1
        isplitl [S2]; · iexact S2
        isplitl [S3]; · iexact S3
        isplitl [S4]; · iexact S4
        isplitl [S5]; · iexact S5
        isplitl [S6]; · iexact S6
        isplitl [S7]; · iexact S7
        iexact S8
      isplitl [Hg]; · iexact Hg
      isplitl [Hc]; · iexact Hc
      isplitl [HX]; · iexact HX
      isplitl [HW]; · iexact HW
      isplitl [HKc]; · iexact HKc
      iexact HKs
    · iapply (left_intro m c)
      isplitl [O0]; · iexact O0
      isplitl [O1]; · iexact O1
      isplitl [O2]; · iexact O2
      iexact O3
  isplitl [HO]
  · iexists W'; isplitr; · ipureintro; exact fun _ _ => Or.inl trivial
    iexact HO
  isplitl [A0]; · iapply (give0 m c); iexact A0
  isplitl [A1]; · iapply (give1 m c); iexact A1
  isplitl [A2]; · iapply (give2 m c); iexact A2
  isplitl [A3]; · iapply (give3 m c); iexact A3
  isplitl [A4]; · iapply (give4 m c); iexact A4
  iapply (give5 m c); iexact A5

theorem defs₀_row (t : Fin cfg0.N) :
    defs₀ (F := F) .tc cfg0.body (cfg0.bodyArgs t (cfg0.slots t)) = bodyAt0 t := by
  unfold defs₀; rw [Defs.onTc_tc]

theorem body_obligation (c : Dev nD) (hsl : InReach c (slW m c)) : BodyObligation (dats (F := F) m 0 c) (defs₀ (F := F)) Variants.none () Set.univ := fun t => by
  obtain rfl : t = t0_0 := fin_N0 t
  rw [bigSep_W0, bigSep_W0, defs₀_row]
  exact triple_restated (sound_body m c hsl) rfl .rfl fun _ => .rfl

/-! ## The run -/

set_option backward.isDefEq.respectTransparency.types false in
theorem run_main (hsl : ∀ c, InReach c (slW m c)) :
    θ_run defs (onTc (τ := τ) (main (F := F))) (s₀ m ρ) (fun r => (Pipeline.RDat.FramePostR cfg0 (fun c => (dats m 0 c).toR) R0 (V m) r
      ∧ ∀ c : Dev nD, ∃ W : (b : Ref sig .tc) → Buf (Elt F) ((c : Thread nD τ).loc b),
          PG m c W ∧ ∀ b ∈ R0, r.2.mem ((c : Thread nD τ).loc b) = W b) ∧ r.2.sem = fun _ => 0) :=
  Pipeline.RDat.θ_run_frameP_dmaRSat_shared (Q' := _) (fun q => (cfgs q).toPCfg) (fun q => (cfgs q).toPCfg_adm) (0 : Fin 1) launch0.toP.to₀ osem0 defs₀ Variants.none
    (fun c => (dats m 0 c).toR) ownSemFacts0 H0 R0 (fun b h => hrest b (H0_sub h))
    (fun b h => Finset.mem_sdiff.mpr ⟨hrest b (Finset.mem_sdiff.mp (R0_sub h)).1, (Finset.mem_sdiff.mp (R0_sub h)).2⟩) m ρ main
    (hbody := fun c => (body_obligation m c (hsl c)).loose.toR) (hq := fun c w hw => (dats m 0 c).toR.q_eq_shareOf_of_share_full winFacts0.arr_inj ((dats m 0 c).share_full fun _ => rfl) w hw)
    (howed := fun _ _ => rfl) (V := V m) (hmain := hmain m Variants.none) (hA := A_eq m)
    (hpf := fun _ k => k.elim0) (PG := PG m)
    (hin := fun c => BIBase.Entails.trans (show _ ⊢ Pipeline.ΦDRG osem0 spec0 H0 R0 (V m) (V m) c by iintro ⟨H, -⟩; iexact H) (Entails.of_eq rfl)) (hout := fun _ => .rfl) (hQ' := fun _ h => h)

/-- What is left of one run, read at the arrays: every argument as it was, the cells at zero, and three results. -/
def Left (r : PUnit × MemSt nD τ sig (Elt F)) : Prop :=
  (∀ c : Dev nD, r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) ∧ r.2.mem ((c : Thread nD τ).loc main_arg3) = m ((c : Thread nD τ).loc main_arg3) ∧ r.2.mem ((c : Thread nD τ).loc main_arg4) = m ((c : Thread nD τ).loc main_arg4) ∧ r.2.mem ((c : Thread nD τ).loc main_arg5) = m ((c : Thread nD τ).loc main_arg5) ∧ r.2.mem ((c : Thread nD τ).loc main_arg6) = m ((c : Thread nD τ).loc main_arg6) ∧ r.2.mem ((c : Thread nD τ).loc main_arg7) = m ((c : Thread nD τ).loc main_arg7) ∧ r.2.mem ((c : Thread nD τ).loc main_arg8) = m ((c : Thread nD τ).loc main_arg8))
  ∧ r.2.sem = (fun _ => 0) ∧ ∀ c : Dev nD, PG m c (fun b => r.2.mem ((c : Thread nD τ).loc b))

theorem kept_rest (b : Ref sig .tc) (hs : b.isScoped = false) (hu : ∀ w, (spec0 w).arr.view.ref ≠ b)
    (hR : b ∉ R0) (r : PUnit × MemSt nD τ sig (Elt F))
    (h : Pipeline.RDat.FramePostR cfg0 (fun c => (dats m 0 c).toR) R0 (V m) r) (c : Dev nD) :
    r.2.mem ((c : Thread nD τ).loc b) = V m c b :=
  (h c).2 b (Finset.mem_sdiff.mpr ⟨Pipeline.mem_restRefs_of b hs hu, hR⟩)

theorem left_of (hsl : ∀ c, InReach c (slW m c)) :
    θ_run defs (onTc (τ := τ) (main (F := F))) (s₀ m ρ) (Left m) := by
  refine (θ_run defs _ _).mono (fun r h => ?_) (run_main m ρ hsl)
  obtain ⟨⟨hf, hp⟩, hs⟩ := h
  refine ⟨fun c => ⟨(kept_rest m main_arg0 (by decide) (by decide) (by decide) r hf c).trans (V_main_arg0 m c), (kept_rest m main_arg1 (by decide) (by decide) (by decide) r hf c).trans (V_main_arg1 m c), (hf.arr_in c 1 rfl).trans ((A_eq m c 1).trans (V_main_arg2 m c)), (kept_rest m main_arg3 (by decide) (by decide) (by decide) r hf c).trans (V_main_arg3 m c), (kept_rest m main_arg4 (by decide) (by decide) (by decide) r hf c).trans (V_main_arg4 m c), (hf.arr_in c 4 rfl).trans ((A_eq m c 4).trans (V_main_arg5 m c)), (hf.arr_in c 0 rfl).trans ((A_eq m c 0).trans (V_main_arg6 m c)), (kept_rest m main_arg7 (by decide) (by decide) (by decide) r hf c).trans (V_main_arg7 m c), (kept_rest m main_arg8 (by decide) (by decide) (by decide) r hf c).trans (V_main_arg8 m c)⟩, hs, fun c => ?_⟩
  obtain ⟨W, hW, hb⟩ := hp c
  unfold PG at hW ⊢
  dsimp only
  rw [hb main_v5_1 (by decide), hb main_v5_2 (by decide), hb main_v5_3 (by decide)]
  exact hW

end Cert.KernelIdeal.Hand

end
-- ==== Proof.KI.Slots.lean ====
/-
  The precondition, read at one slot.
-/
module

public import proofs.«01_k».proof.Proof.KI.Run
public import proofs.«01_k».proof.Pre_slots_in_reach
public import Idealize.ShloMosaic.Lib.ReduceAll
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

variable (m : (ℓ : Loc nD τ sig) → Buf (Elt F) ℓ)

theorem slot_lt (w : BitVec 32) : IntOp.andi (IntOp.cmpi .sge w 0#32) (IntOp.cmpi .slt w 245760#32) = 1#1 ↔ w.toNat < 245760 := by
  word_cmp

/-- The precondition, element by element. -/
theorem slots_lt [Cert.Pre_slots_in_reach.Facts] (x a2 a3 a4 a5 a7 a8 a9) (sl : IVec Cert.Pre_slots_in_reach.S6x256 32)
    (h : Cert.Pre_slots_in_reach.fn (F := F) x a2 a3 a4 a5 a7 sl a8 a9 = fun _ => 1#1) (i : Cert.Pre_slots_in_reach.S6x256.Idx) : (sl i).toNat < 245760 := by
  dsimp only [Cert.Pre_slots_in_reach.fn] at h
  have hi := Host.reduce_andi_all (t := Cert.Pre_slots_in_reach.S_) _ _ _ _ _ (congrFun h (Shape.Idx.first Cert.Pre_slots_in_reach.Facts.h_S_)) i
  exact (slot_lt _).mp hi

theorem inReach (c : Dev nD) (h : ∀ i, (m ((c : Thread nD τ).loc main_arg6) i).toNat < 245760) : InReach c (slW m c) := by
  intro x
  have hV : V m c main_arg6 = m ((c : Thread nD τ).loc main_arg6) := V_main_arg6 m c
  have : ∀ i, ((V m c main_arg6) i).toNat < 245760 := by rw [hV]; exact h
  exact this _

end Cert.KernelIdeal.Hand

end
-- ==== Proof.KI.Paged.lean ====
/-
  The precondition of paged slots, read at one slot, at two that follow each other and at any two.
-/
module

public import proofs.«01_k».proof.Proof.KI.Run
public import proofs.«01_k».proof.Proof.KI.Slots
public import proofs.«01_k».proof.Pre_slots_paged
public import Idealize.ShloMosaic.Lib.ReduceAll
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe

/-- The side conditions of the precondition's operations. -/
theorem pagedFacts : Cert.Pre_slots_paged.Facts where
  slices_S6x256_S6x255_0_0 := by decide
  slices_S6x256_S6x255_0_1 := by decide
  bcast_S_S6x255 := by decide
  shapeCasts_S6x256_S1536x1 := by decide
  shapeCasts_S6x256_S1x1536 := by decide
  bcast_S_S6x256 := by decide
  reducesTo_S6x256_S_d0_1 := by decide
  h_S_ := by decide
  reducesTo_S6x255_S_d0_1 := by decide
  bcast_S1536x1_S1536x1536_0_1 := by decide
  bcast_S1x1536_S1536x1536_0_1 := by decide
  reducesTo_S1536x1536_S_d0_1 := by decide

theorem and_one : ∀ x y : BitVec 1, IntOp.andi x y = 1#1 → x = 1#1 ∧ y = 1#1 := by decide
theorem or_one : ∀ x y : BitVec 1, IntOp.ori x y = 1#1 → x = 1#1 ∨ y = 1#1 := by decide
theorem eq_one {n : ℕ} (u v : BitVec n) (h : IntOp.cmpi .eq u v = 1#1) : u = v := by
  by_contra hn
  have h' : BitVec.ofBool (u == v) = 1#1 := h
  rw [beq_false_of_ne hn] at h'
  exact absurd h' (by decide)
theorem ne_one {n : ℕ} (u v : BitVec n) (h : IntOp.cmpi .ne u v = 1#1) : u ≠ v := by
  rintro rfl
  have h' : BitVec.ofBool (u != u) = 1#1 := h
  simp at h'

theorem low63 (u : BitVec 32) : (IntOp.andi u 63#32).toNat = u.toNat % 64 := by
  unfold IntOp.andi
  simp only [BitVec.toNat_and, BitVec.toNat_ofNat]
  rw [show (63 % 2 ^ 32 : ℕ) = 2 ^ 6 - 1 from rfl, Nat.and_two_pow_sub_one_eq_mod]

theorem next_word (u v : BitVec 32) (hu : u.toNat < 245760)
    (h : IntOp.ori (IntOp.cmpi .eq v (IntOp.addi u 1#32)) (IntOp.andi (IntOp.cmpi .eq (IntOp.andi u 63#32) 63#32) (IntOp.cmpi .eq (IntOp.andi v 63#32) 0#32)) = 1#1) :
    v.toNat = u.toNat + 1 ∨ (u.toNat % 64 = 63 ∧ v.toNat % 64 = 0) := by
  rcases or_one _ _ h with h | h
  · left
    rw [eq_one _ _ h]
    show (u + 1#32).toNat = _
    rw [BitVec.toNat_add]
    show (u.toNat + 1) % 2 ^ 32 = _
    omega
  · right
    obtain ⟨h1, h2⟩ := and_one _ _ h
    have e1 := congrArg BitVec.toNat (eq_one _ _ h1)
    have e2 := congrArg BitVec.toNat (eq_one _ _ h2)
    rw [low63] at e1 e2
    exact ⟨e1, e2⟩

section

variable {F : FTy → Type} [FloatOps F] [hP : Cert.Pre_slots_paged.Facts] (x a2 a3 a4 a5 a7 a8 a9) (sl : IVec Cert.Pre_slots_paged.S6x256 32)
    (h : Cert.Pre_slots_paged.fn (F := F) x a2 a3 a4 a5 a7 sl a8 a9 = fun _ => 1#1)

include h

theorem paged_parts : (∀ i : Cert.Pre_slots_paged.S6x256.Idx, (sl i).toNat < 245760)
    ∧ (∀ (b : Fin 6) (t : Fin 255), IntOp.ori (IntOp.cmpi .eq (sl (ix2 b (⟨t.val + 1, by omega⟩ : Fin 256))) (IntOp.addi (sl (ix2 b (⟨t.val, by omega⟩ : Fin 256))) 1#32))
        (IntOp.andi (IntOp.cmpi .eq (IntOp.andi (sl (ix2 b (⟨t.val, by omega⟩ : Fin 256))) 63#32) 63#32)
          (IntOp.cmpi .eq (IntOp.andi (sl (ix2 b (⟨t.val + 1, by omega⟩ : Fin 256))) 63#32) 0#32)) = 1#1)
    ∧ ∀ i j : Fin 1536, IntOp.ori (IntOp.cmpi .eq (BitVec.ofNat 32 i.val) (BitVec.ofNat 32 j.val))
        (IntOp.cmpi .ne (shapeCast Cert.Pre_slots_paged.S1536x1 sl Cert.Pre_slots_paged.Facts.shapeCasts_S6x256_S1536x1 (ix2 i 0))
          (shapeCast Cert.Pre_slots_paged.S1x1536 sl Cert.Pre_slots_paged.Facts.shapeCasts_S6x256_S1x1536 (ix2 0 j))) = 1#1 := by
  have h0 := congrFun h (Shape.Idx.first Cert.Pre_slots_paged.Facts.h_S_)
  dsimp only [Cert.Pre_slots_paged.fn, Cert.Pre_slots_paged.fn_part1] at h0
  obtain ⟨h12, h3⟩ := and_one _ _ h0
  obtain ⟨h1, h2⟩ := and_one _ _ h12
  refine ⟨fun i => ?_, fun b t => ?_, fun i j => ?_⟩
  · have hi := Host.reduce_andi_all (t := Cert.Pre_slots_paged.S_) _ _ _ _ _ h1 i
    exact (slot_lt _).mp hi
  · have hi := Host.reduce_andi_all (t := Cert.Pre_slots_paged.S_) _ _ _ _ _ h2 (ix2 b t)
    have e0 : extractStridedSlice Cert.Pre_slots_paged.S6x255 ![0, 0] sl Cert.Pre_slots_paged.Facts.slices_S6x256_S6x255_0_0 (ix2 b t) = sl (ix2 b (⟨t.val, by omega⟩ : Fin 256)) := by
      pointwise []
    have e1 : extractStridedSlice Cert.Pre_slots_paged.S6x255 ![0, 1] sl Cert.Pre_slots_paged.Facts.slices_S6x256_S6x255_0_1 (ix2 b t) = sl (ix2 b (⟨t.val + 1, by omega⟩ : Fin 256)) := by
      pointwise []
      exact congrArg (fun q : Fin 256 => sl (ix2 b q)) (Fin.ext (Nat.add_comm _ _))
    rw [← e0, ← e1]
    exact hi
  · have hi := Host.reduce_andi_all (t := Cert.Pre_slots_paged.S_) _ _ _ _ _ h3 (ix2 i j)
    have e0 : broadcastInDim Cert.Pre_slots_paged.S1536x1536 ![0, 1] Cert.Pre_slots_paged.Facts.bcast_S1536x1_S1536x1536_0_1
        (shapeCast Cert.Pre_slots_paged.S1536x1 sl Cert.Pre_slots_paged.Facts.shapeCasts_S6x256_S1536x1) (ix2 i j)
        = shapeCast Cert.Pre_slots_paged.S1536x1 sl Cert.Pre_slots_paged.Facts.shapeCasts_S6x256_S1536x1 (ix2 i 0) := by
      generalize shapeCast Cert.Pre_slots_paged.S1536x1 sl Cert.Pre_slots_paged.Facts.shapeCasts_S6x256_S1536x1 = z
      pointwise []
    have e1 : broadcastInDim Cert.Pre_slots_paged.S1536x1536 ![0, 1] Cert.Pre_slots_paged.Facts.bcast_S1x1536_S1536x1536_0_1
        (shapeCast Cert.Pre_slots_paged.S1x1536 sl Cert.Pre_slots_paged.Facts.shapeCasts_S6x256_S1x1536) (ix2 i j)
        = shapeCast Cert.Pre_slots_paged.S1x1536 sl Cert.Pre_slots_paged.Facts.shapeCasts_S6x256_S1x1536 (ix2 0 j) := by
      generalize shapeCast Cert.Pre_slots_paged.S1x1536 sl Cert.Pre_slots_paged.Facts.shapeCasts_S6x256_S1x1536 = z
      pointwise []
    rw [← e0, ← e1]
    exact hi

theorem slots_lt_paged (i : Cert.Pre_slots_paged.S6x256.Idx) : (sl i).toNat < 245760 := (paged_parts x a2 a3 a4 a5 a7 a8 a9 sl h).1 i

theorem paged_of : Paged fun b t => (sl (ix2 b t)).toNat := by
  obtain ⟨h1, h2, h3⟩ := paged_parts x a2 a3 a4 a5 a7 a8 a9 sl h
  refine ⟨fun b t ht => ?_, fun b t b' t' e => ?_⟩
  · exact next_word _ _ (h1 _) (h2 b ⟨t, by omega⟩)
  · have hi := h3 (⟨b.val * 256 + t.val, by omega⟩ : Fin 1536) (⟨b'.val * 256 + t'.val, by omega⟩ : Fin 1536)
    have hd : shapeCast Cert.Pre_slots_paged.S1536x1 sl Cert.Pre_slots_paged.Facts.shapeCasts_S6x256_S1536x1 (ix2 (⟨b.val * 256 + t.val, by omega⟩ : Fin 1536) 0) = sl (ix2 b t) :=
      shapeCast_apply sl _ _ _ (by
        rw [Shape.rowMajor_val_two, Shape.rowMajor_val_two]
        show b.val * 256 + t.val = (b.val * 256 + t.val) * 1 + 0
        omega)
    have ha : shapeCast Cert.Pre_slots_paged.S1x1536 sl Cert.Pre_slots_paged.Facts.shapeCasts_S6x256_S1x1536 (ix2 0 (⟨b'.val * 256 + t'.val, by omega⟩ : Fin 1536)) = sl (ix2 b' t') :=
      shapeCast_apply sl _ _ _ (by
        rw [Shape.rowMajor_val_two, Shape.rowMajor_val_two]
        show b'.val * 256 + t'.val = 0 * 1536 + (b'.val * 256 + t'.val)
        omega)
    rw [hd, ha] at hi
    rcases or_one _ _ hi with hi | hi
    · have e := congrArg BitVec.toNat (eq_one _ _ hi)
      have ht := t.isLt
      have ht' := t'.isLt
      have hb := b.isLt
      have hb' := b'.isLt
      simp only [BitVec.toNat_ofNat] at e
      constructor <;> apply Fin.ext <;> omega
    · exact absurd (BitVec.eq_of_toNat_eq e) (ne_one _ _ hi)

end

variable {F : FTy → Type} [FloatOps F] (m : (ℓ : Loc nD τ sig) → Buf (Elt F) ℓ)

/-- The slots the body reads are the argument's. -/
theorem slotNo_eq (c : Dev nD) (b : Fin 6) (t : Fin 256) : slotNo c (slW m c) b t = (m ((c : Thread nD τ).loc main_arg6) (ix2 b t)).toNat := by
  have hV : V m c main_arg6 = m ((c : Thread nD τ).loc main_arg6) := V_main_arg6 m c
  rw [← hV]
  unfold slotNo
  refine congrArg BitVec.toNat ?_
  show V m c main_arg6 _ = _
  exact congrArg (V m c main_arg6 : Vec F S6x256 .i32) (funext fun a => Fin.ext (Pipeline.Window.rect_emb_val_of_index_zero win0_0 t0_0 a rfl _))

end Cert.KernelIdeal.Hand

end
-- ==== Proof.Value.Scale.lean ====
/-   The exponent of one group from the greatest magnitude of its lanes: the kernel walks the eight bits of an exponent
  field and keeps a bit where the power of two is reached, the reference counts the powers reached; the kernel makes
  the inverse scale from a bit pattern, the reference by the exponential.
 -/
module

public import proofs.«01_k».proof.Proof.KI.Trip
public import proofs.«01_k».proof.Proof.Gen.ReferenceIdeal.Value
public import Idealize.ShloMosaic.Lib.Pointwise
public import Mathlib.Data.BitVec

@[expose] public section

noncomputable section

namespace Cert.ValueProof

open Idealize.ShloMosaic

set_option maxRecDepth 16384

/-- The power of two with exponent field `k`, and no fraction. -/
def thr (k : ℕ) : EReal := Ideal.ofBits .f32 (IntOp.shli .vector (BitVec.ofNat 32 k) 23#32)

/-- The fields of such a pattern. -/
theorem thr_fields : ∀ k : Fin 256,
    ((IntOp.shli .vector (BitVec.ofNat 32 k.val) 23#32).extractLsb' 31 1 == 1#1) = false
    ∧ ((IntOp.shli .vector (BitVec.ofNat 32 k.val) 23#32).extractLsb' 23 8).toNat = k.val
    ∧ ((IntOp.shli .vector (BitVec.ofNat 32 k.val) 23#32).extractLsb' 0 23).toNat = 0 := by
  decide +kernel

theorem thr_mid (k : ℕ) (h0 : 0 < k) (h1 : k < 255) : thr k = (((2 : ℝ) ^ ((k : ℤ) - 127) : ℝ) : EReal) := by
  obtain ⟨e1, e2, e3⟩ := thr_fields ⟨k, by omega⟩
  simp only at e1 e2 e3
  simp only [thr, Ideal.ofBits, Ideal.ieee, e1, e2, e3]
  rw [if_neg (by omega), if_neg (by omega)]
  refine congrArg Real.toEReal ?_
  have : ((k : ℤ) - 127) = ((k : ℤ) - 127 - 23) + 23 := by ring
  rw [this, zpow_add₀ (by norm_num)]
  norm_num
  ring

theorem thr_zero : thr 0 = 0 := by
  obtain ⟨e1, e2, e3⟩ := thr_fields ⟨0, by omega⟩
  simp only at e1 e2 e3
  simp only [thr, Ideal.ofBits, Ideal.ieee, e1, e2, e3]
  norm_num

theorem thr_top : thr 255 = ⊤ := by
  obtain ⟨e1, e2, e3⟩ := thr_fields ⟨255, by omega⟩
  simp only at e1 e2 e3
  simp only [thr, Ideal.ofBits, Ideal.ieee, e1, e2, e3]
  norm_num

theorem thr_mono (j k : ℕ) (h : j ≤ k) (hk : k ≤ 255) : thr j ≤ thr k := by
  rcases Nat.eq_or_lt_of_le hk with rfl | hk
  · rw [thr_top]; exact le_top
  rcases Nat.eq_zero_or_pos j with rfl | hj
  · rw [thr_zero]
    rcases Nat.eq_zero_or_pos k with rfl | hk0
    · rw [thr_zero]
    · rw [thr_mid k hk0 hk]; exact EReal.coe_nonneg.2 (by positivity)
  · rw [thr_mid j hj (by omega), thr_mid k (by omega) hk]
    exact EReal.coe_le_coe_iff.2 (zpow_le_zpow_right₀ (by norm_num) (by omega))

/-- The greatest field whose power `m` reaches. -/
theorem exists_field (m : EReal) (hm : 0 ≤ m) : ∃ n : ℕ, n ≤ 255 ∧ ∀ k, k ≤ 255 → (thr k ≤ m ↔ k ≤ n) := by
  classical
  refine ⟨Nat.findGreatest (fun k => thr k ≤ m) 255, Nat.findGreatest_le _, fun k hk => ⟨fun h => Nat.le_findGreatest hk h, fun h => ?_⟩⟩
  have h0 : thr (Nat.findGreatest (fun k => thr k ≤ m) 255) ≤ m :=
    Nat.findGreatest_spec (P := fun k => thr k ≤ m) (Nat.zero_le 255) (by rw [thr_zero]; exact hm)
  exact (thr_mono _ _ h (Nat.findGreatest_le _)).trans h0

/-- One step of the walk: keep the bit where its power is reached. -/
def stp (m : EReal) (e k : BitVec 32) : BitVec 32 :=
  Scalar.select (FloatOps.cmpf (F := Ideal) (φ := .f32) .olt m (Ideal.ofBits .f32 (IntOp.shli .vector (IntOp.ori e k) 23#32))) e (IntOp.ori e k)

/-- The walk over the eight bits. -/
def walk (m : EReal) : BitVec 32 := stp m (stp m (stp m (stp m (stp m (stp m (stp m (stp m 0#32 128#32) 64#32) 32#32) 16#32) 8#32) 4#32) 2#32) 1#32

theorem stp_eq (m : EReal) (n : ℕ) (hn : n ≤ 255) (h : ∀ k, k ≤ 255 → (thr k ≤ m ↔ k ≤ n)) (k e : ℕ)
    (he : e = n / (2 * k) * (2 * k)) (hor : IntOp.ori (BitVec.ofNat 32 e) (BitVec.ofNat 32 k) = BitVec.ofNat 32 (e + k))
    (hk : 0 < k) (hlt : e + k ≤ 255) :
    stp m (BitVec.ofNat 32 e) (BitVec.ofNat 32 k) = BitVec.ofNat 32 (n / k * k) := by
  have key := h (e + k) hlt
  have hdiv : n / (2 * k) = n / k / 2 := by rw [Nat.mul_comm, Nat.div_div_eq_div_mul]
  have hmod := Nat.div_add_mod (n / k) 2
  have hq := Nat.div_add_mod n k
  have hr := Nat.mod_lt n hk
  have h2 := Nat.mod_lt (n / k) (by norm_num : 2 > 0)
  unfold stp
  rw [hor]
  change Scalar.select (Ideal.cmp .olt m (thr (e + k))) _ _ = _
  have hc : Ideal.cmp .olt m (thr (e + k)) = BitVec.ofBool (decide (m < thr (e + k))) := rfl
  rw [hc]
  rw [hdiv] at he
  by_cases hle : e + k ≤ n
  · have : ¬ m < thr (e + k) := not_lt.2 (key.2 hle)
    rw [decide_eq_false this]
    show BitVec.ofNat 32 (e + k) = _
    congr 1
    rcases Nat.mod_two_eq_zero_or_one (n / k) with h0 | h0
    · exfalso
      have : e = n / k * k := by rw [he]; nlinarith
      nlinarith
    · rw [he]; nlinarith
  · have : m < thr (e + k) := not_le.1 (fun hh => hle (key.1 hh))
    rw [decide_eq_true this]
    show BitVec.ofNat 32 e = _
    congr 1
    rcases Nat.mod_two_eq_zero_or_one (n / k) with h0 | h0
    · rw [he]; nlinarith
    · exfalso
      have : e + k = n / k * k := by rw [he]; nlinarith
      exact hle (by rw [this]; exact Nat.div_mul_le_self n k)

theorem ors : ∀ n : Fin 256,
    IntOp.ori (BitVec.ofNat 32 (n.val / 256 * 256)) (BitVec.ofNat 32 128) = BitVec.ofNat 32 (n.val / 256 * 256 + 128)
    ∧ IntOp.ori (BitVec.ofNat 32 (n.val / 128 * 128)) (BitVec.ofNat 32 64) = BitVec.ofNat 32 (n.val / 128 * 128 + 64)
    ∧ IntOp.ori (BitVec.ofNat 32 (n.val / 64 * 64)) (BitVec.ofNat 32 32) = BitVec.ofNat 32 (n.val / 64 * 64 + 32)
    ∧ IntOp.ori (BitVec.ofNat 32 (n.val / 32 * 32)) (BitVec.ofNat 32 16) = BitVec.ofNat 32 (n.val / 32 * 32 + 16)
    ∧ IntOp.ori (BitVec.ofNat 32 (n.val / 16 * 16)) (BitVec.ofNat 32 8) = BitVec.ofNat 32 (n.val / 16 * 16 + 8)
    ∧ IntOp.ori (BitVec.ofNat 32 (n.val / 8 * 8)) (BitVec.ofNat 32 4) = BitVec.ofNat 32 (n.val / 8 * 8 + 4)
    ∧ IntOp.ori (BitVec.ofNat 32 (n.val / 4 * 4)) (BitVec.ofNat 32 2) = BitVec.ofNat 32 (n.val / 4 * 4 + 2)
    ∧ IntOp.ori (BitVec.ofNat 32 (n.val / 2 * 2)) (BitVec.ofNat 32 1) = BitVec.ofNat 32 (n.val / 2 * 2 + 1) := by
  decide +kernel

/-- The walk ends at the greatest field reached. -/
theorem walk_eq (m : EReal) (n : ℕ) (hn : n ≤ 255) (h : ∀ k, k ≤ 255 → (thr k ≤ m ↔ k ≤ n)) : walk m = BitVec.ofNat 32 n := by
  obtain ⟨o1, o2, o3, o4, o5, o6, o7, o8⟩ := ors ⟨n, by omega⟩
  simp only at o1 o2 o3 o4 o5 o6 o7 o8
  have z : (0#32 : BitVec 32) = BitVec.ofNat 32 (n / 256 * 256) := by rw [Nat.div_eq_of_lt (by omega)]
  unfold walk
  rw [z, stp_eq m n hn h 128 _ (by rfl) o1 (by norm_num) (by omega), stp_eq m n hn h 64 _ (by rfl) o2 (by norm_num) (by omega),
    stp_eq m n hn h 32 _ (by rfl) o3 (by norm_num) (by omega), stp_eq m n hn h 16 _ (by rfl) o4 (by norm_num) (by omega),
    stp_eq m n hn h 8 _ (by rfl) o5 (by norm_num) (by omega), stp_eq m n hn h 4 _ (by rfl) o6 (by norm_num) (by omega),
    stp_eq m n hn h 2 _ (by rfl) o7 (by norm_num) (by omega), stp_eq m n hn h 1 _ (by rfl) o8 (by norm_num) (by omega), Nat.div_one, Nat.mul_one]

/-- The kernel's cap on the field. -/
def cap (z : BitVec 32) : BitVec 32 := Scalar.select (IntOp.cmpi .eq z 255#32) z (IntOp.minsi z 252#32)

/-- The kernel's exponent from the greatest magnitude `a`. -/
def kexp (a : EReal) : BitVec 32 :=
  Scalar.select (Ideal.cmp .oeq a (Ideal.ofBits .f32 0x00000000#32)) 0#32
    (Scalar.select (IntOp.ori (Ideal.cmp .oeq (a * Ideal.ofBits .f32 0x3B124925#32) (Ideal.ofBits .f32 0x00000000#32))
        (IntOp.cmpi .eq (cap (walk (a * Ideal.ofBits .f32 0x3B124925#32))) 255#32)) 0#32
      (IntOp.subi (cap (walk (a * Ideal.ofBits .f32 0x3B124925#32))) 126#32))

/-- The reference's exponent from the greatest magnitude `a`, at a table of powers. -/
def rexp (pw : Fin 252 → EReal) (a : EReal) : BitVec 32 :=
  Scalar.select (IntOp.ori (Ideal.cmp .oeq a (Ideal.ofBits .f32 0x00000000#32))
      (Ideal.cmp .oeq (a * Ideal.ofBits .f32 0x3B124925#32) (Ideal.ofBits .f32 0x7F800000#32))) 0#32
    (IntOp.addi (Finset.univ.fold IntOp.addi 0#32 fun x : Fin 252 =>
      BitVec.setWidth 32 (BitVec.ofBool (decide (pw x ≤ a * Ideal.ofBits .f32 0x3B124925#32)))) 4294967170#32)

theorem caps : ∀ n : Fin 256,
    IntOp.cmpi .eq (cap (BitVec.ofNat 32 n.val)) 255#32 = BitVec.ofBool (decide (n.val = 255))
    ∧ (n.val ≠ 255 → IntOp.subi (cap (BitVec.ofNat 32 n.val)) 126#32 = IntOp.addi (BitVec.ofNat 32 (min n.val 252)) 4294967170#32) := by
  decide +kernel

theorem count_eq (N n : ℕ) : (Finset.univ.fold IntOp.addi 0#32 fun x : Fin N =>
      BitVec.setWidth 32 (BitVec.ofBool (decide (x.val + 1 ≤ n)))) = BitVec.ofNat 32 (min n N) := by
  have hs : ∀ (M : ℕ) (f : Fin M → BitVec 32), Finset.univ.fold IntOp.addi 0#32 f = ∑ x, f x := fun M f => rfl
  rw [hs]
  induction N with
  | zero => simp
  | succ N ih =>
    rw [Fin.sum_univ_castSucc]
    simp only [Fin.val_castSucc, Fin.val_last]
    rw [ih]
    by_cases h : N + 1 ≤ n
    · rw [decide_eq_true h, Nat.min_eq_right h, Nat.min_eq_right (by omega)]
      show BitVec.ofNat 32 N + 1#32 = _
      rw [← BitVec.ofNat_add]
    · rw [decide_eq_false h, Nat.min_eq_left (by omega), Nat.min_eq_left (by omega)]
      show BitVec.ofNat 32 n + 0#32 = _
      simp

theorem factor_pos : (0 : EReal) < Ideal.ofBits .f32 0x3B124925#32 := by
  have e1 : ((0x3B124925#32).extractLsb' 31 1 == 1#1) = false := by decide
  have e2 : ((0x3B124925#32).extractLsb' 23 8).toNat = 118 := by decide
  simp only [Ideal.ofBits, Ideal.ieee, e1, e2]
  rw [if_neg (by norm_num), if_neg (by norm_num)]
  refine EReal.coe_pos.2 (mul_pos (mul_pos ?_ ?_) (zpow_pos (by norm_num) _))
  · rw [if_neg (by decide)]; norm_num
  · exact Nat.cast_pos.2 (by omega)

/-- Both sides' exponents are one, within the range of the cap. -/
theorem exp_eq (pw : Fin 252 → EReal) (hpw : ∀ x, pw x = thr (x.val + 1)) (a : EReal) (ha : 0 ≤ a) :
    ∃ k : ℕ, k ≤ 252 ∧ kexp a = IntOp.addi (BitVec.ofNat 32 k) 4294967170#32 ∧ rexp pw a = IntOp.addi (BitVec.ofNat 32 k) 4294967170#32 := by
  have z0 : Ideal.ofBits .f32 0x00000000#32 = 0 := Ideal.ofBits_zero_f32
  have hinf : Ideal.ofBits .f32 0x7F800000#32 = thr 255 := by
    unfold thr; rfl
  by_cases h0 : a = 0
  · refine ⟨126, by norm_num, ?_, ?_⟩
    · unfold kexp
      rw [z0, show Ideal.cmp .oeq a 0 = 1#1 by simp [Ideal.cmp, h0]]
      rfl
    · unfold rexp
      rw [z0, show Ideal.cmp .oeq a 0 = 1#1 by simp [Ideal.cmp, h0]]
      generalize Ideal.cmp .oeq _ _ = b
      rw [show IntOp.ori 1#1 b = 1#1 by revert b; decide]
      rfl
  · have hm : 0 ≤ a * Ideal.ofBits .f32 0x3B124925#32 := mul_nonneg ha factor_pos.le
    have hne : a * Ideal.ofBits .f32 0x3B124925#32 ≠ 0 := mul_ne_zero h0 factor_pos.ne'
    unfold kexp rexp
    rw [z0, hinf]
    generalize a * Ideal.ofBits .f32 0x3B124925#32 = m at hm hne
    obtain ⟨n, hn, hk⟩ := exists_field m hm
    rw [walk_eq m n hn hk, show Ideal.cmp .oeq a 0 = 0#1 by simp [Ideal.cmp, h0], show Ideal.cmp .oeq m 0 = 0#1 by simp [Ideal.cmp, hne]]
    have hcnt : (Finset.univ.fold IntOp.addi 0#32 fun x : Fin 252 => BitVec.setWidth 32 (BitVec.ofBool (decide (pw x ≤ m)))) = BitVec.ofNat 32 (min n 252) := by
      rw [← count_eq 252 n]
      congr 1
      funext x
      rw [hpw, decide_eq_decide.2 (hk (x.val + 1) (by omega))]
    rw [hcnt]
    obtain ⟨c1, c2⟩ := caps ⟨n, by omega⟩
    simp only at c1 c2
    rw [c1]
    have htop : Ideal.cmp .oeq m (thr 255) = BitVec.ofBool (decide (n = 255)) := by
      unfold Ideal.cmp
      simp only
      congr 1
      refine decide_eq_decide.2 ⟨fun h => ?_, fun h => ?_⟩
      · have := (hk 255 (le_refl _)).1 h.ge
        omega
      · have := (hk 255 (le_refl _)).2 h.ge
        rw [thr_top] at this ⊢
        exact top_le_iff.1 this
    rw [htop]
    by_cases h255 : n = 255
    · refine ⟨126, by norm_num, ?_, ?_⟩ <;> rw [decide_eq_true h255] <;> rfl
    · refine ⟨min n 252, Nat.min_le_right _ _, ?_, ?_⟩ <;> rw [decide_eq_false h255]
      · exact c2 h255
      · rfl

theorem exps : ∀ k : Fin 253, IntOp.subi 127#32 (IntOp.addi (BitVec.ofNat 32 k.val) 4294967170#32) = BitVec.ofNat 32 (253 - k.val)
    ∧ (IntOp.addi (BitVec.ofNat 32 k.val) 4294967170#32).toInt = (k.val : ℤ) - 126
    ∧ IntOp.addi (IntOp.addi (BitVec.ofNat 32 k.val) 4294967170#32) 127#32 = BitVec.ofNat 32 (k.val + 1) := by
  decide +kernel

/-- The inverse scale by its bit pattern is the inverse scale by the exponential. -/
theorem inv_eq (k : ℕ) (hk : k ≤ 252) :
    Ideal.ofBits .f32 (IntOp.shli .vector (IntOp.subi 127#32 (IntOp.addi (BitVec.ofNat 32 k) 4294967170#32)) 23#32)
      = FloatOps.exp2 (F := Ideal) (φ := .f32) ((0 : EReal) - FloatOps.sitofp (F := Ideal) .f32 (IntOp.addi (BitVec.ofNat 32 k) 4294967170#32)) := by
  obtain ⟨e1, e2, -⟩ := exps ⟨k, by omega⟩
  simp only at e1 e2
  rw [e1]
  change thr (253 - k) = Ideal.exp2 (0 - (((IntOp.addi (BitVec.ofNat 32 k) 4294967170#32).toInt : ℝ) : EReal))
  rw [e2, thr_mid _ (by omega) (by omega), zero_sub, ← EReal.coe_neg]
  show _ = ((Real.rpow 2 (-(((k : ℤ) - 126 : ℤ) : ℝ)) : ℝ) : EReal)
  refine congrArg Real.toEReal ?_
  rw [← Int.cast_neg]
  show _ = (2 : ℝ) ^ (((-((k : ℤ) - 126) : ℤ)) : ℝ)
  rw [Real.rpow_intCast]
  exact congrArg (fun z : ℤ => (2 : ℝ) ^ z) (by omega)

/-- Four bytes packed by disjunction are their sum. -/
theorem pack_eq (a b c d : ℕ) (ha : a < 256) (hb : b < 256) (hc : c < 256) (hd : d < 256) :
    IntOp.ori (IntOp.ori (IntOp.ori (IntOp.ori 0#32 (IntOp.shli .vector (BitVec.ofNat 32 a) 0#32)) (IntOp.shli .vector (BitVec.ofNat 32 b) 8#32))
        (IntOp.shli .vector (BitVec.ofNat 32 c) 16#32)) (IntOp.shli .vector (BitVec.ofNat 32 d) 24#32)
      = IntOp.shli .vector (BitVec.ofNat 32 a) 0#32 + IntOp.shli .vector (BitVec.ofNat 32 b) 8#32
        + IntOp.shli .vector (BitVec.ofNat 32 c) 16#32 + IntOp.shli .vector (BitVec.ofNat 32 d) 24#32 := by
  have s0 : IntOp.shli .vector (BitVec.ofNat 32 a) 0#32 = BitVec.ofNat 32 a := by
    simp [IntOp.shli]
  have s1 : ∀ (x k : ℕ) (hk : k < 32), IntOp.shli .vector (BitVec.ofNat 32 x) (BitVec.ofNat 32 k) = BitVec.ofNat 32 (2 ^ k * x) := by
    intro x k hk
    have hk' : (BitVec.ofNat 32 k).toNat = k := by rw [BitVec.toNat_ofNat]; exact Nat.mod_eq_of_lt (by omega)
    unfold IntOp.shli
    rw [hk', if_pos hk]
    apply BitVec.eq_of_toNat_eq
    rw [BitVec.shiftLeft_eq', hk', BitVec.toNat_shiftLeft, BitVec.toNat_ofNat, BitVec.toNat_ofNat, Nat.shiftLeft_eq, Nat.mul_comm, Nat.mul_mod_mod]
  have o : ∀ (x y k : ℕ), x < 2 ^ k → IntOp.ori (BitVec.ofNat 32 x) (BitVec.ofNat 32 (2 ^ k * y)) = BitVec.ofNat 32 (2 ^ k * y + x) := by
    intro x y k h
    unfold IntOp.ori
    rw [Nat.two_pow_add_eq_or_of_lt h, BitVec.or_comm]
    apply BitVec.eq_of_toNat_eq
    simp only [BitVec.toNat_or, BitVec.toNat_ofNat]
    rw [Nat.or_mod_two_pow]
  rw [s0, s1 b 8 (by norm_num), s1 c 16 (by norm_num), s1 d 24 (by norm_num)]
  rw [show IntOp.ori 0#32 (BitVec.ofNat 32 a) = BitVec.ofNat 32 a by simp [IntOp.ori]]
  rw [o _ _ 8 (by omega), o _ _ 16 (by omega), o _ _ 24 (by omega)]
  simp only [← BitVec.ofNat_add]
  congr 1
  omega

/-- The greatest magnitude of a group's lanes is not negative. -/
theorem fold_nonneg (u : Fin 32 → EReal) (b : EReal) : 0 ≤ Finset.univ.fold max b fun l => FloatOps.absf (F := Ideal) (φ := .f32) (u l) := by
  rw [Finset.le_fold_max]
  refine Or.inr ⟨0, Finset.mem_univ _, ?_⟩
  show (0 : EReal) ≤ max (u 0) (-(u 0))
  rcases le_total (0 : EReal) (u 0) with h | h
  · exact le_max_of_le_left h
  · exact le_max_of_le_right (EReal.neg_nonneg.2 h)

end Cert.ValueProof

end

end
-- ==== Proof.Value.Walk.lean ====
/-   The exponents of the four groups on a row of tokens: each group walks the eight bits in its own payloads, and all
  four walks are one.
 -/
module

public import proofs.«01_k».proof.Proof.KI.Trip
public import proofs.«01_k».proof.Proof.Gen.ReferenceIdeal.Value
public import Idealize.ShloMosaic.Lib.Pointwise
public import proofs.«01_k».proof.Proof.Value.Scale

@[expose] public section

noncomputable section

namespace Cert.ValueProof

open Idealize.ShloMosaic

set_option maxRecDepth 16384

open Cert.KernelIdeal.Gen Cert.KernelIdeal.Hand in
section

variable (v : FVec Ideal Cert.KernelIdeal.S128x256 .f32) (had : FVec Ideal Cert.KernelIdeal.S128x128 .f32)
  (a : FVec Ideal Cert.KernelIdeal.S128x256 .f32) (p : FVec Ideal Cert.KernelIdeal.S1x256 .f32) (fr : Vec Ideal Cert.KernelIdeal.S32x1 .f32)

/-- One step of the walk on a row of tokens. -/
def vstp (m : FVec Ideal Cert.KernelIdeal.S1x256 .f32) (e : IVec Cert.KernelIdeal.S1x256 32) (k : BitVec 32) : IVec Cert.KernelIdeal.S1x256 32 :=
  select (cmpf .olt m (bitcastToFloat .f32 (shli (ori e (broadcast Cert.KernelIdeal.S1x256 k)) (broadcast Cert.KernelIdeal.S1x256 23#32)))) e (ori e (broadcast Cert.KernelIdeal.S1x256 k))

theorem vstp_apply (m : FVec Ideal Cert.KernelIdeal.S1x256 .f32) (e : IVec Cert.KernelIdeal.S1x256 32) (k : BitVec 32) (i : Cert.KernelIdeal.S1x256.Idx) :
    vstp m e k i = stp (m i) (e i) k := rfl

/-- The cap and the exponent on a row of tokens, from the greatest magnitude's row and the walk's result. -/
def vfin (a m : FVec Ideal Cert.KernelIdeal.S1x256 .f32) (z : IVec Cert.KernelIdeal.S1x256 32) : IVec Cert.KernelIdeal.S1x256 32 :=
  fun i => Scalar.select (Ideal.cmp .oeq (a i) (Ideal.ofBits .f32 0x00000000#32)) 0#32
    (Scalar.select (IntOp.ori (Ideal.cmp .oeq (m i) (Ideal.ofBits .f32 0x00000000#32)) (IntOp.cmpi .eq (cap (z i)) 255#32)) 0#32
      (IntOp.subi (cap (z i)) 126#32))

/-- The whole walk on a row of tokens. -/
def vwalk (m : FVec Ideal Cert.KernelIdeal.S1x256 .f32) : IVec Cert.KernelIdeal.S1x256 32 :=
  vstp m (vstp m (vstp m (vstp m (vstp m (vstp m (vstp m (vstp m (broadcast Cert.KernelIdeal.S1x256 0#32) 128#32) 64#32) 32#32) 16#32) 8#32) 4#32) 2#32) 1#32

theorem vwalk_apply (m : FVec Ideal Cert.KernelIdeal.S1x256 .f32) (i : Cert.KernelIdeal.S1x256.Idx) : vwalk m i = walk (m i) := by
  unfold vwalk walk
  simp only [vstp_apply]
  rfl

theorem walk0 : k0_pay12 (k0_pay8 had a p fr) (k0_pay9 had a p fr) (k0_pay10 had a p fr) k0_pay11
    = fun i => cap (vwalk (k0_pay8 had a p fr) i) := by
  have h9 : k0_pay9 had a p fr = vstp (k0_pay8 had a p fr) (vstp (k0_pay8 had a p fr) (broadcast Cert.KernelIdeal.S1x256 0#32) 128#32) 64#32 := rfl
  have h10 : k0_pay10 had a p fr = ori (k0_pay9 had a p fr) (broadcast Cert.KernelIdeal.S1x256 32#32) := rfl
  rw [h10, h9]
  generalize k0_pay8 had a p fr = m
  unfold vwalk
  generalize vstp m (vstp m (broadcast Cert.KernelIdeal.S1x256 0#32) 128#32) 64#32 = e
  rfl

theorem walk1 : k0_pay23 (k0_pay20 v) (k0_pay21 v) (k0_pay22 v) 23#32
    = vwalk (k0_pay20 v) := by
  have h9 : k0_pay21 v = vstp (k0_pay20 v) (broadcast Cert.KernelIdeal.S1x256 0#32) 128#32 := rfl
  have h10 : k0_pay22 v = ori (k0_pay21 v) (broadcast Cert.KernelIdeal.S1x256 64#32) := rfl
  rw [h10, h9]
  generalize k0_pay20 v = m
  unfold vwalk
  generalize vstp m (broadcast Cert.KernelIdeal.S1x256 0#32) 128#32 = e
  rfl

theorem walk2 : vstp (k0_pay30 v) (k0_pay33 (k0_pay30 v) k0_pay31 k0_pay32) 1#32 = vwalk (k0_pay30 v) := by
  generalize k0_pay30 v = m
  rfl

theorem walk3 : vstp (k0_pay40 (k0_pay38 v)) (vstp (k0_pay40 (k0_pay38 v)) (select (k0_pay43 (k0_pay38 v)) (k0_pay41 (k0_pay38 v)) (k0_pay42 (k0_pay38 v))) 2#32) 1#32
    = vwalk (k0_pay40 (k0_pay38 v)) := by
  generalize k0_pay38 v = a
  have h41 : k0_pay41 a = vstp (k0_pay40 a) (vstp (k0_pay40 a) (vstp (k0_pay40 a) (vstp (k0_pay40 a) (vstp (k0_pay40 a) (broadcast Cert.KernelIdeal.S1x256 0#32) 128#32) 64#32) 32#32) 16#32) 8#32 := rfl
  have h : select (k0_pay43 a) (k0_pay41 a) (k0_pay42 a) = vstp (k0_pay40 a) (k0_pay41 a) 4#32 := rfl
  rw [h, h41]
  rfl

/-- Group 0's exponents. -/
theorem gexp0 (i : Cert.KernelIdeal.S1x256.Idx) : (k0_pay14 (k0_pay7 had a p fr) (k0_pay12 (k0_pay8 had a p fr) (k0_pay9 had a p fr) (k0_pay10 had a p fr) k0_pay11) (k0_pay13 (k0_pay8 had a p fr)) 255#32) i = kexp ((k0_pay6 had a p fr) i) := by
  have h := walk0 had a p fr
  rw [h]
  rw [show k0_pay8 had a p fr = mulf (k0_pay6 had a p fr) (broadcast Cert.KernelIdeal.S1x256 (Ideal.ofBits .f32 0x3B124925#32)) from rfl]
  rw [show k0_pay7 had a p fr = cmpf .oeq (k0_pay6 had a p fr) (broadcast Cert.KernelIdeal.S1x256 (Ideal.ofBits .f32 0x00000000#32)) from rfl]
  generalize k0_pay6 had a p fr = am
  generalize hw : vwalk (mulf am (broadcast Cert.KernelIdeal.S1x256 (Ideal.ofBits .f32 0x3B124925#32))) = w
  have hw' : w i = walk (am i * Ideal.ofBits .f32 0x3B124925#32) := by rw [← hw, vwalk_apply]; rfl
  unfold kexp
  rw [← hw']
  rfl

/-- Group 1's exponents. -/
theorem gexp1 (i : Cert.KernelIdeal.S1x256.Idx) : (k0_pay24 (k0_pay19 v) (k0_pay20 v) (k0_pay23 (k0_pay20 v) (k0_pay21 v) (k0_pay22 v) 23#32) 255#32) i = kexp ((k0_pay18 v) i) := by
  rw [walk1 v]
  rw [show k0_pay20 v = mulf (k0_pay18 v) (broadcast Cert.KernelIdeal.S1x256 (Ideal.ofBits .f32 0x3B124925#32)) from rfl]
  rw [show k0_pay19 v = cmpf .oeq (k0_pay18 v) (broadcast Cert.KernelIdeal.S1x256 (Ideal.ofBits .f32 0x00000000#32)) from rfl]
  generalize k0_pay18 v = am
  generalize hw : vwalk (mulf am (broadcast Cert.KernelIdeal.S1x256 (Ideal.ofBits .f32 0x3B124925#32))) = w
  have hw' : w i = walk (am i * Ideal.ofBits .f32 0x3B124925#32) := by rw [← hw, vwalk_apply]; rfl
  unfold kexp
  rw [← hw']
  rfl

/-- Group 2's exponents. -/
theorem gexp2 (i : Cert.KernelIdeal.S1x256.Idx) : (k0_pay34 (k0_pay29 v) (k0_pay30 v) (k0_pay33 (k0_pay30 v) k0_pay31 k0_pay32)) i = kexp ((k0_pay28 v) i) := by
  rw [show k0_pay34 (k0_pay29 v) (k0_pay30 v) (k0_pay33 (k0_pay30 v) k0_pay31 k0_pay32) =
    vfin (k0_pay28 v) (k0_pay30 v) (vstp (k0_pay30 v) (k0_pay33 (k0_pay30 v) k0_pay31 k0_pay32) 1#32) from by
      generalize k0_pay33 (k0_pay30 v) k0_pay31 k0_pay32 = e
      unfold k0_pay29 k0_pay34
      generalize k0_pay30 v = m
      generalize k0_pay28 v = am
      dsimp only
      generalize hs : vstp m e 1#32 = s
      unfold vstp at hs
      rw [hs]
      rfl, walk2 v]
  rw [show k0_pay30 v = mulf (k0_pay28 v) (broadcast Cert.KernelIdeal.S1x256 (Ideal.ofBits .f32 0x3B124925#32)) from rfl]
  generalize k0_pay28 v = am
  unfold vfin kexp
  rw [vwalk_apply]
  rfl

/-- Group 3's exponents. -/
theorem gexp3 (i : Cert.KernelIdeal.S1x256.Idx) : (k0_pay44 (k0_pay39 (k0_pay38 v) (Scalar.ofBits .f32 0#32)) (k0_pay40 (k0_pay38 v)) (k0_pay41 (k0_pay38 v)) (k0_pay42 (k0_pay38 v)) (k0_pay43 (k0_pay38 v))) i = kexp ((k0_pay38 v) i) := by
  have hE : ∀ (z : IVec Cert.KernelIdeal.S1x256 1) (m : FVec Ideal Cert.KernelIdeal.S1x256 .f32) (e4 e5 : IVec Cert.KernelIdeal.S1x256 32) (c : IVec Cert.KernelIdeal.S1x256 1) (am : FVec Ideal Cert.KernelIdeal.S1x256 .f32),
      z = cmpf .oeq am (broadcast Cert.KernelIdeal.S1x256 (Ideal.ofBits .f32 0x00000000#32)) →
      k0_pay44 z m e4 e5 c = vfin am m (vstp m (vstp m (select c e4 e5) 2#32) 1#32) := by
    intro z m e4 e5 c am hz
    subst hz
    unfold k0_pay44
    dsimp only
    generalize hs2 : vstp m (select c e4 e5) 2#32 = s2
    unfold vstp at hs2
    rw [hs2]
    generalize hs : vstp m s2 1#32 = s
    unfold vstp at hs
    rw [hs]
    rfl
  rw [hE (k0_pay39 (k0_pay38 v) (Scalar.ofBits .f32 0#32)) _ _ _ _ (k0_pay38 v) rfl, walk3 v]
  rw [show k0_pay40 (k0_pay38 v) = mulf (k0_pay38 v) (broadcast Cert.KernelIdeal.S1x256 (Ideal.ofBits .f32 0x3B124925#32)) from rfl]
  generalize k0_pay38 v = am
  unfold vfin kexp
  rw [vwalk_apply]
  rfl

end

end Cert.ValueProof

end

end
-- ==== Proof.Value.Lanes.lean ====
/-   The greatest magnitudes and the scaled lanes of the four groups, entry by entry, in terms of the mixed block.
 -/
module

public import proofs.«01_k».proof.Proof.KI.Trip
public import proofs.«01_k».proof.Proof.Gen.ReferenceIdeal.Value
public import Idealize.ShloMosaic.Lib.Pointwise
public import proofs.«01_k».proof.Proof.Value.Walk

@[expose] public section

noncomputable section

namespace Cert.ValueProof

open Idealize.ShloMosaic

set_option maxRecDepth 16384

open Cert.KernelIdeal.Gen Cert.KernelIdeal.Hand in
section

variable (v : FVec Ideal Cert.KernelIdeal.S128x256 .f32) (had : FVec Ideal Cert.KernelIdeal.S128x128 .f32)
  (a : FVec Ideal Cert.KernelIdeal.S128x256 .f32) (p : FVec Ideal Cert.KernelIdeal.S1x256 .f32) (fr : Vec Ideal Cert.KernelIdeal.S32x1 .f32)

/-- A lane scaled by the kernel's inverse and clipped. -/
def kscale (z : EReal) (e : BitVec 32) : EReal :=
  min (Ideal.ofBits .f32 0x43E00000#32) (max (Ideal.ofBits .f32 0xC3E00000#32) (z * Ideal.ofBits .f32 (IntOp.shli .vector (IntOp.subi 127#32 e) 23#32)))

/-- The greatest magnitude of 32 lanes. -/
def gmax (u : Fin 32 → EReal) : EReal := Finset.univ.fold max (Ideal.ofBits .f32 0xFF800000#32) fun l => FloatOps.absf (F := Ideal) (φ := .f32) (u l)

/-- Lane `l` of group `g` of token `t` in a feature-major block. -/
def lane (v : FVec Ideal Cert.KernelIdeal.S128x256 .f32) (g : Fin 4) (t : Fin 256) (l : Fin 32) : EReal := v (ix2 ⟨g.val * 32 + l.val, by omega⟩ t)

theorem amax0 (t : Fin 256) : (k0_pay6 had a p fr) (ix2 0 t) = gmax (lane (k0_pay3 had a p fr) 0 t) := by
  unfold k0_pay6 k0_pay5
  generalize k0_pay3 had a p fr = v
  pointwise []
  simp [gmax, lane]

theorem lanes0 (l : Fin 32) (t : Fin 256) : (k0_pay15 (k0_pay5 had a p fr) (k0_pay7 had a p fr) (k0_pay12 (k0_pay8 had a p fr) (k0_pay9 had a p fr) (k0_pay10 had a p fr) k0_pay11) (k0_pay13 (k0_pay8 had a p fr)) 255#32) (ix2 l t) = kscale (lane (k0_pay3 had a p fr) 0 t l) (kexp (gmax (lane (k0_pay3 had a p fr) 0 t))) := by
  rw [← amax0, ← gexp0]
  unfold k0_pay15
  generalize k0_pay14 (k0_pay7 had a p fr) (k0_pay12 (k0_pay8 had a p fr) (k0_pay9 had a p fr) (k0_pay10 had a p fr) k0_pay11) (k0_pay13 (k0_pay8 had a p fr)) 255#32 = E
  unfold k0_pay5
  generalize k0_pay3 had a p fr = v
  pointwise []
  simp [kscale, lane]

theorem amax1 (t : Fin 256) : (k0_pay18 v) (ix2 0 t) = gmax (lane (v) 1 t) := by
  unfold k0_pay18 k0_pay17
  pointwise []
  simp [gmax, lane]

theorem lanes1 (l : Fin 32) (t : Fin 256) : (k0_pay25 (k0_pay17 v) (k0_pay19 v) (k0_pay20 v) (k0_pay23 (k0_pay20 v) (k0_pay21 v) (k0_pay22 v) 23#32) 255#32) (ix2 l t) = kscale (lane (v) 1 t l) (kexp (gmax (lane (v) 1 t))) := by
  rw [← amax1, ← gexp1]
  unfold k0_pay25
  generalize k0_pay24 (k0_pay19 v) (k0_pay20 v) (k0_pay23 (k0_pay20 v) (k0_pay21 v) (k0_pay22 v) 23#32) 255#32 = E
  unfold k0_pay17
  pointwise []
  simp [kscale, lane]

theorem amax2 (t : Fin 256) : (k0_pay28 v) (ix2 0 t) = gmax (lane (v) 2 t) := by
  unfold k0_pay28 k0_pay27
  pointwise []
  simp [gmax, lane]

theorem lanes2 (l : Fin 32) (t : Fin 256) : (k0_pay35 (k0_pay27 v) (k0_pay29 v) (k0_pay30 v) (k0_pay33 (k0_pay30 v) k0_pay31 k0_pay32)) (ix2 l t) = kscale (lane (v) 2 t l) (kexp (gmax (lane (v) 2 t))) := by
  rw [← amax2, ← gexp2]
  unfold k0_pay35
  generalize k0_pay34 (k0_pay29 v) (k0_pay30 v) (k0_pay33 (k0_pay30 v) k0_pay31 k0_pay32) = E
  unfold k0_pay27
  pointwise []
  simp [kscale, lane]

theorem amax3 (t : Fin 256) : (k0_pay38 v) (ix2 0 t) = gmax (lane (v) 3 t) := by
  unfold k0_pay38 k0_pay37
  pointwise []
  simp [gmax, lane]

theorem lanes3 (l : Fin 32) (t : Fin 256) : (k0_pay45 (k0_pay37 v) (k0_pay39 (k0_pay38 v) (Scalar.ofBits .f32 0#32)) (k0_pay40 (k0_pay38 v)) (k0_pay41 (k0_pay38 v)) (k0_pay42 (k0_pay38 v)) (k0_pay43 (k0_pay38 v))) (ix2 l t) = kscale (lane (v) 3 t l) (kexp (gmax (lane (v) 3 t))) := by
  rw [← amax3, ← gexp3]
  unfold k0_pay45
  generalize k0_pay44 (k0_pay39 (k0_pay38 v) (Scalar.ofBits .f32 0#32)) (k0_pay40 (k0_pay38 v)) (k0_pay41 (k0_pay38 v)) (k0_pay42 (k0_pay38 v)) (k0_pay43 (k0_pay38 v)) = E
  unfold k0_pay37
  pointwise []
  simp [kscale, lane]

end

end Cert.ValueProof

end

end
-- ==== Proof.Value.Groups.lean ====
/-   The codes and words of one trip of the kernel, entry by entry, in terms of the mixed lanes.
 -/
module

public import proofs.«01_k».proof.Proof.KI.Trip
public import proofs.«01_k».proof.Proof.Gen.ReferenceIdeal.Value
public import Idealize.ShloMosaic.Lib.Pointwise
public import proofs.«01_k».proof.Proof.Value.Lanes

@[expose] public section

noncomputable section

namespace Cert.ValueProof

open Idealize.ShloMosaic

set_option maxRecDepth 16384

open Cert.KernelIdeal.Gen Cert.KernelIdeal.Hand in
section

variable (wb : Vec Ideal Cert.KernelIdeal.S128x7168 .bf16)
  (x : Vec Ideal Cert.KernelIdeal.S1x256x7168 .bf16) (lnw lnb : Vec Ideal Cert.KernelIdeal.S128x1 .f32)
  (pos : Vec Ideal Cert.KernelIdeal.S1x256 .i32) (fr : Vec Ideal Cert.KernelIdeal.S32x1 .f32) (had : FVec Ideal Cert.KernelIdeal.S128x128 .f32)

/-- One code of one trip. -/
theorem codes_eq (t : Fin 256) (h : Fin 128) (g : Fin 4) (l : Fin 32) (hh : h.val = g.val * 32 + l.val) :
    tripCodes wb x lnw lnb pos fr had (ix3 0 t h)
      = kscale (lane (mixed wb x lnw lnb pos fr had) g t l) (kexp (gmax (lane (mixed wb x lnw lnb pos fr had) g t))) := by
  unfold tripCodes
  have h0 : ∀ l : Fin 32, (grp0 wb x lnw lnb pos fr had).1 (ix2 l t) = kscale (lane (mixed wb x lnw lnb pos fr had) 0 t l) (kexp (gmax (lane (mixed wb x lnw lnb pos fr had) 0 t))) := fun l => lanes0 _ _ _ _ l t
  generalize mixed wb x lnw lnb pos fr had = v at h0 ⊢
  generalize grp0 wb x lnw lnb pos fr had = q0 at h0 ⊢
  have h1 : ∀ l : Fin 32, (grp1 (F := Ideal) v q0.2).1 (ix2 l t) = kscale (lane v 1 t l) (kexp (gmax (lane v 1 t))) := fun l => lanes1 _ l t
  try dsimp only
  generalize grp1 (F := Ideal) v q0.2 = q1 at h1 ⊢
  have h2 : ∀ l : Fin 32, (grp2 (F := Ideal) v q1.2).1 (ix2 l t) = kscale (lane v 2 t l) (kexp (gmax (lane v 2 t))) := fun l => lanes2 _ l t
  generalize grp2 (F := Ideal) v q1.2 = q2 at h2 ⊢
  have h3 : ∀ l : Fin 32, (grp3 (F := Ideal) v).1 (ix2 l t) = kscale (lane v 3 t l) (kexp (gmax (lane v 3 t))) := fun l => lanes3 _ l t
  generalize grp3 (F := Ideal) v = q3 at h3 ⊢
  pointwise [k0_pay140, k0_pay139]
  have hl := l.isLt
  fin_cases g
  · have e : h.val = 0 * 32 + l.val := hh
    rw [dif_pos (by omega)]
    refine Eq.trans (congrArg (fun l => q0.1 (ix2 l t)) (Fin.ext ?_ : _ = l)) (h0 l)
    simp only; omega
  · have e : h.val = 1 * 32 + l.val := hh
    rw [dif_neg (by omega), dif_pos (by omega)]
    refine Eq.trans (congrArg (fun l => q1.1 (ix2 l t)) (Fin.ext ?_ : _ = l)) (h1 l)
    simp only; omega
  · have e : h.val = 2 * 32 + l.val := hh
    rw [dif_neg (by omega), dif_neg (by omega), dif_pos (by omega)]
    refine Eq.trans (congrArg (fun l => q2.1 (ix2 l t)) (Fin.ext ?_ : _ = l)) (h2 l)
    simp only; omega
  · have e : h.val = 3 * 32 + l.val := hh
    rw [dif_neg (by omega), dif_neg (by omega), dif_neg (by omega)]
    refine Eq.trans (congrArg (fun l => q3.1 (ix2 l t)) (Fin.ext ?_ : _ = l)) (h3 l)
    simp only; omega

/-- The byte a group puts in its word. -/
abbrev kbyte (v : FVec Ideal Cert.KernelIdeal.S128x256 .f32) (g : Fin 4) (t : Fin 256) : BitVec 32 := IntOp.addi (kexp (gmax (lane v g t))) 127#32

/-- One word of one trip. -/
theorem words_eq (t : Fin 256) :
    tripWords wb x lnw lnb pos fr had (ix3 0 0 t)
      = IntOp.ori (IntOp.ori (IntOp.ori (IntOp.ori 0#32
          (IntOp.shli .vector (kbyte (mixed wb x lnw lnb pos fr had) 0 t) 0#32))
          (IntOp.shli .vector (kbyte (mixed wb x lnw lnb pos fr had) 1 t) 8#32))
          (IntOp.shli .vector (kbyte (mixed wb x lnw lnb pos fr had) 2 t) 16#32))
          (IntOp.shli .vector (kbyte (mixed wb x lnw lnb pos fr had) 3 t) 24#32) := by
  unfold tripWords
  have h0 : (grp0 wb x lnw lnb pos fr had).2 (ix2 0 t) = IntOp.ori 0#32 (IntOp.shli .vector (kbyte (mixed wb x lnw lnb pos fr had) 0 t) 0#32) := by
    unfold kbyte mixed
    rw [← amax0, ← gexp0]
    unfold grp0
    dsimp only
    unfold k0_pay16
    generalize k0_pay14 _ _ _ _ = E
    rfl
  generalize mixed wb x lnw lnb pos fr had = v at h0 ⊢
  generalize grp0 wb x lnw lnb pos fr had = q0 at h0 ⊢
  try dsimp only
  have h1 : (grp1 (F := Ideal) v q0.2).2 (ix2 0 t) = IntOp.ori (q0.2 (ix2 0 t)) (IntOp.shli .vector (kbyte v 1 t) 8#32) := by
    unfold kbyte
    rw [← amax1, ← gexp1]
    unfold grp1
    dsimp only
    unfold k0_pay26
    generalize k0_pay24 (F := Ideal) _ _ _ _ = E
    rfl
  rw [h0] at h1
  generalize grp1 (F := Ideal) v q0.2 = q1 at h1 ⊢
  have h2 : (grp2 (F := Ideal) v q1.2).2 (ix2 0 t) = IntOp.ori (q1.2 (ix2 0 t)) (IntOp.shli .vector (kbyte v 2 t) 16#32) := by
    unfold kbyte
    rw [← amax2, ← gexp2]
    unfold grp2
    dsimp only
    unfold k0_pay36
    generalize k0_pay34 (F := Ideal) _ _ _ = E
    rfl
  rw [h1] at h2
  generalize grp2 (F := Ideal) v q1.2 = q2 at h2 ⊢
  have h3 : (grp3 (F := Ideal) v).2 (ix2 0 t) = kbyte v 3 t := by
    unfold kbyte
    rw [← amax3, ← gexp3]
    unfold grp3
    dsimp only
    unfold k0_pay46
    generalize k0_pay44 (F := Ideal) _ _ _ _ _ = E
    rfl
  generalize grp3 (F := Ideal) v = q3 at h3 ⊢
  pointwise [k0_pay142, k0_pay138]
  rw [h2, h3]

end

end Cert.ValueProof

end

end
-- ==== Proof.Value.Rows.lean ====
/-   The codes and words of the reference, entry by entry, in terms of its mixed lanes.
 -/
module

public import proofs.«01_k».proof.Proof.KI.Trip
public import proofs.«01_k».proof.Proof.Gen.ReferenceIdeal.Value
public import Idealize.ShloMosaic.Lib.Pointwise
public import proofs.«01_k».proof.Proof.Value.Lanes
public import Mathlib.Data.BitVec

@[expose] public section

noncomputable section

namespace Cert.ValueProof

open Idealize.ShloMosaic

set_option maxRecDepth 16384

open Cert.ReferenceIdeal.Gen in
section

variable (A : FVec Ideal Cert.ReferenceIdeal.S1536x128 .f32) (f : FVec Ideal Cert.ReferenceIdeal.S1536x32 .f32) (pw : Vec Ideal Cert.ReferenceIdeal.S1x252 .f32)

/-- Lane `l` of group `g` of row `r`. -/
def rlane (r : Fin 1536) (g : Fin 4) (l : Fin 32) : EReal := k0_pay4 A f (ix3 r g l)

/-- A lane scaled by the reference's inverse and clipped. -/
def rscale (z : EReal) (e : BitVec 32) : EReal :=
  min (Ideal.ofBits .f32 0x43E00000#32) (max (Ideal.ofBits .f32 0xC3E00000#32)
    (z * FloatOps.exp2 (F := Ideal) (φ := .f32) ((0 : EReal) - FloatOps.sitofp (F := Ideal) .f32 e)))

theorem ramax (r : Fin 1536) (g : Fin 4) : k0_pay5 A f (ix2 r g) = gmax (rlane A f r g) := by
  unfold k0_pay5
  pointwise []
  rfl

theorem rexp_eq (r : Fin 1536) (g : Fin 4) :
    k0_pay9 (k0_pay7 A f pw) (k0_pay8 A f) 0#32 (ix2 r g) = rexp (fun x => pw (ix2 0 x)) (gmax (rlane A f r g)) := by
  rw [← ramax]
  have h8 : k0_pay6 A f (ix2 r g) = k0_pay5 A f (ix2 r g) * Ideal.ofBits .f32 0x3B124925#32 := rfl
  have h10 : k0_pay8 A f (ix2 r g) = IntOp.ori (Ideal.cmp .oeq (k0_pay5 A f (ix2 r g)) (Ideal.ofBits .f32 0x00000000#32))
      (Ideal.cmp .oeq (k0_pay6 A f (ix2 r g)) (Ideal.ofBits .f32 0x7F800000#32)) := by
    unfold k0_pay8
    generalize k0_pay6 A f = m
    generalize k0_pay5 A f = n
    rfl
  have h9 : k0_pay7 A f pw (ix2 r g) = IntOp.addi (Finset.univ.fold IntOp.addi 0#32 fun x : Fin 252 =>
      BitVec.setWidth 32 (BitVec.ofBool (decide (pw (ix2 0 x) ≤ k0_pay6 A f (ix2 r g))))) 4294967170#32 := by
    unfold k0_pay7
    generalize k0_pay6 A f = m
    pointwise []
  have h1 : k0_pay9 (k0_pay7 A f pw) (k0_pay8 A f) 0#32 (ix2 r g) = Scalar.select (k0_pay8 A f (ix2 r g)) 0#32 (k0_pay7 A f pw (ix2 r g)) := rfl
  rw [h1, h9, h10, h8]
  rfl

/-- One code of the reference. -/
theorem rcodes_eq (b : Fin 6) (t : Fin 256) (h : Fin 128) (r : Fin 1536) (hr : r.val = b.val * 256 + t.val)
    (g : Fin 4) (l : Fin 32) (hh : h.val = g.val * 32 + l.val) :
    k0_pay10 (k0_pay4 A f) (k0_pay7 A f pw) (k0_pay8 A f) 0#32 (ix3 b t h)
      = rscale (rlane A f r g l) (rexp (fun x => pw (ix2 0 x)) (gmax (rlane A f r g))) := by
  rw [← rexp_eq]
  have hl := l.isLt
  have e1 : (⟨b.val * 256 + t.val, by omega⟩ : Fin 1536) = r := Fin.ext hr.symm
  have e2 : (⟨h.val / 32, by omega⟩ : Fin 4) = g := Fin.ext (by simp only; omega)
  have e3 : (⟨h.val % 32, by omega⟩ : Fin 32) = l := Fin.ext (by simp only; omega)
  unfold k0_pay10 rlane rscale
  generalize k0_pay4 A f = z
  generalize k0_pay9 (k0_pay7 A f pw) (k0_pay8 A f) 0#32 = e
  pointwise []
  rw [e1, e2, e3]

/-- The byte a group puts in its word. -/
abbrev rbyte (r : Fin 1536) (g : Fin 4) : BitVec 32 := IntOp.addi (rexp (fun x => pw (ix2 0 x)) (gmax (rlane A f r g))) 127#32

/-- One word of the reference. -/
theorem rwords_eq (b : Fin 6) (t : Fin 256) (r : Fin 1536) (hr : r.val = b.val * 256 + t.val) :
    k0_pay12 (k0_pay7 A f pw) (k0_pay8 A f) 0#32 (ix3 b 0 t)
      = IntOp.shli .vector (rbyte A f pw r 0) 0#32 + IntOp.shli .vector (rbyte A f pw r 1) 8#32
        + IntOp.shli .vector (rbyte A f pw r 2) 16#32 + IntOp.shli .vector (rbyte A f pw r 3) 24#32 := by
  unfold rbyte
  simp only [← rexp_eq]
  have e1 : (⟨b.val * 256 + t.val, by omega⟩ : Fin 1536) = r := Fin.ext hr.symm
  unfold k0_pay12 k0_pay11
  generalize k0_pay9 (k0_pay7 A f pw) (k0_pay8 A f) 0#32 = e
  pointwise []
  rw [e1]
  have hs : ∀ (M : ℕ) (f : Fin M → BitVec 32), Finset.univ.fold IntOp.addi 0#32 f = ∑ x, f x := fun M f => rfl
  rw [hs, Fin.sum_univ_four]
  rfl

end

end Cert.ValueProof

end

end
-- ==== Proof.Value.Ln.lean ====
/-   The projected and normalized vectors: entry by entry, one trip of the kernel computes what the reference
  computes in one product.
 -/
module

public import proofs.«01_k».proof.Proof.KI.Trip
public import proofs.«01_k».proof.Proof.Gen.ReferenceIdeal.Value
public import Idealize.ShloMosaic.Lib.Pointwise

@[expose] public section

noncomputable section

namespace Cert.ValueProof

open Idealize.ShloMosaic

set_option maxRecDepth 16384

/-- One token's normalized vector, one feature: the kernel's block against the reference's rows. -/
theorem ln_eq (wb : Vec Ideal Cert.KernelIdeal.S128x7168 .bf16) (x : Vec Ideal Cert.KernelIdeal.S1x256x7168 .bf16)
    (lnw lnb : Vec Ideal Cert.KernelIdeal.S128x1 .f32)
    (w8 : Vec Ideal Cert.ReferenceIdeal.S128x7168 .fp8e4m3) (sc : Vec Ideal Cert.ReferenceIdeal.S1x7168 .bf16)
    (X : Vec Ideal Cert.ReferenceIdeal.S1536x7168 .bf16) (lw lb : Vec Ideal Cert.ReferenceIdeal.S1x128 .f32)
    (t : Fin 256) (r : Fin 1536)
    (hw : ∀ (d : Fin 128) (k : Fin 7168), wb (ix2 d k) = w8 (ix2 d k) * sc (ix2 0 k))
    (hx : ∀ k : Fin 7168, x (ix3 0 t k) = X (ix2 r k))
    (hlw : ∀ d : Fin 128, lnw (ix2 d 0) = lw (ix2 0 d)) (hlb : ∀ d : Fin 128, lnb (ix2 d 0) = lb (ix2 0 d)) (d : Fin 128) :
    Cert.KernelIdeal.Gen.k0_pay1 wb x lnw lnb (ix2 d t) = Cert.ReferenceIdeal.Gen.k0_pay2 w8 sc X lw lb (ix2 r d) := by
  have hdot : ∀ d : Fin 128, (∑ k : Fin 7168, wb (ix2 d k) * x (ix3 0 t k) : EReal) = ∑ k : Fin 7168, X (ix2 r k) * (w8 (ix2 d k) * sc (ix2 0 k)) :=
    fun d => Finset.sum_congr rfl fun k _ => by rw [hw, hx, mul_comm]
  pointwise [Cert.KernelIdeal.Gen.k0_pay1, Cert.ReferenceIdeal.Gen.k0_pay2]
  simp only [hdot, hlw, hlb]

end Cert.ValueProof

end

end
-- ==== Proof.Value.Mix.lean ====
/-   The rotated and mixed vectors: the kernel multiplies by the sign matrix on the left of a feature-major block, the
  reference on the right of token-major rows; the two spell the sign of an entry by folding and by counting bits.
 -/
module

public import proofs.«01_k».proof.Proof.KI.Trip
public import proofs.«01_k».proof.Proof.Gen.ReferenceIdeal.Value
public import Idealize.ShloMosaic.Lib.Pointwise

@[expose] public section

noncomputable section

namespace Cert.ValueProof

open Idealize.ShloMosaic

set_option maxRecDepth 16384

/-- Folding a word's bits by shifts and exclusive ors leaves its parity in bit 0. -/
theorem parity_eq : ∀ n : Fin 128,
    IntOp.andi (IntOp.xori (IntOp.xori (IntOp.xori (BitVec.ofNat 32 n.val) (IntOp.shrsi .vector (BitVec.ofNat 32 n.val) 4#32))
        (IntOp.shrsi .vector (IntOp.xori (BitVec.ofNat 32 n.val) (IntOp.shrsi .vector (BitVec.ofNat 32 n.val) 4#32)) 2#32))
      (IntOp.shrsi .vector (IntOp.xori (IntOp.xori (BitVec.ofNat 32 n.val) (IntOp.shrsi .vector (BitVec.ofNat 32 n.val) 4#32))
        (IntOp.shrsi .vector (IntOp.xori (BitVec.ofNat 32 n.val) (IntOp.shrsi .vector (BitVec.ofNat 32 n.val) 4#32)) 2#32)) 1#32)) 1#32
      = IntOp.andi (IntOp.ctpop (BitVec.ofNat 32 n.val)) 1#32 := by
  decide +kernel

/-- The conjunction of two indices below 128 is one. -/
theorem and_lt (i j : Fin 128) : ∃ n : Fin 128, IntOp.andi (BitVec.ofNat 32 i.val) (BitVec.ofNat 32 j.val) = BitVec.ofNat 32 n.val := by
  refine ⟨⟨i.val &&& j.val, lt_of_le_of_lt Nat.and_le_left i.isLt⟩, ?_⟩
  apply BitVec.eq_of_toNat_eq
  have h1 := i.isLt
  have h2 := j.isLt
  have h3 : i.val &&& j.val ≤ i.val := Nat.and_le_left
  simp only [IntOp.andi, BitVec.toNat_and, BitVec.toNat_ofNat]
  rw [Nat.mod_eq_of_lt (by omega), Nat.mod_eq_of_lt (by omega), Nat.mod_eq_of_lt (by omega)]

/-- One entry of the kernel's sign matrix. -/
theorem had_eq (i j : Fin 128) : (Cert.KernelIdeal.Gen.k0_pay49 (F := Ideal)) (ix2 i j)
    = FloatOps.sitofp (F := Ideal) .f32 (IntOp.subi 1#32 (IntOp.muli 2#32 (IntOp.andi (IntOp.ctpop (IntOp.andi (BitVec.ofNat 32 j.val) (BitVec.ofNat 32 i.val))) 1#32))) := by
  pointwise [Cert.KernelIdeal.Gen.k0_pay49]
  have hc : IntOp.andi (BitVec.ofNat 32 j.val) (BitVec.ofNat 32 i.val) = IntOp.andi (BitVec.ofNat 32 i.val) (BitVec.ofNat 32 j.val) := by
    simp only [IntOp.andi]; exact BitVec.and_comm _ _
  rw [hc]
  obtain ⟨n, hn⟩ := and_lt i j
  rw [hn, parity_eq n]

/-- One mixed lane: the kernel's block against the reference's rows. -/
theorem mix_eq (a : FVec Ideal Cert.KernelIdeal.S128x256 .f32) (p : FVec Ideal Cert.KernelIdeal.S1x256 .f32) (fr : Vec Ideal Cert.KernelIdeal.S32x1 .f32)
    (A : FVec Ideal Cert.ReferenceIdeal.S1536x128 .f32) (f : FVec Ideal Cert.ReferenceIdeal.S1536x32 .f32) (t : Fin 256) (r : Fin 1536)
    (ha : ∀ d : Fin 128, a (ix2 d t) = A (ix2 r d)) (hf : ∀ l : Fin 32, p (ix2 0 t) * fr (ix2 l 0) = f (ix2 r l))
    (g : Fin 4) (l : Fin 32) (d : Fin 128) (hd : d.val = g.val * 32 + l.val) :
    Cert.KernelIdeal.Gen.k0_pay3 (Cert.KernelIdeal.Gen.k0_pay49 (F := Ideal)) a p fr (ix2 d t) = Cert.ReferenceIdeal.Gen.k0_pay4 A f (ix3 r g l) := by
  pointwise [Cert.KernelIdeal.Gen.k0_pay3, Cert.ReferenceIdeal.Gen.k0_pay4]
  refine congrArg (· * (Ideal.ofBits FTy.f32 1035273459#32 : EReal)) (Finset.sum_congr rfl fun x _ => ?_)
  rw [had_eq, hd]
  simp only [ha, hf]
  exact mul_comm (G := EReal) _ _

end Cert.ValueProof

end

end
-- ==== Proof.Value.Same.lean ====
/-   One trip of the kernel and the rows of the reference agree, code by code and word by word, when their operands do.
 -/
module

public import proofs.«01_k».proof.Proof.KI.Trip
public import proofs.«01_k».proof.Proof.Gen.ReferenceIdeal.Value
public import Idealize.ShloMosaic.Lib.Pointwise
public import proofs.«01_k».proof.Proof.Value.Groups
public import proofs.«01_k».proof.Proof.Value.Rows
public import proofs.«01_k».proof.Proof.Value.Ln
public import proofs.«01_k».proof.Proof.Value.Mix

@[expose] public section

noncomputable section

namespace Cert.ValueProof

open Idealize.ShloMosaic

set_option maxRecDepth 16384

open Cert.KernelIdeal.Hand in
section

variable (wb : Vec Ideal Cert.KernelIdeal.S128x7168 .bf16) (x : Vec Ideal Cert.KernelIdeal.S1x256x7168 .bf16)
    (lnw lnb : Vec Ideal Cert.KernelIdeal.S128x1 .f32) (pos : Vec Ideal Cert.KernelIdeal.S1x256 .i32) (fr : Vec Ideal Cert.KernelIdeal.S32x1 .f32)
    (w8 : Vec Ideal Cert.ReferenceIdeal.S128x7168 .fp8e4m3) (sc : Vec Ideal Cert.ReferenceIdeal.S1x7168 .bf16)
    (X : Vec Ideal Cert.ReferenceIdeal.S1536x7168 .bf16) (lw lb : Vec Ideal Cert.ReferenceIdeal.S1x128 .f32)
    (P : Vec Ideal Cert.ReferenceIdeal.S1536x1 .i32) (Fr : Vec Ideal Cert.ReferenceIdeal.S1x32 .f32) (pw : Vec Ideal Cert.ReferenceIdeal.S1x252 .f32)
    (b : Fin 6)

/-- The operands of trip `b` hold what the reference's operands hold. -/
structure Agree : Prop where
  w : ∀ (d : Fin 128) (k : Fin 7168), wb (ix2 d k) = w8 (ix2 d k) * sc (ix2 0 k)
  x : ∀ (t : Fin 256) (k : Fin 7168), x (ix3 0 t k) = X (ix2 ⟨b.val * 256 + t.val, by omega⟩ k)
  lnw : ∀ d : Fin 128, lnw (ix2 d 0) = lw (ix2 0 d)
  lnb : ∀ d : Fin 128, lnb (ix2 d 0) = lb (ix2 0 d)
  pos : ∀ t : Fin 256, pos (ix2 0 t) = P (ix2 ⟨b.val * 256 + t.val, by omega⟩ 0)
  fr : ∀ l : Fin 32, fr (ix2 l 0) = Fr (ix2 0 l)
  pw : ∀ k : Fin 252, pw (ix2 0 k) = thr (k.val + 1)

variable {wb x lnw lnb pos fr w8 sc X lw lb P Fr pw b}

/-- The lanes agree. -/
theorem lane_eq (H : Agree wb x lnw lnb pos fr w8 sc X lw lb P Fr pw b) (t : Fin 256) (g : Fin 4) :
    lane (mixed wb x lnw lnb pos fr (Cert.KernelIdeal.Gen.k0_pay49 (F := Ideal))) g t
      = rlane (Cert.ReferenceIdeal.Gen.k0_pay2 w8 sc X lw lb) (Cert.ReferenceIdeal.Gen.k0_pay3 P Fr) ⟨b.val * 256 + t.val, by omega⟩ g := by
  funext l
  unfold lane rlane mixed
  refine mix_eq _ _ _ _ _ t _ (fun d => ln_eq _ _ _ _ _ _ _ _ _ t _ H.w (H.x t) H.lnw H.lnb d) (fun l => ?_) g l _ rfl
  unfold Cert.KernelIdeal.Gen.k0_pay2 Cert.ReferenceIdeal.Gen.k0_pay3
  pointwise []
  rw [H.pos, H.fr]

theorem codes_same (H : Agree wb x lnw lnb pos fr w8 sc X lw lb P Fr pw b) (t : Fin 256) (h : Fin 128) :
    tripCodes wb x lnw lnb pos fr (Cert.KernelIdeal.Gen.k0_pay49 (F := Ideal)) (ix3 0 t h)
      = Cert.ReferenceIdeal.Gen.k0_pay10 (Cert.ReferenceIdeal.Gen.k0_pay4 (Cert.ReferenceIdeal.Gen.k0_pay2 w8 sc X lw lb) (Cert.ReferenceIdeal.Gen.k0_pay3 P Fr))
          (Cert.ReferenceIdeal.Gen.k0_pay7 (Cert.ReferenceIdeal.Gen.k0_pay2 w8 sc X lw lb) (Cert.ReferenceIdeal.Gen.k0_pay3 P Fr) pw)
          (Cert.ReferenceIdeal.Gen.k0_pay8 (Cert.ReferenceIdeal.Gen.k0_pay2 w8 sc X lw lb) (Cert.ReferenceIdeal.Gen.k0_pay3 P Fr)) 0#32 (ix3 b t h) := by
  have hh : h.val = (⟨h.val / 32, by omega⟩ : Fin 4).val * 32 + (⟨h.val % 32, by omega⟩ : Fin 32).val := by simp only; omega
  rw [codes_eq _ _ _ _ _ _ _ t h _ _ hh, rcodes_eq _ _ _ b t h ⟨b.val * 256 + t.val, by omega⟩ rfl _ _ hh, lane_eq H]
  obtain ⟨k, hk, e1, e2⟩ := exp_eq (fun x => pw (ix2 0 x)) H.pw _ (fold_nonneg (rlane (Cert.ReferenceIdeal.Gen.k0_pay2 w8 sc X lw lb) (Cert.ReferenceIdeal.Gen.k0_pay3 P Fr)
    ⟨b.val * 256 + t.val, by omega⟩ ⟨h.val / 32, by omega⟩) (Ideal.ofBits .f32 0xFF800000#32))
  unfold gmax
  rw [e1, e2]
  unfold kscale rscale
  rw [inv_eq k hk]

theorem words_same (H : Agree wb x lnw lnb pos fr w8 sc X lw lb P Fr pw b) (t : Fin 256) :
    tripWords wb x lnw lnb pos fr (Cert.KernelIdeal.Gen.k0_pay49 (F := Ideal)) (ix3 0 0 t)
      = Cert.ReferenceIdeal.Gen.k0_pay12
          (Cert.ReferenceIdeal.Gen.k0_pay7 (Cert.ReferenceIdeal.Gen.k0_pay2 w8 sc X lw lb) (Cert.ReferenceIdeal.Gen.k0_pay3 P Fr) pw)
          (Cert.ReferenceIdeal.Gen.k0_pay8 (Cert.ReferenceIdeal.Gen.k0_pay2 w8 sc X lw lb) (Cert.ReferenceIdeal.Gen.k0_pay3 P Fr)) 0#32 (ix3 b 0 t) := by
  rw [words_eq, rwords_eq _ _ _ b t ⟨b.val * 256 + t.val, by omega⟩ rfl]
  have hb : ∀ g : Fin 4, ∃ k : ℕ, k < 256
      ∧ kbyte (mixed wb x lnw lnb pos fr (Cert.KernelIdeal.Gen.k0_pay49 (F := Ideal))) g t = BitVec.ofNat 32 k
      ∧ rbyte (Cert.ReferenceIdeal.Gen.k0_pay2 w8 sc X lw lb) (Cert.ReferenceIdeal.Gen.k0_pay3 P Fr) pw ⟨b.val * 256 + t.val, by omega⟩ g = BitVec.ofNat 32 k := by
    intro g
    obtain ⟨k, hk, e1, e2⟩ := exp_eq (fun x => pw (ix2 0 x)) H.pw _ (fold_nonneg (rlane (Cert.ReferenceIdeal.Gen.k0_pay2 w8 sc X lw lb) (Cert.ReferenceIdeal.Gen.k0_pay3 P Fr)
      ⟨b.val * 256 + t.val, by omega⟩ g) (Ideal.ofBits .f32 0xFF800000#32))
    have e3 := (exps ⟨k, by omega⟩).2.2
    refine ⟨k + 1, by omega, ?_, ?_⟩
    · unfold kbyte
      rw [lane_eq H]
      unfold gmax
      rw [e1]
      exact e3
    · unfold rbyte gmax
      rw [e2]
      exact e3
  obtain ⟨k0, h0, a0, c0⟩ := hb 0
  obtain ⟨k1, h1, a1, c1⟩ := hb 1
  obtain ⟨k2, h2, a2, c2⟩ := hb 2
  obtain ⟨k3, h3, a3, c3⟩ := hb 3
  rw [a0, a1, a2, a3, c0, c1, c2, c3]
  exact pack_eq k0 k1 k2 k3 h0 h1 h2 h3

end

end Cert.ValueProof

end

end
-- ==== Proof.Value.Operands.lean ====
/- What a trip of the kernel reads: its block of the tokens as the argument has it, the dequantised weight element by element,
   the vectors whole, and its row of the positions. -/
module

public import proofs.«01_k».proof.Proof.KI.Run
public import proofs.«01_k».proof.Proof.Gen.ReferenceIdeal.Value
public import Idealize.ShloMosaic.Lib.Pointwise
public import Idealize.ShloMosaic.Lib.VecWindow
public import Idealize.ShloMosaic.Lib.ValueLayout
public import Idealize.ShloMosaic.Lib.ViewIndex

@[expose] public section

noncomputable section

namespace Cert.ValueProof

open Idealize.ShloMosaic

open Cert.KernelIdeal Cert.KernelIdeal.Gen Cert.KernelIdeal.Hand

set_option maxRecDepth 16384

section

variable (c : Dev nD)

/-- A block of a `6 × 256 × 7168` array read through its squeezed view. -/
theorem blk_read (f : Vec Ideal S6x256x7168 .bf16) (b : T1) (t : Fin 256) (k : Fin 7168) :
    (blkOf sX b).view.read (Elt Ideal) f (ix2 t k) = f (ix3 (⟨b.val, b.isLt⟩ : Fin 6) t k) := by
  show f ((Rect.unit (s := S6x256x7168) (k0_off2 b) S1x256x7168.size (k0_off2_inb b)).emb (Shape.reshapeEquiv squeezes_S1x256x7168_S256x7168.numel_eq (ix2 t k))) = _
  have e : Shape.reshapeEquiv squeezes_S1x256x7168_S256x7168.numel_eq (ix2 t k) = ix3 (⟨0, Nat.one_pos⟩ : Fin 1) t k := Idealize.ShloMosaic.ValueIdx.reshapeEquiv_ix2_1ab _ t k
  rw [e]
  refine congrArg f (Shape.idx3_ext ?_ ?_ ?_)
  · show k0_off2 b 0 + 1 * 0 = b.val; rw [k0_off2_eq]; rfl
  · show k0_off2 b 1 + 1 * t.val = t.val; rw [k0_off2_eq]; show 0 + 1 * t.val = t.val; omega
  · show k0_off2 b 2 + 1 * k.val = k.val; rw [k0_off2_eq]; show 0 + 1 * k.val = k.val; omega

/-- The same of the argument's array. -/
theorem blk_read_arg (f : Vec Ideal S6x256x7168 .bf16) (b : T1) (t : Fin 256) (k : Fin 7168) :
    (blkOf hX b).view.read (Elt Ideal) f (ix2 t k) = f (ix3 (⟨b.val, b.isLt⟩ : Fin 6) t k) := blk_read f b t k

/-- The trip's tokens are the argument's. -/
theorem x_read (f0 gx : Vec Ideal S6x256x7168 .bf16) (b : T1) (t : Fin 256) (k : Fin 7168) :
    sX.view.readAt (Elt Ideal) (Rect.unit (s := S6x256x7168) (k0_off3 b) S1x256x7168.size (k0_off3_inb b)).toLoadRect (landX c f0 gx b) (ix3 0 t k)
      = gx (ix3 (⟨b.val, b.isLt⟩ : Fin 6) t k) := by
  have h := congrFun (View.read_writes_whole (blkOf sX b).view f0 (ReadAs.same.apply ((blkOf hX b).view.read (Elt Ideal) gx))) (ix2 t k)
  refine Eq.trans ?_ ((blk_read (landX c f0 gx b) b t k).symm.trans (h.trans (blk_read_arg gx b t k)))
  generalize (landX c f0 gx b) = f
  show f ((Rect.unit (s := S6x256x7168) (k0_off3 b) S1x256x7168.size (k0_off3_inb b)).emb (ix3 (0 : Fin 1) t k)) = _
  refine congrArg f (Shape.idx3_ext ?_ ?_ ?_)
  · show k0_off3 b 0 + 1 * 0 = b.val; rw [k0_off3_eq]; rfl
  · show k0_off3 b 1 + 1 * t.val = t.val; rw [k0_off3_eq]; show 0 + 1 * t.val = t.val; omega
  · show k0_off3 b 2 + 1 * k.val = k.val; rw [k0_off3_eq]; show 0 + 1 * k.val = k.val; omega

/-- The trip's positions are its row of the argument. -/
theorem pos_read (pos : Vec Ideal S6x256 .i32) (b : T1) (t : Fin 256) :
    aPos.view.readAt (Elt Ideal) (Rect.unit (s := S6x256) (k0_off4 b) S1x256.size (k0_off4_inb b)).toLoadRect pos (ix2 0 t)
      = pos (ix2 (⟨b.val, b.isLt⟩ : Fin 6) t) := by
  show pos ((Rect.unit (s := S6x256) (k0_off4 b) S1x256.size (k0_off4_inb b)).emb (ix2 (0 : Fin 1) t)) = _
  refine congrArg pos (funext fun a => Fin.ext ?_)
  fin_cases a
  · show k0_off4 b 0 + 1 * 0 = b.val; rw [k0_off4_eq]; rfl
  · show k0_off4 b 1 + 1 * t.val = t.val; rw [k0_off4_eq]; show 0 + 1 * t.val = t.val; omega

/-- One store of the dequantised weight holds products of the codes and their scale. -/
theorem wbPiece_apply (gw fq : Vec Ideal S128x7168 .fp8e4m3) (ws : Vec Ideal S56 .f32) (j : Fin 56)
    (x : (wbPiece c gw ws fq j).1.shape.Idx) :
    (wbPiece c gw ws fq j).2 x = gw ((wbPiece c gw ws fq j).1.emb x) * ws (ix1 j) := by
  have hq : sWq.view.read (Elt Ideal) (wqAt c gw fq) = gw := View.read_write_univ _ _
  have hs : View.readAt (Elt Ideal) aWs.view (Rect.unit (s := S56) ![j.val] S1.size (wscale_inb j)).toLoadRect ws (Shape.Idx.first (s := S1) (by decide))
      = ws (ix1 j) := by
    rw [View.readAt_unit _ _ _ rfl (wscale_inb j)]
    exact congrArg ws (Shape.idx1_ext rfl)
  have hg : View.readAt (Elt Ideal) sWq.view (Rect.unit (s := S128x7168) ![0, 128 * j.val] S128x128.size (wcol_inb j)).toLoadRect (wqAt c gw fq) x
      = gw ((wbPiece c gw ws fq j).1.emb x) := by
    exact congrFun hq _
  show k0_pay53 (View.readAt (Elt Ideal) aWs.view (Rect.unit (s := S56) ![j.val] S1.size (wscale_inb j)).toLoadRect ws (Shape.Idx.first (s := S1) (by decide)))
    (View.readAt (Elt Ideal) sWq.view (Rect.unit (s := S128x7168) ![0, 128 * j.val] S128x128.size (wcol_inb j)).toLoadRect (wqAt c gw fq)) x = _
  rw [← hg, ← hs]
  unfold k0_pay53
  generalize View.readAt (Elt Ideal) sWq.view _ _ = q
  generalize View.readAt (Elt Ideal) aWs.view _ _ _ = s
  show shapeCast S128x128 _ _ x = _
  rw [shapeCast_self]
  rfl

/-- The weight the trips read: each code times the scale of its column block. -/
theorem wb_read (gw fq : Vec Ideal S128x7168 .fp8e4m3) (ws : Vec Ideal S56 .f32) (d : Fin 128) (k : Fin 7168) :
    sWb.view.readAt (Elt Ideal) (Rect.unit (s := S128x7168) ![0, 0] S128x7168.size inb_S128x7168_S128x7168_0_0).toLoadRect (wbAt c gw ws fq) (ix2 d k)
      = gw (ix2 d k) * ws (ix1 (⟨k.val / 128, by omega⟩ : Fin 56)) := by
  rw [View.readAt_full]
  unfold wbAt
  refine View.read_writes_apply_of_pieces (Val := Elt Ideal) (e := .bf16) (v := sWb.view) (f := sWb.view.junk)
    (fun y : S128x7168.Idx => gw y * ws (ix1 (⟨(y 1).val / 128, by
      have h : (y 1).val < 7168 := (y 1).isLt
      omega⟩ : Fin 56))) _ ?_ (ix2 d k) ?_
  · intro p hp x
    obtain ⟨j, -, rfl⟩ := List.mem_map.mp hp
    rw [wbPiece_apply]
    refine congrArg (fun z => _ * ws z) (Shape.idx1_ext ?_)
    have hx : (x 1).val < 128 := (x 1).isLt
    show j.val = (128 * j.val + 1 * (x 1).val) / 128
    omega
  · refine ⟨_, List.mem_map.mpr ⟨(⟨k.val / 128, by omega⟩ : Fin 56), ?_, rfl⟩, ?_⟩
    · generalize (⟨k.val / 128, by omega⟩ : Fin 56) = j
      revert j
      decide
    · unfold wbPiece
      rw [Rect.mem_set_unit]
      intro a
      fin_cases a
      · show 0 ≤ d.val ∧ d.val < 0 + 128; omega
      · show 128 * (k.val / 128) ≤ k.val ∧ k.val < 128 * (k.val / 128) + 128; omega

end

end Cert.ValueProof

end

end
-- ==== Proof.Value.KernelArgs.lean ====
/- What the kernel's call finds in its operands: the arguments as launched, and what the host operations before it left. -/
module

public import proofs.«01_k».proof.Proof.KI.Run
public import proofs.«01_k».proof.Proof.Gen.ReferenceIdeal.Value
public import Idealize.ShloMosaic.Lib.Pointwise
public import Idealize.ShloMosaic.Lib.VecWindow

@[expose] public section

noncomputable section

namespace Cert.ValueProof

open Idealize.ShloMosaic

open Cert.KernelIdeal Cert.KernelIdeal.Gen Idealize.ShloMosaic.TcCoe

section

variable (m : (ℓ : Loc nD τ sig) → Buf (Elt Ideal) ℓ) (c : Dev nD)

/-! Each operand's block is its whole array. -/

theorem kwin1 : (iblk m c 1 t0_0 : Vec Ideal S56 .f32) = V m c main_arg2 := by
  funext y
  exact congrArg (V m c main_arg2 : Vec Ideal S56 .f32) (funext fun a => Fin.ext (Pipeline.Window.rect_emb_val_of_index_zero win0_1 t0_0 a rfl y))

theorem kwin2 : (iblk m c 2 t0_0 : Vec Ideal S128x1 .f32) = V m c main_v3 := by
  funext y
  exact congrArg (V m c main_v3 : Vec Ideal S128x1 .f32) (funext fun a => Fin.ext (Pipeline.Window.rect_emb_val_of_index_zero win0_2 t0_0 a rfl y))

theorem kwin3 : (iblk m c 3 t0_0 : Vec Ideal S128x1 .f32) = V m c main_v4 := by
  funext y
  exact congrArg (V m c main_v4 : Vec Ideal S128x1 .f32) (funext fun a => Fin.ext (Pipeline.Window.rect_emb_val_of_index_zero win0_3 t0_0 a rfl y))

theorem kwin4 : (iblk m c 4 t0_0 : Vec Ideal S6x256 .i32) = V m c main_arg5 := by
  funext y
  exact congrArg (V m c main_arg5 : Vec Ideal S6x256 .i32) (funext fun a => Fin.ext (Pipeline.Window.rect_emb_val_of_index_zero win0_4 t0_0 a rfl y))

theorem kwin5 : (iblk m c 5 t0_0 : Vec Ideal S32x1 .f32) = V m c main_cst := by
  funext y
  exact congrArg (V m c main_cst : Vec Ideal S32x1 .f32) (funext fun a => Fin.ext (Pipeline.Window.rect_emb_val_of_index_zero win0_5 t0_0 a rfl y))

/-- The frequencies are the literal. -/
theorem kfreq (l : Fin 32) : (iblk m c 5 t0_0 : Vec Ideal S32x1 .f32) (ix2 l 0) = Ideal.ofBits .f32 (lit0 l) := by
  rw [kwin5]
  have h : (V m c main_cst : Vec Ideal S32x1 .f32) = fun i => FloatOps.ofBits (F := Ideal) .f32 (lit0 (S32x1.rowMajor i)) := by
    show StableHlo.after hostOps0 _ _ = _
    after_results
    try rfl
  rw [h]
  show Ideal.ofBits .f32 (lit0 (S32x1.rowMajor (ix2 l 0))) = _
  refine congrArg (fun z => Ideal.ofBits .f32 (lit0 z)) (Fin.ext ?_)
  show (S32x1.rowMajor (ix2 l 0)).val = l.val
  rw [Shape.rowMajor_val_two]
  show l.val * 1 + 0 = l.val
  omega

/-- The norm's vectors are the arguments as columns. -/
theorem klnw (d : Fin 128) : (iblk m c 2 t0_0 : Vec Ideal S128x1 .f32) (ix2 d 0) = (m ((c : Thread nD τ).loc main_arg3) : Vec Ideal S128 .f32) (ix1 d) := by
  rw [kwin2]
  have h : (V m c main_v3 : Vec Ideal S128x1 .f32) = shapeCast S128x1 (m ((c : Thread nD τ).loc main_arg3) : Vec Ideal S128 .f32) shapeCasts_S128_S128x1 := by
    show StableHlo.after hostOps0 _ _ = _
    after_results
    try rfl
  rw [h]
  generalize (m ((c : Thread nD τ).loc main_arg3) : Vec Ideal S128 .f32) = z
  pointwise []

theorem klnb (d : Fin 128) : (iblk m c 3 t0_0 : Vec Ideal S128x1 .f32) (ix2 d 0) = (m ((c : Thread nD τ).loc main_arg4) : Vec Ideal S128 .f32) (ix1 d) := by
  rw [kwin3]
  have h : (V m c main_v4 : Vec Ideal S128x1 .f32) = shapeCast S128x1 (m ((c : Thread nD τ).loc main_arg4) : Vec Ideal S128 .f32) shapeCasts_S128_S128x1 := by
    show StableHlo.after hostOps0 _ _ = _
    after_results
    try rfl
  rw [h]
  generalize (m ((c : Thread nD τ).loc main_arg4) : Vec Ideal S128 .f32) = z
  pointwise []

end

end Cert.ValueProof

end

end
-- ==== Proof.Value.ReferenceArgs.lean ====
/- What the reference's call finds in its operands, in terms of the arguments as launched. -/
module

public import proofs.«01_k».proof.Proof.KI.Run
public import proofs.«01_k».proof.Proof.Gen.ReferenceIdeal.Value
public import Idealize.ShloMosaic.Lib.Pointwise
public import proofs.«01_k».proof.Proof.Value.Scale

@[expose] public section

noncomputable section

namespace Cert.ValueProof

open Idealize.ShloMosaic

open Cert.ReferenceIdeal Cert.ReferenceIdeal.Gen Idealize.ShloMosaic.TcCoe

set_option maxRecDepth 16384

/-- Blocks of tokens laid one after another. -/
theorem tokens_at (z : Vec Ideal S6x256x7168 .bf16) (b : Fin 6) (t : Fin 256) (k : Fin 7168) :
    shapeCast S1536x7168 z shapeCasts_S6x256x7168_S1536x7168 (ix2 (⟨b.val * 256 + t.val, by omega⟩ : Fin 1536) k) = z (ix3 b t k) :=
  shapeCast_apply z _ _ _ (by
    rw [Shape.rowMajor_val_two, Shape.rowMajor_val_three]
    rfl)

/-- Rows of positions laid one after another. -/
theorem positions_at (z : Vec Ideal S6x256 .i32) (b : Fin 6) (t : Fin 256) :
    shapeCast S1536x1 z shapeCasts_S6x256_S1536x1 (ix2 (⟨b.val * 256 + t.val, by omega⟩ : Fin 1536) 0) = z (ix2 b t) :=
  shapeCast_apply z _ _ _ (by
    rw [Shape.rowMajor_val_two, Shape.rowMajor_val_two]
    show b.val * 256 + t.val = (b.val * 256 + t.val) * 1 + 0
    omega)

/-- Rows of slots laid one after another. -/
theorem slots_at (z : Vec Ideal S6x256 .i32) (b : Fin 6) (t : Fin 256) :
    shapeCast S1x1x1536 z shapeCasts_S6x256_S1x1x1536 (ix3 0 0 (⟨b.val * 256 + t.val, by omega⟩ : Fin 1536)) = z (ix2 b t) :=
  shapeCast_apply z _ _ _ (by
    rw [Shape.rowMajor_val_two, Shape.rowMajor_val_three]
    show b.val * 256 + t.val = (0 * 1 + 0) * 1536 + (b.val * 256 + t.val)
    omega)

section

variable (m : (ℓ : Loc nD τ sig) → Buf (Elt Ideal) ℓ) (c : Dev nD)

/-! Each operand's block is its whole array. -/

theorem rwin0 : (iblk m c 0 t0_0 : Vec Ideal S1536x7168 .bf16) = V m c main_v0 := by
  funext y
  exact congrArg (V m c main_v0 : Vec Ideal S1536x7168 .bf16) (funext fun a => Fin.ext (Pipeline.Window.rect_emb_val_of_index_zero win0_0 t0_0 a rfl y))

theorem rwin1 : (iblk m c 1 t0_0 : Vec Ideal S128x7168 .fp8e4m3) = V m c main_arg1 := by
  funext y
  exact congrArg (V m c main_arg1 : Vec Ideal S128x7168 .fp8e4m3) (funext fun a => Fin.ext (Pipeline.Window.rect_emb_val_of_index_zero win0_1 t0_0 a rfl y))

theorem rwin2 : (iblk m c 2 t0_0 : Vec Ideal S1x7168 .bf16) = V m c main_v4 := by
  funext y
  exact congrArg (V m c main_v4 : Vec Ideal S1x7168 .bf16) (funext fun a => Fin.ext (Pipeline.Window.rect_emb_val_of_index_zero win0_2 t0_0 a rfl y))

theorem rwin3 : (iblk m c 3 t0_0 : Vec Ideal S1x128 .f32) = V m c main_v5 := by
  funext y
  exact congrArg (V m c main_v5 : Vec Ideal S1x128 .f32) (funext fun a => Fin.ext (Pipeline.Window.rect_emb_val_of_index_zero win0_3 t0_0 a rfl y))

theorem rwin4 : (iblk m c 4 t0_0 : Vec Ideal S1x128 .f32) = V m c main_v6 := by
  funext y
  exact congrArg (V m c main_v6 : Vec Ideal S1x128 .f32) (funext fun a => Fin.ext (Pipeline.Window.rect_emb_val_of_index_zero win0_4 t0_0 a rfl y))

theorem rwin5 : (iblk m c 5 t0_0 : Vec Ideal S1536x1 .i32) = V m c main_v7 := by
  funext y
  exact congrArg (V m c main_v7 : Vec Ideal S1536x1 .i32) (funext fun a => Fin.ext (Pipeline.Window.rect_emb_val_of_index_zero win0_5 t0_0 a rfl y))

theorem rwin6 : (iblk m c 6 t0_0 : Vec Ideal S1x32 .f32) = V m c main_cst := by
  funext y
  exact congrArg (V m c main_cst : Vec Ideal S1x32 .f32) (funext fun a => Fin.ext (Pipeline.Window.rect_emb_val_of_index_zero win0_6 t0_0 a rfl y))

theorem rwin7 : (iblk m c 7 t0_0 : Vec Ideal S1x252 .f32) = V m c main_cst_0 := by
  funext y
  exact congrArg (V m c main_cst_0 : Vec Ideal S1x252 .f32) (funext fun a => Fin.ext (Pipeline.Window.rect_emb_val_of_index_zero win0_7 t0_0 a rfl y))

theorem rwin8 : (iblk m c 8 t0_0 : Vec Ideal S1x1x1536 .i32) = V m c main_v8 := by
  funext y
  exact congrArg (V m c main_v8 : Vec Ideal S1x1x1536 .i32) (funext fun a => Fin.ext (Pipeline.Window.rect_emb_val_of_index_zero win0_8 t0_0 a rfl y))

theorem rwin9 : (iblk m c 9 t0_0 : Vec Ideal S64x1x3870 .i32) = V m c main_v11 := by
  funext y
  exact congrArg (V m c main_v11 : Vec Ideal S64x1x3870 .i32) (funext fun a => Fin.ext (Pipeline.Window.rect_emb_val_of_index_zero win0_9 t0_0 a rfl y))

/-- The slots, row after row. -/
theorem rslots (b : Fin 6) (t : Fin 256) : (iblk m c 8 t0_0 : Vec Ideal S1x1x1536 .i32) (ix3 0 0 (⟨b.val * 256 + t.val, by omega⟩ : Fin 1536))
    = (m ((c : Thread nD τ).loc main_arg6) : Vec Ideal S6x256 .i32) (ix2 b t) := by
  rw [rwin8]
  have h : (V m c main_v8 : Vec Ideal S1x1x1536 .i32) = shapeCast S1x1x1536 (m ((c : Thread nD τ).loc main_arg6) : Vec Ideal S6x256 .i32) shapeCasts_S6x256_S1x1x1536 := by
    show StableHlo.after hostOps0 _ _ = _
    after_results
    try rfl
  rw [h]
  exact slots_at _ b t

/-- The words as launched: four bytes make a word, and a page's words lie along the first axis. -/
theorem rold : (iblk m c 9 t0_0 : Vec Ideal S64x1x3870 .i32)
    = shapeCast S64x1x3870 (transpose S64x3870 [1, 0] (Host.bitcastConvertWiden S3870x64 32 (m ((c : Thread nD τ).loc main_arg8) : Vec Ideal S3870x64x4 .i8) splits_S3870x64_w32_S3870x64x4_w8) transposes_S3870x64_S64x3870_1_0) shapeCasts_S64x3870_S64x1x3870 := by
  rw [rwin9]
  show StableHlo.after hostOps0 _ _ = _
  after_results
  try rfl

/-- The tokens, block after block. -/
theorem rx (b : Fin 6) (t : Fin 256) (k : Fin 7168) : (iblk m c 0 t0_0 : Vec Ideal S1536x7168 .bf16) (ix2 (⟨b.val * 256 + t.val, by omega⟩ : Fin 1536) k)
    = (m ((c : Thread nD τ).loc main_arg0) : Vec Ideal S6x256x7168 .bf16) (ix3 b t k) := by
  rw [rwin0]
  have h : (V m c main_v0 : Vec Ideal S1536x7168 .bf16) = shapeCast S1536x7168 (m ((c : Thread nD τ).loc main_arg0) : Vec Ideal S6x256x7168 .bf16) shapeCasts_S6x256x7168_S1536x7168 := by
    show StableHlo.after hostOps0 _ _ = _
    after_results
    try rfl
  rw [h]
  exact tokens_at _ b t k

/-- A column's scale is its block's. -/
theorem rsc (k : Fin 7168) : (iblk m c 2 t0_0 : Vec Ideal S1x7168 .bf16) (ix2 0 k)
    = (m ((c : Thread nD τ).loc main_arg2) : Vec Ideal S56 .f32) (ix1 (⟨k.val / 128, by omega⟩ : Fin 56)) := by
  rw [rwin2]
  have h : (V m c main_v4 : Vec Ideal S1x7168 .bf16) = shapeCast S1x7168 (shapeCast S7168 (broadcastInDim S56x128 ![0] bcast_S56_S56x128_0 (truncf (F := Ideal) .bf16 (m ((c : Thread nD τ).loc main_arg2) : Vec Ideal S56 .f32) bitsLt_bf16_f32)) shapeCasts_S56x128_S7168) shapeCasts_S7168_S1x7168 := by
    show StableHlo.after hostOps0 _ _ = _
    after_results
    try rfl
  rw [h]
  have e : truncf (F := Ideal) .bf16 (m ((c : Thread nD τ).loc main_arg2) : Vec Ideal S56 .f32) bitsLt_bf16_f32 = (m ((c : Thread nD τ).loc main_arg2) : Vec Ideal S56 .f32) := rfl
  rw [e]
  generalize (m ((c : Thread nD τ).loc main_arg2) : Vec Ideal S56 .f32) = z
  pointwise []

theorem rlnw (d : Fin 128) : (iblk m c 3 t0_0 : Vec Ideal S1x128 .f32) (ix2 0 d) = (m ((c : Thread nD τ).loc main_arg3) : Vec Ideal S128 .f32) (ix1 d) := by
  rw [rwin3]
  have h : (V m c main_v5 : Vec Ideal S1x128 .f32) = shapeCast S1x128 (m ((c : Thread nD τ).loc main_arg3) : Vec Ideal S128 .f32) shapeCasts_S128_S1x128 := by
    show StableHlo.after hostOps0 _ _ = _
    after_results
    try rfl
  rw [h]
  generalize (m ((c : Thread nD τ).loc main_arg3) : Vec Ideal S128 .f32) = z
  pointwise []

theorem rlnb (d : Fin 128) : (iblk m c 4 t0_0 : Vec Ideal S1x128 .f32) (ix2 0 d) = (m ((c : Thread nD τ).loc main_arg4) : Vec Ideal S128 .f32) (ix1 d) := by
  rw [rwin4]
  have h : (V m c main_v6 : Vec Ideal S1x128 .f32) = shapeCast S1x128 (m ((c : Thread nD τ).loc main_arg4) : Vec Ideal S128 .f32) shapeCasts_S128_S1x128 := by
    show StableHlo.after hostOps0 _ _ = _
    after_results
    try rfl
  rw [h]
  generalize (m ((c : Thread nD τ).loc main_arg4) : Vec Ideal S128 .f32) = z
  pointwise []

theorem rpos (b : Fin 6) (t : Fin 256) : (iblk m c 5 t0_0 : Vec Ideal S1536x1 .i32) (ix2 (⟨b.val * 256 + t.val, by omega⟩ : Fin 1536) 0)
    = (m ((c : Thread nD τ).loc main_arg5) : Vec Ideal S6x256 .i32) (ix2 b t) := by
  rw [rwin5]
  have h : (V m c main_v7 : Vec Ideal S1536x1 .i32) = shapeCast S1536x1 (m ((c : Thread nD τ).loc main_arg5) : Vec Ideal S6x256 .i32) shapeCasts_S6x256_S1536x1 := by
    show StableHlo.after hostOps0 _ _ = _
    after_results
    try rfl
  rw [h]
  exact positions_at _ b t

/-- The frequencies are the literal. -/
theorem rfreq (l : Fin 32) : (iblk m c 6 t0_0 : Vec Ideal S1x32 .f32) (ix2 0 l) = Ideal.ofBits .f32 (lit0 l) := by
  rw [rwin6]
  have h : (V m c main_cst : Vec Ideal S1x32 .f32) = fun i => FloatOps.ofBits (F := Ideal) .f32 (lit0 (S1x32.rowMajor i)) := by
    show StableHlo.after hostOps0 _ _ = _
    after_results
    try rfl
  rw [h]
  show Ideal.ofBits .f32 (lit0 (S1x32.rowMajor (ix2 0 l))) = _
  refine congrArg (fun z => Ideal.ofBits .f32 (lit0 z)) (Fin.ext ?_)
  show (S1x32.rowMajor (ix2 0 l)).val = l.val
  rw [Shape.rowMajor_val_two]
  show 0 * 32 + l.val = l.val
  omega

/-- The powers of two, written out, are the fields of an exponent. -/
theorem lit1_eq : ∀ k : Fin 252, lit1 k = IntOp.shli .vector (BitVec.ofNat 32 (k.val + 1)) 23#32 := by decide +kernel

theorem rpow (k : Fin 252) : (iblk m c 7 t0_0 : Vec Ideal S1x252 .f32) (ix2 0 k) = thr (k.val + 1) := by
  rw [rwin7]
  have h : (V m c main_cst_0 : Vec Ideal S1x252 .f32) = fun i => FloatOps.ofBits (F := Ideal) .f32 (lit1 (S1x252.rowMajor i)) := by
    show StableHlo.after hostOps0 _ _ = _
    after_results
    try rfl
  rw [h]
  have e : S1x252.rowMajor (ix2 0 k) = k := Fin.ext (by
    rw [Shape.rowMajor_val_two]
    show 0 * 252 + k.val = k.val
    omega)
  show Ideal.ofBits .f32 (lit1 (S1x252.rowMajor (ix2 0 k))) = _
  rw [e, lit1_eq]
  rfl

end

end Cert.ValueProof

end

end
-- ==== Proof.Value.ReferenceOut.lean ====
/- What the reference leaves in its results, as one function of what its call finds in its operands. -/
module

public import proofs.«01_k».proof.Proof.KI.Run
public import proofs.«01_k».proof.Proof.Gen.ReferenceIdeal.Value
public import Idealize.ShloMosaic.Lib.Pointwise

@[expose] public section

noncomputable section

namespace Cert.ValueProof

open Idealize.ShloMosaic

open Cert.ReferenceIdeal Cert.ReferenceIdeal.Gen Idealize.ShloMosaic.TcCoe

set_option maxRecDepth 16384

section

variable (m : (ℓ : Loc nD τ sig) → Buf (Elt Ideal) ℓ) (c : Dev nD)

theorem out10_eq (x0 : Vec Ideal S1536x7168 .bf16) (x1 : Vec Ideal S128x7168 .fp8e4m3) (x2 : Vec Ideal S1x7168 .bf16) (x3 x4 : Vec Ideal S1x128 .f32) (x5 : Vec Ideal S1536x1 .i32) (x6 : Vec Ideal S1x32 .f32) (x7 : Vec Ideal S1x252 .f32) (x8 : Vec Ideal S1x1x1536 .i32) (x9 : Vec Ideal S64x1x3870 .i32) :
    out0_10 x0 x1 x2 x3 x4 x5 x6 x7 x8 x9 = k0_pay1 (F := Ideal) (k0_pay13 x8) (k0_pay14 (F := Ideal) (k0_pay7 (F := Ideal) (k0_pay2 x1 x2 x0 x3 x4) (k0_pay3 x5 x6) x7) (k0_pay8 (F := Ideal) (k0_pay2 x1 x2 x0 x3 x4) (k0_pay3 x5 x6)) 0#32 x8) x9 := by
  unfold out0_10 k0_pay18 k0_pay17 k0_pay16 k0_pay15
  rw [View.canon_unit_zero (by funext a; fin_cases a <;> rfl),
    View.ld_unit_zero (X := x0) (by funext a; fin_cases a <;> rfl), View.ld_unit_zero (X := x1) (by funext a; fin_cases a <;> rfl), View.ld_unit_zero (X := x2) (by funext a; fin_cases a <;> rfl), View.ld_unit_zero (X := x3) (by funext a; fin_cases a <;> rfl),
    View.ld_unit_zero (X := x4) (by funext a; fin_cases a <;> rfl), View.ld_unit_zero (X := x5) (by funext a; fin_cases a <;> rfl), View.ld_unit_zero (X := x6) (by funext a; fin_cases a <;> rfl), View.ld_unit_zero (X := x7) (by funext a; fin_cases a <;> rfl),
    View.ld_unit_zero (X := x8) (by funext a; fin_cases a <;> rfl), View.ld_unit_zero (X := x9) (by funext a; fin_cases a <;> rfl)]

/-- The reference's patched words, at an index. -/
theorem ref10 (y : S64x1x3870.Idx) : ((dats m 0 c).arrAt 10 cfg0.N : Vec Ideal S64x1x3870 .i32) y = out0_10 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) y := by
  have h := congrFun (Cert.ReferenceIdeal.Value.blocks10 m c t0_0 (by decide)) y
  rw [Cert.ReferenceIdeal.Value.flushed10] at h
  have e : (win0_10.rect t0_0).emb y = y := funext fun a => Fin.ext (Pipeline.Window.rect_emb_val_of_index_zero win0_10 t0_0 a rfl y)
  exact (congrArg ((dats m 0 c).arrAt 10 cfg0.N : Vec Ideal S64x1x3870 .i32) e).symm.trans h

theorem out11_eq (x0 : Vec Ideal S1536x7168 .bf16) (x1 : Vec Ideal S128x7168 .fp8e4m3) (x2 : Vec Ideal S1x7168 .bf16) (x3 x4 : Vec Ideal S1x128 .f32) (x5 : Vec Ideal S1536x1 .i32) (x6 : Vec Ideal S1x32 .f32) (x7 : Vec Ideal S1x252 .f32) (x8 : Vec Ideal S1x1x1536 .i32) (x9 : Vec Ideal S64x1x3870 .i32) :
    out0_11 x0 x1 x2 x3 x4 x5 x6 x7 x8 x9 = k0_pay10 (F := Ideal) (k0_pay4 (k0_pay2 x1 x2 x0 x3 x4) (k0_pay3 x5 x6)) (k0_pay7 (k0_pay2 x1 x2 x0 x3 x4) (k0_pay3 x5 x6) x7) (k0_pay8 (k0_pay2 x1 x2 x0 x3 x4) (k0_pay3 x5 x6)) 0#32 := by
  unfold out0_11 k0_pay18 k0_pay17 k0_pay16 k0_pay15
  rw [View.canon_unit_zero (by funext a; fin_cases a <;> rfl),
    View.ld_unit_zero (X := x0) (by funext a; fin_cases a <;> rfl), View.ld_unit_zero (X := x1) (by funext a; fin_cases a <;> rfl), View.ld_unit_zero (X := x2) (by funext a; fin_cases a <;> rfl), View.ld_unit_zero (X := x3) (by funext a; fin_cases a <;> rfl),
    View.ld_unit_zero (X := x4) (by funext a; fin_cases a <;> rfl), View.ld_unit_zero (X := x5) (by funext a; fin_cases a <;> rfl), View.ld_unit_zero (X := x6) (by funext a; fin_cases a <;> rfl), View.ld_unit_zero (X := x7) (by funext a; fin_cases a <;> rfl)]

/-- The reference's codes, at an index. -/
theorem ref11 (y : S6x256x128.Idx) : ((dats m 0 c).arrAt 11 cfg0.N : Vec Ideal S6x256x128 .fp8e4m3) y = out0_11 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) y := by
  have h := congrFun (Cert.ReferenceIdeal.Value.blocks11 m c t0_0 (by decide)) y
  rw [Cert.ReferenceIdeal.Value.flushed11] at h
  have e : (win0_11.rect t0_0).emb y = y := funext fun a => Fin.ext (Pipeline.Window.rect_emb_val_of_index_zero win0_11 t0_0 a rfl y)
  exact (congrArg ((dats m 0 c).arrAt 11 cfg0.N : Vec Ideal S6x256x128 .fp8e4m3) e).symm.trans h

theorem out12_eq (x0 : Vec Ideal S1536x7168 .bf16) (x1 : Vec Ideal S128x7168 .fp8e4m3) (x2 : Vec Ideal S1x7168 .bf16) (x3 x4 : Vec Ideal S1x128 .f32) (x5 : Vec Ideal S1536x1 .i32) (x6 : Vec Ideal S1x32 .f32) (x7 : Vec Ideal S1x252 .f32) (x8 : Vec Ideal S1x1x1536 .i32) (x9 : Vec Ideal S64x1x3870 .i32) :
    out0_12 x0 x1 x2 x3 x4 x5 x6 x7 x8 x9 = k0_pay12 (k0_pay7 (F := Ideal) (k0_pay2 x1 x2 x0 x3 x4) (k0_pay3 x5 x6) x7) (k0_pay8 (F := Ideal) (k0_pay2 x1 x2 x0 x3 x4) (k0_pay3 x5 x6)) 0#32 := by
  unfold out0_12 k0_pay18 k0_pay17 k0_pay16 k0_pay15
  rw [View.canon_unit_zero (by funext a; fin_cases a <;> rfl),
    View.ld_unit_zero (X := x0) (by funext a; fin_cases a <;> rfl), View.ld_unit_zero (X := x1) (by funext a; fin_cases a <;> rfl), View.ld_unit_zero (X := x2) (by funext a; fin_cases a <;> rfl), View.ld_unit_zero (X := x3) (by funext a; fin_cases a <;> rfl),
    View.ld_unit_zero (X := x4) (by funext a; fin_cases a <;> rfl), View.ld_unit_zero (X := x5) (by funext a; fin_cases a <;> rfl), View.ld_unit_zero (X := x6) (by funext a; fin_cases a <;> rfl), View.ld_unit_zero (X := x7) (by funext a; fin_cases a <;> rfl)]

/-- The reference's words, at an index. -/
theorem ref12 (y : S6x1x256.Idx) : ((dats m 0 c).arrAt 12 cfg0.N : Vec Ideal S6x1x256 .i32) y = out0_12 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) y := by
  have h := congrFun (Cert.ReferenceIdeal.Value.blocks12 m c t0_0 (by decide)) y
  rw [Cert.ReferenceIdeal.Value.flushed12] at h
  have e : (win0_12.rect t0_0).emb y = y := funext fun a => Fin.ext (Pipeline.Window.rect_emb_val_of_index_zero win0_12 t0_0 a rfl y)
  exact (congrArg ((dats m 0 c).arrAt 12 cfg0.N : Vec Ideal S6x1x256 .i32) e).symm.trans h

end

end Cert.ValueProof

end

end
-- ==== Proof.Value.PatchedRows.lean ====
/- The reference's patched words, entry by entry: the word of the token whose slot the entry is, or what was there. -/
module

public import proofs.«01_k».proof.Proof.KI.Trip
public import proofs.«01_k».proof.Proof.Gen.ReferenceIdeal.Value
public import Idealize.ShloMosaic.Lib.Pointwise
public import Mathlib.Data.BitVec

@[expose] public section

noncomputable section

namespace Cert.ValueProof

open Idealize.ShloMosaic

set_option maxRecDepth 16384

open Cert.ReferenceIdeal.Gen in
section

variable (v80 : IVec Cert.ReferenceIdeal.S1536x4 32) (v85 : IVec Cert.ReferenceIdeal.S1536x4 1)
    (x8 : Vec Ideal Cert.ReferenceIdeal.S1x1x1536 .i32) (x9 : Vec Ideal Cert.ReferenceIdeal.S64x1x3870 .i32)

theorem mask_at (r : Fin 64) (p : Fin 3870) (i : Fin 1536) :
    k0_pay13 (F := Ideal) x8 (ix3 r p i) = IntOp.cmpi .eq (IntOp.addi (IntOp.muli 64#32 (BitVec.ofNat 32 p.val)) (BitVec.ofNat 32 r.val)) (x8 (ix3 0 0 i)) := by
  unfold k0_pay13
  pointwise []

theorem put_at (r : Fin 64) (p : Fin 3870) (i : Fin 1536) :
    k0_pay14 (F := Ideal) v80 v85 0#32 x8 (ix3 r p i) = Scalar.select (k0_pay13 (F := Ideal) x8 (ix3 r p i)) (k0_pay11 v80 v85 0#32 (ix2 i 0)) 0#32 := by
  unfold k0_pay14
  generalize k0_pay13 (F := Ideal) x8 = z
  generalize k0_pay11 v80 v85 0#32 = w
  pointwise []

theorem final_at (z : IVec Cert.ReferenceIdeal.S64x3870x1536 1) (w : IVec Cert.ReferenceIdeal.S64x3870x1536 32) (r : Fin 64) (p : Fin 3870) :
    k0_pay1 (F := Ideal) z w x9 (ix3 r 0 p)
      = Scalar.select (IntOp.cmpi .sgt (∑ i : Fin 1536, BitVec.setWidth 32 (z (ix3 r p i))) 0#32) (∑ i : Fin 1536, w (ix3 r p i)) (x9 (ix3 r 0 p)) := by
  unfold k0_pay1
  pointwise []
  rfl

theorem words_at (b : Fin 6) (t : Fin 256) :
    k0_pay11 v80 v85 0#32 (ix2 (⟨b.val * 256 + t.val, by omega⟩ : Fin 1536) 0) = k0_pay12 v80 v85 0#32 (ix3 b 0 t) := by
  unfold k0_pay12
  generalize k0_pay11 v80 v85 0#32 = w
  pointwise []

/-- The number of the slot at row `r` of page `p`. -/
def cellW (r : Fin 64) (p : Fin 3870) : BitVec 32 := IntOp.addi (IntOp.muli 64#32 (BitVec.ofNat 32 p.val)) (BitVec.ofNat 32 r.val)

theorem cellW_toNat (r : Fin 64) (p : Fin 3870) : (cellW r p).toNat = 64 * p.val + r.val := by
  have hr := r.isLt
  have hp := p.isLt
  unfold cellW
  show (64#32 * BitVec.ofNat 32 p.val + BitVec.ofNat 32 r.val).toNat = _
  simp only [BitVec.toNat_add, BitVec.toNat_mul, BitVec.toNat_ofNat]
  omega

theorem mask_hit (r : Fin 64) (p : Fin 3870) (i : Fin 1536) (h : x8 (ix3 0 0 i) = cellW r p) : k0_pay13 (F := Ideal) x8 (ix3 r p i) = 1#1 := by
  rw [mask_at, h]
  show BitVec.ofBool (cellW r p == cellW r p) = 1#1
  simp

theorem mask_miss (r : Fin 64) (p : Fin 3870) (i : Fin 1536) (h : x8 (ix3 0 0 i) ≠ cellW r p) : k0_pay13 (F := Ideal) x8 (ix3 r p i) = 0#1 := by
  rw [mask_at]
  show BitVec.ofBool (cellW r p == x8 (ix3 0 0 i)) = 0#1
  rw [beq_false_of_ne (Ne.symm h)]
  rfl

/-- An entry that is one token's slot and no other's holds that token's word. -/
theorem cell_hit (r : Fin 64) (p : Fin 3870) (i0 : Fin 1536) (h0 : x8 (ix3 0 0 i0) = cellW r p) (h : ∀ i, i ≠ i0 → x8 (ix3 0 0 i) ≠ cellW r p) :
    k0_pay1 (F := Ideal) (k0_pay13 (F := Ideal) x8) (k0_pay14 (F := Ideal) v80 v85 0#32 x8) x9 (ix3 r 0 p) = k0_pay11 v80 v85 0#32 (ix2 i0 0) := by
  rw [final_at]
  have e1 : (∑ i : Fin 1536, BitVec.setWidth 32 (k0_pay13 (F := Ideal) x8 (ix3 r p i))) = 1#32 := by
    rw [Finset.sum_eq_single i0 (fun i _ hi => by rw [mask_miss x8 r p i (h i hi)]; rfl) (fun hi => absurd (Finset.mem_univ _) hi), mask_hit x8 r p i0 h0]
    rfl
  have e2 : (∑ i : Fin 1536, k0_pay14 (F := Ideal) v80 v85 0#32 x8 (ix3 r p i)) = k0_pay11 v80 v85 0#32 (ix2 i0 0) := by
    rw [Finset.sum_eq_single i0 (fun i _ hi => by rw [put_at, mask_miss x8 r p i (h i hi)]; rfl) (fun hi => absurd (Finset.mem_univ _) hi), put_at, mask_hit x8 r p i0 h0]
    rfl
  rw [e1, e2]
  rfl

/-- An entry that is no token's slot keeps its word. -/
theorem cell_miss (r : Fin 64) (p : Fin 3870) (h : ∀ i, x8 (ix3 0 0 i) ≠ cellW r p) :
    k0_pay1 (F := Ideal) (k0_pay13 (F := Ideal) x8) (k0_pay14 (F := Ideal) v80 v85 0#32 x8) x9 (ix3 r 0 p) = x9 (ix3 r 0 p) := by
  rw [final_at]
  have e1 : (∑ i : Fin 1536, BitVec.setWidth 32 (k0_pay13 (F := Ideal) x8 (ix3 r p i))) = 0#32 :=
    Finset.sum_eq_zero fun i _ => by rw [mask_miss x8 r p i (h i)]; rfl
  rw [e1]
  rfl

end

end Cert.ValueProof

end

end
-- ==== Proof.Value.Final.lean ====
/- The patched words, the codes and the scale words the kernel leaves are the reference's, from the same arguments. -/
module

public import proofs.«01_k».proof.Proof.KI.Run
public import proofs.«01_k».proof.Proof.Gen.ReferenceIdeal.Value
public import Idealize.ShloMosaic.Lib.Pointwise
public import proofs.«01_k».proof.Proof.Value.Same
public import proofs.«01_k».proof.Proof.Value.Operands
public import proofs.«01_k».proof.Proof.Value.KernelArgs
public import proofs.«01_k».proof.Proof.Value.ReferenceArgs
public import proofs.«01_k».proof.Proof.Value.ReferenceOut
public import proofs.«01_k».proof.Proof.Value.PatchedRows
public import proofs.«01_k».proof.Proof.KI.Paged
public import Idealize.ShloMosaic.Lib.ViewIndex

@[expose] public section

noncomputable section

namespace Cert.ValueProof

open Idealize.ShloMosaic

open Cert.KernelIdeal Cert.KernelIdeal.Gen Cert.KernelIdeal.Hand Idealize.ShloMosaic.TcCoe

set_option maxRecDepth 16384

section

variable (m : (ℓ : Loc nD τ sig) → Buf (Elt Ideal) ℓ)
    (m' : (ℓ : Loc Cert.ReferenceIdeal.nD Cert.ReferenceIdeal.τ Cert.ReferenceIdeal.sig) → Buf (Elt Ideal) ℓ) (c : Dev nD)

/-- The two memories hold the same arguments, as far as the claimed results read them. -/
def SameArgs : Prop :=
  ((m' ((c : Thread Cert.ReferenceIdeal.nD Cert.ReferenceIdeal.τ).loc Cert.ReferenceIdeal.main_arg0) : Vec Ideal S6x256x7168 .bf16) = m ((c : Thread nD τ).loc main_arg0))
  ∧ ((m' ((c : Thread Cert.ReferenceIdeal.nD Cert.ReferenceIdeal.τ).loc Cert.ReferenceIdeal.main_arg1) : Vec Ideal S128x7168 .fp8e4m3) = m ((c : Thread nD τ).loc main_arg1))
  ∧ ((m' ((c : Thread Cert.ReferenceIdeal.nD Cert.ReferenceIdeal.τ).loc Cert.ReferenceIdeal.main_arg2) : Vec Ideal S56 .f32) = m ((c : Thread nD τ).loc main_arg2))
  ∧ ((m' ((c : Thread Cert.ReferenceIdeal.nD Cert.ReferenceIdeal.τ).loc Cert.ReferenceIdeal.main_arg3) : Vec Ideal S128 .f32) = m ((c : Thread nD τ).loc main_arg3))
  ∧ ((m' ((c : Thread Cert.ReferenceIdeal.nD Cert.ReferenceIdeal.τ).loc Cert.ReferenceIdeal.main_arg4) : Vec Ideal S128 .f32) = m ((c : Thread nD τ).loc main_arg4))
  ∧ ((m' ((c : Thread Cert.ReferenceIdeal.nD Cert.ReferenceIdeal.τ).loc Cert.ReferenceIdeal.main_arg5) : Vec Ideal S6x256 .i32) = m ((c : Thread nD τ).loc main_arg5))
  ∧ ((m' ((c : Thread Cert.ReferenceIdeal.nD Cert.ReferenceIdeal.τ).loc Cert.ReferenceIdeal.main_arg6) : Vec Ideal S6x256 .i32) = m ((c : Thread nD τ).loc main_arg6))
  ∧ ((m' ((c : Thread Cert.ReferenceIdeal.nD Cert.ReferenceIdeal.τ).loc Cert.ReferenceIdeal.main_arg8) : Vec Ideal S3870x64x4 .i8) = m ((c : Thread nD τ).loc main_arg8))

/-- The two programs' frequencies are one literal. -/
theorem lit_eq : ∀ l : Fin 32, lit0 l = Cert.ReferenceIdeal.lit0 l := by decide +kernel

variable {m m' c}

/-- So a trip's operands hold what the reference's hold. -/
theorem agree_of (H : SameArgs m m' c) (f0 : Vec Ideal S6x256x7168 .bf16) (fq : Vec Ideal S128x7168 .fp8e4m3) (b : T1) :
    Agree (sWb.view.readAt (Elt Ideal) (Rect.unit (s := S128x7168) ![0, 0] S128x7168.size inb_S128x7168_S128x7168_0_0).toLoadRect (wbAt c (V m c main_arg1) (wsW m c) fq)) (sX.view.readAt (Elt Ideal) (Rect.unit (s := S6x256x7168) (k0_off3 b) S1x256x7168.size (k0_off3_inb b)).toLoadRect (landX c f0 (V m c main_arg0) b)) (aLnw.view.readAt (Elt Ideal) (Rect.unit (s := S128x1) ![0, 0] S128x1.size inb_S128x1_S128x1_0_0).toLoadRect (lnwW m c)) (aLnb.view.readAt (Elt Ideal) (Rect.unit (s := S128x1) ![0, 0] S128x1.size inb_S128x1_S128x1_0_0).toLoadRect (lnbW m c)) (aPos.view.readAt (Elt Ideal) (Rect.unit (s := S6x256) (k0_off4 b) S1x256.size (k0_off4_inb b)).toLoadRect (posW m c)) (aFreq.view.readAt (Elt Ideal) (Rect.unit (s := S32x1) ![0, 0] S32x1.size inb_S32x1_S32x1_0_0).toLoadRect (freqW m c))
      (Cert.ReferenceIdeal.Gen.iblk m' c 1 Cert.ReferenceIdeal.Gen.t0_0) (Cert.ReferenceIdeal.Gen.iblk m' c 2 Cert.ReferenceIdeal.Gen.t0_0) (Cert.ReferenceIdeal.Gen.iblk m' c 0 Cert.ReferenceIdeal.Gen.t0_0) (Cert.ReferenceIdeal.Gen.iblk m' c 3 Cert.ReferenceIdeal.Gen.t0_0) (Cert.ReferenceIdeal.Gen.iblk m' c 4 Cert.ReferenceIdeal.Gen.t0_0) (Cert.ReferenceIdeal.Gen.iblk m' c 5 Cert.ReferenceIdeal.Gen.t0_0) (Cert.ReferenceIdeal.Gen.iblk m' c 6 Cert.ReferenceIdeal.Gen.t0_0) (Cert.ReferenceIdeal.Gen.iblk m' c 7 Cert.ReferenceIdeal.Gen.t0_0) (⟨b.val, b.isLt⟩ : Fin 6) := by
  obtain ⟨h0, h1, h2, h3, h4, h5, -, -⟩ := H
  refine ⟨fun d k => ?_, fun t k => ?_, fun d => ?_, fun d => ?_, fun t => ?_, fun l => ?_, fun k => rpow m' c k⟩
  · refine (wb_read c _ fq _ d k).trans ?_
    have e1 : (V m c main_arg1 : Vec Ideal S128x7168 .fp8e4m3) (ix2 d k) = (Cert.ReferenceIdeal.Gen.iblk m' c 1 Cert.ReferenceIdeal.Gen.t0_0 : Vec Ideal S128x7168 .fp8e4m3) (ix2 d k) := by
      rw [rwin1]
      exact congrFun ((V_main_arg1 m c).trans (h1.symm.trans (Cert.ReferenceIdeal.Gen.V_main_arg1 m' c).symm)) (ix2 d k)
    have e2 : (wsW m c : Vec Ideal S56 .f32) = (m' ((c : Thread Cert.ReferenceIdeal.nD Cert.ReferenceIdeal.τ).loc Cert.ReferenceIdeal.main_arg2) : Vec Ideal S56 .f32) :=
      (kwin1 m c).trans ((V_main_arg2 m c).trans h2.symm)
    rw [e1, e2, rsc]
  · refine (x_read c f0 _ b t k).trans ?_
    rw [rx]
    exact congrFun ((V_main_arg0 m c).trans h0.symm) (ix3 _ t k)
  · rw [View.readAt_full, rlnw]
    exact (klnw m c d).trans (congrFun h3.symm (ix1 d))
  · rw [View.readAt_full, rlnb]
    exact (klnb m c d).trans (congrFun h4.symm (ix1 d))
  · refine (pos_read _ b t).trans ?_
    rw [rpos]
    exact congrFun ((kwin4 m c).trans ((V_main_arg5 m c).trans h5.symm)) (ix2 _ t)
  · rw [View.readAt_full, rfreq, ← lit_eq]
    exact kfreq m c l

/-- Every index of the codes, and of the words, by its coordinates. -/
theorem hCodes_idx (y : S6x256x128.Idx) : ∃ (b : T1) (t : Fin 256) (h : Fin 128), y = ix3 b t h :=
  ⟨y 0, y 1, y 2, Shape.idx3_ext rfl rfl rfl⟩

theorem hScales_idx (y : S6x1x256.Idx) : ∃ (b : T1) (u : Fin 1) (t : Fin 256), y = ix3 b u t :=
  ⟨y 0, y 1, y 2, Shape.idx3_ext rfl rfl rfl⟩

/-- The codes the kernel leaves are the reference's. -/
theorem codes_left (H : SameArgs m m' c) (f : Vec Ideal S6x256x128 .fp8e4m3)
    (hf : codesLeft c (V m c main_arg0) (V m c main_arg1) (wsW m c) (lnwW m c) (lnbW m c) (posW m c) (freqW m c) f) :
    f = ((Cert.ReferenceIdeal.Gen.dats m' 0 c).arrAt 11 Cert.ReferenceIdeal.cfg0.N : Vec Ideal S6x256x128 .fp8e4m3) := by
  obtain ⟨f0, fq, hb⟩ := hf
  refine funext fun y => ?_
  obtain ⟨b, t, h, rfl⟩ := hCodes_idx y
  refine Eq.trans ?_ (ref11 m' c (ix3 b t h)).symm
  rw [out11_eq]
  have hq := congrFun (hb b) (ix3 (0 : Fin 1) t h)
  have hl : hCodes.view.readAt (Elt Ideal) (Rect.unit (s := S6x256x128) (k0_off5 b) S1x256x128.size (k0_off5_inb b)).toLoadRect f (ix3 (0 : Fin 1) t h) = f (ix3 b t h) := by
    show f ((Rect.unit (s := S6x256x128) (k0_off5 b) S1x256x128.size (k0_off5_inb b)).emb (ix3 (0 : Fin 1) t h)) = _
    refine congrArg f (Shape.idx3_ext ?_ ?_ ?_)
    · show k0_off5 b 0 + 1 * 0 = b.val; rw [k0_off5_eq]; rfl
    · show k0_off5 b 1 + 1 * t.val = t.val; rw [k0_off5_eq]; show 0 + 1 * t.val = t.val; omega
    · show k0_off5 b 2 + 1 * h.val = h.val; rw [k0_off5_eq]; show 0 + 1 * h.val = h.val; omega
  exact hl.symm.trans (hq.trans (codes_same (agree_of H f0 fq b) t h))

/-- The words the kernel leaves are the reference's. -/
theorem words_left (H : SameArgs m m' c) (f : Vec Ideal S6x1x256 .i32)
    (hf : wordsLeft c (V m c main_arg0) (V m c main_arg1) (wsW m c) (lnwW m c) (lnbW m c) (posW m c) (freqW m c) f) :
    f = ((Cert.ReferenceIdeal.Gen.dats m' 0 c).arrAt 12 Cert.ReferenceIdeal.cfg0.N : Vec Ideal S6x1x256 .i32) := by
  obtain ⟨f0, fq, hb⟩ := hf
  refine funext fun y => ?_
  obtain ⟨b, u, t, rfl⟩ := hScales_idx y
  obtain rfl : u = 0 := Subsingleton.elim _ _
  refine Eq.trans ?_ (ref12 m' c (ix3 b (0 : Fin 1) t)).symm
  rw [out12_eq]
  have h := congrFun (hb b) (ix3 (0 : Fin 1) 0 t)
  have hl : hScales.view.readAt (Elt Ideal) (Rect.unit (s := S6x1x256) (k0_off7 b) S1x1x256.size (k0_off7_inb b)).toLoadRect f (ix3 (0 : Fin 1) 0 t) = f (ix3 b (0 : Fin 1) t) := by
    show f ((Rect.unit (s := S6x1x256) (k0_off7 b) S1x1x256.size (k0_off7_inb b)).emb (ix3 (0 : Fin 1) 0 t)) = _
    refine congrArg f (Shape.idx3_ext ?_ ?_ ?_)
    · show k0_off7 b 0 + 1 * 0 = b.val; rw [k0_off7_eq]; rfl
    · show k0_off7 b 1 + 1 * 0 = 0; rw [k0_off7_eq]; rfl
    · show k0_off7 b 2 + 1 * t.val = t.val; rw [k0_off7_eq]; show 0 + 1 * t.val = t.val; omega
  exact hl.symm.trans (h.trans (words_same (agree_of H f0 fq b) t))

theorem hKs_idx (y : S64x1x3870.Idx) : ∃ (r : Fin 64) (u : Fin 1) (p : Fin 3870), y = ix3 r u p :=
  ⟨y 0, y 1, y 2, Shape.idx3_ext rfl rfl rfl⟩

/-- The words as launched are the same in the two programs. -/
theorem old_eq (H : SameArgs m m' c) : (V m c main_v2 : Vec Ideal S64x1x3870 .i32) = (Cert.ReferenceIdeal.Gen.iblk m' c 9 Cert.ReferenceIdeal.Gen.t0_0 : Vec Ideal S64x1x3870 .i32) := by
  obtain ⟨-, -, -, -, -, -, -, h8⟩ := H
  rw [rold, h8]
  show StableHlo.after hostOps0 _ _ = _
  after_results
  try rfl

/-- A row of all the slots is one row's slot of the argument. -/
theorem slot_row (H : SameArgs m m' c) (b : Fin 6) (t : Fin 256) :
    ((Cert.ReferenceIdeal.Gen.iblk m' c 8 Cert.ReferenceIdeal.Gen.t0_0 : Vec Ideal Cert.ReferenceIdeal.S1x1x1536 .i32) (ix3 0 0 (⟨b.val * 256 + t.val, by omega⟩ : Fin 1536))).toNat
      = slotNo c (slW m c) b t := by
  obtain ⟨-, -, -, -, -, -, h6, -⟩ := H
  rw [slotNo_eq, rslots]
  exact congrArg BitVec.toNat (congrFun h6 (ix2 b t))

/-- The patched words the kernel leaves are the reference's, of paged slots. -/
theorem scale_left (H : SameArgs m m' c) (hp : Paged (slotNo c (slW m c))) (f : Vec Ideal S64x1x3870 .i32)
    (hf : scaleLeft c (V m c main_arg0) (V m c main_arg1) (V m c main_v2) (slW m c) (wsW m c) (lnwW m c) (lnbW m c) (posW m c) (freqW m c) f) :
    f = ((Cert.ReferenceIdeal.Gen.dats m' 0 c).arrAt 10 Cert.ReferenceIdeal.cfg0.N : Vec Ideal S64x1x3870 .i32) := by
  obtain ⟨f0, fq, hf⟩ := hf
  refine funext fun y => ?_
  obtain ⟨r, u, p, rfl⟩ := hKs_idx y
  obtain rfl : u = 0 := Subsingleton.elim _ _
  refine Eq.trans ?_ (ref10 m' c (ix3 r (0 : Fin 1) p)).symm
  rw [out10_eq]
  obtain ⟨h1, h2⟩ := hf hp r p
  by_cases hex : ∃ (b : Fin 6) (t : Fin 256), slotNo c (slW m c) b t = 64 * p.val + r.val
  · obtain ⟨b, t, hbt⟩ := hex
    rw [cell_hit _ _ _ _ r p (⟨b.val * 256 + t.val, by omega⟩ : Fin 1536) (BitVec.eq_of_toNat_eq (by rw [slot_row H b t, cellW_toNat, hbt])) (fun i hi he => ?_)]
    · rw [words_at]
      exact (h1 b t hbt).trans (words_same (agree_of H f0 fq (⟨b.val, b.isLt⟩ : T1)) t)
    · have hil := i.isLt
      have hrow := slot_row H (⟨i.val / 256, by omega⟩ : Fin 6) (⟨i.val % 256, by omega⟩ : Fin 256)
      have hii : (⟨(⟨i.val / 256, by omega⟩ : Fin 6).val * 256 + (⟨i.val % 256, by omega⟩ : Fin 256).val, by simp only; omega⟩ : Fin 1536) = i := Fin.ext (by simp only; omega)
      rw [hii, he, cellW_toNat, ← hbt] at hrow
      obtain ⟨e1, e2⟩ := hp.inj _ _ _ _ hrow
      apply hi
      apply Fin.ext
      have e1' := congrArg Fin.val e1
      have e2' := congrArg Fin.val e2
      simp only at e1' e2'
      simp only
      omega
  · rw [cell_miss _ _ _ _ r p (fun i he => ?_)]
    · rw [← old_eq H]
      exact h2 fun b t hbt => hex ⟨b, t, hbt⟩
    · have hil := i.isLt
      have hrow := slot_row H (⟨i.val / 256, by omega⟩ : Fin 6) (⟨i.val % 256, by omega⟩ : Fin 256)
      have hii : (⟨(⟨i.val / 256, by omega⟩ : Fin 6).val * 256 + (⟨i.val % 256, by omega⟩ : Fin 256).val, by simp only; omega⟩ : Fin 1536) = i := Fin.ext (by simp only; omega)
      rw [hii, he, cellW_toNat] at hrow
      exact hex ⟨_, _, hrow.symm⟩

end

end Cert.ValueProof

end

end
-- ==== Proof.lean ====
/- The proof of the certificate's claims: the kernel at both readings runs to its end with its arguments as they were and every
   semaphore cell at zero, whenever the slots are in reach; so does the reference; the idealized kernel is the kernel; and in exact
   arithmetic the kernel's patched words, codes and scale words are the reference's, from the same arguments, of paged slots. -/
module

public import proofs.«01_k».proof.Defs
public import proofs.«01_k».proof.Proof.Gen.ReferenceIdeal.Frame
public import proofs.«01_k».proof.Proof.Gen.ReferenceIdeal.Value
public import proofs.«01_k».proof.Proof.Gen.Pre_slots_in_reach
public import proofs.«01_k».proof.Proof.K.Slots
public import proofs.«01_k».proof.Proof.KI.Slots
public import proofs.«01_k».proof.Proof.KI.Paged
public import proofs.«01_k».proof.Proof.Value.Final

@[expose] public section

noncomputable section

namespace Cert.Proof

open Idealize.ShloMosaic Idealize.SL.Sem

theorem frame_K (hpre : Cert.Pre_slots_in_reach.Facts) : @Cert.quiescent_Kernel Cert.Kernel.Gen.facts hpre := fun m g h => by
  refine (θ_run _ _ _).mono (fun r hr => ⟨hr.1, hr.2.1⟩) (Cert.Kernel.Hand.left_of m g fun c => Cert.Kernel.Hand.inReach m c fun i => ?_)
  exact Cert.Kernel.Hand.slots_lt _ _ _ _ _ _ _ _ _ (h c) i

theorem frame_KI (hpre : Cert.Pre_slots_in_reach.Facts) : @Cert.quiescent_KernelIdeal Cert.KernelIdeal.Gen.facts hpre := fun m g h => by
  refine (θ_run _ _ _).mono (fun r hr => ⟨hr.1, hr.2.1⟩) (Cert.KernelIdeal.Hand.left_of m g fun c => Cert.KernelIdeal.Hand.inReach m c fun i => ?_)
  exact Cert.KernelIdeal.Hand.slots_lt _ _ _ _ _ _ _ _ _ (h c) i

theorem frame_R : @Cert.quiescent_ReferenceIdeal Cert.ReferenceIdeal.Gen.facts := fun m g _ => Cert.ReferenceIdeal.Gen.frame m g

theorem frame_KIP (hpre : Cert.Pre_slots_paged.Facts) : @Cert.quiescent_KernelIdeal_pre_slots_paged Cert.KernelIdeal.Gen.facts hpre := fun m g h => by
  refine (θ_run _ _ _).mono (fun r hr => ⟨hr.1, hr.2.1⟩) (Cert.KernelIdeal.Hand.left_of m g fun c => Cert.KernelIdeal.Hand.inReach m c fun i => ?_)
  exact Cert.KernelIdeal.Hand.slots_lt_paged _ _ _ _ _ _ _ _ _ (h c) i

theorem frame_RP (hpre : Cert.Pre_slots_paged.Facts) : @Cert.quiescent_ReferenceIdeal_pre_slots_paged Cert.ReferenceIdeal.Gen.facts hpre := fun m g _ =>
  Cert.ReferenceIdeal.Gen.frame m g

/-- The patched words, the codes and the words agree: the reference's arrays are the common results. -/
theorem algebraic (hpre : Cert.Pre_slots_paged.Facts) : @Cert.algebraic_KernelIdeal_ReferenceIdeal_pre_slots_paged Cert.KernelIdeal.Gen.facts Cert.ReferenceIdeal.Gen.facts hpre := fun m g m' g' h ha => by
  refine ⟨fun c => (Cert.ReferenceIdeal.Gen.dats m' 0 c).arrAt 10 Cert.ReferenceIdeal.cfg0.N,
    fun c => (Cert.ReferenceIdeal.Gen.dats m' 0 c).arrAt 11 Cert.ReferenceIdeal.cfg0.N,
    fun c => (Cert.ReferenceIdeal.Gen.dats m' 0 c).arrAt 12 Cert.ReferenceIdeal.cfg0.N, ?_, Cert.ReferenceIdeal.Value.run_blocks m' g'⟩
  refine (θ_run _ _ _).mono (fun r hr c => ?_) (Cert.KernelIdeal.Hand.left_of m g fun c => Cert.KernelIdeal.Hand.inReach m c fun i => ?_)
  · obtain ⟨hkept, -, hleft⟩ := hr
    have H : Cert.ValueProof.SameArgs m m' c := ⟨(ha c).1, (ha c).2.1, (ha c).2.2.1, (ha c).2.2.2.1, (ha c).2.2.2.2.1, (ha c).2.2.2.2.2.1, (ha c).2.2.2.2.2.2.1, (ha c).2.2.2.2.2.2.2.2⟩
    have hp : Cert.KernelIdeal.Hand.Paged (Cert.KernelIdeal.Hand.slotNo c (Cert.KernelIdeal.Hand.slW m c)) := by
      have e := Cert.KernelIdeal.Hand.paged_of _ _ _ _ _ _ _ _ _ (h c)
      have e' : Cert.KernelIdeal.Hand.slotNo c (Cert.KernelIdeal.Hand.slW m c)
          = fun b t => (m ((c.tc : Thread Cert.KernelIdeal.nD Cert.KernelIdeal.τ).loc Cert.KernelIdeal.main_arg6) (ix2 b t)).toNat :=
        funext fun b => funext fun t => Cert.KernelIdeal.Hand.slotNo_eq m c b t
      rw [e']
      exact e
    exact ⟨Cert.ValueProof.scale_left H hp _ (hleft c).2.2, Cert.ValueProof.codes_left H _ (hleft c).1, Cert.ValueProof.words_left H _ (hleft c).2.1, hkept c⟩
  · exact Cert.KernelIdeal.Hand.slots_lt_paged _ _ _ _ _ _ _ _ _ (h c) i

theorem claim : Cert.Claim := ⟨Cert.Kernel.Gen.facts, Cert.KernelIdeal.Gen.facts, Cert.ReferenceIdeal.Gen.facts, Cert.Pre_slots_in_reach.Gen.facts, Cert.KernelIdeal.Hand.pagedFacts,
  frame_K _, frame_KI _, frame_KIP _, frame_R, frame_RP _, trivial, algebraic _⟩

end Cert.Proof

end
